-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_yn_below_infinity [hPre_yn_below_infinity : Cert.Pre_yn_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_yn_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_yn_below_infinity [hPre_yn_below_infinity : Cert.Pre_yn_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_yn_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_attention_inputs_real [hPre_attention_inputs_real : Cert.Pre_attention_inputs_real.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_attention_inputs_real.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_attention_inputs_real.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_attention_inputs_real.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_attention_inputs_real [hPre_attention_inputs_real : Cert.Pre_attention_inputs_real.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_attention_inputs_real.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_attention_inputs_real.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_attention_inputs_real.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_yn_below_infinity [hKernelIdeal : Cert.KernelIdeal.Facts] [hPre_yn_below_infinity : Cert.Pre_yn_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_yn_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_yn_below_infinity [hReferenceIdeal : Cert.ReferenceIdeal.Facts] [hPre_yn_below_infinity : Cert.Pre_yn_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_yn_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_attention_inputs_real [hKernel5Ideal : Cert.Kernel5Ideal.Facts] [hPre_attention_inputs_real : Cert.Pre_attention_inputs_real.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_attention_inputs_real m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_attention_inputs_real [hReference5Ideal : Cert.Reference5Ideal.Facts] [hPre_attention_inputs_real : Cert.Pre_attention_inputs_real.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_attention_inputs_real m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_yn_below_infinity [hKernelIdeal : Cert.KernelIdeal.Facts] [hReferenceIdeal : Cert.ReferenceIdeal.Facts] [hPre_yn_below_infinity : Cert.Pre_yn_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_yn_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_v41) = v3 c
          ∧ r.2.mem ((c.tc : Thread Cert.Reference3Ideal.nD Cert.Reference3Ideal.τ).loc Cert.Reference3Ideal.main_v42) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_attention_inputs_real [hKernel5Ideal : Cert.Kernel5Ideal.Facts] [hReference5Ideal : Cert.Reference5Ideal.Facts] [hPre_attention_inputs_real : Cert.Pre_attention_inputs_real.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_attention_inputs_real m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v58)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v58) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v96) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_yn_below_infinity : Cert.Pre_yn_below_infinity.Facts) (hPre_attention_inputs_real : Cert.Pre_attention_inputs_real.Facts),
    quiescent_Kernel (hKernel := hKernel)
    ∧ quiescent_KernelIdeal (hKernelIdeal := hKernelIdeal)
    ∧ quiescent_KernelIdeal_pre_yn_below_infinity (hKernelIdeal := hKernelIdeal) (hPre_yn_below_infinity := hPre_yn_below_infinity)
    ∧ quiescent_ReferenceIdeal (hReferenceIdeal := hReferenceIdeal)
    ∧ quiescent_ReferenceIdeal_pre_yn_below_infinity (hReferenceIdeal := hReferenceIdeal) (hPre_yn_below_infinity := hPre_yn_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_attention_inputs_real (hKernel5Ideal := hKernel5Ideal) (hPre_attention_inputs_real := hPre_attention_inputs_real)
    ∧ quiescent_Reference5Ideal (hReference5Ideal := hReference5Ideal)
    ∧ quiescent_Reference5Ideal_pre_attention_inputs_real (hReference5Ideal := hReference5Ideal) (hPre_attention_inputs_real := hPre_attention_inputs_real)
    ∧ preserves_Kernel_KernelIdeal
    ∧ algebraic_KernelIdeal_ReferenceIdeal_pre_yn_below_infinity (hKernelIdeal := hKernelIdeal) (hReferenceIdeal := hReferenceIdeal) (hPre_yn_below_infinity := hPre_yn_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_attention_inputs_real (hKernel5Ideal := hKernel5Ideal) (hReference5Ideal := hReference5Ideal) (hPre_attention_inputs_real := hPre_attention_inputs_real)
-- ==== Pre_attention_inputs_real.lean ====
abbrev S32768x512 : Shape := ⟨2, ![32768, 512]⟩
abbrev S32768x256 : Shape := ⟨2, ![32768, 256]⟩
abbrev S1x8 : Shape := ⟨2, ![1, 8]⟩
abbrev S_ : Shape := ⟨0, ![]⟩
abbrev S32768x128 : Shape := ⟨2, ![32768, 128]⟩

class Facts : Prop where
  bitsLt_bf16_f32 : FTy.bits .bf16 < FTy.bits .f32
  bcast_S_S32768x512 : S_.BroadcastsInDim S32768x512 (![] : Fin 0 → Fin S32768x512.rank)
  slices_S32768x256_S32768x128_0_0 : S32768x256.Slices ![0, 0] S32768x128
  bcast_S_S32768x128 : S_.BroadcastsInDim S32768x128 (![] : Fin 0 → Fin S32768x128.rank)
  bcast_S_S1x8 : S_.BroadcastsInDim S1x8 (![] : Fin 0 → Fin S1x8.rank)

variable [Facts]

def fn {F : FTy → Type} [FloatOps F] (main_arg0 : FVec F S32768x512 .bf16) (main_arg1 : FVec F S32768x256 .bf16) (main_arg2 : FVec F S1x8 .f32) : IVec S32768x512 1 × IVec S32768x128 1 × IVec S1x8 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_v4 : FVec F S32768x128 .bf16 := (extractStridedSlice S32768x128 ![0, 0] · slices_S32768x256_S32768x128_0_0) main_arg1
  let main_v5 : FVec F S32768x128 .f32 := (extf .f32 · bitsLt_bf16_f32) main_v4
  let main_v6 : FVec F S32768x128 .f32 := Host.absf main_v5
  let main_cst_0 : FVec F S_ .f32 := constant S_ .f32 0x7F800000#32
  let main_v7 : FVec F S32768x128 .f32 := broadcastInDim S32768x128 ![] bcast_S_S32768x128 main_cst_0
  let main_v8 : IVec S32768x128 1 := cmpf .olt main_v6 main_v7
  let main_cst_1 : FVec F S_ .f32 := constant S_ .f32 0x7F800000#32
  let main_v9 : FVec F S1x8 .f32 := broadcastInDim S1x8 ![] bcast_S_S1x8 main_cst_1
  let main_v10 : IVec S1x8 1 := cmpf .olt main_arg2 main_v9
  (main_v3, main_v8, main_v10)
-- ==== Pre_yn_below_infinity.lean ====
abbrev S16x2048x1024 : Shape := ⟨3, ![16, 2048, 1024]⟩
abbrev S16x6144 : Shape := ⟨2, ![16, 6144]⟩
abbrev S2048x16x512 : Shape := ⟨3, ![2048, 16, 512]⟩
abbrev S16x2048x512 : Shape := ⟨3, ![16, 2048, 512]⟩
abbrev S1x512 : Shape := ⟨2, ![1, 512]⟩
abbrev S1x1024 : Shape := ⟨2, ![1, 1024]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S2048x16x512 : S_.BroadcastsInDim S2048x16x512 (![] : Fin 0 → Fin S2048x16x512.rank)

variable [Facts]

def fn {F : FTy → Type} [FloatOps F] (main_arg0 : FVec F S16x2048x1024 .f32) (main_arg1 : FVec F S16x6144 .f32) (main_arg2 : FVec F S2048x16x512 .f32) (main_arg3 : FVec F S16x2048x512 .bf16) (main_arg4 : FVec F S16x2048x512 .bf16) (main_arg5 : FVec F S16x2048x512 .bf16) (main_arg6 : FVec F S16x2048x1024 .bf16) (main_arg7 : FVec F S16x2048x1024 .bf16) (main_arg8 : FVec F S1x512 .f32) (main_arg9 : FVec F S1x512 .f32) (main_arg10 : FVec F S1x1024 .f32) (main_arg11 : FVec F S1x512x1024 .f32) (main_arg12 : FVec F S1x512x1024 .f32) (main_arg13 : FVec F S1x1024x1024 .f32) : IVec S2048x16x512 1 :=
  let main_cst : FVec F S_ .f32 := constant S_ .f32 0x7F800000#32
  let main_v0 : FVec F S2048x16x512 .f32 := broadcastInDim S2048x16x512 ![] bcast_S_S2048x16x512 main_cst
  let main_v1 : IVec S2048x16x512 1 := cmpf .olt main_arg2 main_v0
  main_v1
-- ==== Kernel.lean ====
abbrev S16x2048x1024 : Shape := ⟨3, ![16, 2048, 1024]⟩
abbrev S16x6144 : Shape := ⟨2, ![16, 6144]⟩
abbrev S2048x16x512 : Shape := ⟨3, ![2048, 16, 512]⟩
abbrev S16x2048x512 : Shape := ⟨3, ![16, 2048, 512]⟩
abbrev S1x512 : Shape := ⟨2, ![1, 512]⟩
abbrev S1x1024 : Shape := ⟨2, ![1, 1024]⟩
abbrev S1x512x1024 : Shape := ⟨3, ![1, 512, 1024]⟩
abbrev S1x1024x1024 : Shape := ⟨3, ![1, 1024, 1024]⟩
abbrev S128 : Shape := ⟨1, ![128]⟩
abbrev S1x128 : Shape := ⟨2, ![1, 128]⟩
abbrev S128x1 : Shape := ⟨2, ![128, 1]⟩
abbrev S_ : Shape := ⟨0, ![]⟩
abbrev S128x128 : Shape := ⟨2, ![128, 128]⟩
abbrev S1x128x128 : Shape := ⟨3, ![1, 128, 128]⟩
abbrev S2x128x128 : Shape := ⟨3, ![2, 128, 128]⟩
abbrev S16x6x1024 : Shape := ⟨3, ![16, 6, 1024]⟩
abbrev S6x16x1024 : Shape := ⟨3, ![6, 16, 1024]⟩
abbrev S6x16x1x1024 : Shape := ⟨4, ![6, 16, 1, 1024]⟩
abbrev S6x16x8x1024 : Shape := ⟨4, ![6, 16, 8, 1024]⟩
abbrev S512 : Shape := ⟨1, ![512]⟩
abbrev S2x512 : Shape := ⟨2, ![2, 512]⟩
abbrev S1024 : Shape := ⟨1, ![1024]⟩
abbrev S512x1024 : Shape := ⟨2, ![512, 1024]⟩
abbrev S1024x1024 : Shape := ⟨2, ![1024, 1024]⟩
abbrev S16x4x8x512 : Shape := ⟨4, ![16, 4, 8, 512]⟩
abbrev S3x16x32x1024 : Shape := ⟨4, ![3, 16, 32, 1024]⟩
abbrev S3 : Shape := ⟨1, ![3]⟩
abbrev S3x32x16x512 : Shape := ⟨4, ![3, 32, 16, 512]⟩
abbrev S3x16x32x512 : Shape := ⟨4, ![3, 16, 32, 512]⟩
abbrev S2x16x32x1024 : Shape := ⟨4, ![2, 16, 32, 1024]⟩
abbrev S2 : Shape := ⟨1, ![2]⟩
abbrev S1 : Shape := ⟨1, ![1]⟩
abbrev S1x16x32x1024 : Shape := ⟨4, ![1, 16, 32, 1024]⟩
abbrev S16x32x1024 : Shape := ⟨3, ![16, 32, 1024]⟩
abbrev S1x32x16x512 : Shape := ⟨4, ![1, 32, 16, 512]⟩
abbrev S32x16x512 : Shape := ⟨3, ![32, 16, 512]⟩
abbrev S1x16x32x512 : Shape := ⟨4, ![1, 16, 32, 512]⟩
abbrev S16x32x512 : Shape := ⟨3, ![16, 32, 512]⟩
abbrev S8x16x512 : Shape := ⟨3, ![8, 16, 512]⟩
abbrev S128x512 : Shape := ⟨2, ![128, 512]⟩
abbrev S16x8x512 : Shape := ⟨3, ![16, 8, 512]⟩
abbrev S16x1x8x512 : Shape := ⟨4, ![16, 1, 8, 512]⟩
abbrev S512x512 : Shape := ⟨2, ![512, 512]⟩
abbrev S1x16x8x1024 : Shape := ⟨4, ![1, 16, 8, 1024]⟩
abbrev S16x8x1024 : Shape := ⟨3, ![16, 8, 1024]⟩
abbrev S16x1x8x1024 : Shape := ⟨4, ![16, 1, 8, 1024]⟩
abbrev S16x4x8x1024 : Shape := ⟨4, ![16, 4, 8, 1024]⟩
abbrev S512x1 : Shape := ⟨2, ![512, 1]⟩

abbrev nBuf : Space → Nat
  | .hbm => 89
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S2048x16x512, .f32⟩
  | .hbm, ⟨3, _⟩ => ⟨S16x2048x512, .bf16⟩
  | .hbm, ⟨4, _⟩ => ⟨S16x2048x512, .bf16⟩
  | .hbm, ⟨5, _⟩ => ⟨S16x2048x512, .bf16⟩
  | .hbm, ⟨6, _⟩ => ⟨S16x2048x1024, .bf16⟩
  | .hbm, ⟨7, _⟩ => ⟨S16x2048x1024, .bf16⟩
  | .hbm, ⟨8, _⟩ => ⟨S1x512, .f32⟩
  | .hbm, ⟨9, _⟩ => ⟨S1x512, .f32⟩
  | .hbm, ⟨10, _⟩ => ⟨S1x1024, .f32⟩
  | .hbm, ⟨11, _⟩ => ⟨S1x512x1024, .f32⟩
  | .hbm, ⟨12, _⟩ => ⟨S1x512x1024, .f32⟩
  | .hbm, ⟨13, _⟩ => ⟨S1x1024x1024, .f32⟩
  | .hbm, ⟨14, _⟩ => ⟨S128, .i32⟩
  | .hbm, ⟨15, _⟩ => ⟨S1x128, .i32⟩
  | .hbm, ⟨16, _⟩ => ⟨S128, .i32⟩
  | .hbm, ⟨17, _⟩ => ⟨S128x1, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S_, .i32⟩
  | .hbm, ⟨27, _⟩ => ⟨S1x128, .i32⟩
  | .hbm, ⟨28, _⟩ => ⟨S1x128, .i1⟩
  | .hbm, ⟨29, _⟩ => ⟨S_, .i32⟩
  | .hbm, ⟨30, _⟩ => ⟨S1x128, .i32⟩
  | .hbm, ⟨31, _⟩ => ⟨S1x128, .i1⟩
  | .hbm, ⟨32, _⟩ => ⟨S_, .i32⟩
  | .hbm, ⟨33, _⟩ => ⟨S_, .i1⟩
  | .hbm, ⟨34, _⟩ => ⟨S1x128, .i1⟩
  | .hbm, ⟨35, _⟩ => ⟨S1x128, .i1⟩
  | .hbm, ⟨36, _⟩ => ⟨S1x128, .i1⟩
  | .hbm, ⟨37, _⟩ => ⟨S1x128, .i32⟩
  | .hbm, ⟨38, _⟩ => ⟨S1x128, .i32⟩
  | .hbm, ⟨39, _⟩ => ⟨S1x128, .i32⟩
  | .hbm, ⟨40, _⟩ => ⟨S_, .i32⟩
  | .hbm, ⟨41, _⟩ => ⟨S1x128, .i32⟩
  | .hbm, ⟨42, _⟩ => ⟨S1x128, .i32⟩
  | .hbm, ⟨43, _⟩ => ⟨S_, .i32⟩
  | .hbm, ⟨44, _⟩ => ⟨S_, .i32⟩
  | .hbm, ⟨45, _⟩ => ⟨S1x128, .i32⟩
  | .hbm, ⟨46, _⟩ => ⟨S1x128, .i32⟩
  | .hbm, ⟨47, _⟩ => ⟨S1x128, .i32⟩
  | .hbm, ⟨48, _⟩ => ⟨S_, .i32⟩
  | .hbm, ⟨49, _⟩ => ⟨S1x128, .i32⟩
  | .hbm, ⟨50, _⟩ => ⟨S1x128, .i1⟩
  | .hbm, ⟨51, _⟩ => ⟨S1x128, .i32⟩
  | .hbm, ⟨52, _⟩ => ⟨S1x128, .i32⟩
  | .hbm, ⟨53, _⟩ => ⟨S_, .i32⟩
  | .hbm, ⟨54, _⟩ => ⟨S1x128, .i32⟩
  | .hbm, ⟨55, _⟩ => ⟨S1x128, .i1⟩
  | .hbm, ⟨56, _⟩ => ⟨S1x128, .i1⟩
  | .hbm, ⟨57, _⟩ => ⟨S_, .i32⟩
  | .hbm, ⟨58, _⟩ => ⟨S1x128, .i32⟩
  | .hbm, ⟨59, _⟩ => ⟨S1x128, .i32⟩
  | .hbm, ⟨60, _⟩ => ⟨S1x128, .i32⟩
  | .hbm, ⟨61, _⟩ => ⟨S1x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S128x128, .i1⟩
  | .hbm, ⟨66, _⟩ => ⟨S1x128x128, .i1⟩
  | .hbm, ⟨67, _⟩ => ⟨S1x128x128, .i1⟩
  | .hbm, ⟨68, _⟩ => ⟨S2x128x128, .i1⟩
  | .hbm, ⟨69, _⟩ => ⟨S2x128x128, .bf16⟩
  | .hbm, ⟨70, _⟩ => ⟨S16x6x1024, .f32⟩
  | .hbm, ⟨71, _⟩ => ⟨S6x16x1024, .f32⟩
  | .hbm, ⟨72, _⟩ => ⟨S6x16x1x1024, .f32⟩
  | .hbm, ⟨73, _⟩ => ⟨S6x16x8x1024, .f32⟩
  | .hbm, ⟨74, _⟩ => ⟨S512, .f32⟩
  | .hbm, ⟨75, _⟩ => ⟨S512, .f32⟩
  | .hbm, ⟨76, _⟩ => ⟨S1x512, .f32⟩
  | .hbm, ⟨77, _⟩ => ⟨S1x512, .f32⟩
  | .hbm, ⟨78, _⟩ => ⟨S2x512, .f32⟩
  | .hbm, ⟨79, _⟩ => ⟨S1024, .f32⟩
  | .hbm, ⟨80, _⟩ => ⟨S512x1024, .f32⟩
  | .hbm, ⟨81, _⟩ => ⟨S512x1024, .bf16⟩
  | .hbm, ⟨82, _⟩ => ⟨S512x1024, .f32⟩
  | .hbm, ⟨83, _⟩ => ⟨S512x1024, .bf16⟩
  | .hbm, ⟨84, _⟩ => ⟨S1024x1024, .f32⟩
  | .hbm, ⟨85, _⟩ => ⟨S1024x1024, .bf16⟩
  | .hbm, ⟨86, _⟩ => ⟨S1x1024, .f32⟩
  | .hbm, ⟨87, _⟩ => ⟨S16x2048x1024, .f32⟩
  | .hbm, ⟨88, _⟩ => ⟨S16x2048x1024, .bf16⟩
  | .local _ .vmem, ⟨0, _⟩ => ⟨S6x16x8x1024, .f32⟩
  | .local _ .vmem, ⟨1, _⟩ => ⟨S2x512, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S2x128x128, .bf16⟩
  | .local _ .vmem, ⟨7, _⟩ => ⟨S16x4x8x512, .f32⟩
  | .local _ .vmem, ⟨8, _⟩ => ⟨S3x16x32x1024, .f32⟩
  | .local _ .vmem, ⟨9, _⟩ => ⟨S3x32x16x512, .f32⟩
  | .local _ .vmem, ⟨10, _⟩ => ⟨S3x16x32x512, .bf16⟩
  | .local _ .vmem, ⟨11, _⟩ => ⟨S3x16x32x512, .bf16⟩
  | .local _ .vmem, ⟨12, _⟩ => ⟨S3x16x32x512, .bf16⟩
  | .local _ .vmem, ⟨13, _⟩ => ⟨S3x16x32x1024, .bf16⟩
  | .local _ .vmem, ⟨14, _⟩ => ⟨S3x16x32x1024, .bf16⟩
  | .local _ .vmem, ⟨15, _⟩ => ⟨S2x16x32x1024, .f32⟩
  | .local _ .vmem, ⟨16, _⟩ => ⟨S2x16x32x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v4 : Ref sig .tc := ⟨.hbm, 39, rfl⟩
abbrev main_c_0 : Ref sig .tc := ⟨.hbm, 40, rfl⟩
abbrev main_v5 : Ref sig .tc := ⟨.hbm, 41, rfl⟩
abbrev main_v6 : Ref sig .tc := ⟨.hbm, 42, rfl⟩
abbrev main_c_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34_0 : Ref sig .tc := ⟨.hbm, 87, rfl⟩
abbrev main_v34_1 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scoped0 : Ref sig .tc := ⟨.vmem, 8, rfl⟩
abbrev cc0_scoped2 : Ref sig .tc := ⟨.vmem, 9, rfl⟩
abbrev cc0_scoped4 : Ref sig .tc := ⟨.vmem, 10, rfl⟩
abbrev cc0_scoped6 : Ref sig .tc := ⟨.vmem, 11, rfl⟩
abbrev cc0_scoped8 : Ref sig .tc := ⟨.vmem, 12, rfl⟩
abbrev cc0_scoped10 : Ref sig .tc := ⟨.vmem, 13, rfl⟩
abbrev cc0_scoped12 : Ref sig .tc := ⟨.vmem, 14, rfl⟩
abbrev cc0_scoped14 : Ref sig .tc := ⟨.vmem, 15, rfl⟩
abbrev cc0_scoped16 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 : Fin 1 → Nat :=
  let c0_i32_24_r0 : BitVec 32 := 0#32
  let c3_i32_r0 : BitVec 32 := 3#32
  let v27_r0 : BitVec 32 := Scalar.remui c0_i32_24_r0 c3_i32_r0
  ![v27_r0.toNat]
def k0_off2 : Fin 4 → Nat :=
  let c0_i32_24_r0 : BitVec 32 := 0#32
  let c3_i32_r0 : BitVec 32 := 3#32
  let v27_r0 : BitVec 32 := Scalar.remui c0_i32_24_r0 c3_i32_r0
  let c0_i32_25_r0 : BitVec 32 := 0#32
  let c0_i32_26_r0 : BitVec 32 := 0#32
  let c0_i32_27_r0 : BitVec 32 := 0#32
  ![v27_r0.toNat, 0, 0, 0]
def k0_off3 : Fin 4 → Nat :=
  let c0_i32_33_r0 : BitVec 32 := 0#32
  let c3_i32_34_r0 : BitVec 32 := 3#32
  let v34_r0 : BitVec 32 := Scalar.remui c0_i32_33_r0 c3_i32_34_r0
  let c0_i32_35_r0 : BitVec 32 := 0#32
  let c0_i32_36_r0 : BitVec 32 := 0#32
  let c0_i32_37_r0 : BitVec 32 := 0#32
  ![v34_r0.toNat, 0, 0, 0]
def k0_off4 : Fin 4 → Nat :=
  let c0_i32_43_r0 : BitVec 32 := 0#32
  let c3_i32_44_r0 : BitVec 32 := 3#32
  let v41_r0 : BitVec 32 := Scalar.remui c0_i32_43_r0 c3_i32_44_r0
  let c0_i32_45_r0 : BitVec 32 := 0#32
  let c0_i32_46_r0 : BitVec 32 := 0#32
  let c0_i32_47_r0 : BitVec 32 := 0#32
  ![v41_r0.toNat, 0, 0, 0]
def k0_cond1 : BitVec 1 :=
  let true_94_r0 : BitVec 1 := 1#1
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let c0_i32_93_r0 : BitVec 32 := 0#32
  let v76_r0 : BitVec 1 := Scalar.cmpi .ne v16_r0 c0_i32_93_r0
  let v77_r0 : BitVec 1 := Scalar.andi true_94_r0 v76_r0
  let true_95_r0 : BitVec 1 := 1#1
  let v78_r0 : BitVec 1 := Scalar.andi v77_r0 true_95_r0
  let v79_r0 : BitVec 32 := Scalar.extui v78_r0
  let c0_i32_96_r0 : BitVec 32 := 0#32
  let v80_r0 : BitVec 1 := Scalar.cmpi .ne v79_r0 c0_i32_96_r0
  v80_r0

def k0_off5 : Fin 1 → Nat :=
  let c0_i32_31_r0 : BitVec 32 := 0#32
  let c1_i32_32_r0 : BitVec 32 := 1#32
  let v33_r0 : BitVec 32 := Scalar.addi c0_i32_31_r0 c1_i32_32_r0
  let c3_i32_181_r0 : BitVec 32 := 3#32
  let v166_r0 : BitVec 32 := Scalar.remui v33_r0 c3_i32_181_r0
  ![v166_r0.toNat]
def k0_off6 : Fin 4 → Nat :=
  let c0_i32_31_r0 : BitVec 32 := 0#32
  let c1_i32_32_r0 : BitVec 32 := 1#32
  let v33_r0 : BitVec 32 := Scalar.addi c0_i32_31_r0 c1_i32_32_r0
  let c3_i32_181_r0 : BitVec 32 := 3#32
  let v166_r0 : BitVec 32 := Scalar.remui v33_r0 c3_i32_181_r0
  let c0_i32_183_r0 : BitVec 32 := 0#32
  let c0_i32_184_r0 : BitVec 32 := 0#32
  let c0_i32_185_r0 : BitVec 32 := 0#32
  ![v166_r0.toNat, 0, 0, 0]
def k0_off7 : Fin 3 → Nat :=
  let c0_i32_186_r0 : BitVec 32 := 0#32
  let c32_i32_182_r0 : BitVec 32 := 32#32
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let v167_r0 : BitVec 32 := Scalar.muli c32_i32_182_r0 v16_r0
  let c0_i32_187_r0 : BitVec 32 := 0#32
  ![0, v167_r0.toNat, 0]
def k0_cond2 : BitVec 1 :=
  let true_99_r0 : BitVec 1 := 1#1
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let c0_i32_98_r0 : BitVec 32 := 0#32
  let v83_r0 : BitVec 1 := Scalar.cmpi .ne v16_r0 c0_i32_98_r0
  let v84_r0 : BitVec 1 := Scalar.andi true_99_r0 v83_r0
  let true_100_r0 : BitVec 1 := 1#1
  let v85_r0 : BitVec 1 := Scalar.andi v84_r0 true_100_r0
  let v86_r0 : BitVec 32 := Scalar.extui v85_r0
  let c0_i32_101_r0 : BitVec 32 := 0#32
  let v87_r0 : BitVec 1 := Scalar.cmpi .ne v86_r0 c0_i32_101_r0
  v87_r0

def k0_off8 : Fin 1 → Nat :=
  let c0_i32_41_r0 : BitVec 32 := 0#32
  let c1_i32_42_r0 : BitVec 32 := 1#32
  let v40_r0 : BitVec 32 := Scalar.addi c0_i32_41_r0 c1_i32_42_r0
  let c3_i32_181_r0 : BitVec 32 := 3#32
  let v166_r0 : BitVec 32 := Scalar.remui v40_r0 c3_i32_181_r0
  ![v166_r0.toNat]
def k0_off9 : Fin 4 → Nat :=
  let c0_i32_41_r0 : BitVec 32 := 0#32
  let c1_i32_42_r0 : BitVec 32 := 1#32
  let v40_r0 : BitVec 32 := Scalar.addi c0_i32_41_r0 c1_i32_42_r0
  let c3_i32_181_r0 : BitVec 32 := 3#32
  let v166_r0 : BitVec 32 := Scalar.remui v40_r0 c3_i32_181_r0
  let c0_i32_183_r0 : BitVec 32 := 0#32
  let c0_i32_184_r0 : BitVec 32 := 0#32
  let c0_i32_185_r0 : BitVec 32 := 0#32
  ![v166_r0.toNat, 0, 0, 0]
def k0_off10 : Fin 3 → Nat :=
  let c32_i32_182_r0 : BitVec 32 := 32#32
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let v167_r0 : BitVec 32 := Scalar.muli c32_i32_182_r0 v16_r0
  let c0_i32_186_r0 : BitVec 32 := 0#32
  let c0_i32_187_r0 : BitVec 32 := 0#32
  ![v167_r0.toNat, 0, 0]
def k0_cond3 : BitVec 1 :=
  let true_104_r0 : BitVec 1 := 1#1
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let c0_i32_103_r0 : BitVec 32 := 0#32
  let v90_r0 : BitVec 1 := Scalar.cmpi .ne v16_r0 c0_i32_103_r0
  let v91_r0 : BitVec 1 := Scalar.andi true_104_r0 v90_r0
  let true_105_r0 : BitVec 1 := 1#1
  let v92_r0 : BitVec 1 := Scalar.andi v91_r0 true_105_r0
  let v93_r0 : BitVec 32 := Scalar.extui v92_r0
  let c0_i32_106_r0 : BitVec 32 := 0#32
  let v94_r0 : BitVec 1 := Scalar.cmpi .ne v93_r0 c0_i32_106_r0
  v94_r0

def k0_off11 : Fin 1 → Nat :=
  let c0_i32_51_r0 : BitVec 32 := 0#32
  let c1_i32_52_r0 : BitVec 32 := 1#32
  let v47_r0 : BitVec 32 := Scalar.addi c0_i32_51_r0 c1_i32_52_r0
  let c3_i32_181_r0 : BitVec 32 := 3#32
  let v166_r0 : BitVec 32 := Scalar.remui v47_r0 c3_i32_181_r0
  ![v166_r0.toNat]
def k0_off12 : Fin 4 → Nat :=
  let c0_i32_51_r0 : BitVec 32 := 0#32
  let c1_i32_52_r0 : BitVec 32 := 1#32
  let v47_r0 : BitVec 32 := Scalar.addi c0_i32_51_r0 c1_i32_52_r0
  let c3_i32_181_r0 : BitVec 32 := 3#32
  let v166_r0 : BitVec 32 := Scalar.remui v47_r0 c3_i32_181_r0
  let c0_i32_183_r0 : BitVec 32 := 0#32
  let c0_i32_184_r0 : BitVec 32 := 0#32
  let c0_i32_185_r0 : BitVec 32 := 0#32
  ![v166_r0.toNat, 0, 0, 0]
def k0_off13 : Fin 3 → Nat :=
  let c0_i32_186_r0 : BitVec 32 := 0#32
  let c32_i32_182_r0 : BitVec 32 := 32#32
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let v167_r0 : BitVec 32 := Scalar.muli c32_i32_182_r0 v16_r0
  let c0_i32_187_r0 : BitVec 32 := 0#32
  ![0, v167_r0.toNat, 0]
def k0_cond4 : BitVec 1 :=
  let true_109_r0 : BitVec 1 := 1#1
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let c0_i32_108_r0 : BitVec 32 := 0#32
  let v97_r0 : BitVec 1 := Scalar.cmpi .ne v16_r0 c0_i32_108_r0
  let v98_r0 : BitVec 1 := Scalar.andi true_109_r0 v97_r0
  let true_110_r0 : BitVec 1 := 1#1
  let v99_r0 : BitVec 1 := Scalar.andi v98_r0 true_110_r0
  let v100_r0 : BitVec 32 := Scalar.extui v99_r0
  let c0_i32_111_r0 : BitVec 32 := 0#32
  let v101_r0 : BitVec 1 := Scalar.cmpi .ne v100_r0 c0_i32_111_r0
  v101_r0

def k0_off14 : Fin 1 → Nat :=
  let c0_i32_61_r0 : BitVec 32 := 0#32
  let c1_i32_62_r0 : BitVec 32 := 1#32
  let v54_r0 : BitVec 32 := Scalar.addi c0_i32_61_r0 c1_i32_62_r0
  let c3_i32_181_r0 : BitVec 32 := 3#32
  let v166_r0 : BitVec 32 := Scalar.remui v54_r0 c3_i32_181_r0
  ![v166_r0.toNat]
def k0_off15 : Fin 4 → Nat :=
  let c0_i32_61_r0 : BitVec 32 := 0#32
  let c1_i32_62_r0 : BitVec 32 := 1#32
  let v54_r0 : BitVec 32 := Scalar.addi c0_i32_61_r0 c1_i32_62_r0
  let c3_i32_181_r0 : BitVec 32 := 3#32
  let v166_r0 : BitVec 32 := Scalar.remui v54_r0 c3_i32_181_r0
  let c0_i32_183_r0 : BitVec 32 := 0#32
  let c0_i32_184_r0 : BitVec 32 := 0#32
  let c0_i32_185_r0 : BitVec 32 := 0#32
  ![v166_r0.toNat, 0, 0, 0]
def k0_off16 : Fin 3 → Nat :=
  let c0_i32_186_r0 : BitVec 32 := 0#32
  let c32_i32_182_r0 : BitVec 32 := 32#32
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let v167_r0 : BitVec 32 := Scalar.muli c32_i32_182_r0 v16_r0
  let c0_i32_187_r0 : BitVec 32 := 0#32
  ![0, v167_r0.toNat, 0]
def k0_cond5 : BitVec 1 :=
  let true_114_r0 : BitVec 1 := 1#1
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let c0_i32_113_r0 : BitVec 32 := 0#32
  let v104_r0 : BitVec 1 := Scalar.cmpi .ne v16_r0 c0_i32_113_r0
  let v105_r0 : BitVec 1 := Scalar.andi true_114_r0 v104_r0
  let true_115_r0 : BitVec 1 := 1#1
  let v106_r0 : BitVec 1 := Scalar.andi v105_r0 true_115_r0
  let v107_r0 : BitVec 32 := Scalar.extui v106_r0
  let c0_i32_116_r0 : BitVec 32 := 0#32
  let v108_r0 : BitVec 1 := Scalar.cmpi .ne v107_r0 c0_i32_116_r0
  v108_r0

def k0_off17 : Fin 1 → Nat :=
  let c0_i32_71_r0 : BitVec 32 := 0#32
  let c1_i32_72_r0 : BitVec 32 := 1#32
  let v61_r0 : BitVec 32 := Scalar.addi c0_i32_71_r0 c1_i32_72_r0
  let c3_i32_181_r0 : BitVec 32 := 3#32
  let v166_r0 : BitVec 32 := Scalar.remui v61_r0 c3_i32_181_r0
  ![v166_r0.toNat]
def k0_off18 : Fin 4 → Nat :=
  let c0_i32_71_r0 : BitVec 32 := 0#32
  let c1_i32_72_r0 : BitVec 32 := 1#32
  let v61_r0 : BitVec 32 := Scalar.addi c0_i32_71_r0 c1_i32_72_r0
  let c3_i32_181_r0 : BitVec 32 := 3#32
  let v166_r0 : BitVec 32 := Scalar.remui v61_r0 c3_i32_181_r0
  let c0_i32_183_r0 : BitVec 32 := 0#32
  let c0_i32_184_r0 : BitVec 32 := 0#32
  let c0_i32_185_r0 : BitVec 32 := 0#32
  ![v166_r0.toNat, 0, 0, 0]
def k0_off19 : Fin 3 → Nat :=
  let c0_i32_186_r0 : BitVec 32 := 0#32
  let c32_i32_182_r0 : BitVec 32 := 32#32
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let v167_r0 : BitVec 32 := Scalar.muli c32_i32_182_r0 v16_r0
  let c0_i32_187_r0 : BitVec 32 := 0#32
  ![0, v167_r0.toNat, 0]
def k0_cond6 : BitVec 1 :=
  let true_119_r0 : BitVec 1 := 1#1
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let c0_i32_118_r0 : BitVec 32 := 0#32
  let v111_r0 : BitVec 1 := Scalar.cmpi .ne v16_r0 c0_i32_118_r0
  let v112_r0 : BitVec 1 := Scalar.andi true_119_r0 v111_r0
  let true_120_r0 : BitVec 1 := 1#1
  let v113_r0 : BitVec 1 := Scalar.andi v112_r0 true_120_r0
  let v114_r0 : BitVec 32 := Scalar.extui v113_r0
  let c0_i32_121_r0 : BitVec 32 := 0#32
  let v115_r0 : BitVec 1 := Scalar.cmpi .ne v114_r0 c0_i32_121_r0
  v115_r0

def k0_off20 : Fin 1 → Nat :=
  let c0_i32_81_r0 : BitVec 32 := 0#32
  let c1_i32_82_r0 : BitVec 32 := 1#32
  let v68_r0 : BitVec 32 := Scalar.addi c0_i32_81_r0 c1_i32_82_r0
  let c3_i32_181_r0 : BitVec 32 := 3#32
  let v166_r0 : BitVec 32 := Scalar.remui v68_r0 c3_i32_181_r0
  ![v166_r0.toNat]
def k0_off21 : Fin 4 → Nat :=
  let c0_i32_81_r0 : BitVec 32 := 0#32
  let c1_i32_82_r0 : BitVec 32 := 1#32
  let v68_r0 : BitVec 32 := Scalar.addi c0_i32_81_r0 c1_i32_82_r0
  let c3_i32_181_r0 : BitVec 32 := 3#32
  let v166_r0 : BitVec 32 := Scalar.remui v68_r0 c3_i32_181_r0
  let c0_i32_183_r0 : BitVec 32 := 0#32
  let c0_i32_184_r0 : BitVec 32 := 0#32
  let c0_i32_185_r0 : BitVec 32 := 0#32
  ![v166_r0.toNat, 0, 0, 0]
def k0_off22 : Fin 3 → Nat :=
  let c0_i32_186_r0 : BitVec 32 := 0#32
  let c32_i32_182_r0 : BitVec 32 := 32#32
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let v167_r0 : BitVec 32 := Scalar.muli c32_i32_182_r0 v16_r0
  let c0_i32_187_r0 : BitVec 32 := 0#32
  ![0, v167_r0.toNat, 0]
def k0_cond7 : BitVec 1 :=
  let true_124_r0 : BitVec 1 := 1#1
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let c0_i32_123_r0 : BitVec 32 := 0#32
  let v118_r0 : BitVec 1 := Scalar.cmpi .ne v16_r0 c0_i32_123_r0
  let v119_r0 : BitVec 1 := Scalar.andi true_124_r0 v118_r0
  let true_125_r0 : BitVec 1 := 1#1
  let v120_r0 : BitVec 1 := Scalar.andi v119_r0 true_125_r0
  let v121_r0 : BitVec 32 := Scalar.extui v120_r0
  let c0_i32_126_r0 : BitVec 32 := 0#32
  let v122_r0 : BitVec 1 := Scalar.cmpi .ne v121_r0 c0_i32_126_r0
  v122_r0

def k0_off23 : Fin 1 → Nat :=
  let c0_i32_91_r0 : BitVec 32 := 0#32
  let c1_i32_92_r0 : BitVec 32 := 1#32
  let v75_r0 : BitVec 32 := Scalar.addi c0_i32_91_r0 c1_i32_92_r0
  let c3_i32_181_r0 : BitVec 32 := 3#32
  let v166_r0 : BitVec 32 := Scalar.remui v75_r0 c3_i32_181_r0
  ![v166_r0.toNat]
def k0_off24 : Fin 4 → Nat :=
  let c0_i32_91_r0 : BitVec 32 := 0#32
  let c1_i32_92_r0 : BitVec 32 := 1#32
  let v75_r0 : BitVec 32 := Scalar.addi c0_i32_91_r0 c1_i32_92_r0
  let c3_i32_181_r0 : BitVec 32 := 3#32
  let v166_r0 : BitVec 32 := Scalar.remui v75_r0 c3_i32_181_r0
  let c0_i32_183_r0 : BitVec 32 := 0#32
  let c0_i32_184_r0 : BitVec 32 := 0#32
  let c0_i32_185_r0 : BitVec 32 := 0#32
  ![v166_r0.toNat, 0, 0, 0]
def k0_off25 : Fin 3 → Nat :=
  let c0_i32_186_r0 : BitVec 32 := 0#32
  let c32_i32_182_r0 : BitVec 32 := 32#32
  let true_10_r0 : BitVec 1 := 1#1
  let c1_i32_r0 : BitVec 32 := 1#32
  let c0_i32_11_r0 : BitVec 32 := 0#32
  let v13_r0 : BitVec 32 := Scalar.select true_10_r0 c1_i32_r0 c0_i32_11_r0
  let c64_i32_r0 : BitVec 32 := 64#32
  let v14_r0 : BitVec 1 := Scalar.cmpi .eq v13_r0 c64_i32_r0
  let c0_i32_12_r0 : BitVec 32 := 0#32
  let v15_r0 : BitVec 32 := Scalar.select v14_r0 c0_i32_12_r0 v13_r0
  let c0_i32_13_r0 : BitVec 32 := 0#32
  let v16_r0 : BitVec 32 := Scalar.addi v15_r0 c0_i32_13_r0
  let v167_r0 : BitVec 32 := Scalar.muli c32_i32_182_r0 v16_r0
  let c0_i32_187_r0 : BitVec 32 := 0#32
  ![0, v167_r0.toNat, 0]
@[reducible] def k0_t1_loop : Scf.Loop 32 :=
  let c0_i32_140_r0 : BitVec 32 := 0#32
  let c64_i32_141_r0 : BitVec 32 := 64#32
  let v125_r0 : BitVec 32 := Scalar.addi c0_i32_140_r0 c64_i32_141_r0
  let c1_i32_142_r0 : BitVec 32 := 1#32
  ⟨c0_i32_140_r0, v125_r0, c1_i32_142_r0⟩
def k0_off26 (arg18_r0 : BitVec 32) : Fin 1 → Nat :=
  let c3_i32_440_r0 : BitVec 32 := 3#32
  let v664_r0 : BitVec 32 := Scalar.remui arg18_r0 c3_i32_440_r0
  ![v664_r0.toNat]
def k0_cond8 (k0_t1 : Fin k0_t1_loop.trips) (arg36_r0 : BitVec 32) : BitVec 1 :=
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let true_195_r0 : BitVec 1 := 1#1
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v189_r0 : BitVec 1 := Scalar.cmpi .ne v178_r0 v183_r0
  let c0_i32_140_r0 : BitVec 32 := 0#32
  let c1_i32_142_r0 : BitVec 32 := 1#32
  let arg17_r0 : BitVec 32 := Scf.iv c0_i32_140_r0 c1_i32_142_r0 k0_t1
  let c62_i32_r0 : BitVec 32 := 62#32
  let v190_r0 : BitVec 1 := Scalar.cmpi .sge arg17_r0 c62_i32_r0
  let true_204_r0 : BitVec 1 := 1#1
  let v191_r0 : BitVec 1 := Scalar.xori v190_r0 true_204_r0
  let v192_r0 : BitVec 1 := Scalar.andi v189_r0 v191_r0
  let true_205_r0 : BitVec 1 := 1#1
  let v193_r0 : BitVec 1 := Scalar.andi v192_r0 true_205_r0
  let v194_r0 : BitVec 32 := Scalar.extui v193_r0
  let c0_i32_206_r0 : BitVec 32 := 0#32
  let v195_r0 : BitVec 1 := Scalar.cmpi .ne v194_r0 c0_i32_206_r0
  v195_r0

def k0_off27 (arg18_r0 : BitVec 32) : Fin 4 → Nat :=
  let c3_i32_440_r0 : BitVec 32 := 3#32
  let v664_r0 : BitVec 32 := Scalar.remui arg18_r0 c3_i32_440_r0
  let c0_i32_442_r0 : BitVec 32 := 0#32
  let c0_i32_443_r0 : BitVec 32 := 0#32
  let c0_i32_444_r0 : BitVec 32 := 0#32
  ![v664_r0.toNat, 0, 0, 0]
def k0_off28 (arg36_r0 : BitVec 32) : Fin 3 → Nat :=
  let c0_i32_445_r0 : BitVec 32 := 0#32
  let c32_i32_441_r0 : BitVec 32 := 32#32
  let true_195_r0 : BitVec 1 := 1#1
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v665_r0 : BitVec 32 := Scalar.muli c32_i32_441_r0 v183_r0
  let c0_i32_446_r0 : BitVec 32 := 0#32
  ![0, v665_r0.toNat, 0]
def k0_off29 (arg20_r0 : BitVec 32) : Fin 1 → Nat :=
  let c3_i32_440_r0 : BitVec 32 := 3#32
  let v664_r0 : BitVec 32 := Scalar.remui arg20_r0 c3_i32_440_r0
  ![v664_r0.toNat]
def k0_cond9 (k0_t1 : Fin k0_t1_loop.trips) (arg36_r0 : BitVec 32) : BitVec 1 :=
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let true_195_r0 : BitVec 1 := 1#1
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v199_r0 : BitVec 1 := Scalar.cmpi .ne v178_r0 v183_r0
  let c0_i32_140_r0 : BitVec 32 := 0#32
  let c1_i32_142_r0 : BitVec 32 := 1#32
  let arg17_r0 : BitVec 32 := Scf.iv c0_i32_140_r0 c1_i32_142_r0 k0_t1
  let c62_i32_209_r0 : BitVec 32 := 62#32
  let v200_r0 : BitVec 1 := Scalar.cmpi .sge arg17_r0 c62_i32_209_r0
  let true_210_r0 : BitVec 1 := 1#1
  let v201_r0 : BitVec 1 := Scalar.xori v200_r0 true_210_r0
  let v202_r0 : BitVec 1 := Scalar.andi v199_r0 v201_r0
  let true_211_r0 : BitVec 1 := 1#1
  let v203_r0 : BitVec 1 := Scalar.andi v202_r0 true_211_r0
  let v204_r0 : BitVec 32 := Scalar.extui v203_r0
  let c0_i32_212_r0 : BitVec 32 := 0#32
  let v205_r0 : BitVec 1 := Scalar.cmpi .ne v204_r0 c0_i32_212_r0
  v205_r0

def k0_off30 (arg20_r0 : BitVec 32) : Fin 4 → Nat :=
  let c3_i32_440_r0 : BitVec 32 := 3#32
  let v664_r0 : BitVec 32 := Scalar.remui arg20_r0 c3_i32_440_r0
  let c0_i32_442_r0 : BitVec 32 := 0#32
  let c0_i32_443_r0 : BitVec 32 := 0#32
  let c0_i32_444_r0 : BitVec 32 := 0#32
  ![v664_r0.toNat, 0, 0, 0]
def k0_off31 (arg36_r0 : BitVec 32) : Fin 3 → Nat :=
  let c32_i32_441_r0 : BitVec 32 := 32#32
  let true_195_r0 : BitVec 1 := 1#1
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v665_r0 : BitVec 32 := Scalar.muli c32_i32_441_r0 v183_r0
  let c0_i32_445_r0 : BitVec 32 := 0#32
  let c0_i32_446_r0 : BitVec 32 := 0#32
  ![v665_r0.toNat, 0, 0]
def k0_off32 (arg22_r0 : BitVec 32) : Fin 1 → Nat :=
  let c3_i32_440_r0 : BitVec 32 := 3#32
  let v664_r0 : BitVec 32 := Scalar.remui arg22_r0 c3_i32_440_r0
  ![v664_r0.toNat]
def k0_cond10 (k0_t1 : Fin k0_t1_loop.trips) (arg36_r0 : BitVec 32) : BitVec 1 :=
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let true_195_r0 : BitVec 1 := 1#1
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v209_r0 : BitVec 1 := Scalar.cmpi .ne v178_r0 v183_r0
  let c0_i32_140_r0 : BitVec 32 := 0#32
  let c1_i32_142_r0 : BitVec 32 := 1#32
  let arg17_r0 : BitVec 32 := Scf.iv c0_i32_140_r0 c1_i32_142_r0 k0_t1
  let c62_i32_215_r0 : BitVec 32 := 62#32
  let v210_r0 : BitVec 1 := Scalar.cmpi .sge arg17_r0 c62_i32_215_r0
  let true_216_r0 : BitVec 1 := 1#1
  let v211_r0 : BitVec 1 := Scalar.xori v210_r0 true_216_r0
  let v212_r0 : BitVec 1 := Scalar.andi v209_r0 v211_r0
  let true_217_r0 : BitVec 1 := 1#1
  let v213_r0 : BitVec 1 := Scalar.andi v212_r0 true_217_r0
  let v214_r0 : BitVec 32 := Scalar.extui v213_r0
  let c0_i32_218_r0 : BitVec 32 := 0#32
  let v215_r0 : BitVec 1 := Scalar.cmpi .ne v214_r0 c0_i32_218_r0
  v215_r0

def k0_off33 (arg22_r0 : BitVec 32) : Fin 4 → Nat :=
  let c3_i32_440_r0 : BitVec 32 := 3#32
  let v664_r0 : BitVec 32 := Scalar.remui arg22_r0 c3_i32_440_r0
  let c0_i32_442_r0 : BitVec 32 := 0#32
  let c0_i32_443_r0 : BitVec 32 := 0#32
  let c0_i32_444_r0 : BitVec 32 := 0#32
  ![v664_r0.toNat, 0, 0, 0]
def k0_off34 (arg36_r0 : BitVec 32) : Fin 3 → Nat :=
  let c0_i32_445_r0 : BitVec 32 := 0#32
  let c32_i32_441_r0 : BitVec 32 := 32#32
  let true_195_r0 : BitVec 1 := 1#1
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v665_r0 : BitVec 32 := Scalar.muli c32_i32_441_r0 v183_r0
  let c0_i32_446_r0 : BitVec 32 := 0#32
  ![0, v665_r0.toNat, 0]
def k0_off35 (arg24_r0 : BitVec 32) : Fin 1 → Nat :=
  let c3_i32_440_r0 : BitVec 32 := 3#32
  let v664_r0 : BitVec 32 := Scalar.remui arg24_r0 c3_i32_440_r0
  ![v664_r0.toNat]
def k0_cond11 (k0_t1 : Fin k0_t1_loop.trips) (arg36_r0 : BitVec 32) : BitVec 1 :=
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let true_195_r0 : BitVec 1 := 1#1
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v219_r0 : BitVec 1 := Scalar.cmpi .ne v178_r0 v183_r0
  let c0_i32_140_r0 : BitVec 32 := 0#32
  let c1_i32_142_r0 : BitVec 32 := 1#32
  let arg17_r0 : BitVec 32 := Scf.iv c0_i32_140_r0 c1_i32_142_r0 k0_t1
  let c62_i32_221_r0 : BitVec 32 := 62#32
  let v220_r0 : BitVec 1 := Scalar.cmpi .sge arg17_r0 c62_i32_221_r0
  let true_222_r0 : BitVec 1 := 1#1
  let v221_r0 : BitVec 1 := Scalar.xori v220_r0 true_222_r0
  let v222_r0 : BitVec 1 := Scalar.andi v219_r0 v221_r0
  let true_223_r0 : BitVec 1 := 1#1
  let v223_r0 : BitVec 1 := Scalar.andi v222_r0 true_223_r0
  let v224_r0 : BitVec 32 := Scalar.extui v223_r0
  let c0_i32_224_r0 : BitVec 32 := 0#32
  let v225_r0 : BitVec 1 := Scalar.cmpi .ne v224_r0 c0_i32_224_r0
  v225_r0

def k0_off36 (arg24_r0 : BitVec 32) : Fin 4 → Nat :=
  let c3_i32_440_r0 : BitVec 32 := 3#32
  let v664_r0 : BitVec 32 := Scalar.remui arg24_r0 c3_i32_440_r0
  let c0_i32_442_r0 : BitVec 32 := 0#32
  let c0_i32_443_r0 : BitVec 32 := 0#32
  let c0_i32_444_r0 : BitVec 32 := 0#32
  ![v664_r0.toNat, 0, 0, 0]
def k0_off37 (arg36_r0 : BitVec 32) : Fin 3 → Nat :=
  let c0_i32_445_r0 : BitVec 32 := 0#32
  let c32_i32_441_r0 : BitVec 32 := 32#32
  let true_195_r0 : BitVec 1 := 1#1
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v665_r0 : BitVec 32 := Scalar.muli c32_i32_441_r0 v183_r0
  let c0_i32_446_r0 : BitVec 32 := 0#32
  ![0, v665_r0.toNat, 0]
def k0_off38 (arg26_r0 : BitVec 32) : Fin 1 → Nat :=
  let c3_i32_440_r0 : BitVec 32 := 3#32
  let v664_r0 : BitVec 32 := Scalar.remui arg26_r0 c3_i32_440_r0
  ![v664_r0.toNat]
def k0_cond12 (k0_t1 : Fin k0_t1_loop.trips) (arg36_r0 : BitVec 32) : BitVec 1 :=
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let true_195_r0 : BitVec 1 := 1#1
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v229_r0 : BitVec 1 := Scalar.cmpi .ne v178_r0 v183_r0
  let c0_i32_140_r0 : BitVec 32 := 0#32
  let c1_i32_142_r0 : BitVec 32 := 1#32
  let arg17_r0 : BitVec 32 := Scf.iv c0_i32_140_r0 c1_i32_142_r0 k0_t1
  let c62_i32_227_r0 : BitVec 32 := 62#32
  let v230_r0 : BitVec 1 := Scalar.cmpi .sge arg17_r0 c62_i32_227_r0
  let true_228_r0 : BitVec 1 := 1#1
  let v231_r0 : BitVec 1 := Scalar.xori v230_r0 true_228_r0
  let v232_r0 : BitVec 1 := Scalar.andi v229_r0 v231_r0
  let true_229_r0 : BitVec 1 := 1#1
  let v233_r0 : BitVec 1 := Scalar.andi v232_r0 true_229_r0
  let v234_r0 : BitVec 32 := Scalar.extui v233_r0
  let c0_i32_230_r0 : BitVec 32 := 0#32
  let v235_r0 : BitVec 1 := Scalar.cmpi .ne v234_r0 c0_i32_230_r0
  v235_r0

def k0_off39 (arg26_r0 : BitVec 32) : Fin 4 → Nat :=
  let c3_i32_440_r0 : BitVec 32 := 3#32
  let v664_r0 : BitVec 32 := Scalar.remui arg26_r0 c3_i32_440_r0
  let c0_i32_442_r0 : BitVec 32 := 0#32
  let c0_i32_443_r0 : BitVec 32 := 0#32
  let c0_i32_444_r0 : BitVec 32 := 0#32
  ![v664_r0.toNat, 0, 0, 0]
def k0_off40 (arg36_r0 : BitVec 32) : Fin 3 → Nat :=
  let c0_i32_445_r0 : BitVec 32 := 0#32
  let c32_i32_441_r0 : BitVec 32 := 32#32
  let true_195_r0 : BitVec 1 := 1#1
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v665_r0 : BitVec 32 := Scalar.muli c32_i32_441_r0 v183_r0
  let c0_i32_446_r0 : BitVec 32 := 0#32
  ![0, v665_r0.toNat, 0]
def k0_off41 (arg28_r0 : BitVec 32) : Fin 1 → Nat :=
  let c3_i32_440_r0 : BitVec 32 := 3#32
  let v664_r0 : BitVec 32 := Scalar.remui arg28_r0 c3_i32_440_r0
  ![v664_r0.toNat]
def k0_cond13 (k0_t1 : Fin k0_t1_loop.trips) (arg36_r0 : BitVec 32) : BitVec 1 :=
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let true_195_r0 : BitVec 1 := 1#1
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v239_r0 : BitVec 1 := Scalar.cmpi .ne v178_r0 v183_r0
  let c0_i32_140_r0 : BitVec 32 := 0#32
  let c1_i32_142_r0 : BitVec 32 := 1#32
  let arg17_r0 : BitVec 32 := Scf.iv c0_i32_140_r0 c1_i32_142_r0 k0_t1
  let c62_i32_233_r0 : BitVec 32 := 62#32
  let v240_r0 : BitVec 1 := Scalar.cmpi .sge arg17_r0 c62_i32_233_r0
  let true_234_r0 : BitVec 1 := 1#1
  let v241_r0 : BitVec 1 := Scalar.xori v240_r0 true_234_r0
  let v242_r0 : BitVec 1 := Scalar.andi v239_r0 v241_r0
  let true_235_r0 : BitVec 1 := 1#1
  let v243_r0 : BitVec 1 := Scalar.andi v242_r0 true_235_r0
  let v244_r0 : BitVec 32 := Scalar.extui v243_r0
  let c0_i32_236_r0 : BitVec 32 := 0#32
  let v245_r0 : BitVec 1 := Scalar.cmpi .ne v244_r0 c0_i32_236_r0
  v245_r0

def k0_off42 (arg28_r0 : BitVec 32) : Fin 4 → Nat :=
  let c3_i32_440_r0 : BitVec 32 := 3#32
  let v664_r0 : BitVec 32 := Scalar.remui arg28_r0 c3_i32_440_r0
  let c0_i32_442_r0 : BitVec 32 := 0#32
  let c0_i32_443_r0 : BitVec 32 := 0#32
  let c0_i32_444_r0 : BitVec 32 := 0#32
  ![v664_r0.toNat, 0, 0, 0]
def k0_off43 (arg36_r0 : BitVec 32) : Fin 3 → Nat :=
  let c0_i32_445_r0 : BitVec 32 := 0#32
  let c32_i32_441_r0 : BitVec 32 := 32#32
  let true_195_r0 : BitVec 1 := 1#1
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v665_r0 : BitVec 32 := Scalar.muli c32_i32_441_r0 v183_r0
  let c0_i32_446_r0 : BitVec 32 := 0#32
  ![0, v665_r0.toNat, 0]
def k0_off44 (arg30_r0 : BitVec 32) : Fin 1 → Nat :=
  let c3_i32_440_r0 : BitVec 32 := 3#32
  let v664_r0 : BitVec 32 := Scalar.remui arg30_r0 c3_i32_440_r0
  ![v664_r0.toNat]
def k0_cond14 (k0_t1 : Fin k0_t1_loop.trips) (arg36_r0 : BitVec 32) : BitVec 1 :=
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let true_195_r0 : BitVec 1 := 1#1
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v249_r0 : BitVec 1 := Scalar.cmpi .ne v178_r0 v183_r0
  let c0_i32_140_r0 : BitVec 32 := 0#32
  let c1_i32_142_r0 : BitVec 32 := 1#32
  let arg17_r0 : BitVec 32 := Scf.iv c0_i32_140_r0 c1_i32_142_r0 k0_t1
  let c62_i32_239_r0 : BitVec 32 := 62#32
  let v250_r0 : BitVec 1 := Scalar.cmpi .sge arg17_r0 c62_i32_239_r0
  let true_240_r0 : BitVec 1 := 1#1
  let v251_r0 : BitVec 1 := Scalar.xori v250_r0 true_240_r0
  let v252_r0 : BitVec 1 := Scalar.andi v249_r0 v251_r0
  let true_241_r0 : BitVec 1 := 1#1
  let v253_r0 : BitVec 1 := Scalar.andi v252_r0 true_241_r0
  let v254_r0 : BitVec 32 := Scalar.extui v253_r0
  let c0_i32_242_r0 : BitVec 32 := 0#32
  let v255_r0 : BitVec 1 := Scalar.cmpi .ne v254_r0 c0_i32_242_r0
  v255_r0

def k0_off45 (arg30_r0 : BitVec 32) : Fin 4 → Nat :=
  let c3_i32_440_r0 : BitVec 32 := 3#32
  let v664_r0 : BitVec 32 := Scalar.remui arg30_r0 c3_i32_440_r0
  let c0_i32_442_r0 : BitVec 32 := 0#32
  let c0_i32_443_r0 : BitVec 32 := 0#32
  let c0_i32_444_r0 : BitVec 32 := 0#32
  ![v664_r0.toNat, 0, 0, 0]
def k0_off46 (arg36_r0 : BitVec 32) : Fin 3 → Nat :=
  let c0_i32_445_r0 : BitVec 32 := 0#32
  let c32_i32_441_r0 : BitVec 32 := 32#32
  let true_195_r0 : BitVec 1 := 1#1
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c1_i32_194_r0 : BitVec 32 := 1#32
  let v179_r0 : BitVec 32 := Scalar.addi v177_r0 c1_i32_194_r0
  let v180_r0 : BitVec 32 := Scalar.select true_195_r0 v179_r0 v177_r0
  let c64_i32_196_r0 : BitVec 32 := 64#32
  let v181_r0 : BitVec 1 := Scalar.cmpi .eq v180_r0 c64_i32_196_r0
  let c0_i32_197_r0 : BitVec 32 := 0#32
  let v182_r0 : BitVec 32 := Scalar.select v181_r0 c0_i32_197_r0 v180_r0
  let c0_i32_198_r0 : BitVec 32 := 0#32
  let v183_r0 : BitVec 32 := Scalar.addi v182_r0 c0_i32_198_r0
  let v665_r0 : BitVec 32 := Scalar.muli c32_i32_441_r0 v183_r0
  let c0_i32_446_r0 : BitVec 32 := 0#32
  ![0, v665_r0.toNat, 0]
def k0_off47 (arg19_r0 : BitVec 32) : Fin 1 → Nat :=
  let c3_i32_441_r0 : BitVec 32 := 3#32
  let v665_r0 : BitVec 32 := Scalar.remui arg19_r0 c3_i32_441_r0
  ![v665_r0.toNat]
def k0_cond15 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v267_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let v268_r0 : BitVec 1 := Scalar.ori v267_r0 v166_r0
  let c0_i32_249_r0 : BitVec 32 := 0#32
  let v269_r0 : BitVec 1 := Scalar.cmpi .sge arg17_r0 c0_i32_249_r0
  let v270_r0 : BitVec 1 := Scalar.andi v268_r0 v269_r0
  let v271_r0 : BitVec 32 := Scalar.extui v270_r0
  let c0_i32_250_r0 : BitVec 32 := 0#32
  let v272_r0 : BitVec 1 := Scalar.cmpi .ne v271_r0 c0_i32_250_r0
  v272_r0

def k0_off48 (arg19_r0 : BitVec 32) : Fin 4 → Nat :=
  let c3_i32_441_r0 : BitVec 32 := 3#32
  let v665_r0 : BitVec 32 := Scalar.remui arg19_r0 c3_i32_441_r0
  let c0_i32_442_r0 : BitVec 32 := 0#32
  let c0_i32_443_r0 : BitVec 32 := 0#32
  let c0_i32_444_r0 : BitVec 32 := 0#32
  ![v665_r0.toNat, 0, 0, 0]
def k0_off49 (arg36_r0 : BitVec 32) : Fin 3 → Nat :=
  let c0_i32_445_r0 : BitVec 32 := 0#32
  let c32_i32_440_r0 : BitVec 32 := 32#32
  let c0_i32_183_r0 : BitVec 32 := 0#32
  let v168_r0 : BitVec 32 := Scalar.addi arg36_r0 c0_i32_183_r0
  let v664_r0 : BitVec 32 := Scalar.muli c32_i32_440_r0 v168_r0
  let c0_i32_446_r0 : BitVec 32 := 0#32
  ![0, v664_r0.toNat, 0]
def k0_off50 (arg21_r0 : BitVec 32) : Fin 1 → Nat :=
  let c3_i32_441_r0 : BitVec 32 := 3#32
  let v665_r0 : BitVec 32 := Scalar.remui arg21_r0 c3_i32_441_r0
  ![v665_r0.toNat]
def k0_cond16 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v273_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let v274_r0 : BitVec 1 := Scalar.ori v273_r0 v166_r0
  let c0_i32_251_r0 : BitVec 32 := 0#32
  let v275_r0 : BitVec 1 := Scalar.cmpi .sge arg17_r0 c0_i32_251_r0
  let v276_r0 : BitVec 1 := Scalar.andi v274_r0 v275_r0
  let v277_r0 : BitVec 32 := Scalar.extui v276_r0
  let c0_i32_252_r0 : BitVec 32 := 0#32
  let v278_r0 : BitVec 1 := Scalar.cmpi .ne v277_r0 c0_i32_252_r0
  v278_r0

def k0_off51 (arg21_r0 : BitVec 32) : Fin 4 → Nat :=
  let c3_i32_441_r0 : BitVec 32 := 3#32
  let v665_r0 : BitVec 32 := Scalar.remui arg21_r0 c3_i32_441_r0
  let c0_i32_442_r0 : BitVec 32 := 0#32
  let c0_i32_443_r0 : BitVec 32 := 0#32
  let c0_i32_444_r0 : BitVec 32 := 0#32
  ![v665_r0.toNat, 0, 0, 0]
def k0_off52 (arg36_r0 : BitVec 32) : Fin 3 → Nat :=
  let c32_i32_440_r0 : BitVec 32 := 32#32
  let c0_i32_183_r0 : BitVec 32 := 0#32
  let v168_r0 : BitVec 32 := Scalar.addi arg36_r0 c0_i32_183_r0
  let v664_r0 : BitVec 32 := Scalar.muli c32_i32_440_r0 v168_r0
  let c0_i32_445_r0 : BitVec 32 := 0#32
  let c0_i32_446_r0 : BitVec 32 := 0#32
  ![v664_r0.toNat, 0, 0]
def k0_off53 (arg23_r0 : BitVec 32) : Fin 1 → Nat :=
  let c3_i32_441_r0 : BitVec 32 := 3#32
  let v665_r0 : BitVec 32 := Scalar.remui arg23_r0 c3_i32_441_r0
  ![v665_r0.toNat]
def k0_cond17 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v279_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let v280_r0 : BitVec 1 := Scalar.ori v279_r0 v166_r0
  let c0_i32_253_r0 : BitVec 32 := 0#32
  let v281_r0 : BitVec 1 := Scalar.cmpi .sge arg17_r0 c0_i32_253_r0
  let v282_r0 : BitVec 1 := Scalar.andi v280_r0 v281_r0
  let v283_r0 : BitVec 32 := Scalar.extui v282_r0
  let c0_i32_254_r0 : BitVec 32 := 0#32
  let v284_r0 : BitVec 1 := Scalar.cmpi .ne v283_r0 c0_i32_254_r0
  v284_r0

def k0_off54 (arg23_r0 : BitVec 32) : Fin 4 → Nat :=
  let c3_i32_441_r0 : BitVec 32 := 3#32
  let v665_r0 : BitVec 32 := Scalar.remui arg23_r0 c3_i32_441_r0
  let c0_i32_442_r0 : BitVec 32 := 0#32
  let c0_i32_443_r0 : BitVec 32 := 0#32
  let c0_i32_444_r0 : BitVec 32 := 0#32
  ![v665_r0.toNat, 0, 0, 0]
def k0_off55 (arg36_r0 : BitVec 32) : Fin 3 → Nat :=
  let c0_i32_445_r0 : BitVec 32 := 0#32
  let c32_i32_440_r0 : BitVec 32 := 32#32
  let c0_i32_183_r0 : BitVec 32 := 0#32
  let v168_r0 : BitVec 32 := Scalar.addi arg36_r0 c0_i32_183_r0
  let v664_r0 : BitVec 32 := Scalar.muli c32_i32_440_r0 v168_r0
  let c0_i32_446_r0 : BitVec 32 := 0#32
  ![0, v664_r0.toNat, 0]
def k0_off56 (arg25_r0 : BitVec 32) : Fin 1 → Nat :=
  let c3_i32_441_r0 : BitVec 32 := 3#32
  let v665_r0 : BitVec 32 := Scalar.remui arg25_r0 c3_i32_441_r0
  ![v665_r0.toNat]
def k0_cond18 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v285_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let v286_r0 : BitVec 1 := Scalar.ori v285_r0 v166_r0
  let c0_i32_255_r0 : BitVec 32 := 0#32
  let v287_r0 : BitVec 1 := Scalar.cmpi .sge arg17_r0 c0_i32_255_r0
  let v288_r0 : BitVec 1 := Scalar.andi v286_r0 v287_r0
  let v289_r0 : BitVec 32 := Scalar.extui v288_r0
  let c0_i32_256_r0 : BitVec 32 := 0#32
  let v290_r0 : BitVec 1 := Scalar.cmpi .ne v289_r0 c0_i32_256_r0
  v290_r0

def k0_off57 (arg25_r0 : BitVec 32) : Fin 4 → Nat :=
  let c3_i32_441_r0 : BitVec 32 := 3#32
  let v665_r0 : BitVec 32 := Scalar.remui arg25_r0 c3_i32_441_r0
  let c0_i32_442_r0 : BitVec 32 := 0#32
  let c0_i32_443_r0 : BitVec 32 := 0#32
  let c0_i32_444_r0 : BitVec 32 := 0#32
  ![v665_r0.toNat, 0, 0, 0]
def k0_off58 (arg36_r0 : BitVec 32) : Fin 3 → Nat :=
  let c0_i32_445_r0 : BitVec 32 := 0#32
  let c32_i32_440_r0 : BitVec 32 := 32#32
  let c0_i32_183_r0 : BitVec 32 := 0#32
  let v168_r0 : BitVec 32 := Scalar.addi arg36_r0 c0_i32_183_r0
  let v664_r0 : BitVec 32 := Scalar.muli c32_i32_440_r0 v168_r0
  let c0_i32_446_r0 : BitVec 32 := 0#32
  ![0, v664_r0.toNat, 0]
def k0_off59 (arg27_r0 : BitVec 32) : Fin 1 → Nat :=
  let c3_i32_441_r0 : BitVec 32 := 3#32
  let v665_r0 : BitVec 32 := Scalar.remui arg27_r0 c3_i32_441_r0
  ![v665_r0.toNat]
def k0_cond19 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v291_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let v292_r0 : BitVec 1 := Scalar.ori v291_r0 v166_r0
  let c0_i32_257_r0 : BitVec 32 := 0#32
  let v293_r0 : BitVec 1 := Scalar.cmpi .sge arg17_r0 c0_i32_257_r0
  let v294_r0 : BitVec 1 := Scalar.andi v292_r0 v293_r0
  let v295_r0 : BitVec 32 := Scalar.extui v294_r0
  let c0_i32_258_r0 : BitVec 32 := 0#32
  let v296_r0 : BitVec 1 := Scalar.cmpi .ne v295_r0 c0_i32_258_r0
  v296_r0

def k0_off60 (arg27_r0 : BitVec 32) : Fin 4 → Nat :=
  let c3_i32_441_r0 : BitVec 32 := 3#32
  let v665_r0 : BitVec 32 := Scalar.remui arg27_r0 c3_i32_441_r0
  let c0_i32_442_r0 : BitVec 32 := 0#32
  let c0_i32_443_r0 : BitVec 32 := 0#32
  let c0_i32_444_r0 : BitVec 32 := 0#32
  ![v665_r0.toNat, 0, 0, 0]
def k0_off61 (arg36_r0 : BitVec 32) : Fin 3 → Nat :=
  let c0_i32_445_r0 : BitVec 32 := 0#32
  let c32_i32_440_r0 : BitVec 32 := 32#32
  let c0_i32_183_r0 : BitVec 32 := 0#32
  let v168_r0 : BitVec 32 := Scalar.addi arg36_r0 c0_i32_183_r0
  let v664_r0 : BitVec 32 := Scalar.muli c32_i32_440_r0 v168_r0
  let c0_i32_446_r0 : BitVec 32 := 0#32
  ![0, v664_r0.toNat, 0]
def k0_off62 (arg29_r0 : BitVec 32) : Fin 1 → Nat :=
  let c3_i32_441_r0 : BitVec 32 := 3#32
  let v665_r0 : BitVec 32 := Scalar.remui arg29_r0 c3_i32_441_r0
  ![v665_r0.toNat]
def k0_cond20 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v297_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let v298_r0 : BitVec 1 := Scalar.ori v297_r0 v166_r0
  let c0_i32_259_r0 : BitVec 32 := 0#32
  let v299_r0 : BitVec 1 := Scalar.cmpi .sge arg17_r0 c0_i32_259_r0
  let v300_r0 : BitVec 1 := Scalar.andi v298_r0 v299_r0
  let v301_r0 : BitVec 32 := Scalar.extui v300_r0
  let c0_i32_260_r0 : BitVec 32 := 0#32
  let v302_r0 : BitVec 1 := Scalar.cmpi .ne v301_r0 c0_i32_260_r0
  v302_r0

def k0_off63 (arg29_r0 : BitVec 32) : Fin 4 → Nat :=
  let c3_i32_441_r0 : BitVec 32 := 3#32
  let v665_r0 : BitVec 32 := Scalar.remui arg29_r0 c3_i32_441_r0
  let c0_i32_442_r0 : BitVec 32 := 0#32
  let c0_i32_443_r0 : BitVec 32 := 0#32
  let c0_i32_444_r0 : BitVec 32 := 0#32
  ![v665_r0.toNat, 0, 0, 0]
def k0_off64 (arg36_r0 : BitVec 32) : Fin 3 → Nat :=
  let c0_i32_445_r0 : BitVec 32 := 0#32
  let c32_i32_440_r0 : BitVec 32 := 32#32
  let c0_i32_183_r0 : BitVec 32 := 0#32
  let v168_r0 : BitVec 32 := Scalar.addi arg36_r0 c0_i32_183_r0
  let v664_r0 : BitVec 32 := Scalar.muli c32_i32_440_r0 v168_r0
  let c0_i32_446_r0 : BitVec 32 := 0#32
  ![0, v664_r0.toNat, 0]
def k0_off65 (arg31_r0 : BitVec 32) : Fin 1 → Nat :=
  let c3_i32_441_r0 : BitVec 32 := 3#32
  let v665_r0 : BitVec 32 := Scalar.remui arg31_r0 c3_i32_441_r0
  ![v665_r0.toNat]
def k0_cond21 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v303_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let v304_r0 : BitVec 1 := Scalar.ori v303_r0 v166_r0
  let c0_i32_261_r0 : BitVec 32 := 0#32
  let v305_r0 : BitVec 1 := Scalar.cmpi .sge arg17_r0 c0_i32_261_r0
  let v306_r0 : BitVec 1 := Scalar.andi v304_r0 v305_r0
  let v307_r0 : BitVec 32 := Scalar.extui v306_r0
  let c0_i32_262_r0 : BitVec 32 := 0#32
  let v308_r0 : BitVec 1 := Scalar.cmpi .ne v307_r0 c0_i32_262_r0
  v308_r0

def k0_off66 (arg31_r0 : BitVec 32) : Fin 4 → Nat :=
  let c3_i32_441_r0 : BitVec 32 := 3#32
  let v665_r0 : BitVec 32 := Scalar.remui arg31_r0 c3_i32_441_r0
  let c0_i32_442_r0 : BitVec 32 := 0#32
  let c0_i32_443_r0 : BitVec 32 := 0#32
  let c0_i32_444_r0 : BitVec 32 := 0#32
  ![v665_r0.toNat, 0, 0, 0]
def k0_off67 (arg36_r0 : BitVec 32) : Fin 3 → Nat :=
  let c0_i32_445_r0 : BitVec 32 := 0#32
  let c32_i32_440_r0 : BitVec 32 := 32#32
  let c0_i32_183_r0 : BitVec 32 := 0#32
  let v168_r0 : BitVec 32 := Scalar.addi arg36_r0 c0_i32_183_r0
  let v664_r0 : BitVec 32 := Scalar.muli c32_i32_440_r0 v168_r0
  let c0_i32_446_r0 : BitVec 32 := 0#32
  ![0, v664_r0.toNat, 0]
def k0_off68 (arg21_r0 : BitVec 32) : Fin 4 → Nat :=
  let c3_i32_268_r0 : BitVec 32 := 3#32
  let v322_r0 : BitVec 32 := Scalar.remui arg21_r0 c3_i32_268_r0
  let c0_i32_277_r0 : BitVec 32 := 0#32
  let c0_i32_278_r0 : BitVec 32 := 0#32
  let c0_i32_279_r0 : BitVec 32 := 0#32
  ![v322_r0.toNat, 0, 0, 0]

def k0_chk2 (arg21_r0 : BitVec 32) : Prop :=
  (∀ a, (k0_off68 arg21_r0) a + S1x32x16x512.size a ≤ S3x32x16x512.size a)
theorem k0_off68_inb : ∀ (arg21_r0 : BitVec 32) (k0_hw2 : k0_chk2 arg21_r0), ∀ a, (k0_off68 arg21_r0) a + S1x32x16x512.size a ≤ S3x32x16x512.size a := fun arg21_r0 k0_hw2 => k0_hw2

def k0_off69 (arg23_r0 : BitVec 32) : Fin 4 → Nat :=
  let c3_i32_269_r0 : BitVec 32 := 3#32
  let v323_r0 : BitVec 32 := Scalar.remui arg23_r0 c3_i32_269_r0
  let v430_r0 : Index := Scalar.indexCast v323_r0
  let c0_331_r0 : Index := 0#32
  let c0_332_r0 : Index := 0#32
  let c0_333_r0 : Index := 0#32
  ![v430_r0.toNat, 0, 0, 0]

def k0_chk3 (arg23_r0 : BitVec 32) : Prop :=
  (∀ a, (k0_off69 arg23_r0) a + S1x16x32x512.size a ≤ S3x16x32x512.size a)
theorem k0_off69_inb : ∀ (arg23_r0 : BitVec 32) (k0_hw3 : k0_chk3 arg23_r0), ∀ a, (k0_off69 arg23_r0) a + S1x16x32x512.size a ≤ S3x16x32x512.size a := fun arg23_r0 k0_hw3 => k0_hw3

def k0_off70 (arg25_r0 : BitVec 32) : Fin 4 → Nat :=
  let c3_i32_270_r0 : BitVec 32 := 3#32
  let v324_r0 : BitVec 32 := Scalar.remui arg25_r0 c3_i32_270_r0
  let v436_r0 : Index := Scalar.indexCast v324_r0
  let c0_334_r0 : Index := 0#32
  let c0_335_r0 : Index := 0#32
  let c0_336_r0 : Index := 0#32
  ![v436_r0.toNat, 0, 0, 0]

def k0_chk4 (arg25_r0 : BitVec 32) : Prop :=
  (∀ a, (k0_off70 arg25_r0) a + S1x16x32x512.size a ≤ S3x16x32x512.size a)
theorem k0_off70_inb : ∀ (arg25_r0 : BitVec 32) (k0_hw4 : k0_chk4 arg25_r0), ∀ a, (k0_off70 arg25_r0) a + S1x16x32x512.size a ≤ S3x16x32x512.size a := fun arg25_r0 k0_hw4 => k0_hw4

def k0_off71 (arg27_r0 : BitVec 32) : Fin 4 → Nat :=
  let c3_i32_271_r0 : BitVec 32 := 3#32
  let v325_r0 : BitVec 32 := Scalar.remui arg27_r0 c3_i32_271_r0
  let v446_r0 : Index := Scalar.indexCast v325_r0
  let c0_340_r0 : Index := 0#32
  let c0_341_r0 : Index := 0#32
  let c0_342_r0 : Index := 0#32
  ![v446_r0.toNat, 0, 0, 0]

def k0_chk5 (arg27_r0 : BitVec 32) : Prop :=
  (∀ a, (k0_off71 arg27_r0) a + S1x16x32x512.size a ≤ S3x16x32x512.size a)
theorem k0_off71_inb : ∀ (arg27_r0 : BitVec 32) (k0_hw5 : k0_chk5 arg27_r0), ∀ a, (k0_off71 arg27_r0) a + S1x16x32x512.size a ≤ S3x16x32x512.size a := fun arg27_r0 k0_hw5 => k0_hw5

def k0_off72 (arg29_r0 : BitVec 32) : Fin 4 → Nat :=
  let c3_i32_272_r0 : BitVec 32 := 3#32
  let v326_r0 : BitVec 32 := Scalar.remui arg29_r0 c3_i32_272_r0
  let v453_r0 : Index := Scalar.indexCast v326_r0
  let c0_346_r0 : Index := 0#32
  let c0_347_r0 : Index := 0#32
  let c0_348_r0 : Index := 0#32
  ![v453_r0.toNat, 0, 0, 0]

def k0_chk6 (arg29_r0 : BitVec 32) : Prop :=
  (∀ a, (k0_off72 arg29_r0) a + S1x16x32x1024.size a ≤ S3x16x32x1024.size a)
theorem k0_off72_inb : ∀ (arg29_r0 : BitVec 32) (k0_hw6 : k0_chk6 arg29_r0), ∀ a, (k0_off72 arg29_r0) a + S1x16x32x1024.size a ≤ S3x16x32x1024.size a := fun arg29_r0 k0_hw6 => k0_hw6

def k0_off73 (arg31_r0 : BitVec 32) : Fin 4 → Nat :=
  let c3_i32_273_r0 : BitVec 32 := 3#32
  let v327_r0 : BitVec 32 := Scalar.remui arg31_r0 c3_i32_273_r0
  let v460_r0 : Index := Scalar.indexCast v327_r0
  let c0_349_r0 : Index := 0#32
  let c0_350_r0 : Index := 0#32
  let c0_351_r0 : Index := 0#32
  ![v460_r0.toNat, 0, 0, 0]

def k0_chk7 (arg31_r0 : BitVec 32) : Prop :=
  (∀ a, (k0_off73 arg31_r0) a + S1x16x32x1024.size a ≤ S3x16x32x1024.size a)
theorem k0_off73_inb : ∀ (arg31_r0 : BitVec 32) (k0_hw7 : k0_chk7 arg31_r0), ∀ a, (k0_off73 arg31_r0) a + S1x16x32x1024.size a ≤ S3x16x32x1024.size a := fun arg31_r0 k0_hw7 => k0_hw7

def k0_off74 (arg19_r0 : BitVec 32) : Fin 4 → Nat :=
  let c3_i32_267_r0 : BitVec 32 := 3#32
  let v321_r0 : BitVec 32 := Scalar.remui arg19_r0 c3_i32_267_r0
  let v468_r0 : Index := Scalar.indexCast v321_r0
  let c0_352_r0 : Index := 0#32
  let c0_353_r0 : Index := 0#32
  let c0_354_r0 : Index := 0#32
  ![v468_r0.toNat, 0, 0, 0]

def k0_chk8 (arg19_r0 : BitVec 32) : Prop :=
  (∀ a, (k0_off74 arg19_r0) a + S1x16x32x1024.size a ≤ S3x16x32x1024.size a)
theorem k0_off74_inb : ∀ (arg19_r0 : BitVec 32) (k0_hw8 : k0_chk8 arg19_r0), ∀ a, (k0_off74 arg19_r0) a + S1x16x32x1024.size a ≤ S3x16x32x1024.size a := fun arg19_r0 k0_hw8 => k0_hw8

def k0_off75 (arg32_r0 : BitVec 32) : Fin 4 → Nat :=
  let c2_i32_274_r0 : BitVec 32 := 2#32
  let v328_r0 : BitVec 32 := Scalar.remui arg32_r0 c2_i32_274_r0
  let v485_r0 : Index := Scalar.indexCast v328_r0
  let c0_362_r0 : Index := 0#32
  let c0_363_r0 : Index := 0#32
  let c0_364_r0 : Index := 0#32
  ![v485_r0.toNat, 0, 0, 0]

def k0_chk9 (arg32_r0 : BitVec 32) : Prop :=
  (∀ a, (k0_off75 arg32_r0) a + S1x16x32x1024.size a ≤ S2x16x32x1024.size a)
theorem k0_off75_inb : ∀ (arg32_r0 : BitVec 32) (k0_hw9 : k0_chk9 arg32_r0), ∀ a, (k0_off75 arg32_r0) a + S1x16x32x1024.size a ≤ S2x16x32x1024.size a := fun arg32_r0 k0_hw9 => k0_hw9

def k0_off76 (arg34_r0 : BitVec 32) : Fin 4 → Nat :=
  let c2_i32_275_r0 : BitVec 32 := 2#32
  let v329_r0 : BitVec 32 := Scalar.remui arg34_r0 c2_i32_275_r0
  let v521_r0 : Index := Scalar.indexCast v329_r0
  let c0_378_r0 : Index := 0#32
  let c0_379_r0 : Index := 0#32
  let c0_380_r0 : Index := 0#32
  ![v521_r0.toNat, 0, 0, 0]

def k0_chk10 (arg34_r0 : BitVec 32) : Prop :=
  (∀ a, (k0_off76 arg34_r0) a + S1x16x32x1024.size a ≤ S2x16x32x1024.size a) ∧
  (∀ (hinb : ∀ a, (k0_off76 arg34_r0) a + S1x16x32x1024.size a ≤ S2x16x32x1024.size a), (Rect.unit (s := S2x16x32x1024) (k0_off76 arg34_r0) S1x16x32x1024.size hinb).PackedRows (EltTy.packing .bf16))
theorem k0_off76_inb : ∀ (arg34_r0 : BitVec 32) (k0_hw10 : k0_chk10 arg34_r0), ∀ a, (k0_off76 arg34_r0) a + S1x16x32x1024.size a ≤ S2x16x32x1024.size a := fun arg34_r0 k0_hw10 => k0_hw10.1
theorem k0_off76_packedbf16 : ∀ (arg34_r0 : BitVec 32) (k0_hw10 : k0_chk10 arg34_r0), (Rect.unit (s := S2x16x32x1024) (k0_off76 arg34_r0) S1x16x32x1024.size (k0_off76_inb arg34_r0 k0_hw10)).PackedRows (EltTy.packing .bf16) := fun arg34_r0 k0_hw10 => k0_hw10.2 (k0_off76_inb arg34_r0 k0_hw10)

def k0_off77 (arg32_r0 : BitVec 32) : Fin 1 → Nat :=
  let c2_i32_440_r0 : BitVec 32 := 2#32
  let v664_r0 : BitVec 32 := Scalar.remui arg32_r0 c2_i32_440_r0
  ![v664_r0.toNat]
def k0_cond31 (k0_t1 : Fin k0_t1_loop.trips) (arg36_r0 : BitVec 32) : BitVec 1 :=
  let c0_i32_183_r0 : BitVec 32 := 0#32
  let v168_r0 : BitVec 32 := Scalar.addi arg36_r0 c0_i32_183_r0
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let v560_r0 : BitVec 1 := Scalar.cmpi .ne v168_r0 v178_r0
  let c0_i32_140_r0 : BitVec 32 := 0#32
  let c1_i32_142_r0 : BitVec 32 := 1#32
  let arg17_r0 : BitVec 32 := Scf.iv c0_i32_140_r0 c1_i32_142_r0 k0_t1
  let c63_i32_182_r0 : BitVec 32 := 63#32
  let v167_r0 : BitVec 1 := Scalar.cmpi .eq arg17_r0 c63_i32_182_r0
  let v561_r0 : BitVec 1 := Scalar.ori v560_r0 v167_r0
  let v562_r0 : BitVec 32 := Scalar.extui v561_r0
  let c0_i32_394_r0 : BitVec 32 := 0#32
  let v563_r0 : BitVec 1 := Scalar.cmpi .ne v562_r0 c0_i32_394_r0
  v563_r0

def k0_off78 (arg36_r0 : BitVec 32) : Fin 3 → Nat :=
  let c0_i32_442_r0 : BitVec 32 := 0#32
  let c32_i32_441_r0 : BitVec 32 := 32#32
  let c0_i32_183_r0 : BitVec 32 := 0#32
  let v168_r0 : BitVec 32 := Scalar.addi arg36_r0 c0_i32_183_r0
  let v665_r0 : BitVec 32 := Scalar.muli c32_i32_441_r0 v168_r0
  let c0_i32_443_r0 : BitVec 32 := 0#32
  ![0, v665_r0.toNat, 0]
def k0_off79 (arg32_r0 : BitVec 32) : Fin 4 → Nat :=
  let c2_i32_440_r0 : BitVec 32 := 2#32
  let v664_r0 : BitVec 32 := Scalar.remui arg32_r0 c2_i32_440_r0
  let c0_i32_444_r0 : BitVec 32 := 0#32
  let c0_i32_445_r0 : BitVec 32 := 0#32
  let c0_i32_446_r0 : BitVec 32 := 0#32
  ![v664_r0.toNat, 0, 0, 0]
def k0_off80 (arg34_r0 : BitVec 32) : Fin 1 → Nat :=
  let c2_i32_440_r0 : BitVec 32 := 2#32
  let v664_r0 : BitVec 32 := Scalar.remui arg34_r0 c2_i32_440_r0
  ![v664_r0.toNat]
def k0_cond32 (k0_t1 : Fin k0_t1_loop.trips) (arg36_r0 : BitVec 32) : BitVec 1 :=
  let c0_i32_183_r0 : BitVec 32 := 0#32
  let v168_r0 : BitVec 32 := Scalar.addi arg36_r0 c0_i32_183_r0
  let true_190_r0 : BitVec 1 := 1#1
  let c1_i32_189_r0 : BitVec 32 := 1#32
  let v174_r0 : BitVec 32 := Scalar.addi arg36_r0 c1_i32_189_r0
  let v175_r0 : BitVec 32 := Scalar.select true_190_r0 v174_r0 arg36_r0
  let c64_i32_191_r0 : BitVec 32 := 64#32
  let v176_r0 : BitVec 1 := Scalar.cmpi .eq v175_r0 c64_i32_191_r0
  let c0_i32_192_r0 : BitVec 32 := 0#32
  let v177_r0 : BitVec 32 := Scalar.select v176_r0 c0_i32_192_r0 v175_r0
  let c0_i32_193_r0 : BitVec 32 := 0#32
  let v178_r0 : BitVec 32 := Scalar.addi v177_r0 c0_i32_193_r0
  let v567_r0 : BitVec 1 := Scalar.cmpi .ne v168_r0 v178_r0
  let c0_i32_140_r0 : BitVec 32 := 0#32
  let c1_i32_142_r0 : BitVec 32 := 1#32
  let arg17_r0 : BitVec 32 := Scf.iv c0_i32_140_r0 c1_i32_142_r0 k0_t1
  let c63_i32_182_r0 : BitVec 32 := 63#32
  let v167_r0 : BitVec 1 := Scalar.cmpi .eq arg17_r0 c63_i32_182_r0
  let v568_r0 : BitVec 1 := Scalar.ori v567_r0 v167_r0
  let v569_r0 : BitVec 32 := Scalar.extui v568_r0
  let c0_i32_397_r0 : BitVec 32 := 0#32
  let v570_r0 : BitVec 1 := Scalar.cmpi .ne v569_r0 c0_i32_397_r0
  v570_r0

def k0_off81 (arg36_r0 : BitVec 32) : Fin 3 → Nat :=
  let c0_i32_442_r0 : BitVec 32 := 0#32
  let c32_i32_441_r0 : BitVec 32 := 32#32
  let c0_i32_183_r0 : BitVec 32 := 0#32
  let v168_r0 : BitVec 32 := Scalar.addi arg36_r0 c0_i32_183_r0
  let v665_r0 : BitVec 32 := Scalar.muli c32_i32_441_r0 v168_r0
  let c0_i32_443_r0 : BitVec 32 := 0#32
  ![0, v665_r0.toNat, 0]
def k0_off82 (arg34_r0 : BitVec 32) : Fin 4 → Nat :=
  let c2_i32_440_r0 : BitVec 32 := 2#32
  let v664_r0 : BitVec 32 := Scalar.remui arg34_r0 c2_i32_440_r0
  let c0_i32_444_r0 : BitVec 32 := 0#32
  let c0_i32_445_r0 : BitVec 32 := 0#32
  let c0_i32_446_r0 : BitVec 32 := 0#32
  ![v664_r0.toNat, 0, 0, 0]
def k0_off83 (arg33_r0 : BitVec 32) : Fin 1 → Nat :=
  let c2_i32_440_r0 : BitVec 32 := 2#32
  let v664_r0 : BitVec 32 := Scalar.remui arg33_r0 c2_i32_440_r0
  ![v664_r0.toNat]
def k0_cond40 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v616_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let true_421_r0 : BitVec 1 := 1#1
  let v617_r0 : BitVec 1 := Scalar.xori v166_r0 true_421_r0
  let v618_r0 : BitVec 1 := Scalar.andi v616_r0 v617_r0
  let v619_r0 : BitVec 32 := Scalar.extui v618_r0
  let c0_i32_422_r0 : BitVec 32 := 0#32
  let v620_r0 : BitVec 1 := Scalar.cmpi .ne v619_r0 c0_i32_422_r0
  v620_r0

def k0_off84 (arg36_r0 : BitVec 32) : Fin 3 → Nat :=
  let c0_i32_442_r0 : BitVec 32 := 0#32
  let c32_i32_441_r0 : BitVec 32 := 32#32
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v665_r0 : BitVec 32 := Scalar.muli c32_i32_441_r0 v173_r0
  let c0_i32_443_r0 : BitVec 32 := 0#32
  ![0, v665_r0.toNat, 0]
def k0_off85 (arg33_r0 : BitVec 32) : Fin 4 → Nat :=
  let c2_i32_440_r0 : BitVec 32 := 2#32
  let v664_r0 : BitVec 32 := Scalar.remui arg33_r0 c2_i32_440_r0
  let c0_i32_444_r0 : BitVec 32 := 0#32
  let c0_i32_445_r0 : BitVec 32 := 0#32
  let c0_i32_446_r0 : BitVec 32 := 0#32
  ![v664_r0.toNat, 0, 0, 0]
def k0_off86 (arg35_r0 : BitVec 32) : Fin 1 → Nat :=
  let c2_i32_440_r0 : BitVec 32 := 2#32
  let v664_r0 : BitVec 32 := Scalar.remui arg35_r0 c2_i32_440_r0
  ![v664_r0.toNat]
def k0_cond41 (k0_t1 : Fin k0_t1_loop.trips) (arg36_r0 : BitVec 32) : BitVec 1 :=
  let c0_i32_183_r0 : BitVec 32 := 0#32
  let v168_r0 : BitVec 32 := Scalar.addi arg36_r0 c0_i32_183_r0
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v624_r0 : BitVec 1 := Scalar.cmpi .ne v168_r0 v173_r0
  let c0_i32_140_r0 : BitVec 32 := 0#32
  let c1_i32_142_r0 : BitVec 32 := 1#32
  let arg17_r0 : BitVec 32 := Scf.iv c0_i32_140_r0 c1_i32_142_r0 k0_t1
  let c0_i32_181_r0 : BitVec 32 := 0#32
  let v166_r0 : BitVec 1 := Scalar.cmpi .eq arg17_r0 c0_i32_181_r0
  let true_425_r0 : BitVec 1 := 1#1
  let v625_r0 : BitVec 1 := Scalar.xori v166_r0 true_425_r0
  let v626_r0 : BitVec 1 := Scalar.andi v624_r0 v625_r0
  let v627_r0 : BitVec 32 := Scalar.extui v626_r0
  let c0_i32_426_r0 : BitVec 32 := 0#32
  let v628_r0 : BitVec 1 := Scalar.cmpi .ne v627_r0 c0_i32_426_r0
  v628_r0

def k0_off87 (arg36_r0 : BitVec 32) : Fin 3 → Nat :=
  let c0_i32_442_r0 : BitVec 32 := 0#32
  let c32_i32_441_r0 : BitVec 32 := 32#32
  let true_185_r0 : BitVec 1 := 1#1
  let c1_i32_184_r0 : BitVec 32 := 1#32
  let v169_r0 : BitVec 32 := Scalar.subi arg36_r0 c1_i32_184_r0
  let v170_r0 : BitVec 32 := Scalar.select true_185_r0 v169_r0 arg36_r0
  let c_m1_i32_186_r0 : BitVec 32 := 4294967295#32
  let v171_r0 : BitVec 1 := Scalar.cmpi .eq v170_r0 c_m1_i32_186_r0
  let c63_i32_187_r0 : BitVec 32 := 63#32
  let v172_r0 : BitVec 32 := Scalar.select v171_r0 c63_i32_187_r0 v170_r0
  let c0_i32_188_r0 : BitVec 32 := 0#32
  let v173_r0 : BitVec 32 := Scalar.addi v172_r0 c0_i32_188_r0
  let v665_r0 : BitVec 32 := Scalar.muli c32_i32_441_r0 v173_r0
  let c0_i32_443_r0 : BitVec 32 := 0#32
  ![0, v665_r0.toNat, 0]
def k0_off88 (arg35_r0 : BitVec 32) : Fin 4 → Nat :=
  let c2_i32_440_r0 : BitVec 32 := 2#32
  let v664_r0 : BitVec 32 := Scalar.remui arg35_r0 c2_i32_440_r0
  let c0_i32_444_r0 : BitVec 32 := 0#32
  let c0_i32_445_r0 : BitVec 32 := 0#32
  let c0_i32_446_r0 : BitVec 32 := 0#32
  ![v664_r0.toNat, 0, 0, 0]

def k0_chk1_0 (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) : Prop :=
  (∀ (k0_h8 : k0_cond8 k0_t1 arg36_r0 = 1#1), ∀ a, (k0_off26 arg18_r0) a + S1.size a ≤ S3.size a) ∧
  (∀ (k0_h8 : k0_cond8 k0_t1 arg36_r0 = 1#1), ∀ a, (k0_off27 arg18_r0) a + S1x16x32x1024.size a ≤ S3x16x32x1024.size a) ∧
  (∀ (k0_h8 : k0_cond8 k0_t1 arg36_r0 = 1#1), ∀ a, (k0_off28 arg36_r0) a + S16x32x1024.size a ≤ S16x2048x1024.size a) ∧
  (∀ (k0_h9 : k0_cond9 k0_t1 arg36_r0 = 1#1), ∀ a, (k0_off29 arg20_r0) a + S1.size a ≤ S3.size a) ∧
  (∀ (k0_h9 : k0_cond9 k0_t1 arg36_r0 = 1#1), ∀ a, (k0_off30 arg20_r0) a + S1x32x16x512.size a ≤ S3x32x16x512.size a) ∧
  (∀ (k0_h9 : k0_cond9 k0_t1 arg36_r0 = 1#1), ∀ a, (k0_off31 arg36_r0) a + S32x16x512.size a ≤ S2048x16x512.size a) ∧
  (∀ (k0_h10 : k0_cond10 k0_t1 arg36_r0 = 1#1), ∀ a, (k0_off32 arg22_r0) a + S1.size a ≤ S3.size a) ∧
  (∀ (k0_h10 : k0_cond10 k0_t1 arg36_r0 = 1#1), ∀ a, (k0_off33 arg22_r0) a + S1x16x32x512.size a ≤ S3x16x32x512.size a) ∧
  (∀ (k0_h10 : k0_cond10 k0_t1 arg36_r0 = 1#1), ∀ a, (k0_off34 arg36_r0) a + S16x32x512.size a ≤ S16x2048x512.size a) ∧
  (∀ (k0_h10 : k0_cond10 k0_t1 arg36_r0 = 1#1), ∀ (hinb : ∀ a, (k0_off34 arg36_r0) a + S16x32x512.size a ≤ S16x2048x512.size a), (Rect.unit (s := S16x2048x512) (k0_off34 arg36_r0) S16x32x512.size hinb).WholeWords (EltTy.packing .bf16)) ∧
  (∀ (k0_h10 : k0_cond10 k0_t1 arg36_r0 = 1#1), ∀ (hinb : ∀ a, (k0_off33 arg22_r0) a + S1x16x32x512.size a ≤ S3x16x32x512.size a), (Rect.unit (s := S3x16x32x512) (k0_off33 arg22_r0) S1x16x32x512.size hinb).WholeWords (EltTy.packing .bf16)) ∧
  (∀ (k0_h11 : k0_cond11 k0_t1 arg36_r0 = 1#1), ∀ a, (k0_off35 arg24_r0) a + S1.size a ≤ S3.size a) ∧
  (∀ (k0_h11 : k0_cond11 k0_t1 arg36_r0 = 1#1), ∀ a, (k0_off36 arg24_r0) a + S1x16x32x512.size a ≤ S3x16x32x512.size a) ∧
  (∀ (k0_h11 : k0_cond11 k0_t1 arg36_r0 = 1#1), ∀ a, (k0_off37 arg36_r0) a + S16x32x512.size a ≤ S16x2048x512.size a) ∧
  (∀ (k0_h11 : k0_cond11 k0_t1 arg36_r0 = 1#1), ∀ (hinb : ∀ a, (k0_off37 arg36_r0) a + S16x32x512.size a ≤ S16x2048x512.size a), (Rect.unit (s := S16x2048x512) (k0_off37 arg36_r0) S16x32x512.size hinb).WholeWords (EltTy.packing .bf16)) ∧
  (∀ (k0_h11 : k0_cond11 k0_t1 arg36_r0 = 1#1), ∀ (hinb : ∀ a, (k0_off36 arg24_r0) a + S1x16x32x512.size a ≤ S3x16x32x512.size a), (Rect.unit (s := S3x16x32x512) (k0_off36 arg24_r0) S1x16x32x512.size hinb).WholeWords (EltTy.packing .bf16)) ∧
  (∀ (k0_h12 : k0_cond12 k0_t1 arg36_r0 = 1#1), ∀ a, (k0_off38 arg26_r0) a + S1.size a ≤ S3.size a) ∧
  (∀ (k0_h12 : k0_cond12 k0_t1 arg36_r0 = 1#1), ∀ a, (k0_off39 arg26_r0) a + S1x16x32x512.size a ≤ S3x16x32x512.size a) ∧
  (∀ (k0_h12 : k0_cond12 k0_t1 arg36_r0 = 1#1), ∀ a, (k0_off40 arg36_r0) a + S16x32x512.size a ≤ S16x2048x512.size a) ∧
  (∀ (k0_h12 : k0_cond12 k0_t1 arg36_r0 = 1#1), ∀ (hinb : ∀ a, (k0_off40 arg36_r0) a + S16x32x512.size a ≤ S16x2048x512.size a), (Rect.unit (s := S16x2048x512) (k0_off40 arg36_r0) S16x32x512.size hinb).WholeWords (EltTy.packing .bf16)) ∧
  (∀ (k0_h12 : k0_cond12 k0_t1 arg36_r0 = 1#1), ∀ (hinb : ∀ a, (k0_off39 arg26_r0) a + S1x16x32x512.size a ≤ S3x16x32x512.size a), (Rect.unit (s := S3x16x32x512) (k0_off39 arg26_r0) S1x16x32x512.size hinb).WholeWords (EltTy.packing .bf16)) ∧
  (∀ (k0_h13 : k0_cond13 k0_t1 arg36_r0 = 1#1), ∀ a, (k0_off41 arg28_r0) a + S1.size a ≤ S3.size a) ∧
  (∀ (k0_h13 : k0_cond13 k0_t1 arg36_r0 = 1#1), ∀ a, (k0_off42 arg28_r0) a + S1x16x32x1024.size a ≤ S3x16x32x1024.size a) ∧
  (∀ (k0_h13 : k0_cond13 k0_t1 arg36_r0 = 1#1), ∀ a, (k0_off43 arg36_r0) a + S16x32x1024.size a ≤ S16x2048x1024.size a) ∧
  (∀ (k0_h13 : k0_cond13 k0_t1 arg36_r0 = 1#1), ∀ (hinb : ∀ a, (k0_off43 arg36_r0) a + S16x32x1024.size a ≤ S16x2048x1024.size a), (Rect.unit (s := S16x2048x1024) (k0_off43 arg36_r0) S16x32x1024.size hinb).WholeWords (EltTy.packing .bf16)) ∧
  (∀ (k0_h13 : k0_cond13 k0_t1 arg36_r0 = 1#1), ∀ (hinb : ∀ a, (k0_off42 arg28_r0) a + S1x16x32x1024.size a ≤ S3x16x32x1024.size a), (Rect.unit (s := S3x16x32x1024) (k0_off42 arg28_r0) S1x16x32x1024.size hinb).WholeWords (EltTy.packing .bf16)) ∧
  (∀ (k0_h14 : k0_cond14 k0_t1 arg36_r0 = 1#1), ∀ a, (k0_off44 arg30_r0) a + S1.size a ≤ S3.size a) ∧
  (∀ (k0_h14 : k0_cond14 k0_t1 arg36_r0 = 1#1), ∀ a, (k0_off45 arg30_r0) a + S1x16x32x1024.size a ≤ S3x16x32x1024.size a) ∧
  (∀ (k0_h14 : k0_cond14 k0_t1 arg36_r0 = 1#1), ∀ a, (k0_off46 arg36_r0) a + S16x32x1024.size a ≤ S16x2048x1024.size a) ∧
  (∀ (k0_h14 : k0_cond14 k0_t1 arg36_r0 = 1#1), ∀ (hinb : ∀ a, (k0_off46 arg36_r0) a + S16x32x1024.size a ≤ S16x2048x1024.size a), (Rect.unit (s := S16x2048x1024) (k0_off46 arg36_r0) S16x32x1024.size hinb).WholeWords (EltTy.packing .bf16)) ∧
  (∀ (k0_h14 : k0_cond14 k0_t1 arg36_r0 = 1#1), ∀ (hinb : ∀ a, (k0_off45 arg30_r0) a + S1x16x32x1024.size a ≤ S3x16x32x1024.size a), (Rect.unit (s := S3x16x32x1024) (k0_off45 arg30_r0) S1x16x32x1024.size hinb).WholeWords (EltTy.packing .bf16)) ∧
  (∀ (k0_h15 : k0_cond15 k0_t1 arg36_r0 = 1#1), ∀ a, (k0_off47 arg19_r0) a + S1.size a ≤ S3.size a)
def k0_chk1_1 (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) : Prop :=
  (∀ (k0_h15 : k0_cond15 k0_t1 arg36_r0 = 1#1), ∀ a, (k0_off48 arg19_r0) a + S1x16x32x1024.size a ≤ S3x16x32x1024.size a) ∧
  (∀ (k0_h15 : k0_cond15 k0_t1 arg36_r0 = 1#1), ∀ a, (k0_off49 arg36_r0) a + S16x32x1024.size a ≤ S16x2048x1024.size a) ∧
  (∀ (k0_h16 : k0_cond16 k0_t1 arg36_r0 = 1#1), ∀ a, (k0_off50 arg21_r0) a + S1.size a ≤ S3.size a) ∧
  (∀ (k0_h16 : k0_cond16 k0_t1 arg36_r0 = 1#1), ∀ a, (k0_off51 arg21_r0) a + S1x32x16x512.size a ≤ S3x32x16x512.size a) ∧
  (∀ (k0_h16 : k0_cond16 k0_t1 arg36_r0 = 1#1), ∀ a, (k0_off52 arg36_r0) a + S32x16x512.size a ≤ S2048x16x512.size a) ∧
  (∀ (k0_h17 : k0_cond17 k0_t1 arg36_r0 = 1#1), ∀ a, (k0_off53 arg23_r0) a + S1.size a ≤ S3.size a) ∧
  (∀ (k0_h17 : k0_cond17 k0_t1 arg36_r0 = 1#1), ∀ a, (k0_off54 arg23_r0) a + S1x16x32x512.size a ≤ S3x16x32x512.size a) ∧
  (∀ (k0_h17 : k0_cond17 k0_t1 arg36_r0 = 1#1), ∀ a, (k0_off55 arg36_r0) a + S16x32x512.size a ≤ S16x2048x512.size a) ∧
  (∀ (k0_h17 : k0_cond17 k0_t1 arg36_r0 = 1#1), ∀ (hinb : ∀ a, (k0_off55 arg36_r0) a + S16x32x512.size a ≤ S16x2048x512.size a), (Rect.unit (s := S16x2048x512) (k0_off55 arg36_r0) S16x32x512.size hinb).WholeWords (EltTy.packing .bf16)) ∧
  (∀ (k0_h17 : k0_cond17 k0_t1 arg36_r0 = 1#1), ∀ (hinb : ∀ a, (k0_off54 arg23_r0) a + S1x16x32x512.size a ≤ S3x16x32x512.size a), (Rect.unit (s := S3x16x32x512) (k0_off54 arg23_r0) S1x16x32x512.size hinb).WholeWords (EltTy.packing .bf16)) ∧
  (∀ (k0_h18 : k0_cond18 k0_t1 arg36_r0 = 1#1), ∀ a, (k0_off56 arg25_r0) a + S1.size a ≤ S3.size a) ∧
  (∀ (k0_h18 : k0_cond18 k0_t1 arg36_r0 = 1#1), ∀ a, (k0_off57 arg25_r0) a + S1x16x32x512.size a ≤ S3x16x32x512.size a) ∧
  (∀ (k0_h18 : k0_cond18 k0_t1 arg36_r0 = 1#1), ∀ a, (k0_off58 arg36_r0) a + S16x32x512.size a ≤ S16x2048x512.size a) ∧
  (∀ (k0_h18 : k0_cond18 k0_t1 arg36_r0 = 1#1), ∀ (hinb : ∀ a, (k0_off58 arg36_r0) a + S16x32x512.size a ≤ S16x2048x512.size a), (Rect.unit (s := S16x2048x512) (k0_off58 arg36_r0) S16x32x512.size hinb).WholeWords (EltTy.packing .bf16)) ∧
  (∀ (k0_h18 : k0_cond18 k0_t1 arg36_r0 = 1#1), ∀ (hinb : ∀ a, (k0_off57 arg25_r0) a + S1x16x32x512.size a ≤ S3x16x32x512.size a), (Rect.unit (s := S3x16x32x512) (k0_off57 arg25_r0) S1x16x32x512.size hinb).WholeWords (EltTy.packing .bf16)) ∧
  (∀ (k0_h19 : k0_cond19 k0_t1 arg36_r0 = 1#1), ∀ a, (k0_off59 arg27_r0) a + S1.size a ≤ S3.size a) ∧
  (∀ (k0_h19 : k0_cond19 k0_t1 arg36_r0 = 1#1), ∀ a, (k0_off60 arg27_r0) a + S1x16x32x512.size a ≤ S3x16x32x512.size a) ∧
  (∀ (k0_h19 : k0_cond19 k0_t1 arg36_r0 = 1#1), ∀ a, (k0_off61 arg36_r0) a + S16x32x512.size a ≤ S16x2048x512.size a) ∧
  (∀ (k0_h19 : k0_cond19 k0_t1 arg36_r0 = 1#1), ∀ (hinb : ∀ a, (k0_off61 arg36_r0) a + S16x32x512.size a ≤ S16x2048x512.size a), (Rect.unit (s := S16x2048x512) (k0_off61 arg36_r0) S16x32x512.size hinb).WholeWords (EltTy.packing .bf16)) ∧
  (∀ (k0_h19 : k0_cond19 k0_t1 arg36_r0 = 1#1), ∀ (hinb : ∀ a, (k0_off60 arg27_r0) a + S1x16x32x512.size a ≤ S3x16x32x512.size a), (Rect.unit (s := S3x16x32x512) (k0_off60 arg27_r0) S1x16x32x512.size hinb).WholeWords (EltTy.packing .bf16)) ∧
  (∀ (k0_h20 : k0_cond20 k0_t1 arg36_r0 = 1#1), ∀ a, (k0_off62 arg29_r0) a + S1.size a ≤ S3.size a) ∧
  (∀ (k0_h20 : k0_cond20 k0_t1 arg36_r0 = 1#1), ∀ a, (k0_off63 arg29_r0) a + S1x16x32x1024.size a ≤ S3x16x32x1024.size a) ∧
  (∀ (k0_h20 : k0_cond20 k0_t1 arg36_r0 = 1#1), ∀ a, (k0_off64 arg36_r0) a + S16x32x1024.size a ≤ S16x2048x1024.size a) ∧
  (∀ (k0_h20 : k0_cond20 k0_t1 arg36_r0 = 1#1), ∀ (hinb : ∀ a, (k0_off64 arg36_r0) a + S16x32x1024.size a ≤ S16x2048x1024.size a), (Rect.unit (s := S16x2048x1024) (k0_off64 arg36_r0) S16x32x1024.size hinb).WholeWords (EltTy.packing .bf16)) ∧
  (∀ (k0_h20 : k0_cond20 k0_t1 arg36_r0 = 1#1), ∀ (hinb : ∀ a, (k0_off63 arg29_r0) a + S1x16x32x1024.size a ≤ S3x16x32x1024.size a), (Rect.unit (s := S3x16x32x1024) (k0_off63 arg29_r0) S1x16x32x1024.size hinb).WholeWords (EltTy.packing .bf16)) ∧
  (∀ (k0_h21 : k0_cond21 k0_t1 arg36_r0 = 1#1), ∀ a, (k0_off65 arg31_r0) a + S1.size a ≤ S3.size a) ∧
  (∀ (k0_h21 : k0_cond21 k0_t1 arg36_r0 = 1#1), ∀ a, (k0_off66 arg31_r0) a + S1x16x32x1024.size a ≤ S3x16x32x1024.size a) ∧
  (∀ (k0_h21 : k0_cond21 k0_t1 arg36_r0 = 1#1), ∀ a, (k0_off67 arg36_r0) a + S16x32x1024.size a ≤ S16x2048x1024.size a) ∧
  (∀ (k0_h21 : k0_cond21 k0_t1 arg36_r0 = 1#1), ∀ (hinb : ∀ a, (k0_off67 arg36_r0) a + S16x32x1024.size a ≤ S16x2048x1024.size a), (Rect.unit (s := S16x2048x1024) (k0_off67 arg36_r0) S16x32x1024.size hinb).WholeWords (EltTy.packing .bf16)) ∧
  (∀ (k0_h21 : k0_cond21 k0_t1 arg36_r0 = 1#1), ∀ (hinb : ∀ a, (k0_off66 arg31_r0) a + S1x16x32x1024.size a ≤ S3x16x32x1024.size a), (Rect.unit (s := S3x16x32x1024) (k0_off66 arg31_r0) S1x16x32x1024.size hinb).WholeWords (EltTy.packing .bf16)) ∧
  (∀ (k0_h31 : k0_cond31 k0_t1 arg36_r0 = 1#1), ∀ a, (k0_off77 arg32_r0) a + S1.size a ≤ S2.size a) ∧
  (∀ (k0_h31 : k0_cond31 k0_t1 arg36_r0 = 1#1), ∀ a, (k0_off78 arg36_r0) a + S16x32x1024.size a ≤ S16x2048x1024.size a)
def k0_chk1_2 (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) : Prop :=
  (∀ (k0_h31 : k0_cond31 k0_t1 arg36_r0 = 1#1), ∀ a, (k0_off79 arg32_r0) a + S1x16x32x1024.size a ≤ S2x16x32x1024.size a) ∧
  (∀ (k0_h32 : k0_cond32 k0_t1 arg36_r0 = 1#1), ∀ a, (k0_off80 arg34_r0) a + S1.size a ≤ S2.size a) ∧
  (∀ (k0_h32 : k0_cond32 k0_t1 arg36_r0 = 1#1), ∀ a, (k0_off81 arg36_r0) a + S16x32x1024.size a ≤ S16x2048x1024.size a) ∧
  (∀ (k0_h32 : k0_cond32 k0_t1 arg36_r0 = 1#1), ∀ a, (k0_off82 arg34_r0) a + S1x16x32x1024.size a ≤ S2x16x32x1024.size a) ∧
  (∀ (k0_h32 : k0_cond32 k0_t1 arg36_r0 = 1#1), ∀ (hinb : ∀ a, (k0_off82 arg34_r0) a + S1x16x32x1024.size a ≤ S2x16x32x1024.size a), (Rect.unit (s := S2x16x32x1024) (k0_off82 arg34_r0) S1x16x32x1024.size hinb).WholeWords (EltTy.packing .bf16)) ∧
  (∀ (k0_h32 : k0_cond32 k0_t1 arg36_r0 = 1#1), ∀ (hinb : ∀ a, (k0_off81 arg36_r0) a + S16x32x1024.size a ≤ S16x2048x1024.size a), (Rect.unit (s := S16x2048x1024) (k0_off81 arg36_r0) S16x32x1024.size hinb).WholeWords (EltTy.packing .bf16)) ∧
  (∀ (k0_h40 : k0_cond40 k0_t1 arg36_r0 = 1#1), ∀ a, (k0_off83 arg33_r0) a + S1.size a ≤ S2.size a) ∧
  (∀ (k0_h40 : k0_cond40 k0_t1 arg36_r0 = 1#1), ∀ a, (k0_off84 arg36_r0) a + S16x32x1024.size a ≤ S16x2048x1024.size a) ∧
  (∀ (k0_h40 : k0_cond40 k0_t1 arg36_r0 = 1#1), ∀ a, (k0_off85 arg33_r0) a + S1x16x32x1024.size a ≤ S2x16x32x1024.size a) ∧
  (∀ (k0_h41 : k0_cond41 k0_t1 arg36_r0 = 1#1), ∀ a, (k0_off86 arg35_r0) a + S1.size a ≤ S2.size a) ∧
  (∀ (k0_h41 : k0_cond41 k0_t1 arg36_r0 = 1#1), ∀ a, (k0_off87 arg36_r0) a + S16x32x1024.size a ≤ S16x2048x1024.size a) ∧
  (∀ (k0_h41 : k0_cond41 k0_t1 arg36_r0 = 1#1), ∀ a, (k0_off88 arg35_r0) a + S1x16x32x1024.size a ≤ S2x16x32x1024.size a) ∧
  (∀ (k0_h41 : k0_cond41 k0_t1 arg36_r0 = 1#1), ∀ (hinb : ∀ a, (k0_off88 arg35_r0) a + S1x16x32x1024.size a ≤ S2x16x32x1024.size a), (Rect.unit (s := S2x16x32x1024) (k0_off88 arg35_r0) S1x16x32x1024.size hinb).WholeWords (EltTy.packing .bf16)) ∧
  (∀ (k0_h41 : k0_cond41 k0_t1 arg36_r0 = 1#1), ∀ (hinb : ∀ a, (k0_off87 arg36_r0) a + S16x32x1024.size a ≤ S16x2048x1024.size a), (Rect.unit (s := S16x2048x1024) (k0_off87 arg36_r0) S16x32x1024.size hinb).WholeWords (EltTy.packing .bf16))
def k0_chk1 (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) : Prop :=
  k0_chk1_0 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 ∧
  k0_chk1_1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 ∧
  k0_chk1_2 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0
theorem k0_off26_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h8 : k0_cond8 k0_t1 arg36_r0 = 1#1), ∀ a, (k0_off26 arg18_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h8 => k0_hw1.1.1 k0_h8
theorem k0_off27_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h8 : k0_cond8 k0_t1 arg36_r0 = 1#1), ∀ a, (k0_off27 arg18_r0) a + S1x16x32x1024.size a ≤ S3x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h8 => k0_hw1.1.2.1 k0_h8
theorem k0_off28_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h8 : k0_cond8 k0_t1 arg36_r0 = 1#1), ∀ a, (k0_off28 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h8 => k0_hw1.1.2.2.1 k0_h8
theorem k0_off29_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h9 : k0_cond9 k0_t1 arg36_r0 = 1#1), ∀ a, (k0_off29 arg20_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h9 => k0_hw1.1.2.2.2.1 k0_h9
theorem k0_off30_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h9 : k0_cond9 k0_t1 arg36_r0 = 1#1), ∀ a, (k0_off30 arg20_r0) a + S1x32x16x512.size a ≤ S3x32x16x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h9 => k0_hw1.1.2.2.2.2.1 k0_h9
theorem k0_off31_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h9 : k0_cond9 k0_t1 arg36_r0 = 1#1), ∀ a, (k0_off31 arg36_r0) a + S32x16x512.size a ≤ S2048x16x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h9 => k0_hw1.1.2.2.2.2.2.1 k0_h9
theorem k0_off32_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h10 : k0_cond10 k0_t1 arg36_r0 = 1#1), ∀ a, (k0_off32 arg22_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10 => k0_hw1.1.2.2.2.2.2.2.1 k0_h10
theorem k0_off33_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h10 : k0_cond10 k0_t1 arg36_r0 = 1#1), ∀ a, (k0_off33 arg22_r0) a + S1x16x32x512.size a ≤ S3x16x32x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10 => k0_hw1.1.2.2.2.2.2.2.2.1 k0_h10
theorem k0_off34_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h10 : k0_cond10 k0_t1 arg36_r0 = 1#1), ∀ a, (k0_off34 arg36_r0) a + S16x32x512.size a ≤ S16x2048x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10 => k0_hw1.1.2.2.2.2.2.2.2.2.1 k0_h10
theorem k0_off34_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h10 : k0_cond10 k0_t1 arg36_r0 = 1#1), (Rect.unit (s := S16x2048x512) (k0_off34 arg36_r0) S16x32x512.size (k0_off34_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10 => k0_hw1.1.2.2.2.2.2.2.2.2.2.1 k0_h10 (k0_off34_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10)
theorem k0_off33_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h10 : k0_cond10 k0_t1 arg36_r0 = 1#1), (Rect.unit (s := S3x16x32x512) (k0_off33 arg22_r0) S1x16x32x512.size (k0_off33_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10 => k0_hw1.1.2.2.2.2.2.2.2.2.2.2.1 k0_h10 (k0_off33_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h10)
theorem k0_off35_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h11 : k0_cond11 k0_t1 arg36_r0 = 1#1), ∀ a, (k0_off35 arg24_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11 => k0_hw1.1.2.2.2.2.2.2.2.2.2.2.2.1 k0_h11
theorem k0_off36_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h11 : k0_cond11 k0_t1 arg36_r0 = 1#1), ∀ a, (k0_off36 arg24_r0) a + S1x16x32x512.size a ≤ S3x16x32x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11 => k0_hw1.1.2.2.2.2.2.2.2.2.2.2.2.2.1 k0_h11
theorem k0_off37_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h11 : k0_cond11 k0_t1 arg36_r0 = 1#1), ∀ a, (k0_off37 arg36_r0) a + S16x32x512.size a ≤ S16x2048x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11 => k0_hw1.1.2.2.2.2.2.2.2.2.2.2.2.2.2.1 k0_h11
theorem k0_off37_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h11 : k0_cond11 k0_t1 arg36_r0 = 1#1), (Rect.unit (s := S16x2048x512) (k0_off37 arg36_r0) S16x32x512.size (k0_off37_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11 => k0_hw1.1.2.2.2.2.2.2.2.2.2.2.2.2.2.2.1 k0_h11 (k0_off37_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11)
theorem k0_off36_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h11 : k0_cond11 k0_t1 arg36_r0 = 1#1), (Rect.unit (s := S3x16x32x512) (k0_off36 arg24_r0) S1x16x32x512.size (k0_off36_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11 => k0_hw1.1.2.2.2.2.2.2.2.2.2.2.2.2.2.2.2.1 k0_h11 (k0_off36_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h11)
theorem k0_off38_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h12 : k0_cond12 k0_t1 arg36_r0 = 1#1), ∀ a, (k0_off38 arg26_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12 => k0_hw1.1.2.2.2.2.2.2.2.2.2.2.2.2.2.2.2.2.1 k0_h12
theorem k0_off39_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h12 : k0_cond12 k0_t1 arg36_r0 = 1#1), ∀ a, (k0_off39 arg26_r0) a + S1x16x32x512.size a ≤ S3x16x32x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12 => k0_hw1.1.2.2.2.2.2.2.2.2.2.2.2.2.2.2.2.2.2.1 k0_h12
theorem k0_off40_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h12 : k0_cond12 k0_t1 arg36_r0 = 1#1), ∀ a, (k0_off40 arg36_r0) a + S16x32x512.size a ≤ S16x2048x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12 => k0_hw1.1.2.2.2.2.2.2.2.2.2.2.2.2.2.2.2.2.2.2.1 k0_h12
theorem k0_off40_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h12 : k0_cond12 k0_t1 arg36_r0 = 1#1), (Rect.unit (s := S16x2048x512) (k0_off40 arg36_r0) S16x32x512.size (k0_off40_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12 => k0_hw1.1.2.2.2.2.2.2.2.2.2.2.2.2.2.2.2.2.2.2.2.1 k0_h12 (k0_off40_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12)
theorem k0_off39_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h12 : k0_cond12 k0_t1 arg36_r0 = 1#1), (Rect.unit (s := S3x16x32x512) (k0_off39 arg26_r0) S1x16x32x512.size (k0_off39_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12 => k0_hw1.1.2.2.2.2.2.2.2.2.2.2.2.2.2.2.2.2.2.2.2.2.1 k0_h12 (k0_off39_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h12)
theorem k0_off41_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h13 : k0_cond13 k0_t1 arg36_r0 = 1#1), ∀ a, (k0_off41 arg28_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13 => k0_hw1.1.2.2.2.2.2.2.2.2.2.2.2.2.2.2.2.2.2.2.2.2.2.1 k0_h13
theorem k0_off42_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h13 : k0_cond13 k0_t1 arg36_r0 = 1#1), ∀ a, (k0_off42 arg28_r0) a + S1x16x32x1024.size a ≤ S3x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13 => k0_hw1.1.2.2.2.2.2.2.2.2.2.2.2.2.2.2.2.2.2.2.2.2.2.2.1 k0_h13
theorem k0_off43_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h13 : k0_cond13 k0_t1 arg36_r0 = 1#1), ∀ a, (k0_off43 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13 => k0_hw1.1.2.2.2.2.2.2.2.2.2.2.2.2.2.2.2.2.2.2.2.2.2.2.2.1 k0_h13
theorem k0_off43_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h13 : k0_cond13 k0_t1 arg36_r0 = 1#1), (Rect.unit (s := S16x2048x1024) (k0_off43 arg36_r0) S16x32x1024.size (k0_off43_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13 => k0_hw1.1.2.2.2.2.2.2.2.2.2.2.2.2.2.2.2.2.2.2.2.2.2.2.2.2.1 k0_h13 (k0_off43_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13)
theorem k0_off42_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h13 : k0_cond13 k0_t1 arg36_r0 = 1#1), (Rect.unit (s := S3x16x32x1024) (k0_off42 arg28_r0) S1x16x32x1024.size (k0_off42_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13 => k0_hw1.1.2.2.2.2.2.2.2.2.2.2.2.2.2.2.2.2.2.2.2.2.2.2.2.2.2.1 k0_h13 (k0_off42_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h13)
theorem k0_off44_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h14 : k0_cond14 k0_t1 arg36_r0 = 1#1), ∀ a, (k0_off44 arg30_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14 => k0_hw1.1.2.2.2.2.2.2.2.2.2.2.2.2.2.2.2.2.2.2.2.2.2.2.2.2.2.2.1 k0_h14
theorem k0_off45_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h14 : k0_cond14 k0_t1 arg36_r0 = 1#1), ∀ a, (k0_off45 arg30_r0) a + S1x16x32x1024.size a ≤ S3x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14 => k0_hw1.1.2.2.2.2.2.2.2.2.2.2.2.2.2.2.2.2.2.2.2.2.2.2.2.2.2.2.2.1 k0_h14
theorem k0_off46_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h14 : k0_cond14 k0_t1 arg36_r0 = 1#1), ∀ a, (k0_off46 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14 => k0_hw1.1.2.2.2.2.2.2.2.2.2.2.2.2.2.2.2.2.2.2.2.2.2.2.2.2.2.2.2.2.1 k0_h14
theorem k0_off46_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h14 : k0_cond14 k0_t1 arg36_r0 = 1#1), (Rect.unit (s := S16x2048x1024) (k0_off46 arg36_r0) S16x32x1024.size (k0_off46_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14 => k0_hw1.1.2.2.2.2.2.2.2.2.2.2.2.2.2.2.2.2.2.2.2.2.2.2.2.2.2.2.2.2.2.1 k0_h14 (k0_off46_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14)
theorem k0_off45_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h14 : k0_cond14 k0_t1 arg36_r0 = 1#1), (Rect.unit (s := S3x16x32x1024) (k0_off45 arg30_r0) S1x16x32x1024.size (k0_off45_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14 => k0_hw1.1.2.2.2.2.2.2.2.2.2.2.2.2.2.2.2.2.2.2.2.2.2.2.2.2.2.2.2.2.2.2.1 k0_h14 (k0_off45_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h14)
theorem k0_off47_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h15 : k0_cond15 k0_t1 arg36_r0 = 1#1), ∀ a, (k0_off47 arg19_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h15 => k0_hw1.1.2.2.2.2.2.2.2.2.2.2.2.2.2.2.2.2.2.2.2.2.2.2.2.2.2.2.2.2.2.2.2 k0_h15
theorem k0_off48_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h15 : k0_cond15 k0_t1 arg36_r0 = 1#1), ∀ a, (k0_off48 arg19_r0) a + S1x16x32x1024.size a ≤ S3x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h15 => k0_hw1.2.1.1 k0_h15
theorem k0_off49_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h15 : k0_cond15 k0_t1 arg36_r0 = 1#1), ∀ a, (k0_off49 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h15 => k0_hw1.2.1.2.1 k0_h15
theorem k0_off50_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h16 : k0_cond16 k0_t1 arg36_r0 = 1#1), ∀ a, (k0_off50 arg21_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h16 => k0_hw1.2.1.2.2.1 k0_h16
theorem k0_off51_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h16 : k0_cond16 k0_t1 arg36_r0 = 1#1), ∀ a, (k0_off51 arg21_r0) a + S1x32x16x512.size a ≤ S3x32x16x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h16 => k0_hw1.2.1.2.2.2.1 k0_h16
theorem k0_off52_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h16 : k0_cond16 k0_t1 arg36_r0 = 1#1), ∀ a, (k0_off52 arg36_r0) a + S32x16x512.size a ≤ S2048x16x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h16 => k0_hw1.2.1.2.2.2.2.1 k0_h16
theorem k0_off53_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h17 : k0_cond17 k0_t1 arg36_r0 = 1#1), ∀ a, (k0_off53 arg23_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17 => k0_hw1.2.1.2.2.2.2.2.1 k0_h17
theorem k0_off54_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h17 : k0_cond17 k0_t1 arg36_r0 = 1#1), ∀ a, (k0_off54 arg23_r0) a + S1x16x32x512.size a ≤ S3x16x32x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17 => k0_hw1.2.1.2.2.2.2.2.2.1 k0_h17
theorem k0_off55_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h17 : k0_cond17 k0_t1 arg36_r0 = 1#1), ∀ a, (k0_off55 arg36_r0) a + S16x32x512.size a ≤ S16x2048x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17 => k0_hw1.2.1.2.2.2.2.2.2.2.1 k0_h17
theorem k0_off55_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h17 : k0_cond17 k0_t1 arg36_r0 = 1#1), (Rect.unit (s := S16x2048x512) (k0_off55 arg36_r0) S16x32x512.size (k0_off55_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17 => k0_hw1.2.1.2.2.2.2.2.2.2.2.1 k0_h17 (k0_off55_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17)
theorem k0_off54_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h17 : k0_cond17 k0_t1 arg36_r0 = 1#1), (Rect.unit (s := S3x16x32x512) (k0_off54 arg23_r0) S1x16x32x512.size (k0_off54_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17 => k0_hw1.2.1.2.2.2.2.2.2.2.2.2.1 k0_h17 (k0_off54_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h17)
theorem k0_off56_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h18 : k0_cond18 k0_t1 arg36_r0 = 1#1), ∀ a, (k0_off56 arg25_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18 => k0_hw1.2.1.2.2.2.2.2.2.2.2.2.2.1 k0_h18
theorem k0_off57_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h18 : k0_cond18 k0_t1 arg36_r0 = 1#1), ∀ a, (k0_off57 arg25_r0) a + S1x16x32x512.size a ≤ S3x16x32x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18 => k0_hw1.2.1.2.2.2.2.2.2.2.2.2.2.2.1 k0_h18
theorem k0_off58_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h18 : k0_cond18 k0_t1 arg36_r0 = 1#1), ∀ a, (k0_off58 arg36_r0) a + S16x32x512.size a ≤ S16x2048x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18 => k0_hw1.2.1.2.2.2.2.2.2.2.2.2.2.2.2.1 k0_h18
theorem k0_off58_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h18 : k0_cond18 k0_t1 arg36_r0 = 1#1), (Rect.unit (s := S16x2048x512) (k0_off58 arg36_r0) S16x32x512.size (k0_off58_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18 => k0_hw1.2.1.2.2.2.2.2.2.2.2.2.2.2.2.2.1 k0_h18 (k0_off58_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18)
theorem k0_off57_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h18 : k0_cond18 k0_t1 arg36_r0 = 1#1), (Rect.unit (s := S3x16x32x512) (k0_off57 arg25_r0) S1x16x32x512.size (k0_off57_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18 => k0_hw1.2.1.2.2.2.2.2.2.2.2.2.2.2.2.2.2.1 k0_h18 (k0_off57_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h18)
theorem k0_off59_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h19 : k0_cond19 k0_t1 arg36_r0 = 1#1), ∀ a, (k0_off59 arg27_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19 => k0_hw1.2.1.2.2.2.2.2.2.2.2.2.2.2.2.2.2.2.1 k0_h19
theorem k0_off60_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h19 : k0_cond19 k0_t1 arg36_r0 = 1#1), ∀ a, (k0_off60 arg27_r0) a + S1x16x32x512.size a ≤ S3x16x32x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19 => k0_hw1.2.1.2.2.2.2.2.2.2.2.2.2.2.2.2.2.2.2.1 k0_h19
theorem k0_off61_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h19 : k0_cond19 k0_t1 arg36_r0 = 1#1), ∀ a, (k0_off61 arg36_r0) a + S16x32x512.size a ≤ S16x2048x512.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19 => k0_hw1.2.1.2.2.2.2.2.2.2.2.2.2.2.2.2.2.2.2.2.1 k0_h19
theorem k0_off61_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h19 : k0_cond19 k0_t1 arg36_r0 = 1#1), (Rect.unit (s := S16x2048x512) (k0_off61 arg36_r0) S16x32x512.size (k0_off61_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19 => k0_hw1.2.1.2.2.2.2.2.2.2.2.2.2.2.2.2.2.2.2.2.2.1 k0_h19 (k0_off61_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19)
theorem k0_off60_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h19 : k0_cond19 k0_t1 arg36_r0 = 1#1), (Rect.unit (s := S3x16x32x512) (k0_off60 arg27_r0) S1x16x32x512.size (k0_off60_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19 => k0_hw1.2.1.2.2.2.2.2.2.2.2.2.2.2.2.2.2.2.2.2.2.2.1 k0_h19 (k0_off60_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h19)
theorem k0_off62_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h20 : k0_cond20 k0_t1 arg36_r0 = 1#1), ∀ a, (k0_off62 arg29_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20 => k0_hw1.2.1.2.2.2.2.2.2.2.2.2.2.2.2.2.2.2.2.2.2.2.2.1 k0_h20
theorem k0_off63_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h20 : k0_cond20 k0_t1 arg36_r0 = 1#1), ∀ a, (k0_off63 arg29_r0) a + S1x16x32x1024.size a ≤ S3x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20 => k0_hw1.2.1.2.2.2.2.2.2.2.2.2.2.2.2.2.2.2.2.2.2.2.2.2.1 k0_h20
theorem k0_off64_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h20 : k0_cond20 k0_t1 arg36_r0 = 1#1), ∀ a, (k0_off64 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20 => k0_hw1.2.1.2.2.2.2.2.2.2.2.2.2.2.2.2.2.2.2.2.2.2.2.2.2.1 k0_h20
theorem k0_off64_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h20 : k0_cond20 k0_t1 arg36_r0 = 1#1), (Rect.unit (s := S16x2048x1024) (k0_off64 arg36_r0) S16x32x1024.size (k0_off64_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20 => k0_hw1.2.1.2.2.2.2.2.2.2.2.2.2.2.2.2.2.2.2.2.2.2.2.2.2.2.1 k0_h20 (k0_off64_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20)
theorem k0_off63_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h20 : k0_cond20 k0_t1 arg36_r0 = 1#1), (Rect.unit (s := S3x16x32x1024) (k0_off63 arg29_r0) S1x16x32x1024.size (k0_off63_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20 => k0_hw1.2.1.2.2.2.2.2.2.2.2.2.2.2.2.2.2.2.2.2.2.2.2.2.2.2.2.1 k0_h20 (k0_off63_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h20)
theorem k0_off65_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h21 : k0_cond21 k0_t1 arg36_r0 = 1#1), ∀ a, (k0_off65 arg31_r0) a + S1.size a ≤ S3.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21 => k0_hw1.2.1.2.2.2.2.2.2.2.2.2.2.2.2.2.2.2.2.2.2.2.2.2.2.2.2.2.1 k0_h21
theorem k0_off66_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h21 : k0_cond21 k0_t1 arg36_r0 = 1#1), ∀ a, (k0_off66 arg31_r0) a + S1x16x32x1024.size a ≤ S3x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21 => k0_hw1.2.1.2.2.2.2.2.2.2.2.2.2.2.2.2.2.2.2.2.2.2.2.2.2.2.2.2.2.1 k0_h21
theorem k0_off67_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h21 : k0_cond21 k0_t1 arg36_r0 = 1#1), ∀ a, (k0_off67 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21 => k0_hw1.2.1.2.2.2.2.2.2.2.2.2.2.2.2.2.2.2.2.2.2.2.2.2.2.2.2.2.2.2.1 k0_h21
theorem k0_off67_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h21 : k0_cond21 k0_t1 arg36_r0 = 1#1), (Rect.unit (s := S16x2048x1024) (k0_off67 arg36_r0) S16x32x1024.size (k0_off67_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21 => k0_hw1.2.1.2.2.2.2.2.2.2.2.2.2.2.2.2.2.2.2.2.2.2.2.2.2.2.2.2.2.2.2.1 k0_h21 (k0_off67_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21)
theorem k0_off66_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h21 : k0_cond21 k0_t1 arg36_r0 = 1#1), (Rect.unit (s := S3x16x32x1024) (k0_off66 arg31_r0) S1x16x32x1024.size (k0_off66_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21 => k0_hw1.2.1.2.2.2.2.2.2.2.2.2.2.2.2.2.2.2.2.2.2.2.2.2.2.2.2.2.2.2.2.2.1 k0_h21 (k0_off66_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h21)
theorem k0_off77_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h31 : k0_cond31 k0_t1 arg36_r0 = 1#1), ∀ a, (k0_off77 arg32_r0) a + S1.size a ≤ S2.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h31 => k0_hw1.2.1.2.2.2.2.2.2.2.2.2.2.2.2.2.2.2.2.2.2.2.2.2.2.2.2.2.2.2.2.2.2.1 k0_h31
theorem k0_off78_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h31 : k0_cond31 k0_t1 arg36_r0 = 1#1), ∀ a, (k0_off78 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h31 => k0_hw1.2.1.2.2.2.2.2.2.2.2.2.2.2.2.2.2.2.2.2.2.2.2.2.2.2.2.2.2.2.2.2.2.2 k0_h31
theorem k0_off79_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h31 : k0_cond31 k0_t1 arg36_r0 = 1#1), ∀ a, (k0_off79 arg32_r0) a + S1x16x32x1024.size a ≤ S2x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h31 => k0_hw1.2.2.1 k0_h31
theorem k0_off80_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h32 : k0_cond32 k0_t1 arg36_r0 = 1#1), ∀ a, (k0_off80 arg34_r0) a + S1.size a ≤ S2.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32 => k0_hw1.2.2.2.1 k0_h32
theorem k0_off81_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h32 : k0_cond32 k0_t1 arg36_r0 = 1#1), ∀ a, (k0_off81 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32 => k0_hw1.2.2.2.2.1 k0_h32
theorem k0_off82_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h32 : k0_cond32 k0_t1 arg36_r0 = 1#1), ∀ a, (k0_off82 arg34_r0) a + S1x16x32x1024.size a ≤ S2x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32 => k0_hw1.2.2.2.2.2.1 k0_h32
theorem k0_off82_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h32 : k0_cond32 k0_t1 arg36_r0 = 1#1), (Rect.unit (s := S2x16x32x1024) (k0_off82 arg34_r0) S1x16x32x1024.size (k0_off82_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32 => k0_hw1.2.2.2.2.2.2.1 k0_h32 (k0_off82_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32)
theorem k0_off81_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h32 : k0_cond32 k0_t1 arg36_r0 = 1#1), (Rect.unit (s := S16x2048x1024) (k0_off81 arg36_r0) S16x32x1024.size (k0_off81_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32 => k0_hw1.2.2.2.2.2.2.2.1 k0_h32 (k0_off81_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h32)
theorem k0_off83_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h40 : k0_cond40 k0_t1 arg36_r0 = 1#1), ∀ a, (k0_off83 arg33_r0) a + S1.size a ≤ S2.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h40 => k0_hw1.2.2.2.2.2.2.2.2.1 k0_h40
theorem k0_off84_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h40 : k0_cond40 k0_t1 arg36_r0 = 1#1), ∀ a, (k0_off84 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h40 => k0_hw1.2.2.2.2.2.2.2.2.2.1 k0_h40
theorem k0_off85_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h40 : k0_cond40 k0_t1 arg36_r0 = 1#1), ∀ a, (k0_off85 arg33_r0) a + S1x16x32x1024.size a ≤ S2x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h40 => k0_hw1.2.2.2.2.2.2.2.2.2.2.1 k0_h40
theorem k0_off86_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h41 : k0_cond41 k0_t1 arg36_r0 = 1#1), ∀ a, (k0_off86 arg35_r0) a + S1.size a ≤ S2.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41 => k0_hw1.2.2.2.2.2.2.2.2.2.2.2.1 k0_h41
theorem k0_off87_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h41 : k0_cond41 k0_t1 arg36_r0 = 1#1), ∀ a, (k0_off87 arg36_r0) a + S16x32x1024.size a ≤ S16x2048x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41 => k0_hw1.2.2.2.2.2.2.2.2.2.2.2.2.1 k0_h41
theorem k0_off88_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h41 : k0_cond41 k0_t1 arg36_r0 = 1#1), ∀ a, (k0_off88 arg35_r0) a + S1x16x32x1024.size a ≤ S2x16x32x1024.size a := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41 => k0_hw1.2.2.2.2.2.2.2.2.2.2.2.2.2.1 k0_h41
theorem k0_off88_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h41 : k0_cond41 k0_t1 arg36_r0 = 1#1), (Rect.unit (s := S2x16x32x1024) (k0_off88 arg35_r0) S1x16x32x1024.size (k0_off88_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41 => k0_hw1.2.2.2.2.2.2.2.2.2.2.2.2.2.2.1 k0_h41 (k0_off88_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41)
theorem k0_off87_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (k0_hw1 : k0_chk1 k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0), ∀ (k0_h41 : k0_cond41 k0_t1 arg36_r0 = 1#1), (Rect.unit (s := S16x2048x1024) (k0_off87 arg36_r0) S16x32x1024.size (k0_off87_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41)).WholeWords (EltTy.packing .bf16) := fun k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41 => k0_hw1.2.2.2.2.2.2.2.2.2.2.2.2.2.2.2 k0_h41 (k0_off87_inb k0_t1 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 k0_hw1 k0_h41)

def k0_off89 (v126_15_r0 : BitVec 32) : Fin 1 → Nat :=
  let c2_i32_r0 : BitVec 32 := 2#32
  let v152_r0 : BitVec 32 := Scalar.remui v126_15_r0 c2_i32_r0
  ![v152_r0.toNat]

def k0_off90 (v126_18_r0 : BitVec 32) : Fin 3 → Nat :=
  let c0_i32_169_r0 : BitVec 32 := 0#32
  let c32_i32_r0 : BitVec 32 := 32#32
  let true_145_r0 : BitVec 1 := 1#1
  let c1_i32_144_r0 : BitVec 32 := 1#32
  let v127_r0 : BitVec 32 := Scalar.subi v126_18_r0 c1_i32_144_r0
  let v128_r0 : BitVec 32 := Scalar.select true_145_r0 v127_r0 v126_18_r0
  let c_m1_i32_146_r0 : BitVec 32 := 4294967295#32
  let v129_r0 : BitVec 1 := Scalar.cmpi .eq v128_r0 c_m1_i32_146_r0
  let c63_i32_147_r0 : BitVec 32 := 63#32
  let v130_r0 : BitVec 32 := Scalar.select v129_r0 c63_i32_147_r0 v128_r0
  let c0_i32_148_r0 : BitVec 32 := 0#32
  let v131_r0 : BitVec 32 := Scalar.addi v130_r0 c0_i32_148_r0
  let v153_r0 : BitVec 32 := Scalar.muli c32_i32_r0 v131_r0
  let c0_i32_170_r0 : BitVec 32 := 0#32
  ![0, v153_r0.toNat, 0]

def k0_off91 (v126_15_r0 : BitVec 32) : Fin 4 → Nat :=
  let c2_i32_r0 : BitVec 32 := 2#32
  let v152_r0 : BitVec 32 := Scalar.remui v126_15_r0 c2_i32_r0
  let c0_i32_171_r0 : BitVec 32 := 0#32
  let c0_i32_172_r0 : BitVec 32 := 0#32
  let c0_i32_173_r0 : BitVec 32 := 0#32
  ![v152_r0.toNat, 0, 0, 0]

def k0_chk11 (v126_15_r0 : BitVec 32) : Prop :=
  (∀ a, (k0_off89 v126_15_r0) a + S1.size a ≤ S2.size a) ∧
  (∀ a, (k0_off91 v126_15_r0) a + S1x16x32x1024.size a ≤ S2x16x32x1024.size a)
theorem k0_off89_inb : ∀ (v126_15_r0 : BitVec 32) (k0_hw11 : k0_chk11 v126_15_r0), ∀ a, (k0_off89 v126_15_r0) a + S1.size a ≤ S2.size a := fun v126_15_r0 k0_hw11 => k0_hw11.1
theorem k0_off91_inb : ∀ (v126_15_r0 : BitVec 32) (k0_hw11 : k0_chk11 v126_15_r0), ∀ a, (k0_off91 v126_15_r0) a + S1x16x32x1024.size a ≤ S2x16x32x1024.size a := fun v126_15_r0 k0_hw11 => k0_hw11.2

def k0_off92 (v126_17_r0 : BitVec 32) : Fin 1 → Nat :=
  let c2_i32_174_r0 : BitVec 32 := 2#32
  let v159_r0 : BitVec 32 := Scalar.remui v126_17_r0 c2_i32_174_r0
  ![v159_r0.toNat]

def k0_off93 (v126_18_r0 : BitVec 32) : Fin 3 → Nat :=
  let c0_i32_176_r0 : BitVec 32 := 0#32
  let c32_i32_175_r0 : BitVec 32 := 32#32
  let true_145_r0 : BitVec 1 := 1#1
  let c1_i32_144_r0 : BitVec 32 := 1#32
  let v127_r0 : BitVec 32 := Scalar.subi v126_18_r0 c1_i32_144_r0
  let v128_r0 : BitVec 32 := Scalar.select true_145_r0 v127_r0 v126_18_r0
  let c_m1_i32_146_r0 : BitVec 32 := 4294967295#32
  let v129_r0 : BitVec 1 := Scalar.cmpi .eq v128_r0 c_m1_i32_146_r0
  let c63_i32_147_r0 : BitVec 32 := 63#32
  let v130_r0 : BitVec 32 := Scalar.select v129_r0 c63_i32_147_r0 v128_r0
  let c0_i32_148_r0 : BitVec 32 := 0#32
  let v131_r0 : BitVec 32 := Scalar.addi v130_r0 c0_i32_148_r0
  let v160_r0 : BitVec 32 := Scalar.muli c32_i32_175_r0 v131_r0
  let c0_i32_177_r0 : BitVec 32 := 0#32
  ![0, v160_r0.toNat, 0]
def k0_off94 (v126_17_r0 : BitVec 32) : Fin 4 → Nat :=
  let c2_i32_174_r0 : BitVec 32 := 2#32
  let v159_r0 : BitVec 32 := Scalar.remui v126_17_r0 c2_i32_174_r0
  let c0_i32_178_r0 : BitVec 32 := 0#32
  let c0_i32_179_r0 : BitVec 32 := 0#32
  let c0_i32_180_r0 : BitVec 32 := 0#32
  ![v159_r0.toNat, 0, 0, 0]

def k0_chk13 (v126_17_r0 : BitVec 32) : Prop :=
  (∀ a, (k0_off92 v126_17_r0) a + S1.size a ≤ S2.size a) ∧
  (∀ a, (k0_off94 v126_17_r0) a + S1x16x32x1024.size a ≤ S2x16x32x1024.size a) ∧
  (∀ (hinb : ∀ a, (k0_off94 v126_17_r0) a + S1x16x32x1024.size a ≤ S2x16x32x1024.size a), (Rect.unit (s := S2x16x32x1024) (k0_off94 v126_17_r0) S1x16x32x1024.size hinb).WholeWords (EltTy.packing .bf16))
theorem k0_off92_inb : ∀ (v126_17_r0 : BitVec 32) (k0_hw13 : k0_chk13 v126_17_r0), ∀ a, (k0_off92 v126_17_r0) a + S1.size a ≤ S2.size a := fun v126_17_r0 k0_hw13 => k0_hw13.1
theorem k0_off94_inb : ∀ (v126_17_r0 : BitVec 32) (k0_hw13 : k0_chk13 v126_17_r0), ∀ a, (k0_off94 v126_17_r0) a + S1x16x32x1024.size a ≤ S2x16x32x1024.size a := fun v126_17_r0 k0_hw13 => k0_hw13.2.1
theorem k0_off94_wordsbf16 : ∀ (v126_17_r0 : BitVec 32) (k0_hw13 : k0_chk13 v126_17_r0), (Rect.unit (s := S2x16x32x1024) (k0_off94 v126_17_r0) S1x16x32x1024.size (k0_off94_inb v126_17_r0 k0_hw13)).WholeWords (EltTy.packing .bf16) := fun v126_17_r0 k0_hw13 => k0_hw13.2.2 (k0_off94_inb v126_17_r0 k0_hw13)

def k0_chk12 (v126_18_r0 : BitVec 32) : Prop :=
  (∀ a, (k0_off90 v126_18_r0) a + S16x32x1024.size a ≤ S16x2048x1024.size a) ∧
  (∀ a, (k0_off93 v126_18_r0) a + S16x32x1024.size a ≤ S16x2048x1024.size a) ∧
  (∀ (hinb : ∀ a, (k0_off93 v126_18_r0) a + S16x32x1024.size a ≤ S16x2048x1024.size a), (Rect.unit (s := S16x2048x1024) (k0_off93 v126_18_r0) S16x32x1024.size hinb).WholeWords (EltTy.packing .bf16))
theorem k0_off90_inb : ∀ (v126_18_r0 : BitVec 32) (k0_hw12 : k0_chk12 v126_18_r0), ∀ a, (k0_off90 v126_18_r0) a + S16x32x1024.size a ≤ S16x2048x1024.size a := fun v126_18_r0 k0_hw12 => k0_hw12.1
theorem k0_off93_inb : ∀ (v126_18_r0 : BitVec 32) (k0_hw12 : k0_chk12 v126_18_r0), ∀ a, (k0_off93 v126_18_r0) a + S16x32x1024.size a ≤ S16x2048x1024.size a := fun v126_18_r0 k0_hw12 => k0_hw12.2.1
theorem k0_off93_wordsbf16 : ∀ (v126_18_r0 : BitVec 32) (k0_hw12 : k0_chk12 v126_18_r0), (Rect.unit (s := S16x2048x1024) (k0_off93 v126_18_r0) S16x32x1024.size (k0_off93_inb v126_18_r0 k0_hw12)).WholeWords (EltTy.packing .bf16) := fun v126_18_r0 k0_hw12 => k0_hw12.2.2 (k0_off93_inb v126_18_r0 k0_hw12)

abbrev stage0_0 : Fin 1 → Memref sig .tc .vmem S6x16x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16x2048x1024 : Shape := ⟨3, ![16, 2048, 1024]⟩
abbrev S16x6144 : Shape := ⟨2, ![16, 6144]⟩
abbrev S2048x16x512 : Shape := ⟨3, ![2048, 16, 512]⟩
abbrev S16x2048x512 : Shape := ⟨3, ![16, 2048, 512]⟩
abbrev S1x512 : Shape := ⟨2, ![1, 512]⟩
abbrev S1x1024 : Shape := ⟨2, ![1, 1024]⟩
abbrev S1x512x1024 : Shape := ⟨3, ![1, 512, 1024]⟩
abbrev S1x1024x1024 : Shape := ⟨3, ![1, 1024, 1024]⟩
abbrev S16x1x6144 : Shape := ⟨3, ![16, 1, 6144]⟩
abbrev S16x1x1024 : Shape := ⟨3, ![16, 1, 1024]⟩
abbrev S512 : Shape := ⟨1, ![512]⟩
abbrev S1x1x512 : Shape := ⟨3, ![1, 1, 512]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S2048x16x512, .f32⟩
  | .hbm, ⟨3, _⟩ => ⟨S16x2048x512, .bf16⟩
  | .hbm, ⟨4, _⟩ => ⟨S16x2048x512, .bf16⟩
  | .hbm, ⟨5, _⟩ => ⟨S16x2048x512, .bf16⟩
  | .hbm, ⟨6, _⟩ => ⟨S16x2048x1024, .bf16⟩
  | .hbm, ⟨7, _⟩ => ⟨S16x2048x1024, .bf16⟩
  | .hbm, ⟨8, _⟩ => ⟨S1x512, .f32⟩
  | .hbm, ⟨9, _⟩ => ⟨S1x512, .f32⟩
  | .hbm, ⟨10, _⟩ => ⟨S1x1024, .f32⟩
  | .hbm, ⟨11, _⟩ => ⟨S1x512x1024, .f32⟩
  | .hbm, ⟨12, _⟩ => ⟨S1x512x1024, .f32⟩
  | .hbm, ⟨13, _⟩ => ⟨S1x1024x1024, .f32⟩
  | .hbm, ⟨14, _⟩ => ⟨S16x1x6144, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x2048x512, .f32⟩
  | .hbm, ⟨22, _⟩ => ⟨S512, .f32⟩
  | .hbm, ⟨23, _⟩ => ⟨S1x1x512, .f32⟩
  | .hbm, ⟨24, _⟩ => ⟨S16x2048x512, .f32⟩
  | .hbm, ⟨25, _⟩ => ⟨S16x2048x512, .f32⟩
  | .hbm, ⟨26, _⟩ => ⟨S512, .f32⟩
  | .hbm, ⟨27, _⟩ => ⟨S1x1x512, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x512, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048x1024, .f32⟩
  | .hbm, ⟨43, _⟩ => ⟨S16x2048x1024, .f32⟩
  | .hbm, ⟨44, _⟩ => ⟨S512x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x2048x1024, .f32⟩
  | .hbm, ⟨52, _⟩ => ⟨S16x2048x1024, .f32⟩
  | .hbm, ⟨53, _⟩ => ⟨S_, .f32⟩
  | .hbm, ⟨54, _⟩ => ⟨S16x2048x1024, .f32⟩
  | .hbm, ⟨55, _⟩ => ⟨S16x2048x1024, .f32⟩
  | .hbm, ⟨56, _⟩ => ⟨S512x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S1024x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S1024, .f32⟩
  | .hbm, ⟨66, _⟩ => ⟨S16x2048x1024, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | .hbm, ⟨82, _⟩ => ⟨S_, .f32⟩
  | .hbm, ⟨83, _⟩ => ⟨S16x1x1024, .f32⟩
  | .hbm, ⟨84, _⟩ => ⟨S16x1x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S16x2048x1024, .f32⟩
  | .hbm, ⟨89, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x6144 : Shape := ⟨2, ![16, 6144]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S16x6x1024 : Shape := ⟨3, ![16, 6, 1024]⟩
abbrev S1024x5632 : Shape := ⟨2, ![1024, 5632]⟩
abbrev S32768x1024 : Shape := ⟨2, ![32768, 1024]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S512x1024 : Shape := ⟨2, ![512, 1024]⟩
abbrev S1x6x1024 : Shape := ⟨3, ![1, 6, 1024]⟩
abbrev S8x2816 : Shape := ⟨2, ![8, 2816]⟩
abbrev S512x2816 : Shape := ⟨2, ![512, 2816]⟩
abbrev S512x256 : Shape := ⟨2, ![512, 256]⟩
abbrev S1024x256 : Shape := ⟨2, ![1024, 256]⟩
abbrev S1x256 : Shape := ⟨2, ![1, 256]⟩
abbrev S8x256 : Shape := ⟨2, ![8, 256]⟩
abbrev S1x1x1024 : Shape := ⟨3, ![1, 1, 1024]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x6144, .f32⟩
  | .hbm, ⟨3, _⟩ => ⟨S1x1024x5632, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S16x6x1024, .f32⟩
  | .hbm, ⟨9, _⟩ => ⟨S1024x5632, .f32⟩
  | .hbm, ⟨10, _⟩ => ⟨S1024x5632, .bf16⟩
  | .hbm, ⟨11, _⟩ => ⟨S32768x1024, .f32⟩
  | .hbm, ⟨12, _⟩ => ⟨S32768x1024, .bf16⟩
  | .hbm, ⟨13, _⟩ => ⟨S3x2816, .f32⟩
  | .hbm, ⟨14, _⟩ => ⟨S2816, .f32⟩
  | .hbm, ⟨15, _⟩ => ⟨S2816x1024, .f32⟩
  | .hbm, ⟨16, _⟩ => ⟨S2816x1024, .bf16⟩
  | .hbm, ⟨17, _⟩ => ⟨S1x2816, .f32⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x6x1024, .f32⟩
  | .local _ .vmem, ⟨5, _⟩ => ⟨S1x6x1024, .f32⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x2816, .f32⟩
  | .local _ .vmem, ⟨14, _⟩ => ⟨S512x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16x2048x1024 : Shape := ⟨3, ![16, 2048, 1024]⟩
abbrev S16x6144 : Shape := ⟨2, ![16, 6144]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S16x1x6144 : Shape := ⟨3, ![16, 1, 6144]⟩
abbrev S16x1x1024 : Shape := ⟨3, ![16, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S_ : Shape := ⟨0, ![]⟩
abbrev S16x2050x2816 : Shape := ⟨3, ![16, 2050, 2816]⟩
abbrev S1x1x2816 : Shape := ⟨3, ![1, 1, 2816]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x6144, .f32⟩
  | .hbm, ⟨3, _⟩ => ⟨S1x1024x5632, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S16x1x6144, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x2048x1024, .f32⟩
  | .hbm, ⟨16, _⟩ => ⟨S1024x5632, .f32⟩
  | .hbm, ⟨17, _⟩ => ⟨S3x2816, .f32⟩
  | .hbm, ⟨18, _⟩ => ⟨S2816, .f32⟩
  | .hbm, ⟨19, _⟩ => ⟨S2816x1024, .f32⟩
  | .hbm, ⟨20, _⟩ => ⟨S16x2048x5632, .f32⟩
  | .hbm, ⟨21, _⟩ => ⟨S16x2048x2816, .f32⟩
  | .hbm, ⟨22, _⟩ => ⟨S16x2048x2816, .f32⟩
  | .hbm, ⟨23, _⟩ => ⟨S_, .i32⟩
  | .hbm, ⟨24, _⟩ => ⟨S_, .f32⟩
  | .hbm, ⟨25, _⟩ => ⟨S16x2050x2816, .f32⟩
  | .hbm, ⟨26, _⟩ => ⟨S16x2048x2816, .f32⟩
  | .hbm, ⟨27, _⟩ => ⟨S1x2816, .f32⟩
  | .hbm, ⟨28, _⟩ => ⟨S2816, .f32⟩
  | .hbm, ⟨29, _⟩ => ⟨S1x1x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S1x2816, .f32⟩
  | .hbm, ⟨34, _⟩ => ⟨S2816, .f32⟩
  | .hbm, ⟨35, _⟩ => ⟨S1x1x2816, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S1x1x2816, .f32⟩
  | .hbm, ⟨47, _⟩ => ⟨S16x2048x2816, .f32⟩
  | .hbm, ⟨48, _⟩ => ⟨S16x2048x2816, .f32⟩
  | .hbm, ⟨49, _⟩ => ⟨S16x2048x2816, .f32⟩
  | .hbm, ⟨50, _⟩ => ⟨S16x2048x2816, .f32⟩
  | .hbm, ⟨51, _⟩ => ⟨S_, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S16x2048x2816, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | .hbm, ⟨79, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst : Ref sig .tc := ⟨.hbm, 64, rfl⟩
abbrev main_v46 : Ref sig .tc := ⟨.hbm, 65, rfl⟩
abbrev main_v47 : Ref sig .tc := ⟨.hbm, 66, rfl⟩
abbrev main_cst_0 : Ref sig .tc := ⟨.hbm, 67, rfl⟩
abbrev main_v48 : Ref sig .tc := ⟨.hbm, 68, rfl⟩
abbrev main_v49 : Ref sig .tc := ⟨.hbm, 69, rfl⟩
abbrev main_cst_1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x6144 : Shape := ⟨2, ![16, 6144]⟩
abbrev S1x1024 : Shape := ⟨2, ![1, 1024]⟩
abbrev S1x1024x4608 : Shape := ⟨3, ![1, 1024, 4608]⟩
abbrev S16x6x1024 : Shape := ⟨3, ![16, 6, 1024]⟩
abbrev S512 : Shape := ⟨1, ![512]⟩
abbrev S_ : Shape := ⟨0, ![]⟩
abbrev S32768x1024 : Shape := ⟨2, ![32768, 1024]⟩
abbrev S1024 : Shape := ⟨1, ![1024]⟩
abbrev S1024x4608 : Shape := ⟨2, ![1024, 4608]⟩
abbrev S512x1 : Shape := ⟨2, ![512, 1]⟩
abbrev S1024x512 : Shape := ⟨2, ![1024, 512]⟩
abbrev S32768x1792 : Shape := ⟨2, ![32768, 1792]⟩
abbrev S32768x512 : Shape := ⟨2, ![32768, 512]⟩
abbrev S512x1024 : Shape := ⟨2, ![512, 1024]⟩
abbrev S1x6x1024 : Shape := ⟨3, ![1, 6, 1024]⟩
abbrev S512x1792 : Shape := ⟨2, ![512, 1792]⟩
abbrev S512x512 : Shape := ⟨2, ![512, 512]⟩
abbrev S1x1x1024 : Shape := ⟨3, ![1, 1, 1024]⟩
abbrev S1024x1792 : Shape := ⟨2, ![1024, 1792]⟩
abbrev S1024x1024 : Shape := ⟨2, ![1024, 1024]⟩

abbrev nBuf : Space → Nat
  | .hbm => 75
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024, .f32⟩
  | .hbm, ⟨3, _⟩ => ⟨S1x1024x4608, .f32⟩
  | .hbm, ⟨4, _⟩ => ⟨S16x6x1024, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S_, .i1⟩
  | .hbm, ⟨47, _⟩ => ⟨S512, .i1⟩
  | .hbm, ⟨48, _⟩ => ⟨S512, .i1⟩
  | .hbm, ⟨49, _⟩ => ⟨S512, .i1⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S32768x1024, .f32⟩
  | .hbm, ⟨55, _⟩ => ⟨S1024, .f32⟩
  | .hbm, ⟨56, _⟩ => ⟨S1024x4608, .f32⟩
  | .hbm, ⟨57, _⟩ => ⟨S1024x4608, .bf16⟩
  | .hbm, ⟨58, _⟩ => ⟨S1024x4608, .f32⟩
  | .hbm, ⟨59, _⟩ => ⟨S_, .i32⟩
  | .hbm, ⟨60, _⟩ => ⟨S512, .i32⟩
  | .hbm, ⟨61, _⟩ => ⟨S512, .i1⟩
  | .hbm, ⟨62, _⟩ => ⟨S_, .i32⟩
  | .hbm, ⟨63, _⟩ => ⟨S512, .i32⟩
  | .hbm, ⟨64, _⟩ => ⟨S512, .i32⟩
  | .hbm, ⟨65, _⟩ => ⟨S512, .i32⟩
  | .hbm, ⟨66, _⟩ => ⟨S512x1, .i32⟩
  | .hbm, ⟨67, _⟩ => ⟨S1024x512, .f32⟩
  | .hbm, ⟨68, _⟩ => ⟨S1024x512, .bf16⟩
  | .hbm, ⟨69, _⟩ => ⟨S1x1024, .f32⟩
  | .hbm, ⟨70, _⟩ => ⟨S32768x1792, .f32⟩
  | .hbm, ⟨71, _⟩ => ⟨S32768x512, .bf16⟩
  | .hbm, ⟨72, _⟩ => ⟨S32768x512, .bf16⟩
  | .hbm, ⟨73, _⟩ => ⟨S32768x1024, .bf16⟩
  | .hbm, ⟨74, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4608, .bf16⟩
  | .local _ .vmem, ⟨6, _⟩ => ⟨S1024x512, .bf16⟩
  | .local _ .vmem, ⟨7, _⟩ => ⟨S512x1792, .f32⟩
  | .local _ .vmem, ⟨8, _⟩ => ⟨S512x1792, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_2 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_c_3 : Ref sig .tc := ⟨.hbm, 59, rfl⟩
abbrev main_v15 : Ref sig .tc := ⟨.hbm, 60, rfl⟩
abbrev main_v16 : Ref sig .tc := ⟨.hbm, 61, rfl⟩
abbrev main_c_4 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24_0 : Ref sig .tc := ⟨.hbm, 70, rfl⟩
abbrev main_v24_1 : Ref sig .tc := ⟨.hbm, 71, rfl⟩
abbrev main_v24_2 : Ref sig .tc := ⟨.hbm, 72, rfl⟩
abbrev main_v24_3 : Ref sig .tc := ⟨.hbm, 73, rfl⟩
abbrev main_v24_4 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16x2048x1024 : Shape := ⟨3, ![16, 2048, 1024]⟩
abbrev S16x6144 : Shape := ⟨2, ![16, 6144]⟩
abbrev S1x1024 : Shape := ⟨2, ![1, 1024]⟩
abbrev S1x1024x4608 : Shape := ⟨3, ![1, 1024, 4608]⟩
abbrev S16x1x6144 : Shape := ⟨3, ![16, 1, 6144]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4608 : Shape := ⟨2, ![1024, 4608]⟩
abbrev S16x2048x4608 : Shape := ⟨3, ![16, 2048, 4608]⟩
abbrev S32768x4608 : Shape := ⟨2, ![32768, 4608]⟩
abbrev S32768x1792 : Shape := ⟨2, ![32768, 1792]⟩
abbrev S32768x768 : Shape := ⟨2, ![32768, 768]⟩
abbrev S32768x1024 : Shape := ⟨2, ![32768, 1024]⟩
abbrev S32768x512 : Shape := ⟨2, ![32768, 512]⟩
abbrev S32768x256 : Shape := ⟨2, ![32768, 256]⟩
abbrev S32768x4x1x64 : Shape := ⟨4, ![32768, 4, 1, 64]⟩
abbrev S32768x4x2x64 : Shape := ⟨4, ![32768, 4, 2, 64]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024, .f32⟩
  | .hbm, ⟨3, _⟩ => ⟨S1x1024x4608, .f32⟩
  | .hbm, ⟨4, _⟩ => ⟨S16x1x6144, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S1024x4608, .f32⟩
  | .hbm, ⟨36, _⟩ => ⟨S16x2048x4608, .f32⟩
  | .hbm, ⟨37, _⟩ => ⟨S32768x4608, .f32⟩
  | .hbm, ⟨38, _⟩ => ⟨S32768x1792, .f32⟩
  | .hbm, ⟨39, _⟩ => ⟨S32768x768, .f32⟩
  | .hbm, ⟨40, _⟩ => ⟨S32768x1024, .f32⟩
  | .hbm, ⟨41, _⟩ => ⟨S32768x1024, .f32⟩
  | .hbm, ⟨42, _⟩ => ⟨S32768x512, .f32⟩
  | .hbm, ⟨43, _⟩ => ⟨S32768x256, .f32⟩
  | .hbm, ⟨44, _⟩ => ⟨S32768x4x1x64, .f32⟩
  | .hbm, ⟨45, _⟩ => ⟨S32768x4x2x64, .f32⟩
  | .hbm, ⟨46, _⟩ => ⟨S32768x512, .f32⟩
  | .hbm, ⟨47, _⟩ => ⟨S32768x512, .bf16⟩
  | .hbm, ⟨48, _⟩ => ⟨S32768x512, .bf16⟩
  | .hbm, ⟨49, _⟩ => ⟨S32768x1024, .bf16⟩
  | .hbm, ⟨50, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel4.lean ====
abbrev S16x1024 : Shape := ⟨2, ![16, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S16x6144 : Shape := ⟨2, ![16, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x6144, .f32⟩
  | .hbm, ⟨13, _⟩ => ⟨S16x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S32768x512 : Shape := ⟨2, ![32768, 512]⟩
abbrev S32768x256 : Shape := ⟨2, ![32768, 256]⟩
abbrev S1x8 : Shape := ⟨2, ![1, 8]⟩
abbrev S512 : Shape := ⟨1, ![512]⟩
abbrev S_ : Shape := ⟨0, ![]⟩
abbrev S512x1 : Shape := ⟨2, ![512, 1]⟩
abbrev S8 : Shape := ⟨1, ![8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S2x128x256 : Shape := ⟨3, ![2, 128, 256]⟩
abbrev S2x1x128x256 : Shape := ⟨4, ![2, 1, 128, 256]⟩
abbrev S1x8x128x256 : Shape := ⟨4, ![1, 8, 128, 256]⟩
abbrev S2x8x128x256 : Shape := ⟨4, ![2, 8, 128, 256]⟩
abbrev S2x4x2x128x256 : Shape := ⟨5, ![2, 4, 2, 128, 256]⟩
abbrev S2x4x128x2x256 : Shape := ⟨5, ![2, 4, 128, 2, 256]⟩
abbrev S2x4x128x512 : Shape := ⟨4, ![2, 4, 128, 512]⟩
abbrev S512x512 : Shape := ⟨2, ![512, 512]⟩
abbrev S128x512 : Shape := ⟨2, ![128, 512]⟩
abbrev S1x4x128x512 : Shape := ⟨4, ![1, 4, 128, 512]⟩
abbrev S640x512 : Shape := ⟨2, ![640, 512]⟩
abbrev S256x512 : Shape := ⟨2, ![256, 512]⟩
abbrev S256x128 : Shape := ⟨2, ![256, 128]⟩
abbrev S128x128 : Shape := ⟨2, ![128, 128]⟩
abbrev S512x128 : Shape := ⟨2, ![512, 128]⟩
abbrev S1x1x128x512 : Shape := ⟨4, ![1, 1, 128, 512]⟩
abbrev S1 : Shape := ⟨1, ![1]⟩

abbrev nBuf : Space → Nat
  | .hbm => 116
  | .vmem => 11
  | .smem => 1
  | _ => 0

abbrev bufTy : (tb : Table) → Fin (tcTables nBuf tb) → BufTy
  | .hbm, ⟨0, _⟩ => ⟨S32768x512, .bf16⟩
  | .hbm, ⟨1, _⟩ => ⟨S32768x256, .bf16⟩
  | .hbm, ⟨2, _⟩ => ⟨S1x8, .f32⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i1⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S_, .i32⟩
  | .hbm, ⟨41, _⟩ => ⟨S_, .i1⟩
  | .hbm, ⟨42, _⟩ => ⟨S512, .i1⟩
  | .hbm, ⟨43, _⟩ => ⟨S512, .i1⟩
  | .hbm, ⟨44, _⟩ => ⟨S512, .i1⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S512x1, .i32⟩
  | .hbm, ⟨57, _⟩ => ⟨S32768x512, .bf16⟩
  | .hbm, ⟨58, _⟩ => ⟨S8, .f32⟩
  | .hbm, ⟨59, _⟩ => ⟨S128, .i32⟩
  | .hbm, ⟨60, _⟩ => ⟨S128x1, .i32⟩
  | .hbm, ⟨61, _⟩ => ⟨S256, .i32⟩
  | .hbm, ⟨62, _⟩ => ⟨S1x256, .i32⟩
  | .hbm, ⟨63, _⟩ => ⟨S_, .i32⟩
  | .hbm, ⟨64, _⟩ => ⟨S128x1, .i32⟩
  | .hbm, ⟨65, _⟩ => ⟨S128x1, .i32⟩
  | .hbm, ⟨66, _⟩ => ⟨S128x256, .i32⟩
  | .hbm, ⟨67, _⟩ => ⟨S128x256, .i32⟩
  | .hbm, ⟨68, _⟩ => ⟨S128x256, .i32⟩
  | .hbm, ⟨69, _⟩ => ⟨S_, .i32⟩
  | .hbm, ⟨70, _⟩ => ⟨S128x256, .i32⟩
  | .hbm, ⟨71, _⟩ => ⟨S128x256, .i1⟩
  | .hbm, ⟨72, _⟩ => ⟨S_, .i32⟩
  | .hbm, ⟨73, _⟩ => ⟨S128x256, .i32⟩
  | .hbm, ⟨74, _⟩ => ⟨S128x256, .i1⟩
  | .hbm, ⟨75, _⟩ => ⟨S128x256, .i1⟩
  | .hbm, ⟨76, _⟩ => ⟨S8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S8x1x1, .f32⟩
  | .hbm, ⟨90, _⟩ => ⟨S8x1x1, .f32⟩
  | .hbm, ⟨91, _⟩ => ⟨S128x256, .f32⟩
  | .hbm, ⟨92, _⟩ => ⟨S1x128x256, .f32⟩
  | .hbm, ⟨93, _⟩ => ⟨S8x128x256, .f32⟩
  | .hbm, ⟨94, _⟩ => ⟨S8x128x256, .f32⟩
  | .hbm, ⟨95, _⟩ => ⟨S8x128x256, .f32⟩
  | .hbm, ⟨96, _⟩ => ⟨S_, .i32⟩
  | .hbm, ⟨97, _⟩ => ⟨S1x256, .i32⟩
  | .hbm, ⟨98, _⟩ => ⟨S1x256, .i1⟩
  | .hbm, ⟨99, _⟩ => ⟨S128x256, .i1⟩
  | .hbm, ⟨100, _⟩ => ⟨S128x256, .i1⟩
  | .hbm, ⟨101, _⟩ => ⟨S1x128x256, .i1⟩
  | .hbm, ⟨102, _⟩ => ⟨S1x128x256, .i1⟩
  | .hbm, ⟨103, _⟩ => ⟨S2x128x256, .i1⟩
  | .hbm, ⟨104, _⟩ => ⟨S2x1x128x256, .i1⟩
  | .hbm, ⟨105, _⟩ => ⟨S1x8x128x256, .f32⟩
  | .hbm, ⟨106, _⟩ => ⟨S_, .f32⟩
  | .hbm, ⟨107, _⟩ => ⟨S_, .f32⟩
  | .hbm, ⟨108, _⟩ => ⟨S2x8x128x256, .i1⟩
  | .hbm, ⟨109, _⟩ => ⟨S2x8x128x256, .f32⟩
  | .hbm, ⟨110, _⟩ => ⟨S2x8x128x256, .f32⟩
  | .hbm, ⟨111, _⟩ => ⟨S2x8x128x256, .f32⟩
  | .hbm, ⟨112, _⟩ => ⟨S2x4x2x128x256, .f32⟩
  | .hbm, ⟨113, _⟩ => ⟨S2x4x128x2x256, .f32⟩
  | .hbm, ⟨114, _⟩ => ⟨S2x4x128x512, .f32⟩
  | .hbm, ⟨115, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S1x4x128x512, .f32⟩
  | .local _ .vmem, ⟨7, _⟩ => ⟨S1x4x128x512, .f32⟩
  | .local _ .vmem, ⟨8, _⟩ => ⟨S1x4x128x512, .f32⟩
  | .local _ .vmem, ⟨9, _⟩ => ⟨S512x512, .bf16⟩
  | .local _ .vmem, ⟨10, _⟩ => ⟨S512x512, .bf16⟩
  | .local _ .smem, ⟨0, _⟩ => ⟨S8, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_1 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_c_4 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_5 : Ref sig .tc := ⟨.hbm, 69, rfl⟩
abbrev main_v24 : Ref sig .tc := ⟨.hbm, 70, rfl⟩
abbrev main_v25 : Ref sig .tc := ⟨.hbm, 71, rfl⟩
abbrev main_c_6 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_cst : Ref sig .tc := ⟨.hbm, 77, rfl⟩
abbrev main_v30 : Ref sig .tc := ⟨.hbm, 78, rfl⟩
abbrev main_v31 : Ref sig .tc := ⟨.hbm, 79, rfl⟩
abbrev main_cst_7 : Ref sig .tc := ⟨.hbm, 80, rfl⟩
abbrev main_v32 : Ref sig .tc := ⟨.hbm, 81, rfl⟩
abbrev main_v33 : Ref sig .tc := ⟨.hbm, 82, rfl⟩
abbrev main_cst_8 : Ref sig .tc := ⟨.hbm, 83, rfl⟩
abbrev main_v34 : Ref sig .tc := ⟨.hbm, 84, rfl⟩
abbrev main_v35 : Ref sig .tc := ⟨.hbm, 85, rfl⟩
abbrev main_cst_9 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_c_10 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_11 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S32768x512 : Shape := ⟨2, ![32768, 512]⟩
abbrev S32768x256 : Shape := ⟨2, ![32768, 256]⟩
abbrev S1x8 : Shape := ⟨2, ![1, 8]⟩
abbrev S16x2048x4x64 : Shape := ⟨4, ![16, 2048, 4, 64]⟩
abbrev S16x2048x2x64 : Shape := ⟨4, ![16, 2048, 2, 64]⟩
abbrev S16x2048x2x4x64 : Shape := ⟨5, ![16, 2048, 2, 4, 64]⟩
abbrev S16x2048x8x64 : Shape := ⟨4, ![16, 2048, 8, 64]⟩
abbrev S16x16x128x8x64 : Shape := ⟨5, ![16, 16, 128, 8, 64]⟩
abbrev S_ : Shape := ⟨0, ![]⟩
abbrev S16x2176x8x64 : Shape := ⟨4, ![16, 2176, 8, 64]⟩
abbrev S16x17x128x8x64 : Shape := ⟨5, ![16, 17, 128, 8, 64]⟩
abbrev S16x16x256x8x64 : Shape := ⟨5, ![16, 16, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x128x256 : Shape := ⟨3, ![1, 128, 256]⟩
abbrev S8x128x256 : Shape := ⟨3, ![8, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S16x16x8x128x256 : Shape := ⟨5, ![16, 16, 8, 128, 256]⟩
abbrev S1x1x8x128x256 : Shape := ⟨5, ![1, 1, 8, 128, 256]⟩
abbrev S16x1x128x256 : Shape := ⟨4, ![16, 1, 128, 256]⟩
abbrev S16x16x8x128 : Shape := ⟨4, ![16, 16, 8, 128]⟩
abbrev S16x16x8x128x1 : Shape := ⟨5, ![16, 16, 8, 128, 1]⟩
abbrev S1x1x8x1x1 : Shape := ⟨5, ![1, 1, 8, 1, 1]⟩
abbrev S16x16x8x64x128 : Shape := ⟨5, ![16, 16, 8, 64, 128]⟩

abbrev nBuf : Space → Nat
  | .hbm => 121
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x256, .bf16⟩
  | .hbm, ⟨2, _⟩ => ⟨S1x8, .f32⟩
  | .hbm, ⟨3, _⟩ => ⟨S32768x256, .f32⟩
  | .hbm, ⟨4, _⟩ => ⟨S16x2048x4x64, .f32⟩
  | .hbm, ⟨5, _⟩ => ⟨S16x2048x2x64, .f32⟩
  | .hbm, ⟨6, _⟩ => ⟨S16x2048x2x64, .f32⟩
  | .hbm, ⟨7, _⟩ => ⟨S16x2048x2x4x64, .f32⟩
  | .hbm, ⟨8, _⟩ => ⟨S16x2048x8x64, .f32⟩
  | .hbm, ⟨9, _⟩ => ⟨S16x2048x2x4x64, .f32⟩
  | .hbm, ⟨10, _⟩ => ⟨S16x2048x8x64, .f32⟩
  | .hbm, ⟨11, _⟩ => ⟨S32768x512, .f32⟩
  | .hbm, ⟨12, _⟩ => ⟨S16x16x128x8x64, .f32⟩
  | .hbm, ⟨13, _⟩ => ⟨S_, .i32⟩
  | .hbm, ⟨14, _⟩ => ⟨S_, .f32⟩
  | .hbm, ⟨15, _⟩ => ⟨S16x2176x8x64, .f32⟩
  | .hbm, ⟨16, _⟩ => ⟨S16x17x128x8x64, .f32⟩
  | .hbm, ⟨17, _⟩ => ⟨S16x16x128x8x64, .f32⟩
  | .hbm, ⟨18, _⟩ => ⟨S16x16x128x8x64, .f32⟩
  | .hbm, ⟨19, _⟩ => ⟨S16x16x256x8x64, .f32⟩
  | .hbm, ⟨20, _⟩ => ⟨S_, .i32⟩
  | .hbm, ⟨21, _⟩ => ⟨S_, .f32⟩
  | .hbm, ⟨22, _⟩ => ⟨S16x2176x8x64, .f32⟩
  | .hbm, ⟨23, _⟩ => ⟨S16x17x128x8x64, .f32⟩
  | .hbm, ⟨24, _⟩ => ⟨S16x16x128x8x64, .f32⟩
  | .hbm, ⟨25, _⟩ => ⟨S16x16x128x8x64, .f32⟩
  | .hbm, ⟨26, _⟩ => ⟨S16x16x256x8x64, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S8x1x1, .f32⟩
  | .hbm, ⟨58, _⟩ => ⟨S8x1x1, .f32⟩
  | .hbm, ⟨59, _⟩ => ⟨S128x256, .f32⟩
  | .hbm, ⟨60, _⟩ => ⟨S1x128x256, .f32⟩
  | .hbm, ⟨61, _⟩ => ⟨S8x128x256, .f32⟩
  | .hbm, ⟨62, _⟩ => ⟨S8x128x256, .f32⟩
  | .hbm, ⟨63, _⟩ => ⟨S8x128x256, .f32⟩
  | .hbm, ⟨64, _⟩ => ⟨S8, .f32⟩
  | .hbm, ⟨65, _⟩ => ⟨S8x1x1, .f32⟩
  | .hbm, ⟨66, _⟩ => ⟨S16, .i32⟩
  | .hbm, ⟨67, _⟩ => ⟨S16x1x1, .i32⟩
  | .hbm, ⟨68, _⟩ => ⟨S_, .i32⟩
  | .hbm, ⟨69, _⟩ => ⟨S16x1x1, .i32⟩
  | .hbm, ⟨70, _⟩ => ⟨S16x1x1, .i32⟩
  | .hbm, ⟨71, _⟩ => ⟨S1x1x256, .i32⟩
  | .hbm, ⟨72, _⟩ => ⟨S16x1x256, .i32⟩
  | .hbm, ⟨73, _⟩ => ⟨S16x1x256, .i32⟩
  | .hbm, ⟨74, _⟩ => ⟨S16x1x256, .i32⟩
  | .hbm, ⟨75, _⟩ => ⟨S_, .i32⟩
  | .hbm, ⟨76, _⟩ => ⟨S16x1x256, .i32⟩
  | .hbm, ⟨77, _⟩ => ⟨S16x1x256, .i32⟩
  | .hbm, ⟨78, _⟩ => ⟨S_, .i32⟩
  | .hbm, ⟨79, _⟩ => ⟨S16x1x256, .i32⟩
  | .hbm, ⟨80, _⟩ => ⟨S16x1x256, .i1⟩
  | .hbm, ⟨81, _⟩ => ⟨S1x128x256, .i1⟩
  | .hbm, ⟨82, _⟩ => ⟨S16x128x256, .i1⟩
  | .hbm, ⟨83, _⟩ => ⟨S16x128x256, .i1⟩
  | .hbm, ⟨84, _⟩ => ⟨S16x128x256, .i1⟩
  | .hbm, ⟨85, _⟩ => ⟨S16x16x8x128x256, .f32⟩
  | .hbm, ⟨86, _⟩ => ⟨S_, .f32⟩
  | .hbm, ⟨87, _⟩ => ⟨S16x16x8x128x256, .f32⟩
  | .hbm, ⟨88, _⟩ => ⟨S16x16x8x128x256, .f32⟩
  | .hbm, ⟨89, _⟩ => ⟨S1x1x8x128x256, .f32⟩
  | .hbm, ⟨90, _⟩ => ⟨S16x16x8x128x256, .f32⟩
  | .hbm, ⟨91, _⟩ => ⟨S16x16x8x128x256, .f32⟩
  | .hbm, ⟨92, _⟩ => ⟨S16x1x128x256, .i1⟩
  | .hbm, ⟨93, _⟩ => ⟨S_, .f32⟩
  | .hbm, ⟨94, _⟩ => ⟨S_, .f32⟩
  | .hbm, ⟨95, _⟩ => ⟨S16x16x8x128x256, .i1⟩
  | .hbm, ⟨96, _⟩ => ⟨S16x16x8x128x256, .f32⟩
  | .hbm, ⟨97, _⟩ => ⟨S16x16x8x128x256, .f32⟩
  | .hbm, ⟨98, _⟩ => ⟨S_, .f32⟩
  | .hbm, ⟨99, _⟩ => ⟨S16x16x8x128, .f32⟩
  | .hbm, ⟨100, _⟩ => ⟨S16x16x8x128x1, .f32⟩
  | .hbm, ⟨101, _⟩ => ⟨S1x1x8x1x1, .f32⟩
  | .hbm, ⟨102, _⟩ => ⟨S16x16x8x128x1, .f32⟩
  | .hbm, ⟨103, _⟩ => ⟨S16x16x8x128x1, .f32⟩
  | .hbm, ⟨104, _⟩ => ⟨S16x16x8x128x256, .f32⟩
  | .hbm, ⟨105, _⟩ => ⟨S16x16x8x128x256, .f32⟩
  | .hbm, ⟨106, _⟩ => ⟨S16x16x8x128x256, .f32⟩
  | .hbm, ⟨107, _⟩ => ⟨S_, .f32⟩
  | .hbm, ⟨108, _⟩ => ⟨S16x16x8x128, .f32⟩
  | .hbm, ⟨109, _⟩ => ⟨S16x16x8x128x1, .f32⟩
  | .hbm, ⟨110, _⟩ => ⟨S1x1x8x1x1, .f32⟩
  | .hbm, ⟨111, _⟩ => ⟨S16x16x8x128x1, .f32⟩
  | .hbm, ⟨112, _⟩ => ⟨S16x16x8x128x1, .f32⟩
  | .hbm, ⟨113, _⟩ => ⟨S16x16x8x128x1, .f32⟩
  | .hbm, ⟨114, _⟩ => ⟨S16x16x8x128x1, .f32⟩
  | .hbm, ⟨115, _⟩ => ⟨S16x16x8x128x256, .f32⟩
  | .hbm, ⟨116, _⟩ => ⟨S16x16x8x128x256, .f32⟩
  | .hbm, ⟨117, _⟩ => ⟨S16x16x8x64x128, .f32⟩
  | .hbm, ⟨118, _⟩ => ⟨S16x16x128x8x64, .f32⟩
  | .hbm, ⟨119, _⟩ => ⟨S32768x512, .f32⟩
  | .hbm, ⟨120, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_8 : Ref sig .tc := ⟨.hbm, 75, rfl⟩
abbrev main_v60 : Ref sig .tc := ⟨.hbm, 76, rfl⟩
abbrev main_v61 : Ref sig .tc := ⟨.hbm, 77, rfl⟩
abbrev main_c_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩

abbrev nD : Nat := 1
abbrev τ : Topo := Topo.v7x

variable {F : FTy → Type} [FloatOps F]
-- ==== Proof.Ring.lean ====
/-
  A RING of slots in fast memory, fed block by block from (or drained block by block to) an array left in HBM by
  transfers of the kernel's own, each slot with a DMA cell of its own. What a ring holds between the steps of one trip
  is stated here once, over any slots, blocks and cells, with the contents of every block named; the kernel has seven
  rings that read (three slots each) and two that write (two slots each).
-/
module

public import proofs.«01_k».proof.Proof.Gen.KernelIdeal.Launch
public import Idealize.ShloMosaic.Lib.Pipeline.FrameValue
public import Idealize.ShloMosaic.Lib.Ring
public import Idealize.ShloMosaic.Lib.Memref
public import Idealize.ShloMosaic.Lib.Transfers
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

/-- A flight that delivers `D` delivers anything `D` yields. -/
theorem flight_mono (c : Dev nD) (sm : SemLoc sig) (N : ℕ) {D D' : sProp 𝕄} (h : D ⊢ D') :
    Flight (countersEmb (U := Pipeline.UD sig nD τ)) (c : Thread nD τ) sm () N D ⊢ Flight (countersEmb (U := Pipeline.UD sig nD τ)) (c : Thread nD τ) sm () N D' := by
  unfold Flight
  iintro ⟨⟨%R, HR, %h1, %h2⟩, Hc⟩
  isplitl [HR]
  · iexists R
    isplitl [HR]; · iexact HR
    isplitr
    · ipureintro
      intro K
      refine BIBase.Entails.trans ?_ (h1 K)
      iintro ⟨HR, HK⟩
      isplitl [HR]; · iexact HR
      iintro ⟨Hs, HD⟩
      iapply HK
      isplitl [Hs]; · iexact Hs
      iapply h; iexact HD
    · ipureintro; exact h2
  · iexact Hc

/-- The counter of DMA cell `x` at zero. -/
abbrev zero (c : Dev nD) (x : DmaSem sig) : sProp 𝕄 := semVal ((c : Thread nD τ), SemLoc.dma x) 0

/-- A transfer in flight on DMA cell `x` of `N` credits, delivering both its ends at contents `d`: the destination
    and the source. -/
abbrev flying (c : Dev nD) {sp sp' : Space} {s : Shape} {e : EltTy} (x : DmaSem sig) (N : ℕ)
    (dst : Memref sig .tc sp' s e) (src : Memref sig .tc sp s e) (d : s.Idx → Elt F e) : sProp 𝕄 :=
  Flight (countersEmb (U := Pipeline.UD sig nD τ)) (c : Thread nD τ) (.dma x) () N
    iprop(owns (c : Thread nD τ) dst fullShare d ∗ owns (c : Thread nD τ) src fullShare d)

section Rules

variable {sp sp' : Space} {s : Shape} {e : EltTy}

/-- A copy is issued: of a source whose contents are named, into a destination held at any contents, on a cell at
    zero. The memrefs and the cell of the program are named by equations. -/
theorem wp_issue (c : Dev nD) {α : Type} {src src' : Memref sig .tc sp s e} {dst dst' : Memref sig .tc sp' s e} {x x' : DmaSem sig} {N : ℕ}
    (hs : src = src') (hd : dst = dst') (hx : x = x') (hN : dst'.view.dmaCredit = N) (hN0 : 0 < N)
    {hsrc : src.view.WordExact} {hdst : dst.view.WordExact} {hsem : DmaTarget.Typed (nD := nD) (p := Proc.tc (τ := τ)) sp (.dma x) (.here dst)}
    {k : PUnit → Prog (TpuEff nD τ sig (Elt F) Λ₀ .tc) α} {Q : α → sProp 𝕄} {d : s.Idx → Elt F e} :
    iprop(owns (c : Thread nD τ) src' fullShare d ∗ (∃ d₀, owns (c : Thread nD τ) dst' fullShare d₀) ∗ zero c x'
        ∗ (flying c x' N dst' src' d -∗ wp frame (wpE (defs₀ (F := F)) Variants.none c none) Set.univ (k ⟨⟩) Q))
      ⊢ wp frame (wpE (defs₀ (F := F)) Variants.none c none) Set.univ
          (.op (.enqueueDma src (.here dst) (.dma x) hsrc hdst hsem) k) Q := by
  subst hs hd hx
  iintro ⟨Hs, ⟨%d₀, Hd⟩, Hz, Hk⟩
  unfold owns
  icases Hs with ⟨%fs, %hfs, Hs⟩
  icases Hd with ⟨%fd, %hfd, Hd⟩
  iapply (Transfers.wp_dmaLocal (countersEmb (U := Pipeline.UD sig nD τ)) Variants.none (c : Thread nD τ) none () N (Q := Q)
    (via := .same) (hN := show dst.view.amount (.dma x) = N from hN) (hN0 := hN0) (hSd := Finset.Subset.refl _)) $$ [Hs Hd Hz]
  · isplitl [Hs]; · iexact Hs
    isplitl [Hd]; · iexact Hd
    iexact Hz
  iintro HF
  iapply Hk
  iapply (flight_mono c (.dma x) N ?_) $$ HF
  unfold owns
  iintro ⟨Hd, Hs⟩
  isplitl [Hd]
  · iexists _
    isplitr; swap; · iexact Hd
    ipureintro
    rw [View.read_write_univ]; exact hfs
  · iexists fs
    isplitr; · ipureintro; exact hfs
    iexact Hs

/-- A copy in flight is awaited: only the cell and the credit need match. -/
theorem wp_await (c : Dev nD) {α : Type} {s' : Shape} {e' : EltTy} {sp₂ sp₂' : Space} {srcw : Memref sig .tc sp₂' s' e'} {s₂ : Shape} {e₂ : EltTy} {dstw : Memref sig .tc sp₂ s₂ e₂}
    {x x' : DmaSem sig} {N : ℕ} (hx : x = x') (hN : dstw.view.dmaCredit = N)
    {hsrc : srcw.view.WordExact} {hdst : dstw.view.WordExact}
    {k : PUnit → Prog (TpuEff nD τ sig (Elt F) Λ₀ .tc) α} {Q : α → sProp 𝕄} {dst : Memref sig .tc sp' s e} {src : Memref sig .tc sp s e} {d : s.Idx → Elt F e} :
    iprop(flying c x' N dst src d ∗ (∃ W, owes (c : Thread nD τ) 0 W)
        ∗ (owns (c : Thread nD τ) dst fullShare d -∗ owns (c : Thread nD τ) src fullShare d -∗ zero c x' -∗ (∃ W, owes (c : Thread nD τ) 0 W)
            -∗ wp frame (wpE (defs₀ (F := F)) Variants.none c none) Set.univ (k ⟨⟩) Q))
      ⊢ wp frame (wpE (defs₀ (F := F)) Variants.none c none) Set.univ (.op (.waitDma2 x srcw dstw hsrc hdst) k) Q := by
  subst hx
  iintro ⟨HF, ⟨%W, HW⟩, Hk⟩
  iapply (Transfers.wp_waitLocal (countersEmb (U := Pipeline.UD sig nD τ)) Variants.none (c : Thread nD τ) none () (hN := hN) (Q := Q)) $$ [HF HW]
  · isplitl [HF]; · iexact HF
    iexact HW
  iintro ⟨⟨Hd, Hs⟩, Hz, HW⟩
  iapply Hk $$ Hd Hs Hz
  iexists _; iexact HW

end Rules

/-! ## A ring that reads -/

/-- The slot of three that block `k` takes. -/
def sl3 (k : ℕ) : Fin 3 := ⟨k % 3, Nat.mod_lt _ (by decide)⟩
/-- The slot of two that block `k` takes. -/
def sl2 (k : ℕ) : Fin 2 := ⟨k % 2, Nat.mod_lt _ (by decide)⟩

theorem sl3_add (k : ℕ) : sl3 (k + 3) = sl3 k := Fin.ext (by unfold sl3; simp)
theorem sl2_add (k : ℕ) : sl2 (k + 2) = sl2 k := Fin.ext (by unfold sl2; simp)

/-- A ring of `n` slots over 64 blocks: the slots, the blocks, the cells, and the credit of one transfer. -/
structure Ring (n : ℕ) (s : Shape) (e : EltTy) where
  /-- the slots -/
  S : Fin n → Memref sig .tc .vmem s e
  /-- the blocks of the array in HBM -/
  B : Fin 64 → Memref sig .tc .hbm s e
  /-- the cell of each slot -/
  x : Fin n → DmaSem sig
  /-- the credit of one transfer -/
  N : ℕ
  pos : 0 < N
  creditS : ∀ i, (S i).view.dmaCredit = N
  creditB : ∀ i, (B i).view.dmaCredit = N

section States

variable {s : Shape} {e : EltTy} (c : Dev nD)

/-- The blocks outside `lo ≤ b < hi`, at home in the array. -/
def home {n : ℕ} (r : Ring n s e) (D : Fin 64 → s.Idx → Elt F e) (lo hi : ℕ) : sProp 𝕄 :=
  bigSep (Finset.univ.filter fun b : Fin 64 => b.val < lo ∨ hi ≤ b.val) fun b => owns (c : Thread nD τ) (r.B b) fullShare (D b)

theorem home_take {n : ℕ} (r : Ring n s e) (D : Fin 64 → s.Idx → Elt F e) (lo hi : ℕ) (h : hi < 64) (hl : lo ≤ hi) :
    home c r D lo hi ⊢ (iprop(owns (c : Thread nD τ) (r.B ⟨hi, h⟩) fullShare (D ⟨hi, h⟩) ∗ home c r D lo (hi + 1)) : sProp 𝕄) := by
  unfold home
  rw [bigSep_erase (i := (⟨hi, h⟩ : Fin 64)) (by simp)]
  refine Entails.of_eq ?_
  congr 2
  ext b
  simp only [Finset.mem_erase, Finset.mem_filter, Finset.mem_univ, true_and, ne_eq, Fin.ext_iff]
  omega

theorem home_put {n : ℕ} (r : Ring n s e) (D : Fin 64 → s.Idx → Elt F e) (lo hi : ℕ) (h : lo < 64) (hl : lo < hi) :
    iprop(owns (c : Thread nD τ) (r.B ⟨lo, h⟩) fullShare (D ⟨lo, h⟩) ∗ home c r D lo hi) ⊢ (home c r D (lo + 1) hi : sProp 𝕄) := by
  unfold home
  rw [bigSep_erase (s := Finset.univ.filter fun b : Fin 64 => b.val < lo + 1 ∨ hi ≤ b.val) (i := (⟨lo, h⟩ : Fin 64)) (by simp)]
  refine Entails.of_eq ?_
  congr 2
  ext b
  simp only [Finset.mem_erase, Finset.mem_filter, Finset.mem_univ, true_and, ne_eq, Fin.ext_iff]
  omega

theorem home_of_eq {n : ℕ} (r : Ring n s e) (D : Fin 64 → s.Idx → Elt F e) (lo hi lo' hi' : ℕ)
    (h : ∀ b : Fin 64, (b.val < lo ∨ hi ≤ b.val) ↔ (b.val < lo' ∨ hi' ≤ b.val)) :
    home c r D lo hi = (home c r D lo' hi' : sProp 𝕄) := by
  unfold home
  congr 1
  ext b
  simp only [Finset.mem_filter, Finset.mem_univ, true_and]
  exact h b

/-- Slot `i` free: its cell at zero, its contents anything. -/
def free {n : ℕ} (r : Ring n s e) (i : Fin n) : sProp 𝕄 :=
  iprop(zero c (r.x i) ∗ ∃ d, owns (c : Thread nD τ) (r.S i) fullShare d)

/-- Block `b` on its way into slot `i`. -/
def coming {n : ℕ} (r : Ring n s e) (D : Fin 64 → s.Idx → Elt F e) (i : Fin n) (b : Fin 64) : sProp 𝕄 :=
  flying c (r.x i) r.N (r.S i) (r.B b) (D b)

/-- The slot of block `k`: the block on its way into it, or, past the last block, free. -/
def role (r : Ring 3 s e) (D : Fin 64 → s.Idx → Elt F e) (k : ℕ) : sProp 𝕄 :=
  if h : k < 64 then coming c r D (sl3 k) ⟨k, h⟩ else free c r (sl3 k)

theorem role_lt (r : Ring 3 s e) (D : Fin 64 → s.Idx → Elt F e) {k : ℕ} (h : k < 64) : role c r D k = (coming c r D (sl3 k) ⟨k, h⟩ : sProp 𝕄) := dif_pos h
theorem role_ge (r : Ring 3 s e) (D : Fin 64 → s.Idx → Elt F e) {k : ℕ} (h : ¬ k < 64) : role c r D k = (free c r (sl3 k) : sProp 𝕄) := dif_neg h

/-- A reading ring as trip `k` begins: blocks `k` and `k + 1` on their way, the third slot free. -/
def rd0 (r : Ring 3 s e) (D : Fin 64 → s.Idx → Elt F e) (k : ℕ) : sProp 𝕄 :=
  iprop(home c r D k (k + 2) ∗ role c r D k ∗ role c r D (k + 1) ∗ free c r (sl3 (k + 2)))
/-- … once block `k + 2`, if there is one, has been sent for. -/
def rd1 (r : Ring 3 s e) (D : Fin 64 → s.Idx → Elt F e) (k : ℕ) : sProp 𝕄 :=
  iprop(home c r D k (k + 3) ∗ role c r D k ∗ role c r D (k + 1) ∗ role c r D (k + 2))
/-- … once block `k` has landed. -/
def rd2 (r : Ring 3 s e) (D : Fin 64 → s.Idx → Elt F e) (k : Fin 64) : sProp 𝕄 :=
  iprop(owns (c : Thread nD τ) (r.S (sl3 k)) fullShare (D k) ∗ zero c (r.x (sl3 k)) ∗ home c r D (k + 1) (k + 3) ∗ role c r D (k + 1) ∗ role c r D (k + 2))

/-- No block is left to send for. -/
theorem rd_skip (r : Ring 3 s e) (D : Fin 64 → s.Idx → Elt F e) (k : ℕ) (h : ¬ k + 2 < 64) : rd0 c r D k ⊢ (rd1 c r D k : sProp 𝕄) := by
  unfold rd0 rd1
  rw [role_ge c r D h, home_of_eq c r D k (k + 2) k (k + 3) (fun b => by omega)]

/-- The trip is over. -/
theorem rd_next (r : Ring 3 s e) (D : Fin 64 → s.Idx → Elt F e) (k : Fin 64) : rd2 c r D k ⊢ (rd0 c r D (k + 1) : sProp 𝕄) := by
  unfold rd0 rd2 free
  iintro ⟨H1, H2, H3, H4, H5⟩
  isplitl [H3]; · iexact H3
  isplitl [H4]; · iexact H4
  isplitl [H5]; · iexact H5
  rw [show k.val + 1 + 2 = k.val + 3 from rfl, sl3_add]
  isplitl [H2]; · iexact H2
  iexists _; iexact H1

/-- After the last trip every block is home and every slot free. -/
theorem rd_end (r : Ring 3 s e) (D : Fin 64 → s.Idx → Elt F e) :
    rd0 c r D 64 ⊢ (iprop((bigSep Finset.univ fun b => owns (c : Thread nD τ) (r.B b) fullShare (D b)) ∗ free c r 1 ∗ free c r 2 ∗ free c r 0) : sProp 𝕄) := by
  unfold rd0
  rw [role_ge c r D (k := 64) (by omega), role_ge c r D (k := 64 + 1) (by omega)]
  unfold home
  rw [show (Finset.univ.filter fun b : Fin 64 => b.val < 64 ∨ 64 + 2 ≤ b.val) = Finset.univ from by
    ext b; simp [b.isLt]]
  rfl

/-- Before the first block is sent for. -/
theorem rd_begin (r : Ring 3 s e) (D : Fin 64 → s.Idx → Elt F e) :
    (bigSep Finset.univ fun b => owns (c : Thread nD τ) (r.B b) fullShare (D b)) ⊢ (home c r D 0 0 : sProp 𝕄) := by
  unfold home
  rw [show (Finset.univ.filter fun b : Fin 64 => b.val < 0 ∨ 0 ≤ b.val) = Finset.univ from by ext b; simp]

/-- The trip's send for block `k + 2`. -/
theorem wp_send {α : Type} (r : Ring 3 s e) (D : Fin 64 → s.Idx → Elt F e) (k : ℕ) (h : k + 2 < 64)
    {src : Memref sig .tc .hbm s e} {dst : Memref sig .tc .vmem s e} {x : DmaSem sig}
    (hs : src = r.B ⟨k + 2, h⟩) (hd : dst = r.S (sl3 (k + 2))) (hx : x = r.x (sl3 (k + 2)))
    {hsrc : src.view.WordExact} {hdst : dst.view.WordExact} {hsem : DmaTarget.Typed (nD := nD) (p := Proc.tc (τ := τ)) .hbm (.dma x) (.here dst)}
    {K : PUnit → Prog (TpuEff nD τ sig (Elt F) Λ₀ .tc) α} {Q : α → sProp 𝕄} :
    iprop(rd0 c r D k ∗ (rd1 c r D k -∗ wp frame (wpE (defs₀ (F := F)) Variants.none c none) Set.univ (K ⟨⟩) Q))
      ⊢ wp frame (wpE (defs₀ (F := F)) Variants.none c none) Set.univ
          (.op (.enqueueDma src (.here dst) (.dma x) hsrc hdst hsem) K) Q := by
  unfold rd0 rd1 free
  iintro ⟨⟨Hh, H1, H2, Hz, Hd⟩, HK⟩
  ihave Hh := home_take c r D k (k + 2) h (by omega) $$ Hh
  icases Hh with ⟨Hb, Hh⟩
  iapply (wp_issue c hs hd hx (r.creditS _) r.pos)
  isplitl [Hb]; · iexact Hb
  isplitl [Hd]; · iexact Hd
  isplitl [Hz]; · iexact Hz
  iintro HF
  iapply HK
  isplitl [Hh]; · iexact Hh
  isplitl [H1]; · iexact H1
  isplitl [H2]; · iexact H2
  rw [role_lt c r D h]; unfold coming
  iexact HF

/-- The send for block `b` before the trips, `b` being `0` or `1`: the block leaves, the slot is no longer free. -/
theorem wp_prime {α : Type} (r : Ring 3 s e) (D : Fin 64 → s.Idx → Elt F e) (b : Fin 64)
    {src : Memref sig .tc .hbm s e} {dst : Memref sig .tc .vmem s e} {x : DmaSem sig}
    (hs : src = r.B b) (hd : dst = r.S (sl3 b)) (hx : x = r.x (sl3 b))
    {hsrc : src.view.WordExact} {hdst : dst.view.WordExact} {hsem : DmaTarget.Typed (nD := nD) (p := Proc.tc (τ := τ)) .hbm (.dma x) (.here dst)}
    {K : PUnit → Prog (TpuEff nD τ sig (Elt F) Λ₀ .tc) α} {Q : α → sProp 𝕄} :
    iprop((home c r D 0 b ∗ free c r (sl3 b)) ∗ (home c r D 0 (b + 1) ∗ role c r D b -∗ wp frame (wpE (defs₀ (F := F)) Variants.none c none) Set.univ (K ⟨⟩) Q))
      ⊢ wp frame (wpE (defs₀ (F := F)) Variants.none c none) Set.univ
          (.op (.enqueueDma src (.here dst) (.dma x) hsrc hdst hsem) K) Q := by
  unfold free
  iintro ⟨⟨Hh, Hz, Hd⟩, HK⟩
  ihave Hh := home_take c r D 0 b b.isLt (by omega) $$ Hh
  icases Hh with ⟨Hb, Hh⟩
  iapply (wp_issue c hs hd hx (r.creditS _) r.pos)
  isplitl [Hb]; · iexact Hb
  isplitl [Hd]; · iexact Hd
  isplitl [Hz]; · iexact Hz
  iintro HF
  iapply HK
  isplitl [Hh]; · iexact Hh
  rw [role_lt c r D b.isLt]; unfold coming
  iexact HF

/-- The trip's wait for block `k`. -/
theorem wp_arrive {α : Type} (r : Ring 3 s e) (D : Fin 64 → s.Idx → Elt F e) (k : Fin 64)
    {src : Memref sig .tc .hbm s e} {dst : Memref sig .tc .vmem s e} {x : DmaSem sig}
    (hd : dst = r.S (sl3 k)) (hx : x = r.x (sl3 k))
    {hsrc : src.view.WordExact} {hdst : dst.view.WordExact}
    {K : PUnit → Prog (TpuEff nD τ sig (Elt F) Λ₀ .tc) α} {Q : α → sProp 𝕄} :
    iprop((rd1 c r D k ∗ ∃ W, owes (c : Thread nD τ) 0 W)
        ∗ (rd2 c r D k ∗ (∃ W, owes (c : Thread nD τ) 0 W) -∗ wp frame (wpE (defs₀ (F := F)) Variants.none c none) Set.univ (K ⟨⟩) Q))
      ⊢ wp frame (wpE (defs₀ (F := F)) Variants.none c none) Set.univ
          (.op (.waitDma2 x src dst hsrc hdst) K) Q := by
  unfold rd1 rd2
  rw [role_lt c r D k.isLt]; unfold coming
  iintro ⟨⟨⟨Hh, HF, H1, H2⟩, HW⟩, HK⟩
  iapply (wp_await c hx (hd ▸ r.creditS _))
  isplitl [HF]; · iexact HF
  isplitl [HW]; · iexact HW
  iintro Hd Hs Hz HW
  iapply HK
  isplitr [HW]; swap; · iexact HW
  isplitl [Hd]; · iexact Hd
  isplitl [Hz]; · iexact Hz
  isplitl [Hh Hs]
  · iapply (home_put c r D k.val (k.val + 3) k.isLt (by omega))
    isplitl [Hs]; · iexact Hs
    iexact Hh
  isplitl [H1]; · iexact H1
  iexact H2

/-! ## A ring that writes -/

/-- Blocks `lo` and on, at any contents. -/
def todo {n : ℕ} (r : Ring n s e) (lo : ℕ) : sProp 𝕄 :=
  bigSep (Finset.univ.filter fun b : Fin 64 => lo ≤ b.val) fun b => iprop(∃ d, owns (c : Thread nD τ) (r.B b) fullShare d)
/-- Blocks before `hi`, written. -/
def done {n : ℕ} (r : Ring n s e) (D : Fin 64 → s.Idx → Elt F e) (hi : ℕ) : sProp 𝕄 :=
  bigSep (Finset.univ.filter fun b : Fin 64 => b.val < hi) fun b => owns (c : Thread nD τ) (r.B b) fullShare (D b)

/-- Block `b` on its way out of slot `i`. -/
def going {n : ℕ} (r : Ring n s e) (D : Fin 64 → s.Idx → Elt F e) (i : Fin n) (b : Fin 64) : sProp 𝕄 :=
  flying c (r.x i) r.N (r.B b) (r.S i) (D b)

theorem todo_take {n : ℕ} (r : Ring n s e) (lo : Fin 64) :
    todo c r lo ⊢ (iprop((∃ d, owns (c : Thread nD τ) (r.B lo) fullShare d) ∗ todo c r (lo + 1)) : sProp 𝕄) := by
  unfold todo
  rw [bigSep_erase (i := lo) (by simp)]
  refine Entails.of_eq ?_
  congr 2
  ext b
  simp only [Finset.mem_erase, Finset.mem_filter, Finset.mem_univ, true_and, ne_eq, Fin.ext_iff]
  omega

theorem done_put {n : ℕ} (r : Ring n s e) (D : Fin 64 → s.Idx → Elt F e) (hi : Fin 64) :
    iprop(owns (c : Thread nD τ) (r.B hi) fullShare (D hi) ∗ done c r D hi) ⊢ (done c r D (hi + 1) : sProp 𝕄) := by
  unfold done
  rw [bigSep_erase (s := Finset.univ.filter fun b : Fin 64 => b.val < hi + 1) (i := hi) (by simp)]
  refine Entails.of_eq ?_
  congr 2
  ext b
  simp only [Finset.mem_erase, Finset.mem_filter, Finset.mem_univ, true_and, ne_eq, Fin.ext_iff]
  omega

/-- The blocks before `k`: all but the last written, the last on its way; none before the first trip, when the
    slot that follows is free. -/
def tail (r : Ring 2 s e) (D : Fin 64 → s.Idx → Elt F e) : ℕ → sProp 𝕄
  | 0 => iprop(done c r D 0 ∗ free c r (sl2 1))
  | k + 1 => if h : k < 64 then iprop(done c r D k ∗ going c r D (sl2 k) ⟨k, h⟩) else iprop(emp)

theorem tail_zero (r : Ring 2 s e) (D : Fin 64 → s.Idx → Elt F e) : tail c r D 0 = (iprop(done c r D 0 ∗ free c r (sl2 1)) : sProp 𝕄) := rfl
theorem tail_succ (r : Ring 2 s e) (D : Fin 64 → s.Idx → Elt F e) (k : ℕ) (h : k < 64) :
    tail c r D (k + 1) = (iprop(done c r D k ∗ going c r D (sl2 k) ⟨k, h⟩) : sProp 𝕄) := dif_pos h

/-- A writing ring as trip `k` begins: the slot of block `k` free. -/
def wr0 (r : Ring 2 s e) (D : Fin 64 → s.Idx → Elt F e) (k : ℕ) : sProp 𝕄 :=
  iprop(todo c r k ∗ tail c r D k ∗ free c r (sl2 k))
/-- … once its contents have been stored. -/
def wr1 (r : Ring 2 s e) (D : Fin 64 → s.Idx → Elt F e) (k : Fin 64) : sProp 𝕄 :=
  iprop(owns (c : Thread nD τ) (r.S (sl2 k)) fullShare (D k) ∗ todo c r k ∗ tail c r D k ∗ zero c (r.x (sl2 k)))
/-- … once it has been sent. -/
def wr2 (r : Ring 2 s e) (D : Fin 64 → s.Idx → Elt F e) (k : Fin 64) : sProp 𝕄 :=
  iprop(todo c r (k + 1) ∗ tail c r D k ∗ going c r D (sl2 k) k)

/-- The first trip waits for nothing. -/
theorem wr_first (r : Ring 2 s e) (D : Fin 64 → s.Idx → Elt F e) : wr2 c r D 0 ⊢ (wr0 c r D 1 : sProp 𝕄) := by
  unfold wr2 wr0
  rw [tail_succ c r D 0 (by decide), show ((0 : Fin 64) : ℕ) = 0 from rfl, tail_zero]
  iintro ⟨H1, ⟨Hd, Hf⟩, H3⟩
  isplitl [H1]; · iexact H1
  isplitl [Hd H3]
  · isplitl [Hd]; · iexact Hd
    iexact H3
  · iexact Hf

/-- The trip's send of block `k`. -/
theorem wp_post {α : Type} (r : Ring 2 s e) (D : Fin 64 → s.Idx → Elt F e) (k : Fin 64)
    {src : Memref sig .tc .vmem s e} {dst : Memref sig .tc .hbm s e} {x : DmaSem sig}
    (hs : src = r.S (sl2 k)) (hd : dst = r.B k) (hx : x = r.x (sl2 k))
    {hsrc : src.view.WordExact} {hdst : dst.view.WordExact} {hsem : DmaTarget.Typed (nD := nD) (p := Proc.tc (τ := τ)) .vmem (.dma x) (.here dst)}
    {K : PUnit → Prog (TpuEff nD τ sig (Elt F) Λ₀ .tc) α} {Q : α → sProp 𝕄} :
    iprop(wr1 c r D k ∗ (wr2 c r D k -∗ wp frame (wpE (defs₀ (F := F)) Variants.none c none) Set.univ (K ⟨⟩) Q))
      ⊢ wp frame (wpE (defs₀ (F := F)) Variants.none c none) Set.univ
          (.op (.enqueueDma src (.here dst) (.dma x) hsrc hdst hsem) K) Q := by
  unfold wr1 wr2
  iintro ⟨⟨Hs, Ht, Htl, Hz⟩, HK⟩
  ihave Ht := todo_take c r k $$ Ht
  icases Ht with ⟨Hd, Ht⟩
  iapply (wp_issue c hs hd hx (r.creditB _) r.pos)
  isplitl [Hs]; · iexact Hs
  isplitl [Hd]; · iexact Hd
  isplitl [Hz]; · iexact Hz
  iintro HF
  iapply HK
  isplitl [Ht]; · iexact Ht
  isplitl [Htl]; · iexact Htl
  unfold going
  iexact HF

/-- The trip's wait for the block before. -/
theorem wp_posted {α : Type} (r : Ring 2 s e) (D : Fin 64 → s.Idx → Elt F e) (k : ℕ) (h : k + 1 < 64)
    {src : Memref sig .tc .vmem s e} {dst : Memref sig .tc .hbm s e} {x : DmaSem sig}
    (hN : dst.view.dmaCredit = r.N) (hx : x = r.x (sl2 k))
    {hsrc : src.view.WordExact} {hdst : dst.view.WordExact}
    {K : PUnit → Prog (TpuEff nD τ sig (Elt F) Λ₀ .tc) α} {Q : α → sProp 𝕄} :
    iprop((wr2 c r D ⟨k + 1, h⟩ ∗ ∃ W, owes (c : Thread nD τ) 0 W)
        ∗ (wr0 c r D (k + 2) ∗ (∃ W, owes (c : Thread nD τ) 0 W) -∗ wp frame (wpE (defs₀ (F := F)) Variants.none c none) Set.univ (K ⟨⟩) Q))
      ⊢ wp frame (wpE (defs₀ (F := F)) Variants.none c none) Set.univ
          (.op (.waitDma2 x src dst hsrc hdst) K) Q := by
  unfold wr2 wr0
  rw [tail_succ c r D (k + 1) h, tail_succ c r D k (by omega)]; unfold going
  iintro ⟨⟨⟨Ht, ⟨Hdn, HF⟩, HG⟩, HW⟩, HK⟩
  iapply (wp_await c hx hN)
  isplitl [HF]; · iexact HF
  isplitl [HW]; · iexact HW
  iintro Hd Hs Hz HW
  iapply HK
  isplitr [HW]; swap; · iexact HW
  isplitl [Ht]; · iexact Ht
  isplitl [Hdn Hd HG]
  · isplitl [Hdn Hd]
    · iapply (done_put c r D ⟨k, by omega⟩)
      isplitl [Hd]; · iexact Hd
      iexact Hdn
    · iexact HG
  rw [sl2_add]; unfold free
  isplitl [Hz]; · iexact Hz
  iexists _; iexact Hs

/-- The last wait, after the trips. -/
theorem wp_postedLast {α : Type} (r : Ring 2 s e) (D : Fin 64 → s.Idx → Elt F e)
    {src : Memref sig .tc .vmem s e} {dst : Memref sig .tc .hbm s e} {x : DmaSem sig}
    (hN : dst.view.dmaCredit = r.N) (hx : x = r.x 1)
    {hsrc : src.view.WordExact} {hdst : dst.view.WordExact}
    {K : PUnit → Prog (TpuEff nD τ sig (Elt F) Λ₀ .tc) α} {Q : α → sProp 𝕄} :
    iprop((wr0 c r D 64 ∗ ∃ W, owes (c : Thread nD τ) 0 W)
        ∗ (((bigSep Finset.univ fun b => owns (c : Thread nD τ) (r.B b) fullShare (D b)) ∗ free c r 1 ∗ free c r 0) ∗ (∃ W, owes (c : Thread nD τ) 0 W)
            -∗ wp frame (wpE (defs₀ (F := F)) Variants.none c none) Set.univ (K ⟨⟩) Q))
      ⊢ wp frame (wpE (defs₀ (F := F)) Variants.none c none) Set.univ
          (.op (.waitDma2 x src dst hsrc hdst) K) Q := by
  unfold wr0
  rw [tail_succ c r D 63 (by decide)]; unfold going
  iintro ⟨⟨⟨-, ⟨Hdn, HF⟩, Hf⟩, HW⟩, HK⟩
  iapply (wp_await c (x' := r.x (sl2 63)) hx hN)
  isplitl [HF]; · iexact HF
  isplitl [HW]; · iexact HW
  iintro Hd Hs Hz HW
  iapply HK
  isplitr [HW]; swap; · iexact HW
  isplitl [Hdn Hd]
  · ihave H := done_put c r D (⟨63, by decide⟩ : Fin 64) $$ [Hd Hdn]
    · isplitl [Hd]; · iexact Hd
      iexact Hdn
    unfold done
    rw [show (Finset.univ.filter fun b : Fin 64 => b.val < (⟨63, by decide⟩ : Fin 64).val + 1) = Finset.univ from by
      ext b; simp only [Finset.mem_filter, Finset.mem_univ, true_and, iff_true]; omega]
    iexact H
  isplitr [Hf]
  · unfold free
    isplitl [Hz]; · iexact Hz
    iexists _; iexact Hs
  · iexact Hf

/-- Before the first trip every block is still to be written. -/
theorem wr_begin (r : Ring 2 s e) (D : Fin 64 → s.Idx → Elt F e) :
    iprop((bigSep Finset.univ fun b => iprop(∃ d, owns (c : Thread nD τ) (r.B b) fullShare d)) ∗ free c r 0 ∗ free c r 1) ⊢ (wr0 c r D 0 : sProp 𝕄) := by
  unfold wr0
  rw [tail_zero]
  unfold todo done
  rw [show (Finset.univ.filter fun b : Fin 64 => 0 ≤ b.val) = Finset.univ from by ext b; simp,
    show (Finset.univ.filter fun b : Fin 64 => b.val < 0) = ∅ from by ext b; simp, bigSep_empty]
  iintro ⟨H, H0, H1⟩
  isplitl [H]; · iexact H
  isplitl [H1]
  · isplitr; · iempintro
    iexact H1
  iexact H0

end States

end Cert.KernelIdeal.Hand

end
-- ==== Proof.Names.lean ====
/-
  The nine rings by name: the slots of each, the blocks of its array, its cells. A block is the 32 time steps of one
  trip. Beside each name, the equation by which the slot, the block or the cell that a trip computes from its words is
  the one named.
-/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

/-- Slot `i` of ring `X`. -/
def slotX (i : Fin 3) : Memref sig .tc .vmem S16x32x1024 .f32 :=
  ((Memref.whole cc0_scoped0 : Memref sig .tc .vmem S3x16x32x1024 .f32).slice (Rect.unit (s := S3x16x32x1024) ![i.val, 0, 0, 0] S1x16x32x1024.size
    (by revert i; decide +kernel)) (fun _ => rfl)).squeeze S16x32x1024 squeezes_S1x16x32x1024_S16x32x1024
/-- Block `b` of ring `X`'s array. -/
def blkX (b : Fin 64) : Memref sig .tc .hbm S16x32x1024 .f32 :=
  (Memref.whole main_arg0 : Memref sig .tc .hbm S16x2048x1024 .f32).slice (Rect.unit (s := S16x2048x1024) ![0, 32 * b.val, 0] S16x32x1024.size
    (by revert b; decide +kernel)) (fun _ => rfl)
/-- The cell of slot `i` of ring `X`. -/
def cellX (i : Fin 3) : DmaSem sig :=
  ((cc0_scoped1.slice (Rect.unit (s := S3) ![i.val] S1.size (by revert i; decide +kernel))).squeeze S_ squeezes_S1_S_).sem

/-- The ring. -/
def ringX : Ring 3 S16x32x1024 .f32 where
  S := slotX
  B := blkX
  x := cellX
  N := (slotX 0).view.dmaCredit
  pos := by decide +kernel
  creditS := fun _ => rfl
  creditB := fun _ => rfl

theorem slotX_of {off : Fin 4 → ℕ} (inb : ∀ a, off a + S1x16x32x1024.size a ≤ S3x16x32x1024.size a) (i : Fin 3) (h : off = ![i.val, 0, 0, 0]) :
    ((Memref.whole cc0_scoped0 : Memref sig .tc .vmem S3x16x32x1024 .f32).slice (Rect.unit (s := S3x16x32x1024) off S1x16x32x1024.size inb) (fun _ => rfl)).squeeze S16x32x1024 squeezes_S1x16x32x1024_S16x32x1024
      = ringX.S i := by subst h; rfl
theorem blkX_of {off : Fin 3 → ℕ} (inb : ∀ a, off a + S16x32x1024.size a ≤ S16x2048x1024.size a) (b : Fin 64) (h : off = ![0, 32 * b.val, 0]) :
    (Memref.whole main_arg0 : Memref sig .tc .hbm S16x2048x1024 .f32).slice (Rect.unit (s := S16x2048x1024) off S16x32x1024.size inb) (fun _ => rfl)
      = ringX.B b := by subst h; rfl
theorem cellX_of {off : Fin 1 → ℕ} (inb : ∀ a, off a + S1.size a ≤ S3.size a) (i : Fin 3) (h : off = ![i.val]) :
    ((cc0_scoped1.slice (Rect.unit (s := S3) off S1.size inb)).squeeze S_ squeezes_S1_S_).sem = ringX.x i := by subst h; rfl
theorem creditX {off : Fin 3 → ℕ} (inb : ∀ a, off a + S16x32x1024.size a ≤ S16x2048x1024.size a) :
    ((Memref.whole main_arg0 : Memref sig .tc .hbm S16x2048x1024 .f32).slice (Rect.unit (s := S16x2048x1024) off S16x32x1024.size inb) (fun _ => rfl)).view.dmaCredit
      = ringX.N := rfl

/-- Slot `i` of ring `Y`. -/
def slotY (i : Fin 3) : Memref sig .tc .vmem S32x16x512 .f32 :=
  ((Memref.whole cc0_scoped2 : Memref sig .tc .vmem S3x32x16x512 .f32).slice (Rect.unit (s := S3x32x16x512) ![i.val, 0, 0, 0] S1x32x16x512.size
    (by revert i; decide +kernel)) (fun _ => rfl)).squeeze S32x16x512 squeezes_S1x32x16x512_S32x16x512
/-- Block `b` of ring `Y`'s array. -/
def blkY (b : Fin 64) : Memref sig .tc .hbm S32x16x512 .f32 :=
  (Memref.whole main_arg2 : Memref sig .tc .hbm S2048x16x512 .f32).slice (Rect.unit (s := S2048x16x512) ![32 * b.val, 0, 0] S32x16x512.size
    (by revert b; decide +kernel)) (fun _ => rfl)
/-- The cell of slot `i` of ring `Y`. -/
def cellY (i : Fin 3) : DmaSem sig :=
  ((cc0_scoped3.slice (Rect.unit (s := S3) ![i.val] S1.size (by revert i; decide +kernel))).squeeze S_ squeezes_S1_S_).sem

/-- The ring. -/
def ringY : Ring 3 S32x16x512 .f32 where
  S := slotY
  B := blkY
  x := cellY
  N := (slotY 0).view.dmaCredit
  pos := by decide +kernel
  creditS := fun _ => rfl
  creditB := fun _ => rfl

theorem slotY_of {off : Fin 4 → ℕ} (inb : ∀ a, off a + S1x32x16x512.size a ≤ S3x32x16x512.size a) (i : Fin 3) (h : off = ![i.val, 0, 0, 0]) :
    ((Memref.whole cc0_scoped2 : Memref sig .tc .vmem S3x32x16x512 .f32).slice (Rect.unit (s := S3x32x16x512) off S1x32x16x512.size inb) (fun _ => rfl)).squeeze S32x16x512 squeezes_S1x32x16x512_S32x16x512
      = ringY.S i := by subst h; rfl
theorem blkY_of {off : Fin 3 → ℕ} (inb : ∀ a, off a + S32x16x512.size a ≤ S2048x16x512.size a) (b : Fin 64) (h : off = ![32 * b.val, 0, 0]) :
    (Memref.whole main_arg2 : Memref sig .tc .hbm S2048x16x512 .f32).slice (Rect.unit (s := S2048x16x512) off S32x16x512.size inb) (fun _ => rfl)
      = ringY.B b := by subst h; rfl
theorem cellY_of {off : Fin 1 → ℕ} (inb : ∀ a, off a + S1.size a ≤ S3.size a) (i : Fin 3) (h : off = ![i.val]) :
    ((cc0_scoped3.slice (Rect.unit (s := S3) off S1.size inb)).squeeze S_ squeezes_S1_S_).sem = ringY.x i := by subst h; rfl
theorem creditY {off : Fin 3 → ℕ} (inb : ∀ a, off a + S32x16x512.size a ≤ S2048x16x512.size a) :
    ((Memref.whole main_arg2 : Memref sig .tc .hbm S2048x16x512 .f32).slice (Rect.unit (s := S2048x16x512) off S32x16x512.size inb) (fun _ => rfl)).view.dmaCredit
      = ringY.N := rfl

/-- Slot `i` of ring `P`. -/
def slotP (i : Fin 3) : Memref sig .tc .vmem S16x32x512 .bf16 :=
  ((Memref.whole cc0_scoped4 : Memref sig .tc .vmem S3x16x32x512 .bf16).slice (Rect.unit (s := S3x16x32x512) ![i.val, 0, 0, 0] S1x16x32x512.size
    (by revert i; decide +kernel)) (fun _ => rfl)).squeeze S16x32x512 squeezes_S1x16x32x512_S16x32x512
/-- Block `b` of ring `P`'s array. -/
def blkP (b : Fin 64) : Memref sig .tc .hbm S16x32x512 .bf16 :=
  (Memref.whole main_arg3 : Memref sig .tc .hbm S16x2048x512 .bf16).slice (Rect.unit (s := S16x2048x512) ![0, 32 * b.val, 0] S16x32x512.size
    (by revert b; decide +kernel)) (fun _ => rfl)
/-- The cell of slot `i` of ring `P`. -/
def cellP (i : Fin 3) : DmaSem sig :=
  ((cc0_scoped5.slice (Rect.unit (s := S3) ![i.val] S1.size (by revert i; decide +kernel))).squeeze S_ squeezes_S1_S_).sem

/-- The ring. -/
def ringP : Ring 3 S16x32x512 .bf16 where
  S := slotP
  B := blkP
  x := cellP
  N := (slotP 0).view.dmaCredit
  pos := by decide +kernel
  creditS := fun _ => rfl
  creditB := fun _ => rfl

theorem slotP_of {off : Fin 4 → ℕ} (inb : ∀ a, off a + S1x16x32x512.size a ≤ S3x16x32x512.size a) (i : Fin 3) (h : off = ![i.val, 0, 0, 0]) :
    ((Memref.whole cc0_scoped4 : Memref sig .tc .vmem S3x16x32x512 .bf16).slice (Rect.unit (s := S3x16x32x512) off S1x16x32x512.size inb) (fun _ => rfl)).squeeze S16x32x512 squeezes_S1x16x32x512_S16x32x512
      = ringP.S i := by subst h; rfl
theorem blkP_of {off : Fin 3 → ℕ} (inb : ∀ a, off a + S16x32x512.size a ≤ S16x2048x512.size a) (b : Fin 64) (h : off = ![0, 32 * b.val, 0]) :
    (Memref.whole main_arg3 : Memref sig .tc .hbm S16x2048x512 .bf16).slice (Rect.unit (s := S16x2048x512) off S16x32x512.size inb) (fun _ => rfl)
      = ringP.B b := by subst h; rfl
theorem cellP_of {off : Fin 1 → ℕ} (inb : ∀ a, off a + S1.size a ≤ S3.size a) (i : Fin 3) (h : off = ![i.val]) :
    ((cc0_scoped5.slice (Rect.unit (s := S3) off S1.size inb)).squeeze S_ squeezes_S1_S_).sem = ringP.x i := by subst h; rfl
theorem creditP {off : Fin 3 → ℕ} (inb : ∀ a, off a + S16x32x512.size a ≤ S16x2048x512.size a) :
    ((Memref.whole main_arg3 : Memref sig .tc .hbm S16x2048x512 .bf16).slice (Rect.unit (s := S16x2048x512) off S16x32x512.size inb) (fun _ => rfl)).view.dmaCredit
      = ringP.N := rfl

/-- Slot `i` of ring `G`. -/
def slotG (i : Fin 3) : Memref sig .tc .vmem S16x32x512 .bf16 :=
  ((Memref.whole cc0_scoped6 : Memref sig .tc .vmem S3x16x32x512 .bf16).slice (Rect.unit (s := S3x16x32x512) ![i.val, 0, 0, 0] S1x16x32x512.size
    (by revert i; decide +kernel)) (fun _ => rfl)).squeeze S16x32x512 squeezes_S1x16x32x512_S16x32x512
/-- Block `b` of ring `G`'s array. -/
def blkG (b : Fin 64) : Memref sig .tc .hbm S16x32x512 .bf16 :=
  (Memref.whole main_arg4 : Memref sig .tc .hbm S16x2048x512 .bf16).slice (Rect.unit (s := S16x2048x512) ![0, 32 * b.val, 0] S16x32x512.size
    (by revert b; decide +kernel)) (fun _ => rfl)
/-- The cell of slot `i` of ring `G`. -/
def cellG (i : Fin 3) : DmaSem sig :=
  ((cc0_scoped7.slice (Rect.unit (s := S3) ![i.val] S1.size (by revert i; decide +kernel))).squeeze S_ squeezes_S1_S_).sem

/-- The ring. -/
def ringG : Ring 3 S16x32x512 .bf16 where
  S := slotG
  B := blkG
  x := cellG
  N := (slotG 0).view.dmaCredit
  pos := by decide +kernel
  creditS := fun _ => rfl
  creditB := fun _ => rfl

theorem slotG_of {off : Fin 4 → ℕ} (inb : ∀ a, off a + S1x16x32x512.size a ≤ S3x16x32x512.size a) (i : Fin 3) (h : off = ![i.val, 0, 0, 0]) :
    ((Memref.whole cc0_scoped6 : Memref sig .tc .vmem S3x16x32x512 .bf16).slice (Rect.unit (s := S3x16x32x512) off S1x16x32x512.size inb) (fun _ => rfl)).squeeze S16x32x512 squeezes_S1x16x32x512_S16x32x512
      = ringG.S i := by subst h; rfl
theorem blkG_of {off : Fin 3 → ℕ} (inb : ∀ a, off a + S16x32x512.size a ≤ S16x2048x512.size a) (b : Fin 64) (h : off = ![0, 32 * b.val, 0]) :
    (Memref.whole main_arg4 : Memref sig .tc .hbm S16x2048x512 .bf16).slice (Rect.unit (s := S16x2048x512) off S16x32x512.size inb) (fun _ => rfl)
      = ringG.B b := by subst h; rfl
theorem cellG_of {off : Fin 1 → ℕ} (inb : ∀ a, off a + S1.size a ≤ S3.size a) (i : Fin 3) (h : off = ![i.val]) :
    ((cc0_scoped7.slice (Rect.unit (s := S3) off S1.size inb)).squeeze S_ squeezes_S1_S_).sem = ringG.x i := by subst h; rfl
theorem creditG {off : Fin 3 → ℕ} (inb : ∀ a, off a + S16x32x512.size a ≤ S16x2048x512.size a) :
    ((Memref.whole main_arg4 : Memref sig .tc .hbm S16x2048x512 .bf16).slice (Rect.unit (s := S16x2048x512) off S16x32x512.size inb) (fun _ => rfl)).view.dmaCredit
      = ringG.N := rfl

/-- Slot `i` of ring `Z`. -/
def slotZ (i : Fin 3) : Memref sig .tc .vmem S16x32x512 .bf16 :=
  ((Memref.whole cc0_scoped8 : Memref sig .tc .vmem S3x16x32x512 .bf16).slice (Rect.unit (s := S3x16x32x512) ![i.val, 0, 0, 0] S1x16x32x512.size
    (by revert i; decide +kernel)) (fun _ => rfl)).squeeze S16x32x512 squeezes_S1x16x32x512_S16x32x512
/-- Block `b` of ring `Z`'s array. -/
def blkZ (b : Fin 64) : Memref sig .tc .hbm S16x32x512 .bf16 :=
  (Memref.whole main_arg5 : Memref sig .tc .hbm S16x2048x512 .bf16).slice (Rect.unit (s := S16x2048x512) ![0, 32 * b.val, 0] S16x32x512.size
    (by revert b; decide +kernel)) (fun _ => rfl)
/-- The cell of slot `i` of ring `Z`. -/
def cellZ (i : Fin 3) : DmaSem sig :=
  ((cc0_scoped9.slice (Rect.unit (s := S3) ![i.val] S1.size (by revert i; decide +kernel))).squeeze S_ squeezes_S1_S_).sem

/-- The ring. -/
def ringZ : Ring 3 S16x32x512 .bf16 where
  S := slotZ
  B := blkZ
  x := cellZ
  N := (slotZ 0).view.dmaCredit
  pos := by decide +kernel
  creditS := fun _ => rfl
  creditB := fun _ => rfl

theorem slotZ_of {off : Fin 4 → ℕ} (inb : ∀ a, off a + S1x16x32x512.size a ≤ S3x16x32x512.size a) (i : Fin 3) (h : off = ![i.val, 0, 0, 0]) :
    ((Memref.whole cc0_scoped8 : Memref sig .tc .vmem S3x16x32x512 .bf16).slice (Rect.unit (s := S3x16x32x512) off S1x16x32x512.size inb) (fun _ => rfl)).squeeze S16x32x512 squeezes_S1x16x32x512_S16x32x512
      = ringZ.S i := by subst h; rfl
theorem blkZ_of {off : Fin 3 → ℕ} (inb : ∀ a, off a + S16x32x512.size a ≤ S16x2048x512.size a) (b : Fin 64) (h : off = ![0, 32 * b.val, 0]) :
    (Memref.whole main_arg5 : Memref sig .tc .hbm S16x2048x512 .bf16).slice (Rect.unit (s := S16x2048x512) off S16x32x512.size inb) (fun _ => rfl)
      = ringZ.B b := by subst h; rfl
theorem cellZ_of {off : Fin 1 → ℕ} (inb : ∀ a, off a + S1.size a ≤ S3.size a) (i : Fin 3) (h : off = ![i.val]) :
    ((cc0_scoped9.slice (Rect.unit (s := S3) off S1.size inb)).squeeze S_ squeezes_S1_S_).sem = ringZ.x i := by subst h; rfl
theorem creditZ {off : Fin 3 → ℕ} (inb : ∀ a, off a + S16x32x512.size a ≤ S16x2048x512.size a) :
    ((Memref.whole main_arg5 : Memref sig .tc .hbm S16x2048x512 .bf16).slice (Rect.unit (s := S16x2048x512) off S16x32x512.size inb) (fun _ => rfl)).view.dmaCredit
      = ringZ.N := rfl

/-- Slot `i` of ring `M`. -/
def slotM (i : Fin 3) : Memref sig .tc .vmem S16x32x1024 .bf16 :=
  ((Memref.whole cc0_scoped10 : Memref sig .tc .vmem S3x16x32x1024 .bf16).slice (Rect.unit (s := S3x16x32x1024) ![i.val, 0, 0, 0] S1x16x32x1024.size
    (by revert i; decide +kernel)) (fun _ => rfl)).squeeze S16x32x1024 squeezes_S1x16x32x1024_S16x32x1024
/-- Block `b` of ring `M`'s array. -/
def blkM (b : Fin 64) : Memref sig .tc .hbm S16x32x1024 .bf16 :=
  (Memref.whole main_arg6 : Memref sig .tc .hbm S16x2048x1024 .bf16).slice (Rect.unit (s := S16x2048x1024) ![0, 32 * b.val, 0] S16x32x1024.size
    (by revert b; decide +kernel)) (fun _ => rfl)
/-- The cell of slot `i` of ring `M`. -/
def cellM (i : Fin 3) : DmaSem sig :=
  ((cc0_scoped11.slice (Rect.unit (s := S3) ![i.val] S1.size (by revert i; decide +kernel))).squeeze S_ squeezes_S1_S_).sem

/-- The ring. -/
def ringM : Ring 3 S16x32x1024 .bf16 where
  S := slotM
  B := blkM
  x := cellM
  N := (slotM 0).view.dmaCredit
  pos := by decide +kernel
  creditS := fun _ => rfl
  creditB := fun _ => rfl

theorem slotM_of {off : Fin 4 → ℕ} (inb : ∀ a, off a + S1x16x32x1024.size a ≤ S3x16x32x1024.size a) (i : Fin 3) (h : off = ![i.val, 0, 0, 0]) :
    ((Memref.whole cc0_scoped10 : Memref sig .tc .vmem S3x16x32x1024 .bf16).slice (Rect.unit (s := S3x16x32x1024) off S1x16x32x1024.size inb) (fun _ => rfl)).squeeze S16x32x1024 squeezes_S1x16x32x1024_S16x32x1024
      = ringM.S i := by subst h; rfl
theorem blkM_of {off : Fin 3 → ℕ} (inb : ∀ a, off a + S16x32x1024.size a ≤ S16x2048x1024.size a) (b : Fin 64) (h : off = ![0, 32 * b.val, 0]) :
    (Memref.whole main_arg6 : Memref sig .tc .hbm S16x2048x1024 .bf16).slice (Rect.unit (s := S16x2048x1024) off S16x32x1024.size inb) (fun _ => rfl)
      = ringM.B b := by subst h; rfl
theorem cellM_of {off : Fin 1 → ℕ} (inb : ∀ a, off a + S1.size a ≤ S3.size a) (i : Fin 3) (h : off = ![i.val]) :
    ((cc0_scoped11.slice (Rect.unit (s := S3) off S1.size inb)).squeeze S_ squeezes_S1_S_).sem = ringM.x i := by subst h; rfl
theorem creditM {off : Fin 3 → ℕ} (inb : ∀ a, off a + S16x32x1024.size a ≤ S16x2048x1024.size a) :
    ((Memref.whole main_arg6 : Memref sig .tc .hbm S16x2048x1024 .bf16).slice (Rect.unit (s := S16x2048x1024) off S16x32x1024.size inb) (fun _ => rfl)).view.dmaCredit
      = ringM.N := rfl

/-- Slot `i` of ring `N`. -/
def slotN (i : Fin 3) : Memref sig .tc .vmem S16x32x1024 .bf16 :=
  ((Memref.whole cc0_scoped12 : Memref sig .tc .vmem S3x16x32x1024 .bf16).slice (Rect.unit (s := S3x16x32x1024) ![i.val, 0, 0, 0] S1x16x32x1024.size
    (by revert i; decide +kernel)) (fun _ => rfl)).squeeze S16x32x1024 squeezes_S1x16x32x1024_S16x32x1024
/-- Block `b` of ring `N`'s array. -/
def blkN (b : Fin 64) : Memref sig .tc .hbm S16x32x1024 .bf16 :=
  (Memref.whole main_arg7 : Memref sig .tc .hbm S16x2048x1024 .bf16).slice (Rect.unit (s := S16x2048x1024) ![0, 32 * b.val, 0] S16x32x1024.size
    (by revert b; decide +kernel)) (fun _ => rfl)
/-- The cell of slot `i` of ring `N`. -/
def cellN (i : Fin 3) : DmaSem sig :=
  ((cc0_scoped13.slice (Rect.unit (s := S3) ![i.val] S1.size (by revert i; decide +kernel))).squeeze S_ squeezes_S1_S_).sem

/-- The ring. -/
def ringN : Ring 3 S16x32x1024 .bf16 where
  S := slotN
  B := blkN
  x := cellN
  N := (slotN 0).view.dmaCredit
  pos := by decide +kernel
  creditS := fun _ => rfl
  creditB := fun _ => rfl

theorem slotN_of {off : Fin 4 → ℕ} (inb : ∀ a, off a + S1x16x32x1024.size a ≤ S3x16x32x1024.size a) (i : Fin 3) (h : off = ![i.val, 0, 0, 0]) :
    ((Memref.whole cc0_scoped12 : Memref sig .tc .vmem S3x16x32x1024 .bf16).slice (Rect.unit (s := S3x16x32x1024) off S1x16x32x1024.size inb) (fun _ => rfl)).squeeze S16x32x1024 squeezes_S1x16x32x1024_S16x32x1024
      = ringN.S i := by subst h; rfl
theorem blkN_of {off : Fin 3 → ℕ} (inb : ∀ a, off a + S16x32x1024.size a ≤ S16x2048x1024.size a) (b : Fin 64) (h : off = ![0, 32 * b.val, 0]) :
    (Memref.whole main_arg7 : Memref sig .tc .hbm S16x2048x1024 .bf16).slice (Rect.unit (s := S16x2048x1024) off S16x32x1024.size inb) (fun _ => rfl)
      = ringN.B b := by subst h; rfl
theorem cellN_of {off : Fin 1 → ℕ} (inb : ∀ a, off a + S1.size a ≤ S3.size a) (i : Fin 3) (h : off = ![i.val]) :
    ((cc0_scoped13.slice (Rect.unit (s := S3) off S1.size inb)).squeeze S_ squeezes_S1_S_).sem = ringN.x i := by subst h; rfl
theorem creditN {off : Fin 3 → ℕ} (inb : ∀ a, off a + S16x32x1024.size a ≤ S16x2048x1024.size a) :
    ((Memref.whole main_arg7 : Memref sig .tc .hbm S16x2048x1024 .bf16).slice (Rect.unit (s := S16x2048x1024) off S16x32x1024.size inb) (fun _ => rfl)).view.dmaCredit
      = ringN.N := rfl

/-- Slot `i` of ring `H`. -/
def slotH (i : Fin 2) : Memref sig .tc .vmem S16x32x1024 .f32 :=
  ((Memref.whole cc0_scoped14 : Memref sig .tc .vmem S2x16x32x1024 .f32).slice (Rect.unit (s := S2x16x32x1024) ![i.val, 0, 0, 0] S1x16x32x1024.size
    (by revert i; decide +kernel)) (fun _ => rfl)).squeeze S16x32x1024 squeezes_S1x16x32x1024_S16x32x1024
/-- Block `b` of ring `H`'s array. -/
def blkH (b : Fin 64) : Memref sig .tc .hbm S16x32x1024 .f32 :=
  (Memref.whole main_v34_0 : Memref sig .tc .hbm S16x2048x1024 .f32).slice (Rect.unit (s := S16x2048x1024) ![0, 32 * b.val, 0] S16x32x1024.size
    (by revert b; decide +kernel)) (fun _ => rfl)
/-- The cell of slot `i` of ring `H`. -/
def cellH (i : Fin 2) : DmaSem sig :=
  ((cc0_scoped15.slice (Rect.unit (s := S2) ![i.val] S1.size (by revert i; decide +kernel))).squeeze S_ squeezes_S1_S_).sem

/-- The ring. -/
def ringH : Ring 2 S16x32x1024 .f32 where
  S := slotH
  B := blkH
  x := cellH
  N := (slotH 0).view.dmaCredit
  pos := by decide +kernel
  creditS := fun _ => rfl
  creditB := fun _ => rfl

theorem slotH_of {off : Fin 4 → ℕ} (inb : ∀ a, off a + S1x16x32x1024.size a ≤ S2x16x32x1024.size a) (i : Fin 2) (h : off = ![i.val, 0, 0, 0]) :
    ((Memref.whole cc0_scoped14 : Memref sig .tc .vmem S2x16x32x1024 .f32).slice (Rect.unit (s := S2x16x32x1024) off S1x16x32x1024.size inb) (fun _ => rfl)).squeeze S16x32x1024 squeezes_S1x16x32x1024_S16x32x1024
      = ringH.S i := by subst h; rfl
theorem blkH_of {off : Fin 3 → ℕ} (inb : ∀ a, off a + S16x32x1024.size a ≤ S16x2048x1024.size a) (b : Fin 64) (h : off = ![0, 32 * b.val, 0]) :
    (Memref.whole main_v34_0 : Memref sig .tc .hbm S16x2048x1024 .f32).slice (Rect.unit (s := S16x2048x1024) off S16x32x1024.size inb) (fun _ => rfl)
      = ringH.B b := by subst h; rfl
theorem cellH_of {off : Fin 1 → ℕ} (inb : ∀ a, off a + S1.size a ≤ S2.size a) (i : Fin 2) (h : off = ![i.val]) :
    ((cc0_scoped15.slice (Rect.unit (s := S2) off S1.size inb)).squeeze S_ squeezes_S1_S_).sem = ringH.x i := by subst h; rfl
theorem creditH {off : Fin 3 → ℕ} (inb : ∀ a, off a + S16x32x1024.size a ≤ S16x2048x1024.size a) :
    ((Memref.whole main_v34_0 : Memref sig .tc .hbm S16x2048x1024 .f32).slice (Rect.unit (s := S16x2048x1024) off S16x32x1024.size inb) (fun _ => rfl)).view.dmaCredit
      = ringH.N := rfl

/-- Slot `i` of ring `U`. -/
def slotU (i : Fin 2) : Memref sig .tc .vmem S16x32x1024 .bf16 :=
  ((Memref.whole cc0_scoped16 : Memref sig .tc .vmem S2x16x32x1024 .bf16).slice (Rect.unit (s := S2x16x32x1024) ![i.val, 0, 0, 0] S1x16x32x1024.size
    (by revert i; decide +kernel)) (fun _ => rfl)).squeeze S16x32x1024 squeezes_S1x16x32x1024_S16x32x1024
/-- Block `b` of ring `U`'s array. -/
def blkU (b : Fin 64) : Memref sig .tc .hbm S16x32x1024 .bf16 :=
  (Memref.whole main_v34_1 : Memref sig .tc .hbm S16x2048x1024 .bf16).slice (Rect.unit (s := S16x2048x1024) ![0, 32 * b.val, 0] S16x32x1024.size
    (by revert b; decide +kernel)) (fun _ => rfl)
/-- The cell of slot `i` of ring `U`. -/
def cellU (i : Fin 2) : DmaSem sig :=
  ((cc0_scoped17.slice (Rect.unit (s := S2) ![i.val] S1.size (by revert i; decide +kernel))).squeeze S_ squeezes_S1_S_).sem

/-- The ring. -/
def ringU : Ring 2 S16x32x1024 .bf16 where
  S := slotU
  B := blkU
  x := cellU
  N := (slotU 0).view.dmaCredit
  pos := by decide +kernel
  creditS := fun _ => rfl
  creditB := fun _ => rfl

theorem slotU_of {off : Fin 4 → ℕ} (inb : ∀ a, off a + S1x16x32x1024.size a ≤ S2x16x32x1024.size a) (i : Fin 2) (h : off = ![i.val, 0, 0, 0]) :
    ((Memref.whole cc0_scoped16 : Memref sig .tc .vmem S2x16x32x1024 .bf16).slice (Rect.unit (s := S2x16x32x1024) off S1x16x32x1024.size inb) (fun _ => rfl)).squeeze S16x32x1024 squeezes_S1x16x32x1024_S16x32x1024
      = ringU.S i := by subst h; rfl
theorem blkU_of {off : Fin 3 → ℕ} (inb : ∀ a, off a + S16x32x1024.size a ≤ S16x2048x1024.size a) (b : Fin 64) (h : off = ![0, 32 * b.val, 0]) :
    (Memref.whole main_v34_1 : Memref sig .tc .hbm S16x2048x1024 .bf16).slice (Rect.unit (s := S16x2048x1024) off S16x32x1024.size inb) (fun _ => rfl)
      = ringU.B b := by subst h; rfl
theorem cellU_of {off : Fin 1 → ℕ} (inb : ∀ a, off a + S1.size a ≤ S2.size a) (i : Fin 2) (h : off = ![i.val]) :
    ((cc0_scoped17.slice (Rect.unit (s := S2) off S1.size inb)).squeeze S_ squeezes_S1_S_).sem = ringU.x i := by subst h; rfl
theorem creditU {off : Fin 3 → ℕ} (inb : ∀ a, off a + S16x32x1024.size a ≤ S16x2048x1024.size a) :
    ((Memref.whole main_v34_1 : Memref sig .tc .hbm S16x2048x1024 .bf16).slice (Rect.unit (s := S16x2048x1024) off S16x32x1024.size inb) (fun _ => rfl)).view.dmaCredit
      = ringU.N := rfl

end Cert.KernelIdeal.Hand

end
-- ==== Proof.Words.lean ====
/-
  The words a trip carries and computes, in closed form: what each word is at trip `t`, which of the trip's conditional
  transfers run, and that every side condition of the trip holds.
-/
module

public import proofs.«01_k».proof.Proof.Names

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

/-- The number of the next block to send for, before trip `k`. -/
def wA (k : ℕ) : BitVec 32 := BitVec.ofNat 32 (min (k + 2) 64)
/-- The trip's number. -/
def wB (k : ℕ) : BitVec 32 := BitVec.ofNat 32 k
/-- The number of the trip before (`0` before the first). -/
def wC (k : ℕ) : BitVec 32 := BitVec.ofNat 32 (k - 1)
/-- The grid's index, which returns to `0` after the last trip. -/
def wD (k : ℕ) : BitVec 32 := BitVec.ofNat 32 (k % 64)

theorem trips_lt (t : Fin k0_t1_loop.trips) : t.val < 64 := by revert t; decide +kernel
/-- The trip as a block's number. -/
abbrev tr (t : Fin k0_t1_loop.trips) : Fin 64 := ⟨t.val, trips_lt t⟩
theorem cond8_iff : ∀ t : Fin k0_t1_loop.trips, k0_cond8 t (wD t) = 1#1 ↔ t.val + 2 < 64 := by decide +kernel
theorem off26_eq : ∀ t : Fin k0_t1_loop.trips, t.val + 2 < 64 → k0_off26 (wA t) = ![(t.val + 2) % 3] := by decide +kernel
theorem off27_eq : ∀ t : Fin k0_t1_loop.trips, t.val + 2 < 64 → k0_off27 (wA t) = ![(t.val + 2) % 3, 0, 0, 0] := by decide +kernel
theorem off28_eq : ∀ t : Fin k0_t1_loop.trips, t.val + 2 < 64 → k0_off28 (wD t) = ![0, 32 * (t.val + 2), 0] := by decide +kernel
theorem cond9_iff : ∀ t : Fin k0_t1_loop.trips, k0_cond9 t (wD t) = 1#1 ↔ t.val + 2 < 64 := by decide +kernel
theorem off29_eq : ∀ t : Fin k0_t1_loop.trips, t.val + 2 < 64 → k0_off29 (wA t) = ![(t.val + 2) % 3] := by decide +kernel
theorem off30_eq : ∀ t : Fin k0_t1_loop.trips, t.val + 2 < 64 → k0_off30 (wA t) = ![(t.val + 2) % 3, 0, 0, 0] := by decide +kernel
theorem off31_eq : ∀ t : Fin k0_t1_loop.trips, t.val + 2 < 64 → k0_off31 (wD t) = ![32 * (t.val + 2), 0, 0] := by decide +kernel
theorem cond10_iff : ∀ t : Fin k0_t1_loop.trips, k0_cond10 t (wD t) = 1#1 ↔ t.val + 2 < 64 := by decide +kernel
theorem off32_eq : ∀ t : Fin k0_t1_loop.trips, t.val + 2 < 64 → k0_off32 (wA t) = ![(t.val + 2) % 3] := by decide +kernel
theorem off33_eq : ∀ t : Fin k0_t1_loop.trips, t.val + 2 < 64 → k0_off33 (wA t) = ![(t.val + 2) % 3, 0, 0, 0] := by decide +kernel
theorem off34_eq : ∀ t : Fin k0_t1_loop.trips, t.val + 2 < 64 → k0_off34 (wD t) = ![0, 32 * (t.val + 2), 0] := by decide +kernel
theorem cond11_iff : ∀ t : Fin k0_t1_loop.trips, k0_cond11 t (wD t) = 1#1 ↔ t.val + 2 < 64 := by decide +kernel
theorem off35_eq : ∀ t : Fin k0_t1_loop.trips, t.val + 2 < 64 → k0_off35 (wA t) = ![(t.val + 2) % 3] := by decide +kernel
theorem off36_eq : ∀ t : Fin k0_t1_loop.trips, t.val + 2 < 64 → k0_off36 (wA t) = ![(t.val + 2) % 3, 0, 0, 0] := by decide +kernel
theorem off37_eq : ∀ t : Fin k0_t1_loop.trips, t.val + 2 < 64 → k0_off37 (wD t) = ![0, 32 * (t.val + 2), 0] := by decide +kernel
theorem cond12_iff : ∀ t : Fin k0_t1_loop.trips, k0_cond12 t (wD t) = 1#1 ↔ t.val + 2 < 64 := by decide +kernel
theorem off38_eq : ∀ t : Fin k0_t1_loop.trips, t.val + 2 < 64 → k0_off38 (wA t) = ![(t.val + 2) % 3] := by decide +kernel
theorem off39_eq : ∀ t : Fin k0_t1_loop.trips, t.val + 2 < 64 → k0_off39 (wA t) = ![(t.val + 2) % 3, 0, 0, 0] := by decide +kernel
theorem off40_eq : ∀ t : Fin k0_t1_loop.trips, t.val + 2 < 64 → k0_off40 (wD t) = ![0, 32 * (t.val + 2), 0] := by decide +kernel
theorem cond13_iff : ∀ t : Fin k0_t1_loop.trips, k0_cond13 t (wD t) = 1#1 ↔ t.val + 2 < 64 := by decide +kernel
theorem off41_eq : ∀ t : Fin k0_t1_loop.trips, t.val + 2 < 64 → k0_off41 (wA t) = ![(t.val + 2) % 3] := by decide +kernel
theorem off42_eq : ∀ t : Fin k0_t1_loop.trips, t.val + 2 < 64 → k0_off42 (wA t) = ![(t.val + 2) % 3, 0, 0, 0] := by decide +kernel
theorem off43_eq : ∀ t : Fin k0_t1_loop.trips, t.val + 2 < 64 → k0_off43 (wD t) = ![0, 32 * (t.val + 2), 0] := by decide +kernel
theorem cond14_iff : ∀ t : Fin k0_t1_loop.trips, k0_cond14 t (wD t) = 1#1 ↔ t.val + 2 < 64 := by decide +kernel
theorem off44_eq : ∀ t : Fin k0_t1_loop.trips, t.val + 2 < 64 → k0_off44 (wA t) = ![(t.val + 2) % 3] := by decide +kernel
theorem off45_eq : ∀ t : Fin k0_t1_loop.trips, t.val + 2 < 64 → k0_off45 (wA t) = ![(t.val + 2) % 3, 0, 0, 0] := by decide +kernel
theorem off46_eq : ∀ t : Fin k0_t1_loop.trips, t.val + 2 < 64 → k0_off46 (wD t) = ![0, 32 * (t.val + 2), 0] := by decide +kernel
theorem cond15_pos : ∀ t : Fin k0_t1_loop.trips, k0_cond15 t (wD t) = 1#1 := by decide +kernel
theorem off47_eq : ∀ t : Fin k0_t1_loop.trips, k0_off47 (wB t) = ![t.val % 3] := by decide +kernel
theorem off48_eq : ∀ t : Fin k0_t1_loop.trips, k0_off48 (wB t) = ![t.val % 3, 0, 0, 0] := by decide +kernel
theorem cond16_pos : ∀ t : Fin k0_t1_loop.trips, k0_cond16 t (wD t) = 1#1 := by decide +kernel
theorem off50_eq : ∀ t : Fin k0_t1_loop.trips, k0_off50 (wB t) = ![t.val % 3] := by decide +kernel
theorem off51_eq : ∀ t : Fin k0_t1_loop.trips, k0_off51 (wB t) = ![t.val % 3, 0, 0, 0] := by decide +kernel
theorem cond17_pos : ∀ t : Fin k0_t1_loop.trips, k0_cond17 t (wD t) = 1#1 := by decide +kernel
theorem off53_eq : ∀ t : Fin k0_t1_loop.trips, k0_off53 (wB t) = ![t.val % 3] := by decide +kernel
theorem off54_eq : ∀ t : Fin k0_t1_loop.trips, k0_off54 (wB t) = ![t.val % 3, 0, 0, 0] := by decide +kernel
theorem cond18_pos : ∀ t : Fin k0_t1_loop.trips, k0_cond18 t (wD t) = 1#1 := by decide +kernel
theorem off56_eq : ∀ t : Fin k0_t1_loop.trips, k0_off56 (wB t) = ![t.val % 3] := by decide +kernel
theorem off57_eq : ∀ t : Fin k0_t1_loop.trips, k0_off57 (wB t) = ![t.val % 3, 0, 0, 0] := by decide +kernel
theorem cond19_pos : ∀ t : Fin k0_t1_loop.trips, k0_cond19 t (wD t) = 1#1 := by decide +kernel
theorem off59_eq : ∀ t : Fin k0_t1_loop.trips, k0_off59 (wB t) = ![t.val % 3] := by decide +kernel
theorem off60_eq : ∀ t : Fin k0_t1_loop.trips, k0_off60 (wB t) = ![t.val % 3, 0, 0, 0] := by decide +kernel
theorem cond20_pos : ∀ t : Fin k0_t1_loop.trips, k0_cond20 t (wD t) = 1#1 := by decide +kernel
theorem off62_eq : ∀ t : Fin k0_t1_loop.trips, k0_off62 (wB t) = ![t.val % 3] := by decide +kernel
theorem off63_eq : ∀ t : Fin k0_t1_loop.trips, k0_off63 (wB t) = ![t.val % 3, 0, 0, 0] := by decide +kernel
theorem cond21_pos : ∀ t : Fin k0_t1_loop.trips, k0_cond21 t (wD t) = 1#1 := by decide +kernel
theorem off65_eq : ∀ t : Fin k0_t1_loop.trips, k0_off65 (wB t) = ![t.val % 3] := by decide +kernel
theorem off66_eq : ∀ t : Fin k0_t1_loop.trips, k0_off66 (wB t) = ![t.val % 3, 0, 0, 0] := by decide +kernel
theorem off68_eq : ∀ t : Fin k0_t1_loop.trips, k0_off68 (wB t) = ![t.val % 3, 0, 0, 0] := by decide +kernel
theorem off69_eq : ∀ t : Fin k0_t1_loop.trips, k0_off69 (wB t) = ![t.val % 3, 0, 0, 0] := by decide +kernel
theorem off70_eq : ∀ t : Fin k0_t1_loop.trips, k0_off70 (wB t) = ![t.val % 3, 0, 0, 0] := by decide +kernel
theorem off71_eq : ∀ t : Fin k0_t1_loop.trips, k0_off71 (wB t) = ![t.val % 3, 0, 0, 0] := by decide +kernel
theorem off72_eq : ∀ t : Fin k0_t1_loop.trips, k0_off72 (wB t) = ![t.val % 3, 0, 0, 0] := by decide +kernel
theorem off73_eq : ∀ t : Fin k0_t1_loop.trips, k0_off73 (wB t) = ![t.val % 3, 0, 0, 0] := by decide +kernel
theorem off74_eq : ∀ t : Fin k0_t1_loop.trips, k0_off74 (wB t) = ![t.val % 3, 0, 0, 0] := by decide +kernel
theorem off75_eq : ∀ t : Fin k0_t1_loop.trips, k0_off75 (wB t) = ![t.val % 2, 0, 0, 0] := by decide +kernel
theorem off76_eq : ∀ t : Fin k0_t1_loop.trips, k0_off76 (wB t) = ![t.val % 2, 0, 0, 0] := by decide +kernel
theorem cond31_pos : ∀ t : Fin k0_t1_loop.trips, k0_cond31 t (wD t) = 1#1 := by decide +kernel
theorem off77_eq : ∀ t : Fin k0_t1_loop.trips, k0_off77 (wB t) = ![t.val % 2] := by decide +kernel
theorem off78_eq : ∀ t : Fin k0_t1_loop.trips, k0_off78 (wD t) = ![0, 32 * t.val, 0] := by decide +kernel
theorem off79_eq : ∀ t : Fin k0_t1_loop.trips, k0_off79 (wB t) = ![t.val % 2, 0, 0, 0] := by decide +kernel
theorem cond32_pos : ∀ t : Fin k0_t1_loop.trips, k0_cond32 t (wD t) = 1#1 := by decide +kernel
theorem off80_eq : ∀ t : Fin k0_t1_loop.trips, k0_off80 (wB t) = ![t.val % 2] := by decide +kernel
theorem off81_eq : ∀ t : Fin k0_t1_loop.trips, k0_off81 (wD t) = ![0, 32 * t.val, 0] := by decide +kernel
theorem off82_eq : ∀ t : Fin k0_t1_loop.trips, k0_off82 (wB t) = ![t.val % 2, 0, 0, 0] := by decide +kernel
theorem cond40_iff : ∀ t : Fin k0_t1_loop.trips, k0_cond40 t (wD t) = 1#1 ↔ 0 < t.val := by decide +kernel
theorem off83_eq : ∀ t : Fin k0_t1_loop.trips, 0 < t.val → k0_off83 (wC t) = ![(t.val - 1) % 2] := by decide +kernel
theorem cond41_iff : ∀ t : Fin k0_t1_loop.trips, k0_cond41 t (wD t) = 1#1 ↔ 0 < t.val := by decide +kernel
theorem off86_eq : ∀ t : Fin k0_t1_loop.trips, 0 < t.val → k0_off86 (wC t) = ![(t.val - 1) % 2] := by decide +kernel
theorem off89_eq : k0_off89 (wC 64) = ![1] := by decide +kernel
theorem off92_eq : k0_off92 (wC 64) = ![1] := by decide +kernel

/-! ## The side conditions -/

theorem chk1_0_ok : ∀ t : Fin k0_t1_loop.trips, k0_chk1_0 t (wA t) (wB t) (wA t) (wB t) (wA t) (wB t) (wA t) (wB t) (wA t) (wB t) (wA t) (wB t) (wA t) (wB t) (wB t) (wC t) (wB t) (wC t) (wD t) := by
  intro t
  unfold k0_chk1_0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (revert t; decide +kernel)
theorem chk1_1_ok : ∀ t : Fin k0_t1_loop.trips, k0_chk1_1 t (wA t) (wB t) (wA t) (wB t) (wA t) (wB t) (wA t) (wB t) (wA t) (wB t) (wA t) (wB t) (wA t) (wB t) (wB t) (wC t) (wB t) (wC t) (wD t) := by
  intro t
  unfold k0_chk1_1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (revert t; decide +kernel)
theorem chk1_2_ok : ∀ t : Fin k0_t1_loop.trips, k0_chk1_2 t (wA t) (wB t) (wA t) (wB t) (wA t) (wB t) (wA t) (wB t) (wA t) (wB t) (wA t) (wB t) (wA t) (wB t) (wB t) (wC t) (wB t) (wC t) (wD t) := by
  intro t
  unfold k0_chk1_2
  refine ⟨?_, ?_, ?_, ?_, ?_, ?_, ?_, ?_, ?_, ?_, ?_, ?_, ?_, ?_⟩ <;> (revert t; decide +kernel)
theorem chk1_ok (t : Fin k0_t1_loop.trips) : k0_chk1 t (wA t) (wB t) (wA t) (wB t) (wA t) (wB t) (wA t) (wB t) (wA t) (wB t) (wA t) (wB t) (wA t) (wB t) (wB t) (wC t) (wB t) (wC t) (wD t) := ⟨chk1_0_ok t, chk1_1_ok t, chk1_2_ok t⟩
theorem chk2_ok : ∀ t : Fin k0_t1_loop.trips, k0_chk2 (wB t) := by decide +kernel
theorem chk3_ok : ∀ t : Fin k0_t1_loop.trips, k0_chk3 (wB t) := by decide +kernel
theorem chk4_ok : ∀ t : Fin k0_t1_loop.trips, k0_chk4 (wB t) := by decide +kernel
theorem chk5_ok : ∀ t : Fin k0_t1_loop.trips, k0_chk5 (wB t) := by decide +kernel
theorem chk6_ok : ∀ t : Fin k0_t1_loop.trips, k0_chk6 (wB t) := by decide +kernel
theorem chk7_ok : ∀ t : Fin k0_t1_loop.trips, k0_chk7 (wB t) := by decide +kernel
theorem chk8_ok : ∀ t : Fin k0_t1_loop.trips, k0_chk8 (wB t) := by decide +kernel
theorem chk9_ok : ∀ t : Fin k0_t1_loop.trips, k0_chk9 (wB t) := by decide +kernel
theorem chk10_ok : ∀ t : Fin k0_t1_loop.trips, k0_chk10 (wB t) := by decide +kernel
theorem chk11_ok : k0_chk11 (wC 64) := by decide +kernel
theorem chk12_ok : k0_chk12 (wD 64) := by decide +kernel
theorem chk13_ok : k0_chk13 (wC 64) := by decide +kernel

end Cert.KernelIdeal.Hand

end
-- ==== Proof.Access.lean ====
module
public import proofs.«01_k».proof.Proof.Ring
public import Idealize.ShloMosaic.Lib.VecWindow

/-!
# Loads and stores of owned memrefs

What a load returns and what a store leaves, in terms of the values a memref is
owned at: of a memref owned whole, a window; of a ring's array of which one slot
is owned, the slot's values behind a leading axis of one.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

/-- The number of the next trip, back at `0` after the last. -/
def wE (k : ℕ) : BitVec 32 := BitVec.ofNat 32 ((k + 1) % 64)
/-- The number of the trip after the next, modulo the number of trips. -/
def wF (k : ℕ) : BitVec 32 := BitVec.ofNat 32 ((k + 2) % 64)
/-- The number of the trip before, modulo the number of trips. -/
def wG (k : ℕ) : BitVec 32 := BitVec.ofNat 32 ((k + 63) % 64)
/-- Whether this is the first trip. -/
def bFirst (k : ℕ) : BitVec 1 := if k = 0 then 1#1 else 0#1
/-- Whether this is the last trip. -/
def bLast (k : ℕ) : BitVec 1 := if k = 63 then 1#1 else 0#1
/-- Whether a block two trips ahead remains to be sent for. -/
def bSend (k : ℕ) : BitVec 1 := if k + 2 < 64 then 1#1 else 0#1
/-- Whether the trip's number is at least `62`. -/
def bLate (k : ℕ) : BitVec 1 := if 62 ≤ k then 1#1 else 0#1

/-- Values behind a leading axis of one. -/
def lead {s s' : Shape} {α : Type} (h : s.Squeezes s') (X : s'.Idx → α) : s.Idx → α :=
  fun j => X ((Shape.reshapeEquiv h.numel_eq).symm j)
/-- Values with their leading axis of one dropped. -/
def unlead {s s' : Shape} {α : Type} (h : s.Squeezes s') (X : s.Idx → α) : s'.Idx → α :=
  fun j => X (Shape.reshapeEquiv h.numel_eq j)

variable (c : Dev nD)

/-- A program that has ended with a value equal to the one asked for. -/
theorem wp_done {α : Type} {Q : α → sProp 𝕄} {a b : α} (h : a = b) :
    Q b ⊢ wp frame (wpE (defs₀ (F := F)) Variants.none c none) Set.univ (pure a) Q := by
  subst h
  exact le_wp_ret _ _ _ _ _
/-- A program that has ended. -/
theorem wp_over {α : Type} {Q : α → sProp 𝕄} {a : α} :
    Q a ⊢ wp frame (wpE (defs₀ (F := F)) Variants.none c none) Set.univ (pure a) Q := le_wp_ret _ _ _ _ _

/-- A load of a window of an owned memref. -/
theorem wp_read {α : Type} {s : Shape} {e : EltTy} {m m' : Memref sig .tc .vmem s e} (hm : m = m') (off size : Fin s.rank → ℕ) (inb : ∀ a, off a + size a ≤ s.size a)
    {X : s.Idx → Elt F e} {hl : m.view.LoadsAt (Rect.unit off size inb).toLoadRect}
    {K : ((Rect.unit off size inb).shape.Idx → Elt F e) → Prog (TpuEff nD τ sig (Elt F) Λ₀ .tc) α} {Q : α → sProp 𝕄} :
    iprop(owns (c : Thread nD τ) m' fullShare X ∗ (owns (c : Thread nD τ) m' fullShare X -∗ wp frame (wpE (defs₀ (F := F)) Variants.none c none) Set.univ (K (VecWindow.window X off size inb)) Q))
      ⊢ wp frame (wpE (defs₀ (F := F)) Variants.none c none) Set.univ (.op (.load m (Rect.unit off size inb).toLoadRect hl) K) Q := by
  subst hm
  unfold owns
  iintro ⟨⟨%f, %hf, H⟩, HK⟩
  iapply (wp_load_rect (defs := defs₀ (F := F)) Variants.none (c : Thread nD τ) none Set.univ (m := m) (r := Rect.unit off size inb) (Q := Q)
    (S := m.view.set) (View.set_slice_subset _ _)) $$ [H]
  · iexact H
  iintro H
  subst hf
  iapply HK
  iexists f
  isplitr
  · ipureintro; rfl
  iexact H

/-- A store of a window of an owned memref. -/
theorem wp_write {α : Type} {s : Shape} {e : EltTy} {m m' : Memref sig .tc .vmem s e} (hm : m = m') (off size : Fin s.rank → ℕ) (inb : ∀ a, off a + size a ≤ s.size a)
    {X : s.Idx → Elt F e} {w : (Rect.unit off size inb).shape.Idx → Elt F e} {hx : (m.access (Rect.unit off size inb)).Stores Finset.univ} {hs}
    {K : PUnit → Prog (TpuEff nD τ sig (Elt F) Λ₀ .tc) α} {Q : α → sProp 𝕄} :
    iprop(owns (c : Thread nD τ) m' fullShare X ∗ (owns (c : Thread nD τ) m' fullShare (VecWindow.put X off size w) -∗ wp frame (wpE (defs₀ (F := F)) Variants.none c none) Set.univ (K ⟨⟩) Q))
      ⊢ wp frame (wpE (defs₀ (F := F)) Variants.none c none) Set.univ (.op (.store m (Rect.unit off size inb) w Finset.univ hx hs) K) Q := by
  subst hm
  unfold owns
  iintro ⟨⟨%f, %hf, H⟩, HK⟩
  iapply (wp_store (defs := defs₀ (F := F)) Variants.none (c : Thread nD τ) none Set.univ (m := m) (r := Rect.unit off size inb) (Q := Q) (w := w)
    (S := m.view.set) (View.set_slice_subset _ _)) $$ [H]
  · iexact H
  iintro H
  subst hf
  iapply HK
  iexists _
  isplitr
  rotate_left
  · iexact H
  · ipureintro
    exact View.read_writes_cons_put m.view f inb w [] rfl

/-- A load of the owned slot of a ring's array. -/
theorem wp_readSlot {α : Type} {s s' : Shape} {e : EltTy} {m : Memref sig .tc .vmem s e} {off size : Fin s.rank → ℕ} {inb : ∀ a, off a + size a ≤ s.size a}
    (hq : (Rect.unit off size inb).shape.Squeezes s') {sl : Memref sig .tc .vmem s' e}
    (hm : (m.slice (Rect.unit off size inb) (fun _ => rfl)).squeeze s' hq = sl)
    {X : s'.Idx → Elt F e} {hl : m.view.LoadsAt (Rect.unit off size inb).toLoadRect}
    {K : ((Rect.unit off size inb).shape.Idx → Elt F e) → Prog (TpuEff nD τ sig (Elt F) Λ₀ .tc) α} {Q : α → sProp 𝕄} :
    iprop(owns (c : Thread nD τ) sl fullShare X ∗ (owns (c : Thread nD τ) sl fullShare X -∗ wp frame (wpE (defs₀ (F := F)) Variants.none c none) Set.univ (K (lead hq X)) Q))
      ⊢ wp frame (wpE (defs₀ (F := F)) Variants.none c none) Set.univ (.op (.load m (Rect.unit off size inb).toLoadRect hl) K) Q := by
  subst hm
  unfold owns
  iintro ⟨⟨%f, %hf, H⟩, HK⟩
  iapply (wp_load_rect (defs := defs₀ (F := F)) Variants.none (c : Thread nD τ) none Set.univ (m := m) (r := Rect.unit off size inb) (Q := Q)
    (S := (m.access (Rect.unit off size inb)).set) (subset_refl _)) $$ [H]
  · have e : ((m.slice (Rect.unit off size inb) (fun _ => rfl)).squeeze s' hq).view.set = (m.access (Rect.unit off size inb)).set := View.set_reshape _ _
    rw [← e]
    iexact H
  iintro H
  have e : ((m.slice (Rect.unit off size inb) (fun _ => rfl)).squeeze s' hq).view.set = (m.access (Rect.unit off size inb)).set := View.set_reshape _ _
  have e2 : (m.access (Rect.unit off size inb)).read (Elt F) f = lead hq X := by
    subst hf
    funext j
    show _ = (m.access (Rect.unit off size inb)).read (Elt F) f (Shape.reshapeEquiv hq.numel_eq ((Shape.reshapeEquiv hq.numel_eq).symm j))
    rw [Equiv.apply_symm_apply]
  rw [e2, ← e]
  iapply HK
  iexists f
  isplitr
  · ipureintro; exact hf
  iexact H

/-- A store over the owned slot of a ring's array. -/
theorem wp_writeSlot {α : Type} {s s' : Shape} {e : EltTy} {m : Memref sig .tc .vmem s e} {off size : Fin s.rank → ℕ} {inb : ∀ a, off a + size a ≤ s.size a}
    (hq : (Rect.unit off size inb).shape.Squeezes s') {sl : Memref sig .tc .vmem s' e}
    (hm : (m.slice (Rect.unit off size inb) (fun _ => rfl)).squeeze s' hq = sl)
    {X : s'.Idx → Elt F e} {w : (Rect.unit off size inb).shape.Idx → Elt F e} {hx : (m.access (Rect.unit off size inb)).Stores Finset.univ} {hs}
    {K : PUnit → Prog (TpuEff nD τ sig (Elt F) Λ₀ .tc) α} {Q : α → sProp 𝕄} :
    iprop(owns (c : Thread nD τ) sl fullShare X ∗ (owns (c : Thread nD τ) sl fullShare (unlead hq w) -∗ wp frame (wpE (defs₀ (F := F)) Variants.none c none) Set.univ (K ⟨⟩) Q))
      ⊢ wp frame (wpE (defs₀ (F := F)) Variants.none c none) Set.univ (.op (.store m (Rect.unit off size inb) w Finset.univ hx hs) K) Q := by
  subst hm
  unfold owns
  iintro ⟨⟨%f, %hf, H⟩, HK⟩
  have e : ((m.slice (Rect.unit off size inb) (fun _ => rfl)).squeeze s' hq).view.set = (m.access (Rect.unit off size inb)).set := View.set_reshape _ _
  iapply (wp_store (defs := defs₀ (F := F)) Variants.none (c : Thread nD τ) none Set.univ (m := m) (r := Rect.unit off size inb) (Q := Q) (w := w)
    (S := (m.access (Rect.unit off size inb)).set) (subset_refl _)) $$ [H]
  · rw [← e]
    iexact H
  iintro H
  rw [← e]
  iapply HK
  iexists _
  isplitr
  rotate_left
  · iexact H
  · ipureintro
    funext j
    exact congrFun (View.read_write_univ (v := m.access (Rect.unit off size inb)) f w) (Shape.reshapeEquiv hq.numel_eq j)

end Cert.KernelIdeal.Hand

end
-- ==== Proof.Sends.lean ====
module
public import proofs.«01_k».proof.Proof.Words
public import proofs.«01_k».proof.Proof.Access
public import proofs.«01_k».proof.Proof.Gen.KernelIdeal.Skeleton

/-!
# The trip's transfers of the blocks read

Four parts of the trip's body send for the blocks two trips ahead and wait for
the trip's own blocks. Each is stated by what it makes of the rings, for any
continuation.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

variable (a7 : Memref sig .tc .vmem S6x16x8x1024 .f32) (h7 : a7.IsWhole) (a8 : Memref sig .tc .vmem S2x512 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (a12 : Memref sig .tc .vmem S1024x1024 .bf16) (h12 : a12.IsWhole) (a13 : Memref sig .tc .vmem S2x128x128 .bf16) (h13 : a13.IsWhole)
variable (c : Dev nD)
variable (DX : Fin 64 → S16x32x1024.Idx → Elt F .f32) (DY : Fin 64 → S32x16x512.Idx → Elt F .f32)
  (DP DG DZ : Fin 64 → S16x32x512.Idx → Elt F .bf16) (DM DN : Fin 64 → S16x32x1024.Idx → Elt F .bf16)

/-- The first four sends. -/
theorem part2_spec (t : Fin k0_t1_loop.trips) (hw : k0_chk1 t (wA t) (wB t) (wA t) (wB t) (wA t) (wB t) (wA t) (wB t) (wA t) (wB t) (wA t) (wB t) (wA t) (wB t) (wB t) (wC t) (wB t) (wC t) (wD t))
    {Q : (Σ' (_ : BitVec 32) (_ : BitVec 32) (_ : BitVec 32), BitVec 1) → sProp 𝕄} :
    iprop((rd0 c ringX DX t ∗ rd0 c ringY DY t ∗ rd0 c ringP DP t ∗ rd0 c ringG DG t) ∗ ((rd1 c ringX DX t ∗ rd1 c ringY DY t ∗ rd1 c ringP DP t ∗ rd1 c ringG DG t) -∗ Q ⟨wA (t.val + 1), wA (t.val + 1), wA (t.val + 1), bSend t⟩))
      ⊢ wp frame (wpE (defs₀ (F := F)) Variants.none c none) Set.univ (k0_part2 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 t (wA t) (wB t) (wA t) (wB t) (wA t) (wB t) (wA t) (wB t) (wA t) (wB t) (wA t) (wB t) (wA t) (wB t) (wB t) (wC t) (wB t) (wC t) (wD t) hw (wB t) (wE t) (wF t) 1#1 (bLate t)) Q := by
  rw [k0_part2_eq_skeleton]
  unfold k0_part2_skel
  iintro ⟨⟨HX, HY, HP, HG⟩, HK⟩
  by_cases h : t.val + 2 < 64
  · simp only [Prog.bind_lift, dif_pos ((cond8_iff t).2 h), dif_pos ((cond9_iff t).2 h), dif_pos ((cond10_iff t).2 h), dif_pos ((cond11_iff t).2 h)]
    iapply (wp_send c ringX DX t h (blkX_of _ ⟨t.val + 2, h⟩ (off28_eq t h)) (slotX_of _ (sl3 (t.val + 2)) (off27_eq t h)) (cellX_of _ (sl3 (t.val + 2)) (off26_eq t h)))
    isplitl [HX]; · iexact HX
    iintro HX
    iapply (wp_send c ringY DY t h (blkY_of _ ⟨t.val + 2, h⟩ (off31_eq t h)) (slotY_of _ (sl3 (t.val + 2)) (off30_eq t h)) (cellY_of _ (sl3 (t.val + 2)) (off29_eq t h)))
    isplitl [HY]; · iexact HY
    iintro HY
    iapply (wp_send c ringP DP t h (blkP_of _ ⟨t.val + 2, h⟩ (off34_eq t h)) (slotP_of _ (sl3 (t.val + 2)) (off33_eq t h)) (cellP_of _ (sl3 (t.val + 2)) (off32_eq t h)))
    isplitl [HP]; · iexact HP
    iintro HP
    iapply (wp_send c ringG DG t h (blkG_of _ ⟨t.val + 2, h⟩ (off37_eq t h)) (slotG_of _ (sl3 (t.val + 2)) (off36_eq t h)) (cellG_of _ (sl3 (t.val + 2)) (off35_eq t h)))
    isplitl [HG]; · iexact HG
    iintro HG
    iapply (wp_done c (b := ⟨wA (t.val + 1), wA (t.val + 1), wA (t.val + 1), bSend t⟩) (by clear hw; revert t; decide +kernel))
    iapply HK
    isplitl [HX]; · iexact HX
    isplitl [HY]; · iexact HY
    isplitl [HP]; · iexact HP
    iexact HG
  · simp only [Prog.bind_lift, dif_neg (mt (cond8_iff t).1 h), dif_neg (mt (cond9_iff t).1 h), dif_neg (mt (cond10_iff t).1 h), dif_neg (mt (cond11_iff t).1 h)]
    ihave HX := (rd_skip c ringX DX t h) $$ HX
    ihave HY := (rd_skip c ringY DY t h) $$ HY
    ihave HP := (rd_skip c ringP DP t h) $$ HP
    ihave HG := (rd_skip c ringG DG t h) $$ HG
    iapply (wp_done c (b := ⟨wA (t.val + 1), wA (t.val + 1), wA (t.val + 1), bSend t⟩) (by clear hw; revert t; decide +kernel))
    iapply HK
    isplitl [HX]; · iexact HX
    isplitl [HY]; · iexact HY
    isplitl [HP]; · iexact HP
    iexact HG

/-- The other three sends. -/
theorem part3_spec (t : Fin k0_t1_loop.trips) (hw : k0_chk1 t (wA t) (wB t) (wA t) (wB t) (wA t) (wB t) (wA t) (wB t) (wA t) (wB t) (wA t) (wB t) (wA t) (wB t) (wB t) (wC t) (wB t) (wC t) (wD t))
    {Q : (Σ' (_ : BitVec 32) (_ : BitVec 32) (_ : BitVec 32) (_ : BitVec 32) (_ : BitVec 1) (_ : BitVec 1), BitVec 1) → sProp 𝕄} :
    iprop((rd0 c ringZ DZ t ∗ rd0 c ringM DM t ∗ rd0 c ringN DN t) ∗ ((rd1 c ringZ DZ t ∗ rd1 c ringM DM t ∗ rd1 c ringN DN t) -∗ Q ⟨wA (t.val + 1), wA (t.val + 1), wA (t.val + 1), wA (t.val + 1), Scalar.cmpi .ne (wD t) (wE t), bLast t, 1#1⟩))
      ⊢ wp frame (wpE (defs₀ (F := F)) Variants.none c none) Set.univ (k0_part3 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 t (wA t) (wB t) (wA t) (wB t) (wA t) (wB t) (wA t) (wB t) (wA t) (wB t) (wA t) (wB t) (wA t) (wB t) (wB t) (wC t) (wB t) (wC t) (wD t) hw (wB t) (wD t) (wE t) (wF t) (bSend t)) Q := by
  rw [k0_part3_eq_skeleton]
  unfold k0_part3_skel
  iintro ⟨⟨HZ, HM, HN⟩, HK⟩
  by_cases h : t.val + 2 < 64
  · simp only [Prog.bind_lift, dif_pos ((cond12_iff t).2 h), dif_pos ((cond13_iff t).2 h), dif_pos ((cond14_iff t).2 h)]
    iapply (wp_send c ringZ DZ t h (blkZ_of _ ⟨t.val + 2, h⟩ (off40_eq t h)) (slotZ_of _ (sl3 (t.val + 2)) (off39_eq t h)) (cellZ_of _ (sl3 (t.val + 2)) (off38_eq t h)))
    isplitl [HZ]; · iexact HZ
    iintro HZ
    iapply (wp_send c ringM DM t h (blkM_of _ ⟨t.val + 2, h⟩ (off43_eq t h)) (slotM_of _ (sl3 (t.val + 2)) (off42_eq t h)) (cellM_of _ (sl3 (t.val + 2)) (off41_eq t h)))
    isplitl [HM]; · iexact HM
    iintro HM
    iapply (wp_send c ringN DN t h (blkN_of _ ⟨t.val + 2, h⟩ (off46_eq t h)) (slotN_of _ (sl3 (t.val + 2)) (off45_eq t h)) (cellN_of _ (sl3 (t.val + 2)) (off44_eq t h)))
    isplitl [HN]; · iexact HN
    iintro HN
    iapply (wp_done c (b := ⟨wA (t.val + 1), wA (t.val + 1), wA (t.val + 1), wA (t.val + 1), Scalar.cmpi .ne (wD t) (wE t), bLast t, 1#1⟩) (by clear hw; revert t; decide +kernel))
    iapply HK
    isplitl [HZ]; · iexact HZ
    isplitl [HM]; · iexact HM
    iexact HN
  · simp only [Prog.bind_lift, dif_neg (mt (cond12_iff t).1 h), dif_neg (mt (cond13_iff t).1 h), dif_neg (mt (cond14_iff t).1 h)]
    ihave HZ := (rd_skip c ringZ DZ t h) $$ HZ
    ihave HM := (rd_skip c ringM DM t h) $$ HM
    ihave HN := (rd_skip c ringN DN t h) $$ HN
    iapply (wp_done c (b := ⟨wA (t.val + 1), wA (t.val + 1), wA (t.val + 1), wA (t.val + 1), Scalar.cmpi .ne (wD t) (wE t), bLast t, 1#1⟩) (by clear hw; revert t; decide +kernel))
    iapply HK
    isplitl [HZ]; · iexact HZ
    isplitl [HM]; · iexact HM
    iexact HN

/-- The first five waits. -/
theorem part4_spec (t : Fin k0_t1_loop.trips) (hw : k0_chk1 t (wA t) (wB t) (wA t) (wB t) (wA t) (wB t) (wA t) (wB t) (wA t) (wB t) (wA t) (wB t) (wA t) (wB t) (wB t) (wC t) (wB t) (wC t) (wD t)) (v166 : BitVec 1) (v168 v173 v178 : BitVec 32) (v259 v260 v261 : BitVec 1)
    {Q : (Σ' (_ : BitVec 32), BitVec 32) → sProp 𝕄} :
    iprop((rd1 c ringX DX t ∗ rd1 c ringY DY t ∗ rd1 c ringP DP t ∗ rd1 c ringG DG t ∗ rd1 c ringZ DZ t ∗ (∃ W, owes (c : Thread nD τ) 0 W)) ∗ (∀ w, (rd2 c ringX DX (tr t) ∗ rd2 c ringY DY (tr t) ∗ rd2 c ringP DP (tr t) ∗ rd2 c ringG DG (tr t) ∗ rd2 c ringZ DZ (tr t) ∗ (∃ W, owes (c : Thread nD τ) 0 W)) -∗ Q ⟨w, 0#32⟩))
      ⊢ wp frame (wpE (defs₀ (F := F)) Variants.none c none) Set.univ (k0_part4 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 t (wA t) (wB t) (wA t) (wB t) (wA t) (wB t) (wA t) (wB t) (wA t) (wB t) (wA t) (wB t) (wA t) (wB t) (wB t) (wC t) (wB t) (wC t) (wD t) hw (wB t) v166 v168 v173 v178 v259 v260 v261) Q := by
  rw [k0_part4_eq_skeleton]
  unfold k0_part4_skel
  iintro ⟨⟨HX, HY, HP, HG, HZ, HW⟩, HK⟩
  simp only [Prog.bind_lift, dif_pos (cond15_pos t), dif_pos (cond16_pos t), dif_pos (cond17_pos t), dif_pos (cond18_pos t), dif_pos (cond19_pos t), ite_self]
  iapply (wp_arrive c ringX DX (tr t) (slotX_of _ (sl3 t.val) (off48_eq t)) (cellX_of _ (sl3 t.val) (off47_eq t)))
  isplitl [HX HW]
  · isplitl [HX]; · iexact HX
    iexact HW
  iintro ⟨HX, HW⟩
  iapply (wp_arrive c ringY DY (tr t) (slotY_of _ (sl3 t.val) (off51_eq t)) (cellY_of _ (sl3 t.val) (off50_eq t)))
  isplitl [HY HW]
  · isplitl [HY]; · iexact HY
    iexact HW
  iintro ⟨HY, HW⟩
  iapply (wp_arrive c ringP DP (tr t) (slotP_of _ (sl3 t.val) (off54_eq t)) (cellP_of _ (sl3 t.val) (off53_eq t)))
  isplitl [HP HW]
  · isplitl [HP]; · iexact HP
    iexact HW
  iintro ⟨HP, HW⟩
  iapply (wp_arrive c ringG DG (tr t) (slotG_of _ (sl3 t.val) (off57_eq t)) (cellG_of _ (sl3 t.val) (off56_eq t)))
  isplitl [HG HW]
  · isplitl [HG]; · iexact HG
    iexact HW
  iintro ⟨HG, HW⟩
  iapply (wp_arrive c ringZ DZ (tr t) (slotZ_of _ (sl3 t.val) (off60_eq t)) (cellZ_of _ (sl3 t.val) (off59_eq t)))
  isplitl [HZ HW]
  · isplitl [HZ]; · iexact HZ
    iexact HW
  iintro ⟨HZ, HW⟩
  iapply (wp_over c)
  iapply HK
  isplitl [HX]; · iexact HX
  isplitl [HY]; · iexact HY
  isplitl [HP]; · iexact HP
  isplitl [HG]; · iexact HG
  isplitl [HZ]; · iexact HZ
  iexact HW

/-- The last two waits, and the second permutation, loaded. -/
theorem part5_spec (t : Fin k0_t1_loop.trips) (hw2 : k0_chk2 (wB t)) (hw : k0_chk1 t (wA t) (wB t) (wA t) (wB t) (wA t) (wB t) (wA t) (wB t) (wA t) (wB t) (wA t) (wB t) (wA t) (wB t) (wB t) (wC t) (wB t) (wC t) (wD t)) (v166 : BitVec 1) (v168 v173 v301 v302 : BitVec 32) (f13 : S2x128x128.Idx → Elt F .bf16)
    {Q : (Σ' (_ : BitVec 32) (_ : BitVec 32) (_ : BitVec 32) (_ : BitVec 32) (_ : BitVec 32) (_ : BitVec 32) (_ : BitVec 32) (_ : BitVec 32), FVec F S128x128 .bf16) → sProp 𝕄} :
    iprop((rd1 c ringM DM t ∗ rd1 c ringN DN t ∗ (∃ W, owes (c : Thread nD τ) 0 W) ∗ owns (c : Thread nD τ) a13 fullShare f13) ∗ (∀ w1 w2 w3 w4 w5 w6 w7 w8, (rd2 c ringM DM (tr t) ∗ rd2 c ringN DN (tr t) ∗ (∃ W, owes (c : Thread nD τ) 0 W) ∗ owns (c : Thread nD τ) a13 fullShare f13) -∗ Q ⟨w1, w2, w3, w4, w5, w6, w7, w8, k0_pay1 (VecWindow.window f13 ![1, 0, 0] S1x128x128.size inb_S2x128x128_S1x128x128_1_0_0)⟩))
      ⊢ wp frame (wpE (defs₀ (F := F)) Variants.none c none) Set.univ (k0_part5 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 t (wA t) (wB t) (wA t) (wB t) (wA t) (wB t) (wA t) (wB t) (wA t) (wB t) (wA t) (wB t) (wA t) (wB t) (wB t) (wC t) (wB t) (wC t) (wD t) hw2 hw (wB t) v166 v168 v173 v301 v302) Q := by
  rw [k0_part5_eq_skeleton]
  unfold k0_part5_skel
  iintro ⟨⟨HM, HN, HW, HE⟩, HK⟩
  simp only [Prog.bind_lift, dif_pos (cond20_pos t), dif_pos (cond21_pos t), ite_self]
  iapply (wp_arrive c ringM DM (tr t) (slotM_of _ (sl3 t.val) (off63_eq t)) (cellM_of _ (sl3 t.val) (off62_eq t)))
  isplitl [HM HW]
  · isplitl [HM]; · iexact HM
    iexact HW
  iintro ⟨HM, HW⟩
  iapply (wp_arrive c ringN DN (tr t) (slotN_of _ (sl3 t.val) (off66_eq t)) (cellN_of _ (sl3 t.val) (off65_eq t)))
  isplitl [HN HW]
  · isplitl [HN]; · iexact HN
    iexact HW
  iintro ⟨HN, HW⟩
  iapply (wp_read (m' := a13) (X := f13) (Q := Q) c rfl ![1, 0, 0] S1x128x128.size inb_S2x128x128_S1x128x128_1_0_0)
  isplitl [HE]; · iexact HE
  iintro HE
  iapply (wp_over c)
  iapply HK
  isplitl [HM]; · iexact HM
  isplitl [HN]; · iexact HN
  isplitl [HW]; · iexact HW
  iexact HE

end Cert.KernelIdeal.Hand

end
-- ==== Proof.Compute.lean ====
module
public import proofs.«01_k».proof.Proof.Words
public import proofs.«01_k».proof.Proof.Access
public import proofs.«01_k».proof.Proof.Gen.KernelIdeal.Skeleton

/-!
# What the trip computes

Six parts of the trip's body compute on the trip's blocks. The first three
permute the block of `yn` into the scratch array, a quarter at a time; the rest
form the two blocks of results.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

/-- A coordinate of the scratch array, as a coordinate of the quarter it lies in. -/
def quarterIdx (i : S16x4x8x512.Idx) : S16x1x8x512.Idx :=
  fun a => ⟨if a = 1 then 0 else (i a).val, by
    have := (i a).isLt
    revert this
    match a with
    | 0 => exact fun h => h
    | 1 => exact fun _ => Nat.one_pos
    | 2 => exact fun h => h
    | 3 => exact fun h => h⟩

/-- The array whose quarters along the second axis are the four given. -/
def quarters {α : Type} (w0 w1 w2 w3 : S16x1x8x512.Idx → α) : S16x4x8x512.Idx → α :=
  fun i => if (i 1).val = 0 then w0 (quarterIdx i) else if (i 1).val = 1 then w1 (quarterIdx i)
    else if (i 1).val = 2 then w2 (quarterIdx i) else w3 (quarterIdx i)

theorem unitLocal_quarter (q : ℕ) (i : S16x4x8x512.Idx) (h : ∀ a, (![0, q, 0, 0] : Fin 4 → ℕ) a ≤ (i a).val ∧ (i a).val < (![0, q, 0, 0] : Fin 4 → ℕ) a + S16x1x8x512.size a) :
    Rect.unitLocal (s := S16x4x8x512) (off := ![0, q, 0, 0]) (size := S16x1x8x512.size) i h = quarterIdx i := by
  funext a
  apply Fin.ext
  have hh := h a
  show (i a).val - (![0, q, 0, 0] : Fin 4 → ℕ) a = if a = 1 then 0 else (i a).val
  revert hh
  match a with
  | 0 => intro hh; rfl
  | 1 => intro hh
         have h1 : q ≤ (i 1).val ∧ (i 1).val < q + 1 := hh
         show (i 1).val - q = 0
         omega
  | 2 => intro hh; rfl
  | 3 => intro hh; rfl

theorem inQuarter (q : ℕ) (i : S16x4x8x512.Idx) :
    (∀ a, (![0, q, 0, 0] : Fin 4 → ℕ) a ≤ (i a).val ∧ (i a).val < (![0, q, 0, 0] : Fin 4 → ℕ) a + S16x1x8x512.size a) ↔ (i 1).val = q := by
  constructor
  · intro h
    have h1 : q ≤ (i 1).val ∧ (i 1).val < q + 1 := h 1
    omega
  · intro h a
    match a with
    | 0 => exact ⟨Nat.zero_le _, (Nat.zero_add _).symm ▸ (i 0).isLt⟩
    | 1 => exact (show q ≤ (i 1).val ∧ (i 1).val < q + 1 by omega)
    | 2 => exact ⟨Nat.zero_le _, (Nat.zero_add _).symm ▸ (i 2).isLt⟩
    | 3 => exact ⟨Nat.zero_le _, (Nat.zero_add _).symm ▸ (i 3).isLt⟩

theorem put_quarter {α : Type} (x : S16x4x8x512.Idx → α) (q : ℕ) (w : S16x1x8x512.Idx → α) (i : S16x4x8x512.Idx) :
    VecWindow.put x ![0, q, 0, 0] S16x1x8x512.size w i = if (i 1).val = q then w (quarterIdx i) else x i := by
  by_cases h : (i 1).val = q
  · rw [if_pos h]
    unfold VecWindow.put
    rw [dif_pos ((inQuarter q i).2 h)]
    exact congrArg w (unitLocal_quarter q i _)
  · rw [if_neg h]
    unfold VecWindow.put
    rw [dif_neg (mt (inQuarter q i).1 h)]

/-- Four quarters put in turn make the whole array, whatever was there. -/
theorem put_quarters {α : Type} (x : S16x4x8x512.Idx → α) (w0 w1 w2 w3 : S16x1x8x512.Idx → α) :
    VecWindow.put (VecWindow.put (VecWindow.put (VecWindow.put x ![0, 0, 0, 0] S16x1x8x512.size w0) ![0, 1, 0, 0] S16x1x8x512.size w1)
      ![0, 2, 0, 0] S16x1x8x512.size w2) ![0, 3, 0, 0] S16x1x8x512.size w3 = quarters w0 w1 w2 w3 := by
  funext i
  have h4 : (i 1).val < 4 := (i 1).isLt
  rw [put_quarter, put_quarter, put_quarter, put_quarter]
  unfold quarters
  generalize (i 1).val = n at *
  split_ifs <;> first | rfl | omega

/-- The second permutation matrix. -/
def perm2 (f13 : S2x128x128.Idx → Elt F .bf16) : FVec F S128x128 .bf16 := k0_pay1 (VecWindow.window f13 ![1, 0, 0] S1x128x128.size (by decide))
/-- Eight time steps of a block of `yn`. -/
def steps8 (Y : S32x16x512.Idx → Elt F .f32) (q : Fin 4) : Vec F S8x16x512 .f32 :=
  VecWindow.window Y ![8 * q.val, 0, 0] S8x16x512.size (by revert q; decide)
/-- The block of `yn`, each eight time steps of it permuted. -/
def permuted (p : FVec F S128x128 .bf16) (Y : S32x16x512.Idx → Elt F .f32) : S16x4x8x512.Idx → Elt F .f32 :=
  quarters (k0_pay2 p (steps8 Y 0)) (k0_pay4 (k0_pay3 p (steps8 Y 1))) (k0_pay5 p (steps8 Y 2))
    (k0_pay13 p (k0_pay9 p (steps8 Y 3)) (k0_pay11 (steps8 Y 3)) (k0_pay12 p (steps8 Y 3)))

/-- The contents of the arrays that stay. -/
structure Resident (F : FTy → Type) where
  f7 : S6x16x8x1024.Idx → Elt F .f32
  f8 : S2x512.Idx → Elt F .f32
  f9 : S1x1024.Idx → Elt F .f32
  f10 : S512x1024.Idx → Elt F .bf16
  f11 : S512x1024.Idx → Elt F .bf16
  f12 : S1024x1024.Idx → Elt F .bf16
  f13 : S2x128x128.Idx → Elt F .bf16

/-- The contents of one trip's blocks. -/
structure Blocks (F : FTy → Type) where
  X : S16x32x1024.Idx → Elt F .f32
  Y : S32x16x512.Idx → Elt F .f32
  P : S16x32x512.Idx → Elt F .bf16
  G : S16x32x512.Idx → Elt F .bf16
  Z : S16x32x512.Idx → Elt F .bf16
  M : S16x32x1024.Idx → Elt F .bf16
  N : S16x32x1024.Idx → Elt F .bf16

/-- The first branch's product. -/
def branchA (R : Resident F) (B : Blocks F) : FVec F S512x1024 .f32 :=
  k0_pay14 (VecWindow.window (permuted (perm2 R.f13) B.Y) ![0, 0, 0, 0] S16x4x8x512.size (by decide)) (VecWindow.window R.f8 ![0, 0] S1x512.size (by decide)) (VecWindow.window R.f8 ![1, 0] S1x512.size (by decide))
    (lead (s := S1x16x32x512) squeezes_S1x16x32x512_S16x32x512 B.P) (lead (s := S1x16x32x512) squeezes_S1x16x32x512_S16x32x512 B.G) (VecWindow.window R.f10 ![0, 0] S512x1024.size (by decide))
/-- The new residual rows, as a matrix. -/
def rowsH (R : Resident F) (B : Blocks F) (a : FVec F S512x1024 .f32) : FVec F S512x1024 .f32 :=
  k0_pay15 a (lead (s := S1x16x32x512) squeezes_S1x16x32x512_S16x32x512 B.Z) (VecWindow.window R.f11 ![0, 0] S512x1024.size (by decide)) (lead (s := S1x16x32x1024) squeezes_S1x16x32x1024_S16x32x1024 B.M) (lead (s := S1x16x32x1024) squeezes_S1x16x32x1024_S16x32x1024 B.N)
    (lead (s := S1x16x32x1024) squeezes_S1x16x32x1024_S16x32x1024 B.X) (VecWindow.window R.f7 ![2, 0, 0, 0] S1x16x8x1024.size (by decide)) (VecWindow.window R.f12 ![0, 0] S1024x1024.size (by decide))
/-- The new residual rows, as the block. -/
def rowsH' (R : Resident F) (B : Blocks F) (a : FVec F S512x1024 .f32) : FVec F S16x32x1024 .f32 :=
  k0_pay16 a (lead (s := S1x16x32x512) squeezes_S1x16x32x512_S16x32x512 B.Z) (VecWindow.window R.f11 ![0, 0] S512x1024.size (by decide)) (lead (s := S1x16x32x1024) squeezes_S1x16x32x1024_S16x32x1024 B.M) (lead (s := S1x16x32x1024) squeezes_S1x16x32x1024_S16x32x1024 B.N)
    (lead (s := S1x16x32x1024) squeezes_S1x16x32x1024_S16x32x1024 B.X) (VecWindow.window R.f7 ![2, 0, 0, 0] S1x16x8x1024.size (by decide)) (VecWindow.window R.f12 ![0, 0] S1024x1024.size (by decide))
/-- The normalised, modulated rows. -/
def rowsU (R : Resident F) (a : FVec F S512x1024 .f32) : FVec F S16x32x1024 .bf16 :=
  k0_pay18 a (VecWindow.window R.f9 ![0, 0] S1x1024.size (by decide)) (VecWindow.window R.f7 ![4, 0, 0, 0] S1x16x8x1024.size (by decide)) (VecWindow.window R.f7 ![3, 0, 0, 0] S1x16x8x1024.size (by decide))
/-- The block of the first result. -/
def hBlk (R : Resident F) (B : Blocks F) : S16x32x1024.Idx → Elt F .f32 :=
  unlead squeezes_S1x16x32x1024_S16x32x1024 (k0_pay17 (rowsH' R B (branchA R B)))
/-- The block of the second result. -/
def uBlk (R : Resident F) (B : Blocks F) : S16x32x1024.Idx → Elt F .bf16 :=
  unlead squeezes_S1x16x32x1024_S16x32x1024 (k0_pay19 (rowsU R (rowsH R B (branchA R B))))

variable (a7 : Memref sig .tc .vmem S6x16x8x1024 .f32) (h7 : a7.IsWhole) (a8 : Memref sig .tc .vmem S2x512 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (a12 : Memref sig .tc .vmem S1024x1024 .bf16) (h12 : a12.IsWhole) (a13 : Memref sig .tc .vmem S2x128x128 .bf16) (h13 : a13.IsWhole)
variable (c : Dev nD)

/-- The first quarter, and the second computed. -/
theorem part6_spec (t : Fin k0_t1_loop.trips) (hw2 : k0_chk2 (wB t)) (p : FVec F S128x128 .bf16) (Y : S32x16x512.Idx → Elt F .f32) (z : S16x4x8x512.Idx → Elt F .f32) {Q : FVec F S16x8x512 .f32 → sProp 𝕄} :
    iprop((owns (c : Thread nD τ) (slotY (sl3 t.val)) fullShare Y ∗ owns (c : Thread nD τ) (Memref.whole cc0_scratch0) fullShare z) ∗ ((owns (c : Thread nD τ) (slotY (sl3 t.val)) fullShare Y ∗ owns (c : Thread nD τ) (Memref.whole cc0_scratch0) fullShare (VecWindow.put z ![0, 0, 0, 0] S16x1x8x512.size (k0_pay2 p (steps8 Y 0)))) -∗ Q (k0_pay3 p (steps8 Y 1))))
      ⊢ wp frame (wpE (defs₀ (F := F)) Variants.none c none) Set.univ (k0_part6 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (wB t) hw2 p) Q := by
  rw [k0_part6_eq_skeleton]
  unfold k0_part6_skel
  iintro ⟨⟨HY, HS⟩, HK⟩
  simp only [Prog.bind_lift, ite_self]
  iapply (wp_read (m' := (slotY (sl3 t.val))) (X := Y) (Q := Q) c (slotY_of _ (sl3 t.val) (off68_eq t)) ![0, 0, 0] S8x16x512.size _)
  isplitl [HY]; · iexact HY
  iintro HY
  iapply (wp_read (m' := (Memref.whole cc0_scratch0)) (X := z) (Q := Q) c rfl ![0, 0, 0, 0] S16x1x8x512.size _)
  isplitl [HS]; · iexact HS
  iintro HS
  iapply (wp_write (m' := (Memref.whole cc0_scratch0)) (X := z) (Q := Q) c rfl ![0, 0, 0, 0] S16x1x8x512.size _)
  isplitl [HS]; · iexact HS
  iintro HS
  iapply (wp_read (m' := (slotY (sl3 t.val))) (X := Y) (Q := Q) c (slotY_of _ (sl3 t.val) (off68_eq t)) ![8, 0, 0] S8x16x512.size _)
  isplitl [HY]; · iexact HY
  iintro HY
  iapply (wp_done c (b := ((k0_pay3 p (steps8 Y 1)) : FVec F S16x8x512 .f32)) rfl)
  iapply HK
  isplitl [HY]; · iexact HY
  iexact HS

/-- The second quarter and the third, and the fourth begun. -/
theorem part7_spec (t : Fin k0_t1_loop.trips) (hw2 : k0_chk2 (wB t)) (p : FVec F S128x128 .bf16) (Y : S32x16x512.Idx → Elt F .f32) (z : S16x4x8x512.Idx → Elt F .f32) (v : FVec F S16x8x512 .f32) {Q : (Σ' (_ : FVec F S128x512 .f32) (_ : FVec F S128x512 .f32), FVec F S128x512 .f32) → sProp 𝕄} :
    iprop((owns (c : Thread nD τ) (slotY (sl3 t.val)) fullShare Y ∗ owns (c : Thread nD τ) (Memref.whole cc0_scratch0) fullShare z) ∗ ((owns (c : Thread nD τ) (slotY (sl3 t.val)) fullShare Y ∗ owns (c : Thread nD τ) (Memref.whole cc0_scratch0) fullShare (VecWindow.put (VecWindow.put z ![0, 1, 0, 0] S16x1x8x512.size (k0_pay4 v)) ![0, 2, 0, 0] S16x1x8x512.size (k0_pay5 p (steps8 Y 2)))) -∗ Q ⟨k0_pay9 p (steps8 Y 3), k0_pay11 (steps8 Y 3), k0_pay12 p (steps8 Y 3)⟩))
      ⊢ wp frame (wpE (defs₀ (F := F)) Variants.none c none) Set.univ (k0_part7 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (wB t) hw2 p v) Q := by
  rw [k0_part7_eq_skeleton]
  unfold k0_part7_skel
  iintro ⟨⟨HY, HS⟩, HK⟩
  simp only [Prog.bind_lift, ite_self]
  iapply (wp_read (m' := (Memref.whole cc0_scratch0)) (X := z) (Q := Q) c rfl ![0, 1, 0, 0] S16x1x8x512.size _)
  isplitl [HS]; · iexact HS
  iintro HS
  iapply (wp_write (m' := (Memref.whole cc0_scratch0)) (X := z) (Q := Q) c rfl ![0, 1, 0, 0] S16x1x8x512.size _)
  isplitl [HS]; · iexact HS
  iintro HS
  iapply (wp_read (m' := (slotY (sl3 t.val))) (X := Y) (Q := Q) c (slotY_of _ (sl3 t.val) (off68_eq t)) ![16, 0, 0] S8x16x512.size _)
  isplitl [HY]; · iexact HY
  iintro HY
  iapply (wp_read (m' := (Memref.whole cc0_scratch0)) (X := (VecWindow.put z ![0, 1, 0, 0] S16x1x8x512.size (k0_pay4 v))) (Q := Q) c rfl ![0, 2, 0, 0] S16x1x8x512.size _)
  isplitl [HS]; · iexact HS
  iintro HS
  iapply (wp_write (m' := (Memref.whole cc0_scratch0)) (X := (VecWindow.put z ![0, 1, 0, 0] S16x1x8x512.size (k0_pay4 v))) (Q := Q) c rfl ![0, 2, 0, 0] S16x1x8x512.size _)
  isplitl [HS]; · iexact HS
  iintro HS
  iapply (wp_read (m' := (slotY (sl3 t.val))) (X := Y) (Q := Q) c (slotY_of _ (sl3 t.val) (off68_eq t)) ![24, 0, 0] S8x16x512.size _)
  isplitl [HY]; · iexact HY
  iintro HY
  iapply (wp_done c (b := (⟨k0_pay9 p (steps8 Y 3), k0_pay11 (steps8 Y 3), k0_pay12 p (steps8 Y 3)⟩ : (Σ' (_ : FVec F S128x512 .f32) (_ : FVec F S128x512 .f32), FVec F S128x512 .f32))) rfl)
  iapply HK
  isplitl [HY]; · iexact HY
  iexact HS

/-- The fourth quarter, and the first branch's product. -/
theorem part8_spec (t : Fin k0_t1_loop.trips) (hw4 : k0_chk4 (wB t)) (hw3 : k0_chk3 (wB t)) (v323 v324 v325 : BitVec 32) (p : FVec F S128x128 .bf16) (v405 v408 v409 : FVec F S128x512 .f32) (z zf : S16x4x8x512.Idx → Elt F .f32) (hz : VecWindow.put z ![0, 3, 0, 0] S16x1x8x512.size (k0_pay13 p v405 v408 v409) = zf) (P G : S16x32x512.Idx → Elt F .bf16) (f8 : S2x512.Idx → Elt F .f32) (f10 : S512x1024.Idx → Elt F .bf16) {Q : FVec F S512x1024 .f32 → sProp 𝕄} :
    iprop((owns (c : Thread nD τ) (Memref.whole cc0_scratch0) fullShare z ∗ owns (c : Thread nD τ) a8 fullShare f8 ∗ owns (c : Thread nD τ) (slotP (sl3 t.val)) fullShare P ∗ owns (c : Thread nD τ) (slotG (sl3 t.val)) fullShare G ∗ owns (c : Thread nD τ) a10 fullShare f10) ∗ ((owns (c : Thread nD τ) (Memref.whole cc0_scratch0) fullShare zf ∗ owns (c : Thread nD τ) a8 fullShare f8 ∗ owns (c : Thread nD τ) (slotP (sl3 t.val)) fullShare P ∗ owns (c : Thread nD τ) (slotG (sl3 t.val)) fullShare G ∗ owns (c : Thread nD τ) a10 fullShare f10) -∗ Q (k0_pay14 (VecWindow.window zf ![0, 0, 0, 0] S16x4x8x512.size (by decide)) (VecWindow.window f8 ![0, 0] S1x512.size (by decide)) (VecWindow.window f8 ![1, 0] S1x512.size (by decide)) (lead (s := S1x16x32x512) squeezes_S1x16x32x512_S16x32x512 P) (lead (s := S1x16x32x512) squeezes_S1x16x32x512_S16x32x512 G) (VecWindow.window f10 ![0, 0] S512x1024.size (by decide)))))
      ⊢ wp frame (wpE (defs₀ (F := F)) Variants.none c none) Set.univ (k0_part8 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (wB t) (wB t) hw4 hw3 v323 v324 v325 p v405 v408 v409) Q := by
  rw [k0_part8_eq_skeleton]
  unfold k0_part8_skel
  iintro ⟨⟨HS, H8, HP, HG, H10⟩, HK⟩
  simp only [Prog.bind_lift, ite_self]
  iapply (wp_read (m' := (Memref.whole cc0_scratch0)) (X := z) (Q := Q) c rfl ![0, 3, 0, 0] S16x1x8x512.size _)
  isplitl [HS]; · iexact HS
  iintro HS
  iapply (wp_write (m' := (Memref.whole cc0_scratch0)) (X := z) (Q := Q) c rfl ![0, 3, 0, 0] S16x1x8x512.size _)
  isplitl [HS]; · iexact HS
  iintro HS
  rw [hz]
  iapply (wp_read (m' := (Memref.whole cc0_scratch0)) (X := zf) (Q := Q) c rfl ![0, 0, 0, 0] S16x4x8x512.size _)
  isplitl [HS]; · iexact HS
  iintro HS
  iapply (wp_read (m' := a8) (X := f8) (Q := Q) c rfl ![0, 0] S1x512.size _)
  isplitl [H8]; · iexact H8
  iintro H8
  iapply (wp_read (m' := a8) (X := f8) (Q := Q) c rfl ![1, 0] S1x512.size _)
  isplitl [H8]; · iexact H8
  iintro H8
  iapply (wp_readSlot (sl := slotP (sl3 t.val)) (X := P) (Q := Q) c squeezes_S1x16x32x512_S16x32x512 (slotP_of _ (sl3 t.val) (off69_eq t)))
  isplitl [HP]; · iexact HP
  iintro HP
  iapply (wp_readSlot (sl := slotG (sl3 t.val)) (X := G) (Q := Q) c squeezes_S1x16x32x512_S16x32x512 (slotG_of _ (sl3 t.val) (off70_eq t)))
  isplitl [HG]; · iexact HG
  iintro HG
  iapply (wp_read (m' := a10) (X := f10) (Q := Q) c rfl ![0, 0] S512x1024.size _)
  isplitl [H10]; · iexact H10
  iintro H10
  iapply (wp_over c)
  iapply HK
  isplitl [HS]; · iexact HS
  isplitl [H8]; · iexact H8
  isplitl [HP]; · iexact HP
  isplitl [HG]; · iexact HG
  iexact H10

/-- The second branch, the merge, the projection and the residual. -/
theorem part9_spec (t : Fin k0_t1_loop.trips) (hw8 : k0_chk8 (wB t)) (hw7 : k0_chk7 (wB t)) (hw6 : k0_chk6 (wB t)) (hw5 : k0_chk5 (wB t)) (v321 v326 v327 : BitVec 32) (R : Resident F) (B : Blocks F) (a : FVec F S512x1024 .f32) {Q : (Σ' (_ : FVec F S512x1024 .f32), FVec F S16x32x1024 .f32) → sProp 𝕄} :
    iprop((owns (c : Thread nD τ) (slotZ (sl3 t.val)) fullShare B.Z ∗ owns (c : Thread nD τ) a11 fullShare R.f11 ∗ owns (c : Thread nD τ) (slotM (sl3 t.val)) fullShare B.M ∗ owns (c : Thread nD τ) (slotN (sl3 t.val)) fullShare B.N ∗ owns (c : Thread nD τ) (slotX (sl3 t.val)) fullShare B.X ∗ owns (c : Thread nD τ) a7 fullShare R.f7 ∗ owns (c : Thread nD τ) a12 fullShare R.f12) ∗ ((owns (c : Thread nD τ) (slotZ (sl3 t.val)) fullShare B.Z ∗ owns (c : Thread nD τ) a11 fullShare R.f11 ∗ owns (c : Thread nD τ) (slotM (sl3 t.val)) fullShare B.M ∗ owns (c : Thread nD τ) (slotN (sl3 t.val)) fullShare B.N ∗ owns (c : Thread nD τ) (slotX (sl3 t.val)) fullShare B.X ∗ owns (c : Thread nD τ) a7 fullShare R.f7 ∗ owns (c : Thread nD τ) a12 fullShare R.f12) -∗ Q ⟨rowsH R B a, rowsH' R B a⟩))
      ⊢ wp frame (wpE (defs₀ (F := F)) Variants.none c none) Set.univ (k0_part9 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (wB t) (wB t) (wB t) (wB t) hw8 hw7 hw6 hw5 v321 v326 v327 a) Q := by
  rw [k0_part9_eq_skeleton]
  unfold k0_part9_skel
  iintro ⟨⟨HZ, H11, HM, HN, HX, H7, H12⟩, HK⟩
  simp only [Prog.bind_lift, ite_self]
  iapply (wp_readSlot (sl := slotZ (sl3 t.val)) (X := B.Z) (Q := Q) c squeezes_S1x16x32x512_S16x32x512 (slotZ_of _ (sl3 t.val) (off71_eq t)))
  isplitl [HZ]; · iexact HZ
  iintro HZ
  iapply (wp_read (m' := a11) (X := R.f11) (Q := Q) c rfl ![0, 0] S512x1024.size _)
  isplitl [H11]; · iexact H11
  iintro H11
  iapply (wp_readSlot (sl := slotM (sl3 t.val)) (X := B.M) (Q := Q) c squeezes_S1x16x32x1024_S16x32x1024 (slotM_of _ (sl3 t.val) (off72_eq t)))
  isplitl [HM]; · iexact HM
  iintro HM
  iapply (wp_readSlot (sl := slotN (sl3 t.val)) (X := B.N) (Q := Q) c squeezes_S1x16x32x1024_S16x32x1024 (slotN_of _ (sl3 t.val) (off73_eq t)))
  isplitl [HN]; · iexact HN
  iintro HN
  iapply (wp_readSlot (sl := slotX (sl3 t.val)) (X := B.X) (Q := Q) c squeezes_S1x16x32x1024_S16x32x1024 (slotX_of _ (sl3 t.val) (off74_eq t)))
  isplitl [HX]; · iexact HX
  iintro HX
  iapply (wp_read (m' := a7) (X := R.f7) (Q := Q) c rfl ![2, 0, 0, 0] S1x16x8x1024.size _)
  isplitl [H7]; · iexact H7
  iintro H7
  iapply (wp_read (m' := a12) (X := R.f12) (Q := Q) c rfl ![0, 0] S1024x1024.size _)
  isplitl [H12]; · iexact H12
  iintro H12
  iapply (wp_done c (b := (⟨rowsH R B a, rowsH' R B a⟩ : (Σ' (_ : FVec F S512x1024 .f32), FVec F S16x32x1024 .f32))) rfl)
  iapply HK
  isplitl [HZ]; · iexact HZ
  isplitl [H11]; · iexact H11
  isplitl [HM]; · iexact HM
  isplitl [HN]; · iexact HN
  isplitl [HX]; · iexact HX
  isplitl [H7]; · iexact H7
  iexact H12

/-- The first block of results stored, and the second computed. -/
theorem part10_spec (t : Fin k0_t1_loop.trips) (hw10 : k0_chk10 (wB t)) (hw9 : k0_chk9 (wB t)) (v328 v329 : BitVec 32) (R : Resident F) (a : FVec F S512x1024 .f32) (b : FVec F S16x32x1024 .f32) (dH : S16x32x1024.Idx → Elt F .f32) (dU : S16x32x1024.Idx → Elt F .bf16) {Q : FVec F S16x32x1024 .bf16 → sProp 𝕄} :
    iprop((owns (c : Thread nD τ) (slotH (sl2 t.val)) fullShare dH ∗ owns (c : Thread nD τ) a9 fullShare R.f9 ∗ owns (c : Thread nD τ) a7 fullShare R.f7 ∗ owns (c : Thread nD τ) (slotU (sl2 t.val)) fullShare dU) ∗ ((owns (c : Thread nD τ) (slotH (sl2 t.val)) fullShare (unlead squeezes_S1x16x32x1024_S16x32x1024 (k0_pay17 b)) ∗ owns (c : Thread nD τ) a9 fullShare R.f9 ∗ owns (c : Thread nD τ) a7 fullShare R.f7 ∗ owns (c : Thread nD τ) (slotU (sl2 t.val)) fullShare dU) -∗ Q (rowsU R a)))
      ⊢ wp frame (wpE (defs₀ (F := F)) Variants.none c none) Set.univ (k0_part10 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (wB t) (wB t) hw10 hw9 v328 v329 a b) Q := by
  rw [k0_part10_eq_skeleton]
  unfold k0_part10_skel
  iintro ⟨⟨HH, H9, H7, HU⟩, HK⟩
  simp only [Prog.bind_lift, ite_self]
  iapply (wp_readSlot (sl := slotH (sl2 t.val)) (X := dH) (Q := Q) c squeezes_S1x16x32x1024_S16x32x1024 (slotH_of _ (sl2 t.val) (off75_eq t)))
  isplitl [HH]; · iexact HH
  iintro HH
  iapply (wp_writeSlot (sl := slotH (sl2 t.val)) (X := dH) (Q := Q) c squeezes_S1x16x32x1024_S16x32x1024 (slotH_of _ (sl2 t.val) (off75_eq t)))
  isplitl [HH]; · iexact HH
  iintro HH
  iapply (wp_read (m' := a9) (X := R.f9) (Q := Q) c rfl ![0, 0] S1x1024.size _)
  isplitl [H9]; · iexact H9
  iintro H9
  iapply (wp_read (m' := a7) (X := R.f7) (Q := Q) c rfl ![4, 0, 0, 0] S1x16x8x1024.size _)
  isplitl [H7]; · iexact H7
  iintro H7
  iapply (wp_read (m' := a7) (X := R.f7) (Q := Q) c rfl ![3, 0, 0, 0] S1x16x8x1024.size _)
  isplitl [H7]; · iexact H7
  iintro H7
  iapply (wp_readSlot (sl := slotU (sl2 t.val)) (X := dU) (Q := Q) c squeezes_S1x16x32x1024_S16x32x1024 (slotU_of _ (sl2 t.val) (off76_eq t)))
  isplitl [HU]; · iexact HU
  iintro HU
  iapply (wp_done c (b := ((rowsU R a) : FVec F S16x32x1024 .bf16)) rfl)
  iapply HK
  isplitl [HH]; · iexact HH
  isplitl [H9]; · iexact H9
  isplitl [H7]; · iexact H7
  iexact HU

/-- The second block of results stored. -/
theorem part11_spec (t : Fin k0_t1_loop.trips) (hw10 : k0_chk10 (wB t)) (a : FVec F S16x32x1024 .bf16) (dU : S16x32x1024.Idx → Elt F .bf16) {Q : BitVec 1 → sProp 𝕄} :
    iprop((owns (c : Thread nD τ) (slotU (sl2 t.val)) fullShare dU) ∗ ((owns (c : Thread nD τ) (slotU (sl2 t.val)) fullShare (unlead squeezes_S1x16x32x1024_S16x32x1024 (k0_pay19 a))) -∗ Q (1#1)))
      ⊢ wp frame (wpE (defs₀ (F := F)) Variants.none c none) Set.univ (k0_part11 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (wB t) hw10 (bLast t) (wD t) (wE t) a) Q := by
  rw [k0_part11_eq_skeleton]
  unfold k0_part11_skel
  iintro ⟨HU, HK⟩
  simp only [Prog.bind_lift, ite_self]
  iapply (wp_writeSlot (sl := slotU (sl2 t.val)) (X := dU) (Q := Q) c squeezes_S1x16x32x1024_S16x32x1024 (slotU_of _ (sl2 t.val) (off76_eq t)))
  isplitl [HU]; · iexact HU
  iintro HU
  iapply (wp_done c (b := 1#1) (by clear hw10 dU a Q; revert t; decide +kernel))
  iapply HK
  iexact HU

end Cert.KernelIdeal.Hand

end
-- ==== Proof.Outs.lean ====
module
public import proofs.«01_k».proof.Proof.Words
public import proofs.«01_k».proof.Proof.Access
public import proofs.«01_k».proof.Proof.Gen.KernelIdeal.Skeleton

/-!
# The trip's transfers of the results

Two parts of the trip's body post the trip's blocks of results and wait for
those of the trip before.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

variable (a7 : Memref sig .tc .vmem S6x16x8x1024 .f32) (h7 : a7.IsWhole) (a8 : Memref sig .tc .vmem S2x512 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (a12 : Memref sig .tc .vmem S1024x1024 .bf16) (h12 : a12.IsWhole) (a13 : Memref sig .tc .vmem S2x128x128 .bf16) (h13 : a13.IsWhole)
variable (c : Dev nD)
variable (DH : Fin 64 → S16x32x1024.Idx → Elt F .f32) (DU : Fin 64 → S16x32x1024.Idx → Elt F .bf16)

/-- The two blocks of results posted. -/
theorem part12_spec (t : Fin k0_t1_loop.trips) (hw : k0_chk1 t (wA t) (wB t) (wA t) (wB t) (wA t) (wB t) (wA t) (wB t) (wA t) (wB t) (wA t) (wB t) (wA t) (wB t) (wB t) (wC t) (wB t) (wC t) (wD t)) (v166 : BitVec 1) (v173 : BitVec 32)
    {Q : (Σ' (_ : BitVec 32), BitVec 32) → sProp 𝕄} :
    iprop((wr1 c ringH DH (tr t) ∗ wr1 c ringU DU (tr t)) ∗ ((wr2 c ringH DH (tr t) ∗ wr2 c ringU DU (tr t)) -∗ Q ⟨wB (t.val + 1), wB (t.val + 1)⟩))
      ⊢ wp frame (wpE (defs₀ (F := F)) Variants.none c none) Set.univ (k0_part12 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 t (wA t) (wB t) (wA t) (wB t) (wA t) (wB t) (wA t) (wB t) (wA t) (wB t) (wA t) (wB t) (wA t) (wB t) (wB t) (wC t) (wB t) (wC t) (wD t) hw v166 (bLast t) (wD t) v173 (wE t) 1#1) Q := by
  rw [k0_part12_eq_skeleton]
  unfold k0_part12_skel
  iintro ⟨⟨HH, HU⟩, HK⟩
  simp only [Prog.bind_lift, dif_pos (cond31_pos t), dif_pos (cond32_pos t), ite_self]
  iapply (wp_post c ringH DH (tr t) (slotH_of _ (sl2 t.val) (off79_eq t)) (blkH_of _ (tr t) (off78_eq t)) (cellH_of _ (sl2 t.val) (off77_eq t)))
  isplitl [HH]; · iexact HH
  iintro HH
  iapply (wp_post c ringU DU (tr t) (slotU_of _ (sl2 t.val) (off82_eq t)) (blkU_of _ (tr t) (off81_eq t)) (cellU_of _ (sl2 t.val) (off80_eq t)))
  isplitl [HU]; · iexact HU
  iintro HU
  iapply (wp_done c (b := (⟨wB (t.val + 1), wB (t.val + 1)⟩ : (Σ' (_ : BitVec 32), BitVec 32))) (by clear hw; revert t; decide +kernel))
  iapply HK
  isplitl [HH]; · iexact HH
  iexact HU

/-- The two blocks of the trip before waited for. -/
theorem part13_spec (t : Fin k0_t1_loop.trips) (hw : k0_chk1 t (wA t) (wB t) (wA t) (wB t) (wA t) (wB t) (wA t) (wB t) (wA t) (wB t) (wA t) (wB t) (wA t) (wB t) (wB t) (wC t) (wB t) (wC t) (wD t))
    {Q : (Σ' (_ : BitVec 32) (_ : BitVec 32) (_ : BitVec 1), BitVec 32) → sProp 𝕄} :
    iprop((wr2 c ringH DH (tr t) ∗ wr2 c ringU DU (tr t) ∗ (∃ W, owes (c : Thread nD τ) 0 W))
        ∗ ((wr0 c ringH DH (t.val + 1) ∗ wr0 c ringU DU (t.val + 1) ∗ (∃ W, owes (c : Thread nD τ) 0 W)) -∗ Q ⟨wC (t.val + 1), wC (t.val + 1), 1#1, wB (t.val + 1)⟩))
      ⊢ wp frame (wpE (defs₀ (F := F)) Variants.none c none) Set.univ (k0_part13 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 t (wA t) (wB t) (wA t) (wB t) (wA t) (wB t) (wA t) (wB t) (wA t) (wB t) (wA t) (wB t) (wA t) (wB t) (wB t) (wC t) (wB t) (wC t) (wD t) hw (bFirst t) (bLast t) (wD t) (wG t) (wE t)) Q := by
  rw [k0_part13_eq_skeleton]
  unfold k0_part13_skel
  by_cases h : 0 < t.val
  · have e : tr t = ⟨t.val - 1 + 1, by have := trips_lt t; omega⟩ := Fin.ext (by show t.val = t.val - 1 + 1; omega)
    rw [e]
    iintro ⟨⟨HH, HU, HW⟩, HK⟩
    simp only [Prog.bind_lift, dif_pos ((cond40_iff t).2 h), dif_pos ((cond41_iff t).2 h), ite_self]
    iapply (wp_posted c ringH DH (t.val - 1) _ (creditH _) (cellH_of _ (sl2 (t.val - 1)) (off83_eq t h)))
    isplitl [HH HW]
    · isplitl [HH]; · iexact HH
      iexact HW
    iintro ⟨HH, HW⟩
    iapply (wp_posted c ringU DU (t.val - 1) _ (creditU _) (cellU_of _ (sl2 (t.val - 1)) (off86_eq t h)))
    isplitl [HU HW]
    · isplitl [HU]; · iexact HU
      iexact HW
    iintro ⟨HU, HW⟩
    iapply (wp_done c (b := (⟨wC (t.val + 1), wC (t.val + 1), 1#1, wB (t.val + 1)⟩ : (Σ' (_ : BitVec 32) (_ : BitVec 32) (_ : BitVec 1), BitVec 32))) (by clear hw e; revert t; decide +kernel))
    iapply HK
    rw [show t.val - 1 + 2 = t.val + 1 by omega]
    isplitl [HH]; · iexact HH
    isplitl [HU]; · iexact HU
    iexact HW
  · have h0 : t.val = 0 := by omega
    have e : tr t = 0 := Fin.ext h0
    rw [e]
    iintro ⟨⟨HH, HU, HW⟩, HK⟩
    simp only [Prog.bind_lift, dif_neg (mt (cond40_iff t).1 h), dif_neg (mt (cond41_iff t).1 h), ite_self]
    iapply (wp_done c (b := (⟨wC (t.val + 1), wC (t.val + 1), 1#1, wB (t.val + 1)⟩ : (Σ' (_ : BitVec 32) (_ : BitVec 32) (_ : BitVec 1), BitVec 32))) (by clear hw e h0; revert t; decide +kernel))
    iapply HK
    ihave HH := (wr_first c ringH DH) $$ HH
    ihave HU := (wr_first c ringU DU) $$ HU
    rw [h0]
    isplitl [HH]; · iexact HH
    isplitl [HU]; · iexact HU
    iexact HW

end Cert.KernelIdeal.Hand

end
-- ==== Proof.Trip.lean ====
module
public import proofs.«01_k».proof.Proof.Sends
public import proofs.«01_k».proof.Proof.Compute
public import proofs.«01_k».proof.Proof.Outs

/-!
# One trip, and the loop

The loop's invariant: before trip `k` every ring stands at `k`, the carried
words are those of trip `k`, and the arrays that stay are held at their
contents. One trip takes the invariant at `k` to the invariant at `k + 1`.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

/-- The words the loop carries into trip `k`. -/
def words (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 := (wA k, wB k, wA k, wB k, wA k, wB k, wA k, wB k, wA k, wB k, wA k, wB k, wA k, wB k, wB k, wC k, wB k, wC k, wD k)

theorem word_iv : ∀ t : Fin k0_t1_loop.trips, Scf.iv 0#32 1#32 t = wB t := by decide +kernel
theorem word_first : ∀ t : Fin k0_t1_loop.trips, Scalar.cmpi .eq (wB t) 0#32 = bFirst t := by decide +kernel
theorem word_last : ∀ t : Fin k0_t1_loop.trips, Scalar.cmpi .eq (wB t) 63#32 = bLast t := by decide +kernel
theorem word_here : ∀ t : Fin k0_t1_loop.trips, Scalar.addi (wD t) 0#32 = wD t := by decide +kernel
theorem word_back : ∀ t : Fin k0_t1_loop.trips, Scalar.addi (Scalar.select (Scalar.cmpi .eq (Scalar.select 1#1 (Scalar.subi (wD t) 1#32) (wD t)) 4294967295#32) 63#32 (Scalar.select 1#1 (Scalar.subi (wD t) 1#32) (wD t))) 0#32 = wG t := by decide +kernel
theorem word_next' : ∀ t : Fin k0_t1_loop.trips, Scalar.select (Scalar.cmpi .eq (Scalar.select 1#1 (Scalar.addi (wD t) 1#32) (wD t)) 64#32) 0#32 (Scalar.select 1#1 (Scalar.addi (wD t) 1#32) (wD t)) = wE t := by decide +kernel
theorem word_next : ∀ t : Fin k0_t1_loop.trips, Scalar.addi (wE t) 0#32 = wE t := by decide +kernel
theorem word_after' : ∀ t : Fin k0_t1_loop.trips, Scalar.select (Scalar.cmpi .eq (Scalar.select 1#1 (Scalar.addi (wE t) 1#32) (wE t)) 64#32) 0#32 (Scalar.select 1#1 (Scalar.addi (wE t) 1#32) (wE t)) = wF t := by decide +kernel
theorem word_after : ∀ t : Fin k0_t1_loop.trips, Scalar.addi (wF t) 0#32 = wF t := by decide +kernel
theorem word_apart : ∀ t : Fin k0_t1_loop.trips, Scalar.cmpi .ne (wE t) (wF t) = 1#1 := by decide +kernel
theorem word_late : ∀ t : Fin k0_t1_loop.trips, Scalar.cmpi .sge (wB t) 62#32 = bLate t := by decide +kernel
theorem word_step : ∀ t : Fin k0_t1_loop.trips, Scalar.select (Scalar.ori (Scalar.cmpi .ne (wD t) (wE t)) (bLast t)) (Scalar.addi (wB t) 1#32) (wB t) = wB (t.val + 1) := by decide +kernel
theorem word_grid : ∀ t : Fin k0_t1_loop.trips, Scalar.select (Scalar.cmpi .eq (Scalar.addi (wD t) 1#32) 64#32) 0#32 (Scalar.addi (wD t) 1#32) = wD (t.val + 1) := by decide +kernel
theorem word_own (x y : BitVec 32) : Scalar.select 1#1 x y = x := by simp [Scalar.select]

variable (a7 : Memref sig .tc .vmem S6x16x8x1024 .f32) (h7 : a7.IsWhole) (a8 : Memref sig .tc .vmem S2x512 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (a12 : Memref sig .tc .vmem S1024x1024 .bf16) (h12 : a12.IsWhole) (a13 : Memref sig .tc .vmem S2x128x128 .bf16) (h13 : a13.IsWhole)
variable (c : Dev nD)

/-- The trip's words: its number, the numbers of the trips around it, and the side conditions. -/
theorem part1_spec (t : Fin k0_t1_loop.trips) {Q : _ → sProp 𝕄} :
    Q ⟨chk10_ok t, chk9_ok t, chk8_ok t, chk7_ok t, chk6_ok t, chk5_ok t, chk4_ok t, chk3_ok t, chk2_ok t, chk1_ok t, wB t, bFirst t, bLast t, wD t, wG t, wE t, wF t, 1#1, bLate t⟩
      ⊢ wp frame (wpE (defs₀ (F := F)) Variants.none c none) Set.univ (k0_part1 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 0#32 1#32 t (wA t) (wB t) (wA t) (wB t) (wA t) (wB t) (wA t) (wB t) (wA t) (wB t) (wA t) (wB t) (wA t) (wB t) (wB t) (wC t) (wB t) (wC t) (wD t)) Q := by
  rw [k0_part1_eq_skeleton]
  unfold k0_part1_skel
  simp only [Prog.bind_lift]
  iintro HQ
  iapply (wp_assume Variants.none (c : Thread nD τ) none Set.univ (Q := Q) (chk10_ok t))
  iapply (wp_assume Variants.none (c : Thread nD τ) none Set.univ (Q := Q) (chk9_ok t))
  iapply (wp_assume Variants.none (c : Thread nD τ) none Set.univ (Q := Q) (chk8_ok t))
  iapply (wp_assume Variants.none (c : Thread nD τ) none Set.univ (Q := Q) (chk7_ok t))
  iapply (wp_assume Variants.none (c : Thread nD τ) none Set.univ (Q := Q) (chk6_ok t))
  iapply (wp_assume Variants.none (c : Thread nD τ) none Set.univ (Q := Q) (chk5_ok t))
  iapply (wp_assume Variants.none (c : Thread nD τ) none Set.univ (Q := Q) (chk4_ok t))
  iapply (wp_assume Variants.none (c : Thread nD τ) none Set.univ (Q := Q) (chk3_ok t))
  iapply (wp_assume Variants.none (c : Thread nD τ) none Set.univ (Q := Q) (chk2_ok t))
  iapply (wp_assume Variants.none (c : Thread nD τ) none Set.univ (Q := Q) (chk1_ok t))
  simp only [word_iv, word_first, word_last, word_here, word_back, word_next', word_next, word_after', word_after, word_apart, word_late]
  iapply (wp_over c)
  iexact HQ

variable (R : Resident F) (B : Fin 64 → Blocks F)

/-- What is held before trip `k`. -/
def state (k : ℕ) : sProp 𝕄 :=
  iprop((rd0 c ringX (fun b => (B b).X) k ∗ rd0 c ringY (fun b => (B b).Y) k ∗ rd0 c ringP (fun b => (B b).P) k ∗ rd0 c ringG (fun b => (B b).G) k ∗ rd0 c ringZ (fun b => (B b).Z) k ∗ rd0 c ringM (fun b => (B b).M) k ∗ rd0 c ringN (fun b => (B b).N) k)
    ∗ (wr0 c ringH (fun b => hBlk R (B b)) k ∗ wr0 c ringU (fun b => uBlk R (B b)) k)
    ∗ (owns (c : Thread nD τ) a7 fullShare R.f7 ∗ owns (c : Thread nD τ) a8 fullShare R.f8 ∗ owns (c : Thread nD τ) a9 fullShare R.f9 ∗ owns (c : Thread nD τ) a10 fullShare R.f10 ∗ owns (c : Thread nD τ) a11 fullShare R.f11 ∗ owns (c : Thread nD τ) a12 fullShare R.f12 ∗ owns (c : Thread nD τ) a13 fullShare R.f13)
    ∗ (∃ z, owns (c : Thread nD τ) (Memref.whole cc0_scratch0 : Memref sig .tc .vmem S16x4x8x512 .f32) fullShare z)
    ∗ (∃ W, owes (c : Thread nD τ) 0 W))

/-- One trip. -/
theorem trip_spec (v16 v68 v75 v82 v89 v96 v103 v110 : BitVec 32) (v112 : BitVec 1) (t : Fin k0_t1_loop.trips) :
    state a7 a8 a9 a10 a11 a12 a13 c R B t
      ⊢ wp frame (wpE (defs₀ (F := F)) Variants.none c none) Set.univ (k0_t1_body (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 v16 v68 v75 v82 v89 v96 v103 v110 v112 t (words t))
          (fun acc => iprop(⌜acc = words (t.val + 1)⌝ ∗ state a7 a8 a9 a10 a11 a12 a13 c R B (t.val + 1))) := by
  unfold k0_t1_body words state
  iintro ⟨⟨HX, HY, HP, HG, HZ, HM, HN⟩, ⟨HH, HU⟩, ⟨H7, H8, H9, H10, H11, H12, H13⟩, ⟨%z, HS⟩, HW⟩
  dsimp only
  rw [wp_bind]
  iapply (part1_spec a7 h7 a8 h8 a9 h9 a10 h10 a11 h11 a12 h12 a13 h13 c t)
  dsimp only
  rw [wp_bind]
  iapply (part2_spec a7 h7 a8 h8 a9 h9 a10 h10 a11 h11 a12 h12 a13 h13 c (fun b => (B b).X) (fun b => (B b).Y) (fun b => (B b).P) (fun b => (B b).G) t (chk1_ok t))
  isplitl [HX HY HP HG]
  · isplitl [HX]; · iexact HX
    isplitl [HY]; · iexact HY
    isplitl [HP]; · iexact HP
    iexact HG
  iintro ⟨HX, HY, HP, HG⟩
  try dsimp only
  rw [wp_bind]
  iapply (part3_spec a7 h7 a8 h8 a9 h9 a10 h10 a11 h11 a12 h12 a13 h13 c (fun b => (B b).Z) (fun b => (B b).M) (fun b => (B b).N) t (chk1_ok t))
  isplitl [HZ HM HN]
  · isplitl [HZ]; · iexact HZ
    isplitl [HM]; · iexact HM
    iexact HN
  iintro ⟨HZ, HM, HN⟩
  try dsimp only
  rw [wp_bind]
  iapply (part4_spec a7 h7 a8 h8 a9 h9 a10 h10 a11 h11 a12 h12 a13 h13 c (fun b => (B b).X) (fun b => (B b).Y) (fun b => (B b).P) (fun b => (B b).G) (fun b => (B b).Z) t (chk1_ok t) _ _ _ _ _ _ _)
  isplitl [HX HY HP HG HZ HW]
  · isplitl [HX]; · iexact HX
    isplitl [HY]; · iexact HY
    isplitl [HP]; · iexact HP
    isplitl [HG]; · iexact HG
    isplitl [HZ]; · iexact HZ
    iexact HW
  iintro %w301 ⟨HX, HY, HP, HG, HZ, HW⟩
  try dsimp only
  rw [wp_bind]
  iapply (part5_spec a7 h7 a8 h8 a9 h9 a10 h10 a11 h11 a12 h12 a13 h13 c (fun b => (B b).M) (fun b => (B b).N) t (chk2_ok t) (chk1_ok t) _ _ _ _ _ R.f13)
  isplitl [HM HN HW H13]
  · isplitl [HM]; · iexact HM
    isplitl [HN]; · iexact HN
    isplitl [HW]; · iexact HW
    iexact H13
  iintro %w1 %w2 %w3 %w4 %w5 %w6 %w7 %w8 ⟨HM, HN, HW, H13⟩
  try dsimp only
  unfold rd2
  icases HX with ⟨HX, HXr⟩
  icases HY with ⟨HY, HYr⟩
  icases HP with ⟨HP, HPr⟩
  icases HG with ⟨HG, HGr⟩
  icases HZ with ⟨HZ, HZr⟩
  icases HM with ⟨HM, HMr⟩
  icases HN with ⟨HN, HNr⟩
  rw [wp_bind]
  iapply (part6_spec a7 h7 a8 h8 a9 h9 a10 h10 a11 h11 a12 h12 a13 h13 c t (chk2_ok t) _ (B (tr t)).Y z)
  isplitl [HY HS]
  · isplitl [HY]; · iexact HY
    iexact HS
  iintro ⟨HY, HS⟩
  try dsimp only
  rw [wp_bind]
  iapply (part7_spec a7 h7 a8 h8 a9 h9 a10 h10 a11 h11 a12 h12 a13 h13 c t (chk2_ok t) _ (B (tr t)).Y _ _)
  isplitl [HY HS]
  · isplitl [HY]; · iexact HY
    iexact HS
  iintro ⟨HY, HS⟩
  try dsimp only
  rw [wp_bind]
  iapply (part8_spec a7 h7 a8 h8 a9 h9 a10 h10 a11 h11 a12 h12 a13 h13 c t (chk4_ok t) (chk3_ok t) _ _ _ _ _ _ _ _ (permuted (perm2 R.f13) (B (tr t)).Y) (put_quarters _ _ _ _ _) (B (tr t)).P (B (tr t)).G R.f8 R.f10)
  isplitl [HS H8 HP HG H10]
  · isplitl [HS]; · iexact HS
    isplitl [H8]; · iexact H8
    isplitl [HP]; · iexact HP
    isplitl [HG]; · iexact HG
    iexact H10
  iintro ⟨HS, H8, HP, HG, H10⟩
  try dsimp only
  rw [wp_bind]
  iapply (part9_spec a7 h7 a8 h8 a9 h9 a10 h10 a11 h11 a12 h12 a13 h13 c t (chk8_ok t) (chk7_ok t) (chk6_ok t) (chk5_ok t) _ _ _ R (B (tr t)) _)
  isplitl [HZ H11 HM HN HX H7 H12]
  · isplitl [HZ]; · iexact HZ
    isplitl [H11]; · iexact H11
    isplitl [HM]; · iexact HM
    isplitl [HN]; · iexact HN
    isplitl [HX]; · iexact HX
    isplitl [H7]; · iexact H7
    iexact H12
  iintro ⟨HZ, H11, HM, HN, HX, H7, H12⟩
  try dsimp only
  unfold wr0 free
  icases HH with ⟨HHt, HHl, HHz, ⟨%dH, HH⟩⟩
  icases HU with ⟨HUt, HUl, HUz, ⟨%dU, HU⟩⟩
  rw [wp_bind]
  iapply (part10_spec a7 h7 a8 h8 a9 h9 a10 h10 a11 h11 a12 h12 a13 h13 c t (chk10_ok t) (chk9_ok t) _ _ R _ _ dH dU)
  isplitl [HH H9 H7 HU]
  · isplitl [HH]; · iexact HH
    isplitl [H9]; · iexact H9
    isplitl [H7]; · iexact H7
    iexact HU
  iintro ⟨HH, H9, H7, HU⟩
  try dsimp only
  rw [wp_bind]
  iapply (part11_spec a7 h7 a8 h8 a9 h9 a10 h10 a11 h11 a12 h12 a13 h13 c t (chk10_ok t) _ dU)
  isplitl [HU]
  · iexact HU
  iintro HU
  try dsimp only
  rw [wp_bind]
  iapply (part12_spec a7 h7 a8 h8 a9 h9 a10 h10 a11 h11 a12 h12 a13 h13 c (fun b => hBlk R (B b)) (fun b => uBlk R (B b)) t (chk1_ok t) _ _)
  isplitl [HH HHt HHl HHz HU HUt HUl HUz]
  · unfold wr1
    isplitl [HH HHt HHl HHz]
    · isplitl [HH]; · iexact HH
      isplitl [HHt]; · iexact HHt
      isplitl [HHl]; · iexact HHl
      iexact HHz
    · isplitl [HU]; · iexact HU
      isplitl [HUt]; · iexact HUt
      isplitl [HUl]; · iexact HUl
      iexact HUz
  iintro ⟨HH, HU⟩
  dsimp only
  rw [wp_bind]
  iapply (part13_spec a7 h7 a8 h8 a9 h9 a10 h10 a11 h11 a12 h12 a13 h13 c (fun b => hBlk R (B b)) (fun b => uBlk R (B b)) t (chk1_ok t))
  isplitl [HH HU HW]
  · isplitl [HH]; · iexact HH
    isplitl [HU]; · iexact HU
    iexact HW
  iintro ⟨HH, HU, HW⟩
  try dsimp only
  simp only [word_step, word_own, word_grid]
  iapply (wp_over c)
  isplitr
  · ipureintro; rfl
  isplitl [HX HXr HY HYr HP HPr HG HGr HZ HZr HM HMr HN HNr]
  · isplitl [HX HXr]
    · iapply (rd_next c ringX (fun b => (B b).X) (tr t)); unfold rd2; isplitl [HX]; · iexact HX
      iexact HXr
    isplitl [HY HYr]
    · iapply (rd_next c ringY (fun b => (B b).Y) (tr t)); unfold rd2; isplitl [HY]; · iexact HY
      iexact HYr
    isplitl [HP HPr]
    · iapply (rd_next c ringP (fun b => (B b).P) (tr t)); unfold rd2; isplitl [HP]; · iexact HP
      iexact HPr
    isplitl [HG HGr]
    · iapply (rd_next c ringG (fun b => (B b).G) (tr t)); unfold rd2; isplitl [HG]; · iexact HG
      iexact HGr
    isplitl [HZ HZr]
    · iapply (rd_next c ringZ (fun b => (B b).Z) (tr t)); unfold rd2; isplitl [HZ]; · iexact HZ
      iexact HZr
    isplitl [HM HMr]
    · iapply (rd_next c ringM (fun b => (B b).M) (tr t)); unfold rd2; isplitl [HM]; · iexact HM
      iexact HMr
    iapply (rd_next c ringN (fun b => (B b).N) (tr t)); unfold rd2; isplitl [HN]; · iexact HN
    iexact HNr
  unfold wr0 free
  isplitl [HH HU]
  · isplitl [HH]; · iexact HH
    iexact HU
  isplitl [H7 H8 H9 H10 H11 H12 H13]
  · isplitl [H7]; · iexact H7
    isplitl [H8]; · iexact H8
    isplitl [H9]; · iexact H9
    isplitl [H10]; · iexact H10
    isplitl [H11]; · iexact H11
    isplitl [H12]; · iexact H12
    iexact H13
  isplitl [HS]
  · iexists _; iexact HS
  iexact HW

end Cert.KernelIdeal.Hand

end
-- ==== Proof.Body.lean ====
module
public import proofs.«01_k».proof.Proof.Trip

/-!
# The call's body

Before the trips the first two blocks of every array are sent for; after them
the last block of each result is awaited. Between them the loop runs by its
invariant. The whole body is stated at the end: from the arrays' blocks at
home, to the results' blocks written, every slot free and every cell at zero.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

/-! ## Where the first two blocks go -/

theorem off1_eq : k0_off1 = ![0] := by decide +kernel
theorem off2_eq : k0_off2 = ![0, 0, 0, 0] := by decide +kernel
theorem off3_eq : k0_off3 = ![0, 0, 0, 0] := by decide +kernel
theorem off4_eq : k0_off4 = ![0, 0, 0, 0] := by decide +kernel
theorem off5_eq : k0_off5 = ![1] := by decide +kernel
theorem off6_eq : k0_off6 = ![1, 0, 0, 0] := by decide +kernel
theorem off7_eq : k0_off7 = ![0, 32, 0] := by decide +kernel
theorem off8_eq : k0_off8 = ![1] := by decide +kernel
theorem off9_eq : k0_off9 = ![1, 0, 0, 0] := by decide +kernel
theorem off10_eq : k0_off10 = ![32, 0, 0] := by decide +kernel
theorem off11_eq : k0_off11 = ![1] := by decide +kernel
theorem off12_eq : k0_off12 = ![1, 0, 0, 0] := by decide +kernel
theorem off13_eq : k0_off13 = ![0, 32, 0] := by decide +kernel
theorem off14_eq : k0_off14 = ![1] := by decide +kernel
theorem off15_eq : k0_off15 = ![1, 0, 0, 0] := by decide +kernel
theorem off16_eq : k0_off16 = ![0, 32, 0] := by decide +kernel
theorem off17_eq : k0_off17 = ![1] := by decide +kernel
theorem off18_eq : k0_off18 = ![1, 0, 0, 0] := by decide +kernel
theorem off19_eq : k0_off19 = ![0, 32, 0] := by decide +kernel
theorem off20_eq : k0_off20 = ![1] := by decide +kernel
theorem off21_eq : k0_off21 = ![1, 0, 0, 0] := by decide +kernel
theorem off22_eq : k0_off22 = ![0, 32, 0] := by decide +kernel
theorem off23_eq : k0_off23 = ![1] := by decide +kernel
theorem off24_eq : k0_off24 = ![1, 0, 0, 0] := by decide +kernel
theorem off25_eq : k0_off25 = ![0, 32, 0] := by decide +kernel
theorem cond1_pos : k0_cond1 = 1#1 := by decide +kernel
theorem cond2_pos : k0_cond2 = 1#1 := by decide +kernel
theorem cond3_pos : k0_cond3 = 1#1 := by decide +kernel
theorem cond4_pos : k0_cond4 = 1#1 := by decide +kernel
theorem cond5_pos : k0_cond5 = 1#1 := by decide +kernel
theorem cond6_pos : k0_cond6 = 1#1 := by decide +kernel
theorem cond7_pos : k0_cond7 = 1#1 := by decide +kernel

theorem first_word : Scalar.addi (Scalar.select (Scalar.cmpi .eq (Scalar.select 1#1 1#32 0#32) 64#32) 0#32 (Scalar.select 1#1 1#32 0#32)) 0#32 = 1#32 := by decide +kernel
theorem one_word : Scalar.addi 0#32 1#32 = 1#32 := by decide +kernel
theorem two_word : Scalar.select (Scalar.andi 1#1 (Scalar.cmpi .ne 1#32 0#32)) (Scalar.addi 1#32 1#32) 1#32 = 2#32 := by decide +kernel
theorem moved_word : Scalar.andi 1#1 (Scalar.cmpi .ne 1#32 0#32) = 1#1 := by decide +kernel
theorem two_word' : Scalar.select 1#1 (Scalar.addi 1#32 1#32) 1#32 = 2#32 := by decide +kernel
theorem trips_all : k0_t1_loop.trips = 64 := by decide +kernel

variable (a7 : Memref sig .tc .vmem S6x16x8x1024 .f32) (h7 : a7.IsWhole) (a8 : Memref sig .tc .vmem S2x512 .f32) (h8 : a8.IsWhole) (a9 : Memref sig .tc .vmem S1x1024 .f32) (h9 : a9.IsWhole) (a10 : Memref sig .tc .vmem S512x1024 .bf16) (h10 : a10.IsWhole) (a11 : Memref sig .tc .vmem S512x1024 .bf16) (h11 : a11.IsWhole) (a12 : Memref sig .tc .vmem S1024x1024 .bf16) (h12 : a12.IsWhole) (a13 : Memref sig .tc .vmem S2x128x128 .bf16) (h13 : a13.IsWhole)
variable (c : Dev nD) (R : Resident F) (B : Fin 64 → Blocks F)

/-- A reading ring once block `0` has been sent for, two slots free. -/
def begun {s : Shape} {e : EltTy} (r : Ring 3 s e) (D : Fin 64 → s.Idx → Elt F e) : sProp 𝕄 :=
  iprop(home c r D 0 1 ∗ role c r D 0 ∗ free c r (sl3 1) ∗ free c r (sl3 2))
/-- A reading ring before any block has been sent for. -/
def idle {s : Shape} {e : EltTy} (r : Ring 3 s e) (D : Fin 64 → s.Idx → Elt F e) : sProp 𝕄 :=
  iprop(home c r D 0 0 ∗ free c r (sl3 0) ∗ free c r (sl3 1) ∗ free c r (sl3 2))

/-- The send for block `0`. -/
theorem wp_first {s : Shape} {e : EltTy} {α : Type} (r : Ring 3 s e) (D : Fin 64 → s.Idx → Elt F e)
    {src : Memref sig .tc .hbm s e} {dst : Memref sig .tc .vmem s e} {x : DmaSem sig}
    (hs : src = r.B 0) (hd : dst = r.S (sl3 0)) (hx : x = r.x (sl3 0))
    {hsrc : src.view.WordExact} {hdst : dst.view.WordExact} {hsem : DmaTarget.Typed (nD := nD) (p := Proc.tc (τ := τ)) .hbm (.dma x) (.here dst)}
    {K : PUnit → Prog (TpuEff nD τ sig (Elt F) Λ₀ .tc) α} {Q : α → sProp 𝕄} :
    iprop(idle c r D ∗ (begun c r D -∗ wp frame (wpE (defs₀ (F := F)) Variants.none c none) Set.univ (K ⟨⟩) Q))
      ⊢ wp frame (wpE (defs₀ (F := F)) Variants.none c none) Set.univ
          (.op (.enqueueDma src (.here dst) (.dma x) hsrc hdst hsem) K) Q := by
  unfold idle begun
  iintro ⟨⟨Hh, H0, H1, H2⟩, HK⟩
  iapply (wp_prime c r D 0 hs hd hx)
  isplitl [Hh H0]
  · isplitl [Hh]; · iexact Hh
    iexact H0
  iintro ⟨Hh, H0⟩
  iapply HK
  isplitl [Hh]; · iexact Hh
  isplitl [H0]; · iexact H0
  isplitl [H1]; · iexact H1
  iexact H2

/-- The send for block `1`: the ring is as trip `0` begins. -/
theorem wp_second {s : Shape} {e : EltTy} {α : Type} (r : Ring 3 s e) (D : Fin 64 → s.Idx → Elt F e)
    {src : Memref sig .tc .hbm s e} {dst : Memref sig .tc .vmem s e} {x : DmaSem sig}
    (hs : src = r.B 1) (hd : dst = r.S (sl3 1)) (hx : x = r.x (sl3 1))
    {hsrc : src.view.WordExact} {hdst : dst.view.WordExact} {hsem : DmaTarget.Typed (nD := nD) (p := Proc.tc (τ := τ)) .hbm (.dma x) (.here dst)}
    {K : PUnit → Prog (TpuEff nD τ sig (Elt F) Λ₀ .tc) α} {Q : α → sProp 𝕄} :
    iprop(begun c r D ∗ (rd0 c r D 0 -∗ wp frame (wpE (defs₀ (F := F)) Variants.none c none) Set.univ (K ⟨⟩) Q))
      ⊢ wp frame (wpE (defs₀ (F := F)) Variants.none c none) Set.univ
          (.op (.enqueueDma src (.here dst) (.dma x) hsrc hdst hsem) K) Q := by
  unfold rd0 begun
  iintro ⟨⟨Hh, H0, H1, H2⟩, HK⟩
  iapply (wp_prime c r D 1 hs hd hx)
  isplitl [Hh H1]
  · isplitl [Hh]; · iexact Hh
    iexact H1
  iintro ⟨Hh, H1⟩
  iapply HK
  isplitl [Hh]; · iexact Hh
  isplitl [H0]; · iexact H0
  isplitl [H1]; · iexact H1
  iexact H2

/-- Block `0` of the first array. -/
theorem part14_spec {Q : (Σ' (_ : BitVec 32) (_ : BitVec 32) (_ : BitVec 32), BitVec 32) → sProp 𝕄} :
    iprop((idle c ringX (fun b => (B b).X)) ∗ ((begun c ringX (fun b => (B b).X)) -∗ Q ⟨1#32, 1#32, 0#32, 3#32⟩))
      ⊢ wp frame (wpE (defs₀ (F := F)) Variants.none c none) Set.univ (k0_part14 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17) Q := by
  rw [k0_part14_eq_skeleton]
  unfold k0_part14_skel
  simp only [Prog.bind_lift]
  iintro ⟨HX, HK⟩
  iapply (wp_first c ringX (fun b => (B b).X) (blkX_of _ 0 rfl) (slotX_of _ (sl3 0) off2_eq) (cellX_of _ (sl3 0) off1_eq))
  isplitl [HX]; · iexact HX
  iintro HX
  simp only [first_word, one_word]
  iapply (wp_over c)
  iapply HK
  iexact HX

/-- Block `0` of the next three. -/
theorem part15_spec {Q : (Σ' (_ : BitVec 32) (_ : BitVec 32), BitVec 32) → sProp 𝕄} :
    iprop((idle c ringY (fun b => (B b).Y) ∗ idle c ringP (fun b => (B b).P) ∗ idle c ringG (fun b => (B b).G)) ∗ ((begun c ringY (fun b => (B b).Y) ∗ begun c ringP (fun b => (B b).P) ∗ begun c ringG (fun b => (B b).G)) -∗ Q ⟨1#32, 1#32, 1#32⟩))
      ⊢ wp frame (wpE (defs₀ (F := F)) Variants.none c none) Set.univ (k0_part15 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 0#32 3#32) Q := by
  rw [k0_part15_eq_skeleton]
  unfold k0_part15_skel
  simp only [Prog.bind_lift]
  iintro ⟨⟨HY, HP, HG⟩, HK⟩
  iapply (wp_first c ringY (fun b => (B b).Y) (blkY_of _ 0 rfl) (slotY_of _ (sl3 0) off3_eq) (cellY_of _ (sl3 0) off1_eq))
  isplitl [HY]; · iexact HY
  iintro HY
  iapply (wp_first c ringP (fun b => (B b).P) (blkP_of _ 0 rfl) (slotP_of _ (sl3 0) off4_eq) (cellP_of _ (sl3 0) off1_eq))
  isplitl [HP]; · iexact HP
  iintro HP
  iapply (wp_first c ringG (fun b => (B b).G) (blkG_of _ 0 rfl) (slotG_of _ (sl3 0) off4_eq) (cellG_of _ (sl3 0) off1_eq))
  isplitl [HG]; · iexact HG
  iintro HG
  simp only [one_word]
  iapply (wp_over c)
  iapply HK
  isplitl [HY]; · iexact HY
  isplitl [HP]; · iexact HP
  iexact HG

/-- Block `0` of the last three, block `1` of the first. -/
theorem part16_spec {Q : (Σ' (_ : BitVec 32) (_ : BitVec 32) (_ : BitVec 32) (_ : BitVec 32), BitVec 32) → sProp 𝕄} :
    iprop((idle c ringZ (fun b => (B b).Z) ∗ idle c ringM (fun b => (B b).M) ∗ idle c ringN (fun b => (B b).N) ∗ begun c ringX (fun b => (B b).X)) ∗ ((begun c ringZ (fun b => (B b).Z) ∗ begun c ringM (fun b => (B b).M) ∗ begun c ringN (fun b => (B b).N) ∗ rd0 c ringX (fun b => (B b).X) 0) -∗ Q ⟨1#32, 1#32, 1#32, 2#32, 0#32⟩))
      ⊢ wp frame (wpE (defs₀ (F := F)) Variants.none c none) Set.univ (k0_part16 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 1#32 1#32) Q := by
  rw [k0_part16_eq_skeleton]
  unfold k0_part16_skel
  simp only [Prog.bind_lift, dif_pos cond1_pos]
  iintro ⟨⟨HZ, HM, HN, HX⟩, HK⟩
  iapply (wp_first c ringZ (fun b => (B b).Z) (blkZ_of _ 0 rfl) (slotZ_of _ (sl3 0) off4_eq) (cellZ_of _ (sl3 0) off1_eq))
  isplitl [HZ]; · iexact HZ
  iintro HZ
  iapply (wp_first c ringM (fun b => (B b).M) (blkM_of _ 0 rfl) (slotM_of _ (sl3 0) off2_eq) (cellM_of _ (sl3 0) off1_eq))
  isplitl [HM]; · iexact HM
  iintro HM
  iapply (wp_first c ringN (fun b => (B b).N) (blkN_of _ 0 rfl) (slotN_of _ (sl3 0) off2_eq) (cellN_of _ (sl3 0) off1_eq))
  isplitl [HN]; · iexact HN
  iintro HN
  iapply (wp_second c ringX (fun b => (B b).X) (blkX_of _ 1 off7_eq) (slotX_of _ (sl3 1) off6_eq) (cellX_of _ (sl3 1) off5_eq))
  isplitl [HX]; · iexact HX
  iintro HX
  simp only [one_word, two_word]
  iapply (wp_over c)
  iapply HK
  isplitl [HZ]; · iexact HZ
  isplitl [HM]; · iexact HM
  isplitl [HN]; · iexact HN
  iexact HX

/-- Block `1` of the next four. -/
theorem part17_spec {Q : (Σ' (_ : BitVec 32) (_ : BitVec 32) (_ : BitVec 32) (_ : BitVec 32), BitVec 1) → sProp 𝕄} :
    iprop((begun c ringY (fun b => (B b).Y) ∗ begun c ringP (fun b => (B b).P) ∗ begun c ringG (fun b => (B b).G) ∗ begun c ringZ (fun b => (B b).Z)) ∗ ((rd0 c ringY (fun b => (B b).Y) 0 ∗ rd0 c ringP (fun b => (B b).P) 0 ∗ rd0 c ringG (fun b => (B b).G) 0 ∗ rd0 c ringZ (fun b => (B b).Z) 0) -∗ Q ⟨2#32, 2#32, 2#32, 2#32, 1#1⟩))
      ⊢ wp frame (wpE (defs₀ (F := F)) Variants.none c none) Set.univ (k0_part17 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 1#32 1#32 1#32 1#32 1#32 0#32) Q := by
  rw [k0_part17_eq_skeleton]
  unfold k0_part17_skel
  simp only [Prog.bind_lift, dif_pos cond2_pos, dif_pos cond3_pos, dif_pos cond4_pos, dif_pos cond5_pos]
  iintro ⟨⟨HY, HP, HG, HZ⟩, HK⟩
  iapply (wp_second c ringY (fun b => (B b).Y) (blkY_of _ 1 off10_eq) (slotY_of _ (sl3 1) off9_eq) (cellY_of _ (sl3 1) off8_eq))
  isplitl [HY]; · iexact HY
  iintro HY
  iapply (wp_second c ringP (fun b => (B b).P) (blkP_of _ 1 off13_eq) (slotP_of _ (sl3 1) off12_eq) (cellP_of _ (sl3 1) off11_eq))
  isplitl [HP]; · iexact HP
  iintro HP
  iapply (wp_second c ringG (fun b => (B b).G) (blkG_of _ 1 off16_eq) (slotG_of _ (sl3 1) off15_eq) (cellG_of _ (sl3 1) off14_eq))
  isplitl [HG]; · iexact HG
  iintro HG
  iapply (wp_second c ringZ (fun b => (B b).Z) (blkZ_of _ 1 off19_eq) (slotZ_of _ (sl3 1) off18_eq) (cellZ_of _ (sl3 1) off17_eq))
  isplitl [HZ]; · iexact HZ
  iintro HZ
  simp only [two_word, moved_word, two_word']
  iapply (wp_over c)
  iapply HK
  isplitl [HY]; · iexact HY
  isplitl [HP]; · iexact HP
  isplitl [HG]; · iexact HG
  iexact HZ

/-- What the trips leave untouched or put back: the rings that write, the arrays that stay, the scratch. -/
def others (k : ℕ) : sProp 𝕄 :=
  iprop((wr0 c ringH (fun b => hBlk R (B b)) k ∗ wr0 c ringU (fun b => uBlk R (B b)) k)
      ∗ (owns (c : Thread nD τ) a7 fullShare R.f7 ∗ owns (c : Thread nD τ) a8 fullShare R.f8 ∗ owns (c : Thread nD τ) a9 fullShare R.f9 ∗ owns (c : Thread nD τ) a10 fullShare R.f10 ∗ owns (c : Thread nD τ) a11 fullShare R.f11 ∗ owns (c : Thread nD τ) a12 fullShare R.f12 ∗ owns (c : Thread nD τ) a13 fullShare R.f13)
      ∗ (∃ z, owns (c : Thread nD τ) (Memref.whole cc0_scratch0 : Memref sig .tc .vmem S16x4x8x512 .f32) fullShare z)
      ∗ (∃ W, owes (c : Thread nD τ) 0 W))

/-- The trips' invariant from its parts. -/
theorem state_intro (k : ℕ) : iprop((rd0 c ringX (fun b => (B b).X) k ∗ rd0 c ringY (fun b => (B b).Y) k ∗ rd0 c ringP (fun b => (B b).P) k ∗ rd0 c ringG (fun b => (B b).G) k ∗ rd0 c ringZ (fun b => (B b).Z) k ∗ rd0 c ringM (fun b => (B b).M) k ∗ rd0 c ringN (fun b => (B b).N) k) ∗ others a7 a8 a9 a10 a11 a12 a13 c R B k) ⊢ state a7 a8 a9 a10 a11 a12 a13 c R B k := by
  unfold others state
  rfl

/-- Block `1` of the last two arrays, and the trips. -/
theorem part18_spec {Q : (Σ' (v126_15 : BitVec 32) (v126_17 : BitVec 32) (v126_18 : BitVec 32) (_ : k0_chk13 v126_17) (_ : k0_chk12 v126_18) (_ : k0_chk11 v126_15) (_ : BitVec 32) (_ : BitVec 32), BitVec 32) → sProp 𝕄} :
    iprop(((rd0 c ringX (fun b => (B b).X) 0 ∗ rd0 c ringY (fun b => (B b).Y) 0 ∗ rd0 c ringP (fun b => (B b).P) 0 ∗ rd0 c ringG (fun b => (B b).G) 0 ∗ rd0 c ringZ (fun b => (B b).Z) 0) ∗ (begun c ringM (fun b => (B b).M) ∗ begun c ringN (fun b => (B b).N)) ∗ others a7 a8 a9 a10 a11 a12 a13 c R B 0)
        ∗ (∀ w w' w'', state a7 a8 a9 a10 a11 a12 a13 c R B 64 -∗ Q ⟨wC 64, wC 64, wD 64, chk13_ok, chk12_ok, chk11_ok, w, w', w''⟩))
      ⊢ wp frame (wpE (defs₀ (F := F)) Variants.none c none) Set.univ (k0_part18 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 1#32 1#32 1#32 2#32 2#32 2#32 2#32 2#32 1#1) Q := by
  rw [k0_part18_eq_skeleton]
  unfold k0_part18_skel
  simp only [Prog.bind_lift, dif_pos cond6_pos, dif_pos cond7_pos]
  iintro ⟨⟨⟨HX, HY, HP, HG, HZ⟩, ⟨HM, HN⟩, HO⟩, HK⟩
  iapply (wp_second c ringM (fun b => (B b).M) (blkM_of _ 1 off22_eq) (slotM_of _ (sl3 1) off21_eq) (cellM_of _ (sl3 1) off20_eq))
  isplitl [HM]; · iexact HM
  iintro HM
  iapply (wp_second c ringN (fun b => (B b).N) (blkN_of _ 1 off25_eq) (slotN_of _ (sl3 1) off24_eq) (cellN_of _ (sl3 1) off23_eq))
  isplitl [HN]; · iexact HN
  iintro HN
  simp only [two_word, two_word']
  unfold Scf.Loop.for
  iapply (Scf.wp_for_bind frame (wpE (defs₀ (F := F)) Variants.none c none) Set.univ _ _ _ _ _ _
    (fun k acc => iprop(⌜acc = words k⌝ ∗ state a7 a8 a9 a10 a11 a12 a13 c R B k)) ?_) $$ [HX HY HP HG HZ HM HN HO]
  · intro t acc
    iintro ⟨%hacc, H⟩
    subst hacc
    iapply (trip_spec a7 h7 a8 h8 a9 h9 a10 h10 a11 h11 a12 h12 a13 h13 c R B)
    iexact H
  · isplitr
    · ipureintro
      unfold words
      rw [show wA 0 = 2#32 from by decide +kernel, show wB 0 = 0#32 from by decide +kernel, show wC 0 = 0#32 from by decide +kernel, show wD 0 = 0#32 from by decide +kernel]
    iapply (state_intro a7 a8 a9 a10 a11 a12 a13 c R B 0)
    isplitr [HO]; swap; · iexact HO
    isplitl [HX]; · iexact HX
    isplitl [HY]; · iexact HY
    isplitl [HP]; · iexact HP
    isplitl [HG]; · iexact HG
    isplitl [HZ]; · iexact HZ
    isplitl [HM]; · iexact HM
    iexact HN
  iintro %acc ⟨%hacc, H⟩
  subst hacc
  rw [show Scf.trips k0_t1_loop.lb k0_t1_loop.ub k0_t1_loop.st = 64 from trips_all]
  unfold words
  dsimp only
  iapply (wp_assume Variants.none (c : Thread nD τ) none Set.univ (Q := Q) chk13_ok)
  iapply (wp_assume Variants.none (c : Thread nD τ) none Set.univ (Q := Q) chk12_ok)
  iapply (wp_assume Variants.none (c : Thread nD τ) none Set.univ (Q := Q) chk11_ok)
  iapply (wp_over c)
  iapply HK
  iexact H

/-- All but the last wait. -/
theorem part19_spec {Q : (Σ' (v126_17 : BitVec 32) (v126_18 : BitVec 32) (_ : k0_chk13 v126_17), k0_chk12 v126_18) → sProp 𝕄} :
    iprop(((idle c ringX (fun b => (B b).X) ∗ idle c ringY (fun b => (B b).Y) ∗ idle c ringP (fun b => (B b).P) ∗ idle c ringG (fun b => (B b).G) ∗ idle c ringZ (fun b => (B b).Z) ∗ idle c ringM (fun b => (B b).M) ∗ idle c ringN (fun b => (B b).N)) ∗ others a7 a8 a9 a10 a11 a12 a13 c R B 0)
        ∗ (((rd0 c ringX (fun b => (B b).X) 64 ∗ rd0 c ringY (fun b => (B b).Y) 64 ∗ rd0 c ringP (fun b => (B b).P) 64 ∗ rd0 c ringG (fun b => (B b).G) 64 ∗ rd0 c ringZ (fun b => (B b).Z) 64 ∗ rd0 c ringM (fun b => (B b).M) 64 ∗ rd0 c ringN (fun b => (B b).N) 64)
          ∗ (((bigSep Finset.univ fun b => owns (c : Thread nD τ) (ringH.B b) fullShare (hBlk R (B b))) ∗ free c ringH 1 ∗ free c ringH 0) ∗ wr0 c ringU (fun b => uBlk R (B b)) 64)
          ∗ (owns (c : Thread nD τ) a7 fullShare R.f7 ∗ owns (c : Thread nD τ) a8 fullShare R.f8 ∗ owns (c : Thread nD τ) a9 fullShare R.f9 ∗ owns (c : Thread nD τ) a10 fullShare R.f10 ∗ owns (c : Thread nD τ) a11 fullShare R.f11 ∗ owns (c : Thread nD τ) a12 fullShare R.f12 ∗ owns (c : Thread nD τ) a13 fullShare R.f13)
          ∗ (∃ z, owns (c : Thread nD τ) (Memref.whole cc0_scratch0 : Memref sig .tc .vmem S16x4x8x512 .f32) fullShare z)
          ∗ (∃ W, owes (c : Thread nD τ) 0 W)) -∗ Q ⟨wC 64, wD 64, chk13_ok, chk12_ok⟩))
      ⊢ wp frame (wpE (defs₀ (F := F)) Variants.none c none) Set.univ (k0_part19 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17) Q := by
  rw [k0_part19_eq_skeleton]
  unfold k0_part19_skel
  iintro ⟨⟨⟨HX, HY, HP, HG, HZ, HM, HN⟩, HO⟩, HK⟩
  rw [wp_bind]
  iapply (part14_spec a7 h7 a8 h8 a9 h9 a10 h10 a11 h11 a12 h12 a13 h13 c B)
  isplitl [HX]
  · iexact HX
  iintro HX
  try dsimp only
  rw [wp_bind]
  iapply (part15_spec a7 h7 a8 h8 a9 h9 a10 h10 a11 h11 a12 h12 a13 h13 c B)
  isplitl [HY HP HG]
  · isplitl [HY]; · iexact HY
    isplitl [HP]; · iexact HP
    iexact HG
  iintro ⟨HY, HP, HG⟩
  try dsimp only
  rw [wp_bind]
  iapply (part16_spec a7 h7 a8 h8 a9 h9 a10 h10 a11 h11 a12 h12 a13 h13 c B)
  isplitl [HZ HM HN HX]
  · isplitl [HZ]; · iexact HZ
    isplitl [HM]; · iexact HM
    isplitl [HN]; · iexact HN
    iexact HX
  iintro ⟨HZ, HM, HN, HX⟩
  try dsimp only
  rw [wp_bind]
  iapply (part17_spec a7 h7 a8 h8 a9 h9 a10 h10 a11 h11 a12 h12 a13 h13 c B)
  isplitl [HY HP HG HZ]
  · isplitl [HY]; · iexact HY
    isplitl [HP]; · iexact HP
    isplitl [HG]; · iexact HG
    iexact HZ
  iintro ⟨HY, HP, HG, HZ⟩
  try dsimp only
  rw [wp_bind]
  iapply (part18_spec a7 h7 a8 h8 a9 h9 a10 h10 a11 h11 a12 h12 a13 h13 c R B)
  isplitl [HX HY HP HG HZ HM HN HO]
  · isplitl [HX HY HP HG HZ]
    · isplitl [HX]; · iexact HX
      isplitl [HY]; · iexact HY
      isplitl [HP]; · iexact HP
      isplitl [HG]; · iexact HG
      iexact HZ
    isplitr [HO]; swap; · iexact HO
    isplitl [HM]; · iexact HM
    iexact HN
  iintro %w %w' %w'' H
  simp only [Prog.bind_lift]
  unfold state
  icases H with ⟨Hr, ⟨HH, HU⟩, H7, HS, HW⟩
  iapply (wp_postedLast c ringH (fun b => hBlk R (B b)) (creditH _) (cellH_of _ 1 off89_eq))
  isplitl [HH HW]
  · isplitl [HH]; · iexact HH
    iexact HW
  iintro ⟨HH, HW⟩
  iapply (wp_over c)
  iapply HK
  isplitl [Hr]; · iexact Hr
  isplitl [HH HU]
  · isplitl [HH]; · iexact HH
    iexact HU
  isplitl [H7]; · iexact H7
  isplitl [HS]; · iexact HS
  iexact HW

/-- The call's body, whole. -/
theorem merge_spec {Q : PUnit → sProp 𝕄} :
    iprop(((idle c ringX (fun b => (B b).X) ∗ idle c ringY (fun b => (B b).Y) ∗ idle c ringP (fun b => (B b).P) ∗ idle c ringG (fun b => (B b).G) ∗ idle c ringZ (fun b => (B b).Z) ∗ idle c ringM (fun b => (B b).M) ∗ idle c ringN (fun b => (B b).N)) ∗ others a7 a8 a9 a10 a11 a12 a13 c R B 0)
        ∗ (((((bigSep Finset.univ fun b => owns (c : Thread nD τ) (ringX.B b) fullShare (B b).X) ∗ free c ringX 1 ∗ free c ringX 2 ∗ free c ringX 0) ∗ ((bigSep Finset.univ fun b => owns (c : Thread nD τ) (ringY.B b) fullShare (B b).Y) ∗ free c ringY 1 ∗ free c ringY 2 ∗ free c ringY 0) ∗ ((bigSep Finset.univ fun b => owns (c : Thread nD τ) (ringP.B b) fullShare (B b).P) ∗ free c ringP 1 ∗ free c ringP 2 ∗ free c ringP 0) ∗ ((bigSep Finset.univ fun b => owns (c : Thread nD τ) (ringG.B b) fullShare (B b).G) ∗ free c ringG 1 ∗ free c ringG 2 ∗ free c ringG 0) ∗ ((bigSep Finset.univ fun b => owns (c : Thread nD τ) (ringZ.B b) fullShare (B b).Z) ∗ free c ringZ 1 ∗ free c ringZ 2 ∗ free c ringZ 0) ∗ ((bigSep Finset.univ fun b => owns (c : Thread nD τ) (ringM.B b) fullShare (B b).M) ∗ free c ringM 1 ∗ free c ringM 2 ∗ free c ringM 0) ∗ ((bigSep Finset.univ fun b => owns (c : Thread nD τ) (ringN.B b) fullShare (B b).N) ∗ free c ringN 1 ∗ free c ringN 2 ∗ free c ringN 0))
          ∗ (((bigSep Finset.univ fun b => owns (c : Thread nD τ) (ringH.B b) fullShare (hBlk R (B b))) ∗ free c ringH 1 ∗ free c ringH 0)
            ∗ ((bigSep Finset.univ fun b => owns (c : Thread nD τ) (ringU.B b) fullShare (uBlk R (B b))) ∗ free c ringU 1 ∗ free c ringU 0))
          ∗ (owns (c : Thread nD τ) a7 fullShare R.f7 ∗ owns (c : Thread nD τ) a8 fullShare R.f8 ∗ owns (c : Thread nD τ) a9 fullShare R.f9 ∗ owns (c : Thread nD τ) a10 fullShare R.f10 ∗ owns (c : Thread nD τ) a11 fullShare R.f11 ∗ owns (c : Thread nD τ) a12 fullShare R.f12 ∗ owns (c : Thread nD τ) a13 fullShare R.f13)
          ∗ (∃ z, owns (c : Thread nD τ) (Memref.whole cc0_scratch0 : Memref sig .tc .vmem S16x4x8x512 .f32) fullShare z)
          ∗ (∃ W, owes (c : Thread nD τ) 0 W)) -∗ Q ⟨⟩))
      ⊢ wp frame (wpE (defs₀ (F := F)) Variants.none c none) Set.univ (cc0_merge (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) a7 h7 a8 h8 a9 h9 a10 h10 a11 h11 a12 h12 a13 h13 (Memref.whole main_v34_0) (Memref.isWhole_whole _) (Memref.whole main_v34_1) (Memref.isWhole_whole _) (Memref.whole cc0_scratch0) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17) Q := by
  rw [cc0_merge_eq_skeleton]
  unfold cc0_merge_skel
  rw [wp_bind]
  iintro ⟨H, HK⟩
  iapply (part19_spec a7 h7 a8 h8 a9 h9 a10 h10 a11 h11 a12 h12 a13 h13 c R B)
  isplitl [H]; · iexact H
  iintro ⟨⟨HX, HY, HP, HG, HZ, HM, HN⟩, ⟨HH, HU⟩, H7, HS, HW⟩
  simp only [Prog.bind_lift]
  iapply (wp_postedLast c ringU (fun b => uBlk R (B b)) (creditU _) (cellU_of _ 1 off92_eq))
  isplitl [HU HW]
  · isplitl [HU]; · iexact HU
    iexact HW
  iintro ⟨HU, HW⟩
  iapply (wp_over c)
  iapply HK
  isplitl [HX HY HP HG HZ HM HN]
  · isplitl [HX]; · iapply (rd_end c ringX (fun b => (B b).X)); iexact HX
    isplitl [HY]; · iapply (rd_end c ringY (fun b => (B b).Y)); iexact HY
    isplitl [HP]; · iapply (rd_end c ringP (fun b => (B b).P)); iexact HP
    isplitl [HG]; · iapply (rd_end c ringG (fun b => (B b).G)); iexact HG
    isplitl [HZ]; · iapply (rd_end c ringZ (fun b => (B b).Z)); iexact HZ
    isplitl [HM]; · iapply (rd_end c ringM (fun b => (B b).M)); iexact HM
    iapply (rd_end c ringN (fun b => (B b).N)); iexact HN
  isplitl [HH HU]
  · isplitl [HH]; · iexact HH
    iexact HU
  isplitl [H7]; · iexact H7
  isplitl [HS]; · iexact HS
  iexact HW

end Cert.KernelIdeal.Hand

end
-- ==== Proof.Slots.lean ====
module
public import proofs.«01_k».proof.Proof.Body

/-!
# The rings and the launch's buffers

The launch hands over whole buffers and counters at zero; a ring wants its
slots, its blocks and its cells. Here each is turned into the other, with the
contents of the arrays named: an array is its 64 blocks, and a result whose
blocks are written holds, at each time step, what its block holds there.
-/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

/-- The proof's user algebra: the pipeline library's beside the transfers' counters. -/
local notation "𝕄" => MT nD τ sig Unit (Elt F) ℕ (Pipeline.UD sig nD τ) ℕ

variable (c : Dev nD)

/-- What is held at named contents is held at some. -/
theorem someHeld {sp : Space} {s : Shape} {e : EltTy} (M : Memref sig .tc sp s e) (d : s.Idx → Elt F e) :
    (owns (c : Thread nD τ) M fullShare d : sProp 𝕄) ⊢ iprop(∃ d, owns (c : Thread nD τ) M fullShare d) := by
  iintro H
  iexists d; iexact H

section Generic

variable (b : Ref sig .tc) {T : Type} [Fintype T] [DecidableEq T] (r : T → Rect b.ty.shape) (hr : ∀ t a, (r t).stride a = 1)
  (hd : ∀ t t', t ≠ t' → Disjoint (r t).set (r t').set)
  (hcov : (Finset.univ : Finset T).biUnion (fun t => (r t).set) = Finset.univ)
  {s' : Shape} (hq : ∀ t, (r t).shape.Squeezes s')

include hd hcov in
/-- A buffer at any contents is its slots, each at any contents. -/
theorem slots_out :
    iprop(∃ f : Buf (Elt F) ((c : Thread nD τ).loc b), ((c : Thread nD τ).loc b) ↦{fullShare} f)
      ⊢ (bigSep Finset.univ fun t => iprop(∃ d, owns (c : Thread nD τ) (((Memref.whole b).slice (r t) (hr t)).squeeze s' (hq t)) fullShare d) : sProp 𝕄) := by
  iintro ⟨%f, H⟩
  have e : (((c : Thread nD τ).loc b) ↦{fullShare} f : sProp 𝕄) ⊢ bigSep Finset.univ fun t => ((c : Thread nD τ).loc b) ↦[(r t).set]{fullShare} f :=
    Entails.of_eq (Idealize.ShloMosaic.Ring.pointsTo_blocks (ℓ := (c : Thread nD τ).loc b) (fun t => (r t).set) hd hcov f)
  have e' (t : T) : (((c : Thread nD τ).loc b) ↦[(r t).set]{fullShare} f : sProp 𝕄)
      ⊢ iprop(∃ d, owns (c : Thread nD τ) (((Memref.whole b).slice (r t) (hr t)).squeeze s' (hq t)) fullShare d) := by
    iintro H
    iexists _
    iapply (owns_intro (c : Thread nD τ) (((Memref.whole b).slice (r t) (hr t)).squeeze s' (hq t)) fullShare f)
    rw [show (((Memref.whole b).slice (r t) (hr t)).squeeze s' (hq t)).view.set = (r t).set from
      (View.set_reshape _ _).trans (View.set_slice_whole b (r t))]
    iexact H
  iapply (e.trans (bigSep_mono fun t _ => e' t))
  iexact H

include hd hcov in
/-- Slots at any contents make up the buffer at some contents. -/
theorem slots_in :
    (bigSep Finset.univ fun t => iprop(∃ d, owns (c : Thread nD τ) (((Memref.whole b).slice (r t) (hr t)).squeeze s' (hq t)) fullShare d))
      ⊢ (iprop(∃ f : Buf (Elt F) ((c : Thread nD τ).loc b), ((c : Thread nD τ).loc b) ↦{fullShare} f) : sProp 𝕄) := by
  refine BIBase.Entails.trans ?_ (Idealize.ShloMosaic.Ring.pointsTo_blocks_join_exists (ℓ := (c : Thread nD τ).loc b) (fun t => (r t).set) hd hcov (fun _ => Classical.arbitrary _))
  have e (t : T) : iprop(∃ d, owns (c : Thread nD τ) (((Memref.whole b).slice (r t) (hr t)).squeeze s' (hq t)) fullShare d)
      ⊢ (iprop(∃ f, ((c : Thread nD τ).loc b) ↦[(r t).set]{fullShare} f) : sProp 𝕄) := by
    unfold owns
    iintro ⟨%d, %f, -, H⟩
    iexists f
    rw [show (((Memref.whole b).slice (r t) (hr t)).squeeze s' (hq t)).view.set = (r t).set from
      (View.set_reshape _ _).trans (View.set_slice_whole b (r t))]
    iexact H
  exact bigSep_mono fun t _ => e t

include hd hcov in
/-- An array is its blocks, each at its part of the contents; -/
theorem blocks_out (f : Buf (Elt F) ((c : Thread nD τ).loc b)) :
    (((c : Thread nD τ).loc b) ↦{fullShare} f : sProp 𝕄)
      ⊢ bigSep Finset.univ fun t => owns (c : Thread nD τ) ((Memref.whole b).slice (r t) (hr t)) fullShare (fun j => f ((r t).emb j)) :=
  (Entails.of_eq (owns_whole (c : Thread nD τ) b fullShare f).symm).trans (owns_rects (c : Thread nD τ) (Memref.whole b) fullShare r hr hd hcov f)

include hd hcov in
/-- and back. -/
theorem blocks_in (f : Buf (Elt F) ((c : Thread nD τ).loc b)) :
    (bigSep Finset.univ fun t => owns (c : Thread nD τ) ((Memref.whole b).slice (r t) (hr t)) fullShare (fun j => f ((r t).emb j)))
      ⊢ (((c : Thread nD τ).loc b) ↦{fullShare} f : sProp 𝕄) :=
  (owns_of_rects (c : Thread nD τ) (Memref.whole b) fullShare r hr hd hcov f).trans (Entails.of_eq (owns_whole (c : Thread nD τ) b fullShare f))

end Generic

/-! ## The blocks of a result, gathered -/

/-- The 32 time steps of block `b` of an array of 1024 columns. -/
abbrev rowsAt (b : Fin 64) : Rect S16x2048x1024 :=
  Rect.unit (s := S16x2048x1024) ![0, 32 * b.val, 0] S16x32x1024.size (by revert b; decide +kernel)

/-- The block a coordinate of the array lies in. -/
def blockOf (i : S16x2048x1024.Idx) : Fin 64 := ⟨(i 1).val / 32, by have h : (i 1).val < 2048 := (i 1).isLt; omega⟩
/-- The coordinate within that block. -/
def within (i : S16x2048x1024.Idx) : S16x32x1024.Idx :=
  fun a => match a with
    | 0 => ⟨(i 0).val, (i 0).isLt⟩
    | 1 => ⟨(i 1).val % 32, Nat.mod_lt _ (by decide)⟩
    | 2 => ⟨(i 2).val, (i 2).isLt⟩

/-- The array whose blocks are those given. -/
def gather {α : Type} (D : Fin 64 → S16x32x1024.Idx → α) : S16x2048x1024.Idx → α := fun i => D (blockOf i) (within i)

theorem rowsAt_val (b : Fin 64) (j : S16x32x1024.Idx) (a : Fin 3) : (((rowsAt b).emb j) a).val = (![0, 32 * b.val, 0] : Fin 3 → ℕ) a + (j a).val := by
  show (![0, 32 * b.val, 0] : Fin 3 → ℕ) a + 1 * (j a).val = _
  rw [Nat.one_mul]

theorem gather_block {α : Type} (D : Fin 64 → S16x32x1024.Idx → α) (b : Fin 64) : (fun j => gather D ((rowsAt b).emb j)) = D b := by
  funext j
  unfold gather
  have h1 := rowsAt_val b j 1
  have hj : (j 1).val < 32 := (j 1).isLt
  have hb : blockOf ((rowsAt b).emb j) = b := by
    apply Fin.ext
    show (((rowsAt b).emb j) 1).val / 32 = b.val
    rw [h1]
    show (32 * b.val + (j 1).val) / 32 = b.val
    omega
  have hw : within ((rowsAt b).emb j) = j := by
    funext a
    apply Fin.ext
    match a with
    | 0 => exact (rowsAt_val b j 0).trans (Nat.zero_add _)
    | 1 =>
      show (((rowsAt b).emb j) 1).val % 32 = (j 1).val
      rw [h1]
      show (32 * b.val + (j 1).val) % 32 = (j 1).val
      omega
    | 2 => exact (rowsAt_val b j 2).trans (Nat.zero_add _)
  rw [hb, hw]

/-- The 32 time steps of block `b` of an array of 512 columns. -/
abbrev rowsAt' (b : Fin 64) : Rect S16x2048x512 :=
  Rect.unit (s := S16x2048x512) ![0, 32 * b.val, 0] S16x32x512.size (by revert b; decide +kernel)
/-- The 32 time steps of block `b` of an array whose first axis is time. -/
abbrev stepsAt (b : Fin 64) : Rect S2048x16x512 :=
  Rect.unit (s := S2048x16x512) ![32 * b.val, 0, 0] S32x16x512.size (by revert b; decide +kernel)

theorem rowsAt_disjoint : ∀ b b' : Fin 64, b ≠ b' → Disjoint (rowsAt b).set (rowsAt b').set :=
  fun b b' h => Idealize.ShloMosaic.Ring.lead_disjoint (s := S16x2048x1024) (NB := 64) 1 32 (fun b => ![0, 32 * b.val, 0]) S16x32x1024.size (fun b => by revert b; decide +kernel) (fun b => by rfl) (by rfl) b b' h
theorem rowsAt_cover : (Finset.univ : Finset (Fin 64)).biUnion (fun b => (rowsAt b).set) = Finset.univ :=
  Idealize.ShloMosaic.Ring.lead_cover (s := S16x2048x1024) (NB := 64) 1 32 (fun b => ![0, 32 * b.val, 0]) S16x32x1024.size (fun b => by revert b; decide +kernel) (fun b => by rfl) (by intro b a h; match a, h with | 0, _ => rfl | 1, h => exact absurd rfl h | 2, _ => rfl) (by rfl) (by intro a h; match a, h with | 0, _ => rfl | 1, h => exact absurd rfl h | 2, _ => rfl) (by rfl)
theorem rowsAt'_disjoint : ∀ b b' : Fin 64, b ≠ b' → Disjoint (rowsAt' b).set (rowsAt' b').set :=
  fun b b' h => Idealize.ShloMosaic.Ring.lead_disjoint (s := S16x2048x512) (NB := 64) 1 32 (fun b => ![0, 32 * b.val, 0]) S16x32x512.size (fun b => by revert b; decide +kernel) (fun b => by rfl) (by rfl) b b' h
theorem rowsAt'_cover : (Finset.univ : Finset (Fin 64)).biUnion (fun b => (rowsAt' b).set) = Finset.univ :=
  Idealize.ShloMosaic.Ring.lead_cover (s := S16x2048x512) (NB := 64) 1 32 (fun b => ![0, 32 * b.val, 0]) S16x32x512.size (fun b => by revert b; decide +kernel) (fun b => by rfl) (by intro b a h; match a, h with | 0, _ => rfl | 1, h => exact absurd rfl h | 2, _ => rfl) (by rfl) (by intro a h; match a, h with | 0, _ => rfl | 1, h => exact absurd rfl h | 2, _ => rfl) (by rfl)
theorem stepsAt_disjoint : ∀ b b' : Fin 64, b ≠ b' → Disjoint (stepsAt b).set (stepsAt b').set :=
  fun b b' h => Idealize.ShloMosaic.Ring.lead_disjoint (s := S2048x16x512) (NB := 64) 0 32 (fun b => ![32 * b.val, 0, 0]) S32x16x512.size (fun b => by revert b; decide +kernel) (fun b => by rfl) (by rfl) b b' h
theorem stepsAt_cover : (Finset.univ : Finset (Fin 64)).biUnion (fun b => (stepsAt b).set) = Finset.univ :=
  Idealize.ShloMosaic.Ring.lead_cover (s := S2048x16x512) (NB := 64) 0 32 (fun b => ![32 * b.val, 0, 0]) S32x16x512.size (fun b => by revert b; decide +kernel) (fun b => by rfl) (by intro b a h; match a, h with | 0, h => exact absurd rfl h | 1, _ => rfl | 2, _ => rfl) (by rfl) (by intro a h; match a, h with | 0, h => exact absurd rfl h | 1, _ => rfl | 2, _ => rfl) (by rfl)

/-! ## Ring by ring -/

/-- The slots of ring `X`, as rectangles of its buffer. -/
abbrev partX (i : Fin 3) : Rect S3x16x32x1024 := Rect.unit (s := S3x16x32x1024) ![i.val, 0, 0, 0] S1x16x32x1024.size (by revert i; decide +kernel)
theorem partX_disjoint : ∀ i i' : Fin 3, i ≠ i' → Disjoint (partX i).set (partX i').set :=
  fun b b' h => Idealize.ShloMosaic.Ring.lead_disjoint (s := S3x16x32x1024) (NB := 3) 0 1 (fun i => ![i.val, 0, 0, 0]) S1x16x32x1024.size (fun i => by revert i; decide +kernel) (fun i => (Nat.one_mul _).symm) (by rfl) b b' h
theorem partX_cover : (Finset.univ : Finset (Fin 3)).biUnion (fun i => (partX i).set) = Finset.univ :=
  Idealize.ShloMosaic.Ring.lead_cover (s := S3x16x32x1024) (NB := 3) 0 1 (fun i => ![i.val, 0, 0, 0]) S1x16x32x1024.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsX_out : iprop(∃ f : Buf (Elt F) ((c : Thread nD τ).loc cc0_scoped0), ((c : Thread nD τ).loc cc0_scoped0) ↦{fullShare} f)
    ⊢ (bigSep Finset.univ fun i => iprop(∃ d, owns (c : Thread nD τ) (ringX.S i) fullShare d) : sProp 𝕄) :=
  slots_out c cc0_scoped0 partX (fun _ _ => rfl) partX_disjoint partX_cover (fun _ => squeezes_S1x16x32x1024_S16x32x1024)
theorem slotsX_in : (bigSep Finset.univ fun i => iprop(∃ d, owns (c : Thread nD τ) (ringX.S i) fullShare d))
    ⊢ (iprop(∃ f : Buf (Elt F) ((c : Thread nD τ).loc cc0_scoped0), ((c : Thread nD τ).loc cc0_scoped0) ↦{fullShare} f) : sProp 𝕄) :=
  slots_in c cc0_scoped0 partX (fun _ _ => rfl) partX_disjoint partX_cover (fun _ => squeezes_S1x16x32x1024_S16x32x1024)
theorem blocksX_out (f : Buf (Elt F) ((c : Thread nD τ).loc main_arg0)) : (((c : Thread nD τ).loc main_arg0) ↦{fullShare} f : sProp 𝕄)
    ⊢ bigSep Finset.univ fun b => owns (c : Thread nD τ) (ringX.B b) fullShare (fun j => f ((rowsAt b).emb j)) :=
  blocks_out c main_arg0 rowsAt (fun _ _ => rfl) rowsAt_disjoint rowsAt_cover f
theorem blocksX_in (f : Buf (Elt F) ((c : Thread nD τ).loc main_arg0)) : (bigSep Finset.univ fun b => owns (c : Thread nD τ) (ringX.B b) fullShare (fun j => f ((rowsAt b).emb j)))
    ⊢ (((c : Thread nD τ).loc main_arg0) ↦{fullShare} f : sProp 𝕄) :=
  blocks_in c main_arg0 rowsAt (fun _ _ => rfl) rowsAt_disjoint rowsAt_cover f
theorem cellX_0 : ringX.x 0 = 7 := by decide +kernel
theorem cellX_1 : ringX.x 1 = 8 := by decide +kernel
theorem cellX_2 : ringX.x 2 = 9 := by decide +kernel
/-- Ring `X` from what the launch hands over. -/
theorem takeX (f : Buf (Elt F) ((c : Thread nD τ).loc main_arg0)) :
    iprop((∃ f : Buf (Elt F) ((c : Thread nD τ).loc cc0_scoped0), ((c : Thread nD τ).loc cc0_scoped0) ↦{fullShare} f) ∗ (zero c 7 ∗ zero c 8 ∗ zero c 9) ∗ ((c : Thread nD τ).loc main_arg0) ↦{fullShare} f)
      ⊢ (idle c ringX (fun b j => f ((rowsAt b).emb j)) : sProp 𝕄) := by
  iintro ⟨HS, ⟨Hz0, Hz1, Hz2⟩, HB⟩
  ihave HS := ((slotsX_out c).trans (Entails.of_eq (Idealize.ShloMosaic.Ring.bigSep_fin3 _))) $$ HS
  icases HS with ⟨HS0, HS1, HS2⟩
  unfold idle
  isplitl [HB]
  · iapply (rd_begin c ringX (fun b j => f ((rowsAt b).emb j)))
    iapply (blocksX_out c f)
    iexact HB
  rw [show sl3 0 = 0 from rfl, show sl3 1 = 1 from rfl, show sl3 2 = 2 from rfl]
  unfold free
  rw [cellX_0, cellX_1, cellX_2]
  isplitl [Hz0 HS0]
  · isplitl [Hz0]; · iexact Hz0
    iexact HS0
  isplitl [Hz1 HS1]
  · isplitl [Hz1]; · iexact Hz1
    iexact HS1
  isplitl [Hz2]; · iexact Hz2
  iexact HS2
/-- And back, after the last trip. -/
theorem giveX (f : Buf (Elt F) ((c : Thread nD τ).loc main_arg0)) :
    iprop((bigSep Finset.univ fun b => owns (c : Thread nD τ) (ringX.B b) fullShare (fun j => f ((rowsAt b).emb j))) ∗ free c ringX 1 ∗ free c ringX 2 ∗ free c ringX 0)
      ⊢ (iprop((∃ f : Buf (Elt F) ((c : Thread nD τ).loc cc0_scoped0), ((c : Thread nD τ).loc cc0_scoped0) ↦{fullShare} f) ∗ (zero c 7 ∗ zero c 8 ∗ zero c 9) ∗ ((c : Thread nD τ).loc main_arg0) ↦{fullShare} f) : sProp 𝕄) := by
  unfold free
  rw [cellX_0, cellX_1, cellX_2]
  iintro ⟨HB, ⟨Hz1, HS1⟩, ⟨Hz2, HS2⟩, ⟨Hz0, HS0⟩⟩
  isplitl [HS0 HS1 HS2]
  · iapply ((Entails.of_eq (Idealize.ShloMosaic.Ring.bigSep_fin3 _).symm).trans (slotsX_in (F := F) c))
    isplitl [HS0]; · iexact HS0
    isplitl [HS1]; · iexact HS1
    iexact HS2
  isplitl [Hz0 Hz1 Hz2]
  · isplitl [Hz0]; · iexact Hz0
    isplitl [Hz1]; · iexact Hz1
    iexact Hz2
  iapply (blocksX_in c f)
  iexact HB

/-- The slots of ring `Y`, as rectangles of its buffer. -/
abbrev partY (i : Fin 3) : Rect S3x32x16x512 := Rect.unit (s := S3x32x16x512) ![i.val, 0, 0, 0] S1x32x16x512.size (by revert i; decide +kernel)
theorem partY_disjoint : ∀ i i' : Fin 3, i ≠ i' → Disjoint (partY i).set (partY i').set :=
  fun b b' h => Idealize.ShloMosaic.Ring.lead_disjoint (s := S3x32x16x512) (NB := 3) 0 1 (fun i => ![i.val, 0, 0, 0]) S1x32x16x512.size (fun i => by revert i; decide +kernel) (fun i => (Nat.one_mul _).symm) (by rfl) b b' h
theorem partY_cover : (Finset.univ : Finset (Fin 3)).biUnion (fun i => (partY i).set) = Finset.univ :=
  Idealize.ShloMosaic.Ring.lead_cover (s := S3x32x16x512) (NB := 3) 0 1 (fun i => ![i.val, 0, 0, 0]) S1x32x16x512.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsY_out : iprop(∃ f : Buf (Elt F) ((c : Thread nD τ).loc cc0_scoped2), ((c : Thread nD τ).loc cc0_scoped2) ↦{fullShare} f)
    ⊢ (bigSep Finset.univ fun i => iprop(∃ d, owns (c : Thread nD τ) (ringY.S i) fullShare d) : sProp 𝕄) :=
  slots_out c cc0_scoped2 partY (fun _ _ => rfl) partY_disjoint partY_cover (fun _ => squeezes_S1x32x16x512_S32x16x512)
theorem slotsY_in : (bigSep Finset.univ fun i => iprop(∃ d, owns (c : Thread nD τ) (ringY.S i) fullShare d))
    ⊢ (iprop(∃ f : Buf (Elt F) ((c : Thread nD τ).loc cc0_scoped2), ((c : Thread nD τ).loc cc0_scoped2) ↦{fullShare} f) : sProp 𝕄) :=
  slots_in c cc0_scoped2 partY (fun _ _ => rfl) partY_disjoint partY_cover (fun _ => squeezes_S1x32x16x512_S32x16x512)
theorem blocksY_out (f : Buf (Elt F) ((c : Thread nD τ).loc main_arg2)) : (((c : Thread nD τ).loc main_arg2) ↦{fullShare} f : sProp 𝕄)
    ⊢ bigSep Finset.univ fun b => owns (c : Thread nD τ) (ringY.B b) fullShare (fun j => f ((stepsAt b).emb j)) :=
  blocks_out c main_arg2 stepsAt (fun _ _ => rfl) stepsAt_disjoint stepsAt_cover f
theorem blocksY_in (f : Buf (Elt F) ((c : Thread nD τ).loc main_arg2)) : (bigSep Finset.univ fun b => owns (c : Thread nD τ) (ringY.B b) fullShare (fun j => f ((stepsAt b).emb j)))
    ⊢ (((c : Thread nD τ).loc main_arg2) ↦{fullShare} f : sProp 𝕄) :=
  blocks_in c main_arg2 stepsAt (fun _ _ => rfl) stepsAt_disjoint stepsAt_cover f
theorem cellY_0 : ringY.x 0 = 10 := by decide +kernel
theorem cellY_1 : ringY.x 1 = 11 := by decide +kernel
theorem cellY_2 : ringY.x 2 = 12 := by decide +kernel
/-- Ring `Y` from what the launch hands over. -/
theorem takeY (f : Buf (Elt F) ((c : Thread nD τ).loc main_arg2)) :
    iprop((∃ f : Buf (Elt F) ((c : Thread nD τ).loc cc0_scoped2), ((c : Thread nD τ).loc cc0_scoped2) ↦{fullShare} f) ∗ (zero c 10 ∗ zero c 11 ∗ zero c 12) ∗ ((c : Thread nD τ).loc main_arg2) ↦{fullShare} f)
      ⊢ (idle c ringY (fun b j => f ((stepsAt b).emb j)) : sProp 𝕄) := by
  iintro ⟨HS, ⟨Hz0, Hz1, Hz2⟩, HB⟩
  ihave HS := ((slotsY_out c).trans (Entails.of_eq (Idealize.ShloMosaic.Ring.bigSep_fin3 _))) $$ HS
  icases HS with ⟨HS0, HS1, HS2⟩
  unfold idle
  isplitl [HB]
  · iapply (rd_begin c ringY (fun b j => f ((stepsAt b).emb j)))
    iapply (blocksY_out c f)
    iexact HB
  rw [show sl3 0 = 0 from rfl, show sl3 1 = 1 from rfl, show sl3 2 = 2 from rfl]
  unfold free
  rw [cellY_0, cellY_1, cellY_2]
  isplitl [Hz0 HS0]
  · isplitl [Hz0]; · iexact Hz0
    iexact HS0
  isplitl [Hz1 HS1]
  · isplitl [Hz1]; · iexact Hz1
    iexact HS1
  isplitl [Hz2]; · iexact Hz2
  iexact HS2
/-- And back, after the last trip. -/
theorem giveY (f : Buf (Elt F) ((c : Thread nD τ).loc main_arg2)) :
    iprop((bigSep Finset.univ fun b => owns (c : Thread nD τ) (ringY.B b) fullShare (fun j => f ((stepsAt b).emb j))) ∗ free c ringY 1 ∗ free c ringY 2 ∗ free c ringY 0)
      ⊢ (iprop((∃ f : Buf (Elt F) ((c : Thread nD τ).loc cc0_scoped2), ((c : Thread nD τ).loc cc0_scoped2) ↦{fullShare} f) ∗ (zero c 10 ∗ zero c 11 ∗ zero c 12) ∗ ((c : Thread nD τ).loc main_arg2) ↦{fullShare} f) : sProp 𝕄) := by
  unfold free
  rw [cellY_0, cellY_1, cellY_2]
  iintro ⟨HB, ⟨Hz1, HS1⟩, ⟨Hz2, HS2⟩, ⟨Hz0, HS0⟩⟩
  isplitl [HS0 HS1 HS2]
  · iapply ((Entails.of_eq (Idealize.ShloMosaic.Ring.bigSep_fin3 _).symm).trans (slotsY_in (F := F) c))
    isplitl [HS0]; · iexact HS0
    isplitl [HS1]; · iexact HS1
    iexact HS2
  isplitl [Hz0 Hz1 Hz2]
  · isplitl [Hz0]; · iexact Hz0
    isplitl [Hz1]; · iexact Hz1
    iexact Hz2
  iapply (blocksY_in c f)
  iexact HB

/-- The slots of ring `P`, as rectangles of its buffer. -/
abbrev partP (i : Fin 3) : Rect S3x16x32x512 := Rect.unit (s := S3x16x32x512) ![i.val, 0, 0, 0] S1x16x32x512.size (by revert i; decide +kernel)
theorem partP_disjoint : ∀ i i' : Fin 3, i ≠ i' → Disjoint (partP i).set (partP i').set :=
  fun b b' h => Idealize.ShloMosaic.Ring.lead_disjoint (s := S3x16x32x512) (NB := 3) 0 1 (fun i => ![i.val, 0, 0, 0]) S1x16x32x512.size (fun i => by revert i; decide +kernel) (fun i => (Nat.one_mul _).symm) (by rfl) b b' h
theorem partP_cover : (Finset.univ : Finset (Fin 3)).biUnion (fun i => (partP i).set) = Finset.univ :=
  Idealize.ShloMosaic.Ring.lead_cover (s := S3x16x32x512) (NB := 3) 0 1 (fun i => ![i.val, 0, 0, 0]) S1x16x32x512.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsP_out : iprop(∃ f : Buf (Elt F) ((c : Thread nD τ).loc cc0_scoped4), ((c : Thread nD τ).loc cc0_scoped4) ↦{fullShare} f)
    ⊢ (bigSep Finset.univ fun i => iprop(∃ d, owns (c : Thread nD τ) (ringP.S i) fullShare d) : sProp 𝕄) :=
  slots_out c cc0_scoped4 partP (fun _ _ => rfl) partP_disjoint partP_cover (fun _ => squeezes_S1x16x32x512_S16x32x512)
theorem slotsP_in : (bigSep Finset.univ fun i => iprop(∃ d, owns (c : Thread nD τ) (ringP.S i) fullShare d))
    ⊢ (iprop(∃ f : Buf (Elt F) ((c : Thread nD τ).loc cc0_scoped4), ((c : Thread nD τ).loc cc0_scoped4) ↦{fullShare} f) : sProp 𝕄) :=
  slots_in c cc0_scoped4 partP (fun _ _ => rfl) partP_disjoint partP_cover (fun _ => squeezes_S1x16x32x512_S16x32x512)
theorem blocksP_out (f : Buf (Elt F) ((c : Thread nD τ).loc main_arg3)) : (((c : Thread nD τ).loc main_arg3) ↦{fullShare} f : sProp 𝕄)
    ⊢ bigSep Finset.univ fun b => owns (c : Thread nD τ) (ringP.B b) fullShare (fun j => f ((rowsAt' b).emb j)) :=
  blocks_out c main_arg3 rowsAt' (fun _ _ => rfl) rowsAt'_disjoint rowsAt'_cover f
theorem blocksP_in (f : Buf (Elt F) ((c : Thread nD τ).loc main_arg3)) : (bigSep Finset.univ fun b => owns (c : Thread nD τ) (ringP.B b) fullShare (fun j => f ((rowsAt' b).emb j)))
    ⊢ (((c : Thread nD τ).loc main_arg3) ↦{fullShare} f : sProp 𝕄) :=
  blocks_in c main_arg3 rowsAt' (fun _ _ => rfl) rowsAt'_disjoint rowsAt'_cover f
theorem cellP_0 : ringP.x 0 = 13 := by decide +kernel
theorem cellP_1 : ringP.x 1 = 14 := by decide +kernel
theorem cellP_2 : ringP.x 2 = 15 := by decide +kernel
/-- Ring `P` from what the launch hands over. -/
theorem takeP (f : Buf (Elt F) ((c : Thread nD τ).loc main_arg3)) :
    iprop((∃ f : Buf (Elt F) ((c : Thread nD τ).loc cc0_scoped4), ((c : Thread nD τ).loc cc0_scoped4) ↦{fullShare} f) ∗ (zero c 13 ∗ zero c 14 ∗ zero c 15) ∗ ((c : Thread nD τ).loc main_arg3) ↦{fullShare} f)
      ⊢ (idle c ringP (fun b j => f ((rowsAt' b).emb j)) : sProp 𝕄) := by
  iintro ⟨HS, ⟨Hz0, Hz1, Hz2⟩, HB⟩
  ihave HS := ((slotsP_out c).trans (Entails.of_eq (Idealize.ShloMosaic.Ring.bigSep_fin3 _))) $$ HS
  icases HS with ⟨HS0, HS1, HS2⟩
  unfold idle
  isplitl [HB]
  · iapply (rd_begin c ringP (fun b j => f ((rowsAt' b).emb j)))
    iapply (blocksP_out c f)
    iexact HB
  rw [show sl3 0 = 0 from rfl, show sl3 1 = 1 from rfl, show sl3 2 = 2 from rfl]
  unfold free
  rw [cellP_0, cellP_1, cellP_2]
  isplitl [Hz0 HS0]
  · isplitl [Hz0]; · iexact Hz0
    iexact HS0
  isplitl [Hz1 HS1]
  · isplitl [Hz1]; · iexact Hz1
    iexact HS1
  isplitl [Hz2]; · iexact Hz2
  iexact HS2
/-- And back, after the last trip. -/
theorem giveP (f : Buf (Elt F) ((c : Thread nD τ).loc main_arg3)) :
    iprop((bigSep Finset.univ fun b => owns (c : Thread nD τ) (ringP.B b) fullShare (fun j => f ((rowsAt' b).emb j))) ∗ free c ringP 1 ∗ free c ringP 2 ∗ free c ringP 0)
      ⊢ (iprop((∃ f : Buf (Elt F) ((c : Thread nD τ).loc cc0_scoped4), ((c : Thread nD τ).loc cc0_scoped4) ↦{fullShare} f) ∗ (zero c 13 ∗ zero c 14 ∗ zero c 15) ∗ ((c : Thread nD τ).loc main_arg3) ↦{fullShare} f) : sProp 𝕄) := by
  unfold free
  rw [cellP_0, cellP_1, cellP_2]
  iintro ⟨HB, ⟨Hz1, HS1⟩, ⟨Hz2, HS2⟩, ⟨Hz0, HS0⟩⟩
  isplitl [HS0 HS1 HS2]
  · iapply ((Entails.of_eq (Idealize.ShloMosaic.Ring.bigSep_fin3 _).symm).trans (slotsP_in (F := F) c))
    isplitl [HS0]; · iexact HS0
    isplitl [HS1]; · iexact HS1
    iexact HS2
  isplitl [Hz0 Hz1 Hz2]
  · isplitl [Hz0]; · iexact Hz0
    isplitl [Hz1]; · iexact Hz1
    iexact Hz2
  iapply (blocksP_in c f)
  iexact HB

/-- The slots of ring `G`, as rectangles of its buffer. -/
abbrev partG (i : Fin 3) : Rect S3x16x32x512 := Rect.unit (s := S3x16x32x512) ![i.val, 0, 0, 0] S1x16x32x512.size (by revert i; decide +kernel)
theorem partG_disjoint : ∀ i i' : Fin 3, i ≠ i' → Disjoint (partG i).set (partG i').set :=
  fun b b' h => Idealize.ShloMosaic.Ring.lead_disjoint (s := S3x16x32x512) (NB := 3) 0 1 (fun i => ![i.val, 0, 0, 0]) S1x16x32x512.size (fun i => by revert i; decide +kernel) (fun i => (Nat.one_mul _).symm) (by rfl) b b' h
theorem partG_cover : (Finset.univ : Finset (Fin 3)).biUnion (fun i => (partG i).set) = Finset.univ :=
  Idealize.ShloMosaic.Ring.lead_cover (s := S3x16x32x512) (NB := 3) 0 1 (fun i => ![i.val, 0, 0, 0]) S1x16x32x512.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsG_out : iprop(∃ f : Buf (Elt F) ((c : Thread nD τ).loc cc0_scoped6), ((c : Thread nD τ).loc cc0_scoped6) ↦{fullShare} f)
    ⊢ (bigSep Finset.univ fun i => iprop(∃ d, owns (c : Thread nD τ) (ringG.S i) fullShare d) : sProp 𝕄) :=
  slots_out c cc0_scoped6 partG (fun _ _ => rfl) partG_disjoint partG_cover (fun _ => squeezes_S1x16x32x512_S16x32x512)
theorem slotsG_in : (bigSep Finset.univ fun i => iprop(∃ d, owns (c : Thread nD τ) (ringG.S i) fullShare d))
    ⊢ (iprop(∃ f : Buf (Elt F) ((c : Thread nD τ).loc cc0_scoped6), ((c : Thread nD τ).loc cc0_scoped6) ↦{fullShare} f) : sProp 𝕄) :=
  slots_in c cc0_scoped6 partG (fun _ _ => rfl) partG_disjoint partG_cover (fun _ => squeezes_S1x16x32x512_S16x32x512)
theorem blocksG_out (f : Buf (Elt F) ((c : Thread nD τ).loc main_arg4)) : (((c : Thread nD τ).loc main_arg4) ↦{fullShare} f : sProp 𝕄)
    ⊢ bigSep Finset.univ fun b => owns (c : Thread nD τ) (ringG.B b) fullShare (fun j => f ((rowsAt' b).emb j)) :=
  blocks_out c main_arg4 rowsAt' (fun _ _ => rfl) rowsAt'_disjoint rowsAt'_cover f
theorem blocksG_in (f : Buf (Elt F) ((c : Thread nD τ).loc main_arg4)) : (bigSep Finset.univ fun b => owns (c : Thread nD τ) (ringG.B b) fullShare (fun j => f ((rowsAt' b).emb j)))
    ⊢ (((c : Thread nD τ).loc main_arg4) ↦{fullShare} f : sProp 𝕄) :=
  blocks_in c main_arg4 rowsAt' (fun _ _ => rfl) rowsAt'_disjoint rowsAt'_cover f
theorem cellG_0 : ringG.x 0 = 16 := by decide +kernel
theorem cellG_1 : ringG.x 1 = 17 := by decide +kernel
theorem cellG_2 : ringG.x 2 = 18 := by decide +kernel
/-- Ring `G` from what the launch hands over. -/
theorem takeG (f : Buf (Elt F) ((c : Thread nD τ).loc main_arg4)) :
    iprop((∃ f : Buf (Elt F) ((c : Thread nD τ).loc cc0_scoped6), ((c : Thread nD τ).loc cc0_scoped6) ↦{fullShare} f) ∗ (zero c 16 ∗ zero c 17 ∗ zero c 18) ∗ ((c : Thread nD τ).loc main_arg4) ↦{fullShare} f)
      ⊢ (idle c ringG (fun b j => f ((rowsAt' b).emb j)) : sProp 𝕄) := by
  iintro ⟨HS, ⟨Hz0, Hz1, Hz2⟩, HB⟩
  ihave HS := ((slotsG_out c).trans (Entails.of_eq (Idealize.ShloMosaic.Ring.bigSep_fin3 _))) $$ HS
  icases HS with ⟨HS0, HS1, HS2⟩
  unfold idle
  isplitl [HB]
  · iapply (rd_begin c ringG (fun b j => f ((rowsAt' b).emb j)))
    iapply (blocksG_out c f)
    iexact HB
  rw [show sl3 0 = 0 from rfl, show sl3 1 = 1 from rfl, show sl3 2 = 2 from rfl]
  unfold free
  rw [cellG_0, cellG_1, cellG_2]
  isplitl [Hz0 HS0]
  · isplitl [Hz0]; · iexact Hz0
    iexact HS0
  isplitl [Hz1 HS1]
  · isplitl [Hz1]; · iexact Hz1
    iexact HS1
  isplitl [Hz2]; · iexact Hz2
  iexact HS2
/-- And back, after the last trip. -/
theorem giveG (f : Buf (Elt F) ((c : Thread nD τ).loc main_arg4)) :
    iprop((bigSep Finset.univ fun b => owns (c : Thread nD τ) (ringG.B b) fullShare (fun j => f ((rowsAt' b).emb j))) ∗ free c ringG 1 ∗ free c ringG 2 ∗ free c ringG 0)
      ⊢ (iprop((∃ f : Buf (Elt F) ((c : Thread nD τ).loc cc0_scoped6), ((c : Thread nD τ).loc cc0_scoped6) ↦{fullShare} f) ∗ (zero c 16 ∗ zero c 17 ∗ zero c 18) ∗ ((c : Thread nD τ).loc main_arg4) ↦{fullShare} f) : sProp 𝕄) := by
  unfold free
  rw [cellG_0, cellG_1, cellG_2]
  iintro ⟨HB, ⟨Hz1, HS1⟩, ⟨Hz2, HS2⟩, ⟨Hz0, HS0⟩⟩
  isplitl [HS0 HS1 HS2]
  · iapply ((Entails.of_eq (Idealize.ShloMosaic.Ring.bigSep_fin3 _).symm).trans (slotsG_in (F := F) c))
    isplitl [HS0]; · iexact HS0
    isplitl [HS1]; · iexact HS1
    iexact HS2
  isplitl [Hz0 Hz1 Hz2]
  · isplitl [Hz0]; · iexact Hz0
    isplitl [Hz1]; · iexact Hz1
    iexact Hz2
  iapply (blocksG_in c f)
  iexact HB

/-- The slots of ring `Z`, as rectangles of its buffer. -/
abbrev partZ (i : Fin 3) : Rect S3x16x32x512 := Rect.unit (s := S3x16x32x512) ![i.val, 0, 0, 0] S1x16x32x512.size (by revert i; decide +kernel)
theorem partZ_disjoint : ∀ i i' : Fin 3, i ≠ i' → Disjoint (partZ i).set (partZ i').set :=
  fun b b' h => Idealize.ShloMosaic.Ring.lead_disjoint (s := S3x16x32x512) (NB := 3) 0 1 (fun i => ![i.val, 0, 0, 0]) S1x16x32x512.size (fun i => by revert i; decide +kernel) (fun i => (Nat.one_mul _).symm) (by rfl) b b' h
theorem partZ_cover : (Finset.univ : Finset (Fin 3)).biUnion (fun i => (partZ i).set) = Finset.univ :=
  Idealize.ShloMosaic.Ring.lead_cover (s := S3x16x32x512) (NB := 3) 0 1 (fun i => ![i.val, 0, 0, 0]) S1x16x32x512.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsZ_out : iprop(∃ f : Buf (Elt F) ((c : Thread nD τ).loc cc0_scoped8), ((c : Thread nD τ).loc cc0_scoped8) ↦{fullShare} f)
    ⊢ (bigSep Finset.univ fun i => iprop(∃ d, owns (c : Thread nD τ) (ringZ.S i) fullShare d) : sProp 𝕄) :=
  slots_out c cc0_scoped8 partZ (fun _ _ => rfl) partZ_disjoint partZ_cover (fun _ => squeezes_S1x16x32x512_S16x32x512)
theorem slotsZ_in : (bigSep Finset.univ fun i => iprop(∃ d, owns (c : Thread nD τ) (ringZ.S i) fullShare d))
    ⊢ (iprop(∃ f : Buf (Elt F) ((c : Thread nD τ).loc cc0_scoped8), ((c : Thread nD τ).loc cc0_scoped8) ↦{fullShare} f) : sProp 𝕄) :=
  slots_in c cc0_scoped8 partZ (fun _ _ => rfl) partZ_disjoint partZ_cover (fun _ => squeezes_S1x16x32x512_S16x32x512)
theorem blocksZ_out (f : Buf (Elt F) ((c : Thread nD τ).loc main_arg5)) : (((c : Thread nD τ).loc main_arg5) ↦{fullShare} f : sProp 𝕄)
    ⊢ bigSep Finset.univ fun b => owns (c : Thread nD τ) (ringZ.B b) fullShare (fun j => f ((rowsAt' b).emb j)) :=
  blocks_out c main_arg5 rowsAt' (fun _ _ => rfl) rowsAt'_disjoint rowsAt'_cover f
theorem blocksZ_in (f : Buf (Elt F) ((c : Thread nD τ).loc main_arg5)) : (bigSep Finset.univ fun b => owns (c : Thread nD τ) (ringZ.B b) fullShare (fun j => f ((rowsAt' b).emb j)))
    ⊢ (((c : Thread nD τ).loc main_arg5) ↦{fullShare} f : sProp 𝕄) :=
  blocks_in c main_arg5 rowsAt' (fun _ _ => rfl) rowsAt'_disjoint rowsAt'_cover f
theorem cellZ_0 : ringZ.x 0 = 19 := by decide +kernel
theorem cellZ_1 : ringZ.x 1 = 20 := by decide +kernel
theorem cellZ_2 : ringZ.x 2 = 21 := by decide +kernel
/-- Ring `Z` from what the launch hands over. -/
theorem takeZ (f : Buf (Elt F) ((c : Thread nD τ).loc main_arg5)) :
    iprop((∃ f : Buf (Elt F) ((c : Thread nD τ).loc cc0_scoped8), ((c : Thread nD τ).loc cc0_scoped8) ↦{fullShare} f) ∗ (zero c 19 ∗ zero c 20 ∗ zero c 21) ∗ ((c : Thread nD τ).loc main_arg5) ↦{fullShare} f)
      ⊢ (idle c ringZ (fun b j => f ((rowsAt' b).emb j)) : sProp 𝕄) := by
  iintro ⟨HS, ⟨Hz0, Hz1, Hz2⟩, HB⟩
  ihave HS := ((slotsZ_out c).trans (Entails.of_eq (Idealize.ShloMosaic.Ring.bigSep_fin3 _))) $$ HS
  icases HS with ⟨HS0, HS1, HS2⟩
  unfold idle
  isplitl [HB]
  · iapply (rd_begin c ringZ (fun b j => f ((rowsAt' b).emb j)))
    iapply (blocksZ_out c f)
    iexact HB
  rw [show sl3 0 = 0 from rfl, show sl3 1 = 1 from rfl, show sl3 2 = 2 from rfl]
  unfold free
  rw [cellZ_0, cellZ_1, cellZ_2]
  isplitl [Hz0 HS0]
  · isplitl [Hz0]; · iexact Hz0
    iexact HS0
  isplitl [Hz1 HS1]
  · isplitl [Hz1]; · iexact Hz1
    iexact HS1
  isplitl [Hz2]; · iexact Hz2
  iexact HS2
/-- And back, after the last trip. -/
theorem giveZ (f : Buf (Elt F) ((c : Thread nD τ).loc main_arg5)) :
    iprop((bigSep Finset.univ fun b => owns (c : Thread nD τ) (ringZ.B b) fullShare (fun j => f ((rowsAt' b).emb j))) ∗ free c ringZ 1 ∗ free c ringZ 2 ∗ free c ringZ 0)
      ⊢ (iprop((∃ f : Buf (Elt F) ((c : Thread nD τ).loc cc0_scoped8), ((c : Thread nD τ).loc cc0_scoped8) ↦{fullShare} f) ∗ (zero c 19 ∗ zero c 20 ∗ zero c 21) ∗ ((c : Thread nD τ).loc main_arg5) ↦{fullShare} f) : sProp 𝕄) := by
  unfold free
  rw [cellZ_0, cellZ_1, cellZ_2]
  iintro ⟨HB, ⟨Hz1, HS1⟩, ⟨Hz2, HS2⟩, ⟨Hz0, HS0⟩⟩
  isplitl [HS0 HS1 HS2]
  · iapply ((Entails.of_eq (Idealize.ShloMosaic.Ring.bigSep_fin3 _).symm).trans (slotsZ_in (F := F) c))
    isplitl [HS0]; · iexact HS0
    isplitl [HS1]; · iexact HS1
    iexact HS2
  isplitl [Hz0 Hz1 Hz2]
  · isplitl [Hz0]; · iexact Hz0
    isplitl [Hz1]; · iexact Hz1
    iexact Hz2
  iapply (blocksZ_in c f)
  iexact HB

/-- The slots of ring `M`, as rectangles of its buffer. -/
abbrev partM (i : Fin 3) : Rect S3x16x32x1024 := Rect.unit (s := S3x16x32x1024) ![i.val, 0, 0, 0] S1x16x32x1024.size (by revert i; decide +kernel)
theorem partM_disjoint : ∀ i i' : Fin 3, i ≠ i' → Disjoint (partM i).set (partM i').set :=
  fun b b' h => Idealize.ShloMosaic.Ring.lead_disjoint (s := S3x16x32x1024) (NB := 3) 0 1 (fun i => ![i.val, 0, 0, 0]) S1x16x32x1024.size (fun i => by revert i; decide +kernel) (fun i => (Nat.one_mul _).symm) (by rfl) b b' h
theorem partM_cover : (Finset.univ : Finset (Fin 3)).biUnion (fun i => (partM i).set) = Finset.univ :=
  Idealize.ShloMosaic.Ring.lead_cover (s := S3x16x32x1024) (NB := 3) 0 1 (fun i => ![i.val, 0, 0, 0]) S1x16x32x1024.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsM_out : iprop(∃ f : Buf (Elt F) ((c : Thread nD τ).loc cc0_scoped10), ((c : Thread nD τ).loc cc0_scoped10) ↦{fullShare} f)
    ⊢ (bigSep Finset.univ fun i => iprop(∃ d, owns (c : Thread nD τ) (ringM.S i) fullShare d) : sProp 𝕄) :=
  slots_out c cc0_scoped10 partM (fun _ _ => rfl) partM_disjoint partM_cover (fun _ => squeezes_S1x16x32x1024_S16x32x1024)
theorem slotsM_in : (bigSep Finset.univ fun i => iprop(∃ d, owns (c : Thread nD τ) (ringM.S i) fullShare d))
    ⊢ (iprop(∃ f : Buf (Elt F) ((c : Thread nD τ).loc cc0_scoped10), ((c : Thread nD τ).loc cc0_scoped10) ↦{fullShare} f) : sProp 𝕄) :=
  slots_in c cc0_scoped10 partM (fun _ _ => rfl) partM_disjoint partM_cover (fun _ => squeezes_S1x16x32x1024_S16x32x1024)
theorem blocksM_out (f : Buf (Elt F) ((c : Thread nD τ).loc main_arg6)) : (((c : Thread nD τ).loc main_arg6) ↦{fullShare} f : sProp 𝕄)
    ⊢ bigSep Finset.univ fun b => owns (c : Thread nD τ) (ringM.B b) fullShare (fun j => f ((rowsAt b).emb j)) :=
  blocks_out c main_arg6 rowsAt (fun _ _ => rfl) rowsAt_disjoint rowsAt_cover f
theorem blocksM_in (f : Buf (Elt F) ((c : Thread nD τ).loc main_arg6)) : (bigSep Finset.univ fun b => owns (c : Thread nD τ) (ringM.B b) fullShare (fun j => f ((rowsAt b).emb j)))
    ⊢ (((c : Thread nD τ).loc main_arg6) ↦{fullShare} f : sProp 𝕄) :=
  blocks_in c main_arg6 rowsAt (fun _ _ => rfl) rowsAt_disjoint rowsAt_cover f
theorem cellM_0 : ringM.x 0 = 22 := by decide +kernel
theorem cellM_1 : ringM.x 1 = 23 := by decide +kernel
theorem cellM_2 : ringM.x 2 = 24 := by decide +kernel
/-- Ring `M` from what the launch hands over. -/
theorem takeM (f : Buf (Elt F) ((c : Thread nD τ).loc main_arg6)) :
    iprop((∃ f : Buf (Elt F) ((c : Thread nD τ).loc cc0_scoped10), ((c : Thread nD τ).loc cc0_scoped10) ↦{fullShare} f) ∗ (zero c 22 ∗ zero c 23 ∗ zero c 24) ∗ ((c : Thread nD τ).loc main_arg6) ↦{fullShare} f)
      ⊢ (idle c ringM (fun b j => f ((rowsAt b).emb j)) : sProp 𝕄) := by
  iintro ⟨HS, ⟨Hz0, Hz1, Hz2⟩, HB⟩
  ihave HS := ((slotsM_out c).trans (Entails.of_eq (Idealize.ShloMosaic.Ring.bigSep_fin3 _))) $$ HS
  icases HS with ⟨HS0, HS1, HS2⟩
  unfold idle
  isplitl [HB]
  · iapply (rd_begin c ringM (fun b j => f ((rowsAt b).emb j)))
    iapply (blocksM_out c f)
    iexact HB
  rw [show sl3 0 = 0 from rfl, show sl3 1 = 1 from rfl, show sl3 2 = 2 from rfl]
  unfold free
  rw [cellM_0, cellM_1, cellM_2]
  isplitl [Hz0 HS0]
  · isplitl [Hz0]; · iexact Hz0
    iexact HS0
  isplitl [Hz1 HS1]
  · isplitl [Hz1]; · iexact Hz1
    iexact HS1
  isplitl [Hz2]; · iexact Hz2
  iexact HS2
/-- And back, after the last trip. -/
theorem giveM (f : Buf (Elt F) ((c : Thread nD τ).loc main_arg6)) :
    iprop((bigSep Finset.univ fun b => owns (c : Thread nD τ) (ringM.B b) fullShare (fun j => f ((rowsAt b).emb j))) ∗ free c ringM 1 ∗ free c ringM 2 ∗ free c ringM 0)
      ⊢ (iprop((∃ f : Buf (Elt F) ((c : Thread nD τ).loc cc0_scoped10), ((c : Thread nD τ).loc cc0_scoped10) ↦{fullShare} f) ∗ (zero c 22 ∗ zero c 23 ∗ zero c 24) ∗ ((c : Thread nD τ).loc main_arg6) ↦{fullShare} f) : sProp 𝕄) := by
  unfold free
  rw [cellM_0, cellM_1, cellM_2]
  iintro ⟨HB, ⟨Hz1, HS1⟩, ⟨Hz2, HS2⟩, ⟨Hz0, HS0⟩⟩
  isplitl [HS0 HS1 HS2]
  · iapply ((Entails.of_eq (Idealize.ShloMosaic.Ring.bigSep_fin3 _).symm).trans (slotsM_in (F := F) c))
    isplitl [HS0]; · iexact HS0
    isplitl [HS1]; · iexact HS1
    iexact HS2
  isplitl [Hz0 Hz1 Hz2]
  · isplitl [Hz0]; · iexact Hz0
    isplitl [Hz1]; · iexact Hz1
    iexact Hz2
  iapply (blocksM_in c f)
  iexact HB

/-- The slots of ring `N`, as rectangles of its buffer. -/
abbrev partN (i : Fin 3) : Rect S3x16x32x1024 := Rect.unit (s := S3x16x32x1024) ![i.val, 0, 0, 0] S1x16x32x1024.size (by revert i; decide +kernel)
theorem partN_disjoint : ∀ i i' : Fin 3, i ≠ i' → Disjoint (partN i).set (partN i').set :=
  fun b b' h => Idealize.ShloMosaic.Ring.lead_disjoint (s := S3x16x32x1024) (NB := 3) 0 1 (fun i => ![i.val, 0, 0, 0]) S1x16x32x1024.size (fun i => by revert i; decide +kernel) (fun i => (Nat.one_mul _).symm) (by rfl) b b' h
theorem partN_cover : (Finset.univ : Finset (Fin 3)).biUnion (fun i => (partN i).set) = Finset.univ :=
  Idealize.ShloMosaic.Ring.lead_cover (s := S3x16x32x1024) (NB := 3) 0 1 (fun i => ![i.val, 0, 0, 0]) S1x16x32x1024.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsN_out : iprop(∃ f : Buf (Elt F) ((c : Thread nD τ).loc cc0_scoped12), ((c : Thread nD τ).loc cc0_scoped12) ↦{fullShare} f)
    ⊢ (bigSep Finset.univ fun i => iprop(∃ d, owns (c : Thread nD τ) (ringN.S i) fullShare d) : sProp 𝕄) :=
  slots_out c cc0_scoped12 partN (fun _ _ => rfl) partN_disjoint partN_cover (fun _ => squeezes_S1x16x32x1024_S16x32x1024)
theorem slotsN_in : (bigSep Finset.univ fun i => iprop(∃ d, owns (c : Thread nD τ) (ringN.S i) fullShare d))
    ⊢ (iprop(∃ f : Buf (Elt F) ((c : Thread nD τ).loc cc0_scoped12), ((c : Thread nD τ).loc cc0_scoped12) ↦{fullShare} f) : sProp 𝕄) :=
  slots_in c cc0_scoped12 partN (fun _ _ => rfl) partN_disjoint partN_cover (fun _ => squeezes_S1x16x32x1024_S16x32x1024)
theorem blocksN_out (f : Buf (Elt F) ((c : Thread nD τ).loc main_arg7)) : (((c : Thread nD τ).loc main_arg7) ↦{fullShare} f : sProp 𝕄)
    ⊢ bigSep Finset.univ fun b => owns (c : Thread nD τ) (ringN.B b) fullShare (fun j => f ((rowsAt b).emb j)) :=
  blocks_out c main_arg7 rowsAt (fun _ _ => rfl) rowsAt_disjoint rowsAt_cover f
theorem blocksN_in (f : Buf (Elt F) ((c : Thread nD τ).loc main_arg7)) : (bigSep Finset.univ fun b => owns (c : Thread nD τ) (ringN.B b) fullShare (fun j => f ((rowsAt b).emb j)))
    ⊢ (((c : Thread nD τ).loc main_arg7) ↦{fullShare} f : sProp 𝕄) :=
  blocks_in c main_arg7 rowsAt (fun _ _ => rfl) rowsAt_disjoint rowsAt_cover f
theorem cellN_0 : ringN.x 0 = 25 := by decide +kernel
theorem cellN_1 : ringN.x 1 = 26 := by decide +kernel
theorem cellN_2 : ringN.x 2 = 27 := by decide +kernel
/-- Ring `N` from what the launch hands over. -/
theorem takeN (f : Buf (Elt F) ((c : Thread nD τ).loc main_arg7)) :
    iprop((∃ f : Buf (Elt F) ((c : Thread nD τ).loc cc0_scoped12), ((c : Thread nD τ).loc cc0_scoped12) ↦{fullShare} f) ∗ (zero c 25 ∗ zero c 26 ∗ zero c 27) ∗ ((c : Thread nD τ).loc main_arg7) ↦{fullShare} f)
      ⊢ (idle c ringN (fun b j => f ((rowsAt b).emb j)) : sProp 𝕄) := by
  iintro ⟨HS, ⟨Hz0, Hz1, Hz2⟩, HB⟩
  ihave HS := ((slotsN_out c).trans (Entails.of_eq (Idealize.ShloMosaic.Ring.bigSep_fin3 _))) $$ HS
  icases HS with ⟨HS0, HS1, HS2⟩
  unfold idle
  isplitl [HB]
  · iapply (rd_begin c ringN (fun b j => f ((rowsAt b).emb j)))
    iapply (blocksN_out c f)
    iexact HB
  rw [show sl3 0 = 0 from rfl, show sl3 1 = 1 from rfl, show sl3 2 = 2 from rfl]
  unfold free
  rw [cellN_0, cellN_1, cellN_2]
  isplitl [Hz0 HS0]
  · isplitl [Hz0]; · iexact Hz0
    iexact HS0
  isplitl [Hz1 HS1]
  · isplitl [Hz1]; · iexact Hz1
    iexact HS1
  isplitl [Hz2]; · iexact Hz2
  iexact HS2
/-- And back, after the last trip. -/
theorem giveN (f : Buf (Elt F) ((c : Thread nD τ).loc main_arg7)) :
    iprop((bigSep Finset.univ fun b => owns (c : Thread nD τ) (ringN.B b) fullShare (fun j => f ((rowsAt b).emb j))) ∗ free c ringN 1 ∗ free c ringN 2 ∗ free c ringN 0)
      ⊢ (iprop((∃ f : Buf (Elt F) ((c : Thread nD τ).loc cc0_scoped12), ((c : Thread nD τ).loc cc0_scoped12) ↦{fullShare} f) ∗ (zero c 25 ∗ zero c 26 ∗ zero c 27) ∗ ((c : Thread nD τ).loc main_arg7) ↦{fullShare} f) : sProp 𝕄) := by
  unfold free
  rw [cellN_0, cellN_1, cellN_2]
  iintro ⟨HB, ⟨Hz1, HS1⟩, ⟨Hz2, HS2⟩, ⟨Hz0, HS0⟩⟩
  isplitl [HS0 HS1 HS2]
  · iapply ((Entails.of_eq (Idealize.ShloMosaic.Ring.bigSep_fin3 _).symm).trans (slotsN_in (F := F) c))
    isplitl [HS0]; · iexact HS0
    isplitl [HS1]; · iexact HS1
    iexact HS2
  isplitl [Hz0 Hz1 Hz2]
  · isplitl [Hz0]; · iexact Hz0
    isplitl [Hz1]; · iexact Hz1
    iexact Hz2
  iapply (blocksN_in c f)
  iexact HB

/-- The slots of ring `H`, as rectangles of its buffer. -/
abbrev partH (i : Fin 2) : Rect S2x16x32x1024 := Rect.unit (s := S2x16x32x1024) ![i.val, 0, 0, 0] S1x16x32x1024.size (by revert i; decide +kernel)
theorem partH_disjoint : ∀ i i' : Fin 2, i ≠ i' → Disjoint (partH i).set (partH i').set :=
  fun b b' h => Idealize.ShloMosaic.Ring.lead_disjoint (s := S2x16x32x1024) (NB := 2) 0 1 (fun i => ![i.val, 0, 0, 0]) S1x16x32x1024.size (fun i => by revert i; decide +kernel) (fun i => (Nat.one_mul _).symm) (by rfl) b b' h
theorem partH_cover : (Finset.univ : Finset (Fin 2)).biUnion (fun i => (partH i).set) = Finset.univ :=
  Idealize.ShloMosaic.Ring.lead_cover (s := S2x16x32x1024) (NB := 2) 0 1 (fun i => ![i.val, 0, 0, 0]) S1x16x32x1024.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsH_out : iprop(∃ f : Buf (Elt F) ((c : Thread nD τ).loc cc0_scoped14), ((c : Thread nD τ).loc cc0_scoped14) ↦{fullShare} f)
    ⊢ (bigSep Finset.univ fun i => iprop(∃ d, owns (c : Thread nD τ) (ringH.S i) fullShare d) : sProp 𝕄) :=
  slots_out c cc0_scoped14 partH (fun _ _ => rfl) partH_disjoint partH_cover (fun _ => squeezes_S1x16x32x1024_S16x32x1024)
theorem slotsH_in : (bigSep Finset.univ fun i => iprop(∃ d, owns (c : Thread nD τ) (ringH.S i) fullShare d))
    ⊢ (iprop(∃ f : Buf (Elt F) ((c : Thread nD τ).loc cc0_scoped14), ((c : Thread nD τ).loc cc0_scoped14) ↦{fullShare} f) : sProp 𝕄) :=
  slots_in c cc0_scoped14 partH (fun _ _ => rfl) partH_disjoint partH_cover (fun _ => squeezes_S1x16x32x1024_S16x32x1024)
theorem blocksH_out (f : Buf (Elt F) ((c : Thread nD τ).loc main_v34_0)) : (((c : Thread nD τ).loc main_v34_0) ↦{fullShare} f : sProp 𝕄)
    ⊢ bigSep Finset.univ fun b => owns (c : Thread nD τ) (ringH.B b) fullShare (fun j => f ((rowsAt b).emb j)) :=
  blocks_out c main_v34_0 rowsAt (fun _ _ => rfl) rowsAt_disjoint rowsAt_cover f
theorem blocksH_in (f : Buf (Elt F) ((c : Thread nD τ).loc main_v34_0)) : (bigSep Finset.univ fun b => owns (c : Thread nD τ) (ringH.B b) fullShare (fun j => f ((rowsAt b).emb j)))
    ⊢ (((c : Thread nD τ).loc main_v34_0) ↦{fullShare} f : sProp 𝕄) :=
  blocks_in c main_v34_0 rowsAt (fun _ _ => rfl) rowsAt_disjoint rowsAt_cover f
theorem cellH_0 : ringH.x 0 = 28 := by decide +kernel
theorem cellH_1 : ringH.x 1 = 29 := by decide +kernel
/-- Ring `H` from what the launch hands over. -/
theorem takeH (f : Buf (Elt F) ((c : Thread nD τ).loc main_v34_0)) (D : Fin 64 → S16x32x1024.Idx → Elt F .f32) :
    iprop((∃ f : Buf (Elt F) ((c : Thread nD τ).loc cc0_scoped14), ((c : Thread nD τ).loc cc0_scoped14) ↦{fullShare} f) ∗ (zero c 28 ∗ zero c 29) ∗ ((c : Thread nD τ).loc main_v34_0) ↦{fullShare} f)
      ⊢ (wr0 c ringH D 0 : sProp 𝕄) := by
  iintro ⟨HS, ⟨Hz0, Hz1⟩, HB⟩
  ihave HS := ((slotsH_out c).trans (Entails.of_eq (Idealize.ShloMosaic.Ring.bigSep_fin2 _))) $$ HS
  icases HS with ⟨HS0, HS1⟩
  iapply (wr_begin c ringH D)
  isplitl [HB]
  · iapply ((blocksH_out c f).trans (bigSep_mono fun b _ => someHeld c (ringH.B b) _))
    iexact HB
  unfold free
  rw [cellH_0, cellH_1]
  isplitl [Hz0 HS0]
  · isplitl [Hz0]; · iexact Hz0
    iexact HS0
  isplitl [Hz1]; · iexact Hz1
  iexact HS1
/-- And back, after the last trip: the array holds the blocks written. -/
theorem giveH (D : Fin 64 → S16x32x1024.Idx → Elt F .f32) :
    iprop((bigSep Finset.univ fun b => owns (c : Thread nD τ) (ringH.B b) fullShare (D b)) ∗ free c ringH 1 ∗ free c ringH 0)
      ⊢ (iprop((∃ f : Buf (Elt F) ((c : Thread nD τ).loc cc0_scoped14), ((c : Thread nD τ).loc cc0_scoped14) ↦{fullShare} f) ∗ (zero c 28 ∗ zero c 29) ∗ ((c : Thread nD τ).loc main_v34_0) ↦{fullShare} (gather D : Buf (Elt F) ((c : Thread nD τ).loc main_v34_0))) : sProp 𝕄) := by
  unfold free
  rw [cellH_0, cellH_1]
  iintro ⟨HB, ⟨Hz1, HS1⟩, ⟨Hz0, HS0⟩⟩
  isplitl [HS0 HS1]
  · iapply ((Entails.of_eq (Idealize.ShloMosaic.Ring.bigSep_fin2 _).symm).trans (slotsH_in (F := F) c))
    isplitl [HS0]; · iexact HS0
    iexact HS1
  isplitl [Hz0 Hz1]
  · isplitl [Hz0]; · iexact Hz0
    iexact Hz1
  iapply (blocksH_in c (gather D))
  iapply (Entails.of_eq (bigSep_congr (s := (Finset.univ : Finset (Fin 64))) (Φ := fun b => (owns (c : Thread nD τ) (ringH.B b) fullShare (D b) : sProp 𝕄)) (fun b _ => congrArg (owns (c : Thread nD τ) (ringH.B b) fullShare) (gather_block D b).symm)))
  iexact HB

/-- The slots of ring `U`, as rectangles of its buffer. -/
abbrev partU (i : Fin 2) : Rect S2x16x32x1024 := Rect.unit (s := S2x16x32x1024) ![i.val, 0, 0, 0] S1x16x32x1024.size (by revert i; decide +kernel)
theorem partU_disjoint : ∀ i i' : Fin 2, i ≠ i' → Disjoint (partU i).set (partU i').set :=
  fun b b' h => Idealize.ShloMosaic.Ring.lead_disjoint (s := S2x16x32x1024) (NB := 2) 0 1 (fun i => ![i.val, 0, 0, 0]) S1x16x32x1024.size (fun i => by revert i; decide +kernel) (fun i => (Nat.one_mul _).symm) (by rfl) b b' h
theorem partU_cover : (Finset.univ : Finset (Fin 2)).biUnion (fun i => (partU i).set) = Finset.univ :=
  Idealize.ShloMosaic.Ring.lead_cover (s := S2x16x32x1024) (NB := 2) 0 1 (fun i => ![i.val, 0, 0, 0]) S1x16x32x1024.size (fun i => by revert i; decide +kernel) (fun i => (Nat.one_mul _).symm) (by intro b a h; match a, h with | 0, h => exact absurd rfl h | 1, _ => rfl | 2, _ => rfl | 3, _ => rfl) (by rfl) (by intro a h; match a, h with | 0, h => exact absurd rfl h | 1, _ => rfl | 2, _ => rfl | 3, _ => rfl) (by rfl)
theorem slotsU_out : iprop(∃ f : Buf (Elt F) ((c : Thread nD τ).loc cc0_scoped16), ((c : Thread nD τ).loc cc0_scoped16) ↦{fullShare} f)
    ⊢ (bigSep Finset.univ fun i => iprop(∃ d, owns (c : Thread nD τ) (ringU.S i) fullShare d) : sProp 𝕄) :=
  slots_out c cc0_scoped16 partU (fun _ _ => rfl) partU_disjoint partU_cover (fun _ => squeezes_S1x16x32x1024_S16x32x1024)
theorem slotsU_in : (bigSep Finset.univ fun i => iprop(∃ d, owns (c : Thread nD τ) (ringU.S i) fullShare d))
    ⊢ (iprop(∃ f : Buf (Elt F) ((c : Thread nD τ).loc cc0_scoped16), ((c : Thread nD τ).loc cc0_scoped16) ↦{fullShare} f) : sProp 𝕄) :=
  slots_in c cc0_scoped16 partU (fun _ _ => rfl) partU_disjoint partU_cover (fun _ => squeezes_S1x16x32x1024_S16x32x1024)
theorem blocksU_out (f : Buf (Elt F) ((c : Thread nD τ).loc main_v34_1)) : (((c : Thread nD τ).loc main_v34_1) ↦{fullShare} f : sProp 𝕄)
    ⊢ bigSep Finset.univ fun b => owns (c : Thread nD τ) (ringU.B b) fullShare (fun j => f ((rowsAt b).emb j)) :=
  blocks_out c main_v34_1 rowsAt (fun _ _ => rfl) rowsAt_disjoint rowsAt_cover f
theorem blocksU_in (f : Buf (Elt F) ((c : Thread nD τ).loc main_v34_1)) : (bigSep Finset.univ fun b => owns (c : Thread nD τ) (ringU.B b) fullShare (fun j => f ((rowsAt b).emb j)))
    ⊢ (((c : Thread nD τ).loc main_v34_1) ↦{fullShare} f : sProp 𝕄) :=
  blocks_in c main_v34_1 rowsAt (fun _ _ => rfl) rowsAt_disjoint rowsAt_cover f
theorem cellU_0 : ringU.x 0 = 30 := by decide +kernel
theorem cellU_1 : ringU.x 1 = 31 := by decide +kernel
/-- Ring `U` from what the launch hands over. -/
theorem takeU (f : Buf (Elt F) ((c : Thread nD τ).loc main_v34_1)) (D : Fin 64 → S16x32x1024.Idx → Elt F .bf16) :
    iprop((∃ f : Buf (Elt F) ((c : Thread nD τ).loc cc0_scoped16), ((c : Thread nD τ).loc cc0_scoped16) ↦{fullShare} f) ∗ (zero c 30 ∗ zero c 31) ∗ ((c : Thread nD τ).loc main_v34_1) ↦{fullShare} f)
      ⊢ (wr0 c ringU D 0 : sProp 𝕄) := by
  iintro ⟨HS, ⟨Hz0, Hz1⟩, HB⟩
  ihave HS := ((slotsU_out c).trans (Entails.of_eq (Idealize.ShloMosaic.Ring.bigSep_fin2 _))) $$ HS
  icases HS with ⟨HS0, HS1⟩
  iapply (wr_begin c ringU D)
  isplitl [HB]
  · iapply ((blocksU_out c f).trans (bigSep_mono fun b _ => someHeld c (ringU.B b) _))
    iexact HB
  unfold free
  rw [cellU_0, cellU_1]
  isplitl [Hz0 HS0]
  · isplitl [Hz0]; · iexact Hz0
    iexact HS0
  isplitl [Hz1]; · iexact Hz1
  iexact HS1
/-- And back, after the last trip: the array holds the blocks written. -/
theorem giveU (D : Fin 64 → S16x32x1024.Idx → Elt F .bf16) :
    iprop((bigSep Finset.univ fun b => owns (c : Thread nD τ) (ringU.B b) fullShare (D b)) ∗ free c ringU 1 ∗ free c ringU 0)
      ⊢ (iprop((∃ f : Buf (Elt F) ((c : Thread nD τ).loc cc0_scoped16), ((c : Thread nD τ).loc cc0_scoped16) ↦{fullShare} f) ∗ (zero c 30 ∗ zero c 31) ∗ ((c : Thread nD τ).loc main_v34_1) ↦{fullShare} (gather D : Buf (Elt F) ((c : Thread nD τ).loc main_v34_1))) : sProp 𝕄) := by
  unfold free
  rw [cellU_0, cellU_1]
  iintro ⟨HB, ⟨Hz1, HS1⟩, ⟨Hz0, HS0⟩⟩
  isplitl [HS0 HS1]
  · iapply ((Entails.of_eq (Idealize.ShloMosaic.Ring.bigSep_fin2 _).symm).trans (slotsU_in (F := F) c))
    isplitl [HS0]; · iexact HS0
    iexact HS1
  isplitl [Hz0 Hz1]
  · isplitl [Hz0]; · iexact Hz0
    iexact Hz1
  iapply (blocksU_in c (gather D))
  iapply (Entails.of_eq (bigSep_congr (s := (Finset.univ : Finset (Fin 64))) (Φ := fun b => (owns (c : Thread nD τ) (ringU.B b) fullShare (D b) : sProp 𝕄)) (fun b _ => congrArg (owns (c : Thread nD τ) (ringU.B b) fullShare) (gather_block D b).symm)))
  iexact HB

end Cert.KernelIdeal.Hand

end
-- ==== Proof.Run.lean ====
module
public import proofs.«01_k».proof.Proof.Slots
public import proofs.«01_k».proof.Proof.Gen.KernelIdeal.Frame

/-!
# The run of the whole program

The launch's buffers and counters are dealt to the rings, the call's body is
run, and what the rings give back is returned. The two results then hold the
blocks computed in `Compute`, block by block, and every argument is as it was.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight)
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its call, over the proof's own algebra. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## What the body computes from, and what it leaves -/

/-- What lies in fast memory throughout: the seven windows' blocks. -/
def resident (c : Dev nD) : Resident F where
  f7 := iblk m c 0 t0_0
  f8 := iblk m c 1 t0_0
  f9 := iblk m c 2 t0_0
  f10 := iblk m c 3 t0_0
  f11 := iblk m c 4 t0_0
  f12 := iblk m c 5 t0_0
  f13 := iblk m c 6 t0_0

/-- The contents of block `b` of each argument the rings read. -/
def blocksOf (c : Dev nD) (b : Fin 64) : Blocks F where
  X := fun j => V m c main_arg0 ((rowsAt b).emb j)
  Y := fun j => V m c main_arg2 ((stepsAt b).emb j)
  P := fun j => V m c main_arg3 ((rowsAt' b).emb j)
  G := fun j => V m c main_arg4 ((rowsAt' b).emb j)
  Z := fun j => V m c main_arg5 ((rowsAt' b).emb j)
  M := fun j => V m c main_arg6 ((rowsAt b).emb j)
  N := fun j => V m c main_arg7 ((rowsAt b).emb j)

/-- What the first result holds after the run. -/
def firstOut (c : Dev nD) : S16x2048x1024.Idx → Elt F .f32 := gather fun b => hBlk (resident m c) (blocksOf m c b)
/-- What the second result holds after the run. -/
def secondOut (c : Dev nD) : S16x2048x1024.Idx → Elt F .bf16 := gather fun b => uBlk (resident m c) (blocksOf m c b)

/-- What every buffer holds after the run: the two results as above, the others as the call found them. -/
def afterRun (c : Dev nD) (b : Ref sig .tc) : Buf (Elt F) ((c : Thread nD τ).loc b) :=
  Function.update (Function.update (V m c) main_v34_0 (firstOut m c)) main_v34_1 (secondOut m c) b

theorem afterRun_first (c : Dev nD) : afterRun m c main_v34_0 = (firstOut m c : Buf (Elt F) ((c : Thread nD τ).loc main_v34_0)) := by
  unfold afterRun
  rw [Function.update_of_ne (by decide), Function.update_self]
theorem afterRun_second (c : Dev nD) : afterRun m c main_v34_1 = (secondOut m c : Buf (Elt F) ((c : Thread nD τ).loc main_v34_1)) := by
  unfold afterRun
  rw [Function.update_self]

/-! ## The invariant, entry by entry -/

/-- The rings' DMA cells. -/
abbrev osem0 : Fin 25 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31] : Fin 25 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(zero c 7 ∗ zero c 8 ∗ zero c 9 ∗ zero c 10 ∗ zero c 11 ∗ zero c 12 ∗ zero c 13 ∗ zero c 14 ∗ zero c 15 ∗ zero c 16 ∗ zero c 17 ∗ zero c 18 ∗ zero c 19 ∗ zero c 20 ∗ zero c 21 ∗ zero c 22 ∗ zero c 23 ∗ zero c 24 ∗ zero c 25 ∗ zero c 26 ∗ zero c 27 ∗ zero c 28 ∗ zero c 29 ∗ zero c 30 ∗ zero c 31) := by
  rw [Pipeline.ownSems0_eq_of_list c osem0 [0, 1, 2, 3, 4, 5, 6, 7, 8, 9, 10, 11, 12, 13, 14, 15, 16, 17, 18, 19, 20, 21, 22, 23, 24] (by decide) (by decide)]; rfl

/-- The arguments the rings read. -/
def H0 : Finset (Ref sig .tc) := {main_arg0, main_arg2, main_arg3, main_arg4, main_arg5, main_arg6, main_arg7}
theorem H0_sub : H0 ⊆ Pipeline.restRefs sig spec0 := by decide
/-- The two results. -/
def R0 : Finset (Ref sig .tc) := {main_v34_0, main_v34_1}
theorem R0_sub : R0 ⊆ Pipeline.restRefs sig spec0 \ H0 := by decide
theorem argPts_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7)) := by
  rw [BI.bigSep_eq_bigSepL_of_eq [main_arg0, main_arg2, main_arg3, main_arg4, main_arg5, main_arg6, main_arg7] (by decide) (by decide)]; rfl
theorem resultPts_eq (c : Dev nD) (W : (b : Ref sig .tc) → Buf (Elt F) ((c : Thread nD τ).loc b)) :
    (Pipeline.routed R0 c W : sProp 𝕄)
      = iprop((((c : Thread nD τ).loc main_v34_0) ↦{fullShare} W main_v34_0) ∗ (((c : Thread nD τ).loc main_v34_1) ↦{fullShare} W main_v34_1)) := by
  unfold Pipeline.routed
  rw [BI.bigSep_eq_bigSepL_of_eq [main_v34_0, main_v34_1] (by decide) (by decide)]; rfl

/-- What the body holds beside its windows, the results at `W`. -/
abbrev held (W : (c : Dev nD) → (b : Ref sig .tc) → Buf (Elt F) ((c : Thread nD τ).loc b)) (c : Dev nD) : sProp 𝕄 :=
  Pipeline.ΦDRG osem0 spec0 H0 R0 (V m) W c

/-- The same, listed. -/
theorem held_eq (W : (c : Dev nD) → (b : Ref sig .tc) → Buf (Elt F) ((c : Thread nD τ).loc b)) (c : Dev nD) :
    held m W c = iprop(((∃ f : Buf (Elt F) ((c : Thread nD τ).loc cc0_scratch0), ((c : Thread nD τ).loc cc0_scratch0) ↦{fullShare} f) ∗ (∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped4), ((c : Thread nD τ).loc cc0_scoped4) ↦{fullShare} f) ∗ (∃ f : Buf (Elt F) ((c : Thread nD τ).loc cc0_scoped6), ((c : Thread nD τ).loc cc0_scoped6) ↦{fullShare} f) ∗ (∃ f : Buf (Elt F) ((c : Thread nD τ).loc cc0_scoped8), ((c : Thread nD τ).loc cc0_scoped8) ↦{fullShare} f) ∗ (∃ f : Buf (Elt F) ((c : Thread nD τ).loc cc0_scoped10), ((c : Thread nD τ).loc cc0_scoped10) ↦{fullShare} f) ∗ (∃ f : Buf (Elt F) ((c : Thread nD τ).loc cc0_scoped12), ((c : Thread nD τ).loc cc0_scoped12) ↦{fullShare} f) ∗ (∃ f : Buf (Elt F) ((c : Thread nD τ).loc cc0_scoped14), ((c : Thread nD τ).loc cc0_scoped14) ↦{fullShare} f) ∗ (∃ f : Buf (Elt F) ((c : Thread nD τ).loc cc0_scoped16), ((c : Thread nD τ).loc cc0_scoped16) ↦{fullShare} f)) ∗ (∃ r, prngReg c r)
      ∗ (zero c 7 ∗ zero c 8 ∗ zero c 9 ∗ zero c 10 ∗ zero c 11 ∗ zero c 12 ∗ zero c 13 ∗ zero c 14 ∗ zero c 15 ∗ zero c 16 ∗ zero c 17 ∗ zero c 18 ∗ zero c 19 ∗ zero c 20 ∗ zero c 21 ∗ zero c 22 ∗ zero c 23 ∗ zero c 24 ∗ zero c 25 ∗ zero c 26 ∗ zero c 27 ∗ zero c 28 ∗ zero c 29 ∗ zero c 30 ∗ zero c 31)
      ∗ ((((c : Thread nD τ).loc main_arg0) ↦{fullShare} V m c main_arg0) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7))
      ∗ (((c : Thread nD τ).loc main_v34_0) ↦{fullShare} W c main_v34_0) ∗ (((c : Thread nD τ).loc main_v34_1) ↦{fullShare} W c main_v34_1)) := by
  unfold held
  rw [Pipeline.ΦDRG_eq, scopedRest0_eq, ownSems00_eq, argPts_eq, resultPts_eq]

set_option maxHeartbeats 4000000 in
/-- At the start the rings are dealt their slots, blocks and cells. -/
theorem deal (c : Dev nD) : held m (V m) c ⊢ (iprop(((idle c ringX (fun b => (blocksOf m c b).X) ∗ idle c ringY (fun b => (blocksOf m c b).Y) ∗ idle c ringP (fun b => (blocksOf m c b).P) ∗ idle c ringG (fun b => (blocksOf m c b).G) ∗ idle c ringZ (fun b => (blocksOf m c b).Z) ∗ idle c ringM (fun b => (blocksOf m c b).M) ∗ idle c ringN (fun b => (blocksOf m c b).N)) ∗ (wr0 c ringH (fun b => hBlk (resident m c) (blocksOf m c b)) 0 ∗ wr0 c ringU (fun b => uBlk (resident m c) (blocksOf m c b)) 0)) ∗ (∃ f : Buf (Elt F) ((c : Thread nD τ).loc cc0_scratch0), ((c : Thread nD τ).loc cc0_scratch0) ↦{fullShare} f) ∗ (∃ r, prngReg c r)) : sProp 𝕄) := by
  rw [held_eq]
  iintro ⟨⟨HS, HsX, HsY, HsP, HsG, HsZ, HsM, HsN, HsH, HsU⟩, Hg, ⟨Hz7, Hz8, Hz9, Hz10, Hz11, Hz12, Hz13, Hz14, Hz15, Hz16, Hz17, Hz18, Hz19, Hz20, Hz21, Hz22, Hz23, Hz24, Hz25, Hz26, Hz27, Hz28, Hz29, Hz30, Hz31⟩, ⟨HbX, HbY, HbP, HbG, HbZ, HbM, HbN⟩, HbH, HbU⟩
  isplitr [HS Hg]
  · isplitr [HsH HbH Hz28 Hz29 HsU HbU Hz30 Hz31]
    · isplitl [HsX HbX Hz7 Hz8 Hz9]
      · iapply (takeX c (V m c main_arg0))
        isplitl [HsX]; · iexact HsX
        isplitl [Hz7 Hz8 Hz9]
        · isplitl [Hz7]; · iexact Hz7
          isplitl [Hz8]; · iexact Hz8
          iexact Hz9
        iexact HbX
      isplitl [HsY HbY Hz10 Hz11 Hz12]
      · iapply (takeY c (V m c main_arg2))
        isplitl [HsY]; · iexact HsY
        isplitl [Hz10 Hz11 Hz12]
        · isplitl [Hz10]; · iexact Hz10
          isplitl [Hz11]; · iexact Hz11
          iexact Hz12
        iexact HbY
      isplitl [HsP HbP Hz13 Hz14 Hz15]
      · iapply (takeP c (V m c main_arg3))
        isplitl [HsP]; · iexact HsP
        isplitl [Hz13 Hz14 Hz15]
        · isplitl [Hz13]; · iexact Hz13
          isplitl [Hz14]; · iexact Hz14
          iexact Hz15
        iexact HbP
      isplitl [HsG HbG Hz16 Hz17 Hz18]
      · iapply (takeG c (V m c main_arg4))
        isplitl [HsG]; · iexact HsG
        isplitl [Hz16 Hz17 Hz18]
        · isplitl [Hz16]; · iexact Hz16
          isplitl [Hz17]; · iexact Hz17
          iexact Hz18
        iexact HbG
      isplitl [HsZ HbZ Hz19 Hz20 Hz21]
      · iapply (takeZ c (V m c main_arg5))
        isplitl [HsZ]; · iexact HsZ
        isplitl [Hz19 Hz20 Hz21]
        · isplitl [Hz19]; · iexact Hz19
          isplitl [Hz20]; · iexact Hz20
          iexact Hz21
        iexact HbZ
      isplitl [HsM HbM Hz22 Hz23 Hz24]
      · iapply (takeM c (V m c main_arg6))
        isplitl [HsM]; · iexact HsM
        isplitl [Hz22 Hz23 Hz24]
        · isplitl [Hz22]; · iexact Hz22
          isplitl [Hz23]; · iexact Hz23
          iexact Hz24
        iexact HbM
      iapply (takeN c (V m c main_arg7))
      isplitl [HsN]; · iexact HsN
      isplitl [Hz25 Hz26 Hz27]
      · isplitl [Hz25]; · iexact Hz25
        isplitl [Hz26]; · iexact Hz26
        iexact Hz27
      iexact HbN
    · isplitl [HsH HbH Hz28 Hz29]
      · iapply (takeH c (V m c main_v34_0) (fun b => hBlk (resident m c) (blocksOf m c b)))
        isplitl [HsH]; · iexact HsH
        isplitl [Hz28 Hz29]
        · isplitl [Hz28]; · iexact Hz28
          iexact Hz29
        iexact HbH
      iapply (takeU c (V m c main_v34_1) (fun b => uBlk (resident m c) (blocksOf m c b)))
      isplitl [HsU]; · iexact HsU
      isplitl [Hz30 Hz31]
      · isplitl [Hz30]; · iexact Hz30
        iexact Hz31
      iexact HbU
  isplitl [HS]; · iexact HS
  iexact Hg

theorem backX (c : Dev nD) : iprop((bigSep Finset.univ fun b => owns (c : Thread nD τ) (ringX.B b) fullShare (blocksOf m c b).X) ∗ free c ringX 1 ∗ free c ringX 2 ∗ free c ringX 0)
    ⊢ (iprop((∃ f : Buf (Elt F) ((c : Thread nD τ).loc cc0_scoped0), ((c : Thread nD τ).loc cc0_scoped0) ↦{fullShare} f) ∗ (zero c 7 ∗ zero c 8 ∗ zero c 9) ∗ (((c : Thread nD τ).loc main_arg0) ↦{fullShare} V m c main_arg0)) : sProp 𝕄) := giveX c (V m c main_arg0)
theorem backY (c : Dev nD) : iprop((bigSep Finset.univ fun b => owns (c : Thread nD τ) (ringY.B b) fullShare (blocksOf m c b).Y) ∗ free c ringY 1 ∗ free c ringY 2 ∗ free c ringY 0)
    ⊢ (iprop((∃ f : Buf (Elt F) ((c : Thread nD τ).loc cc0_scoped2), ((c : Thread nD τ).loc cc0_scoped2) ↦{fullShare} f) ∗ (zero c 10 ∗ zero c 11 ∗ zero c 12) ∗ (((c : Thread nD τ).loc main_arg2) ↦{fullShare} V m c main_arg2)) : sProp 𝕄) := giveY c (V m c main_arg2)
theorem backP (c : Dev nD) : iprop((bigSep Finset.univ fun b => owns (c : Thread nD τ) (ringP.B b) fullShare (blocksOf m c b).P) ∗ free c ringP 1 ∗ free c ringP 2 ∗ free c ringP 0)
    ⊢ (iprop((∃ f : Buf (Elt F) ((c : Thread nD τ).loc cc0_scoped4), ((c : Thread nD τ).loc cc0_scoped4) ↦{fullShare} f) ∗ (zero c 13 ∗ zero c 14 ∗ zero c 15) ∗ (((c : Thread nD τ).loc main_arg3) ↦{fullShare} V m c main_arg3)) : sProp 𝕄) := giveP c (V m c main_arg3)
theorem backG (c : Dev nD) : iprop((bigSep Finset.univ fun b => owns (c : Thread nD τ) (ringG.B b) fullShare (blocksOf m c b).G) ∗ free c ringG 1 ∗ free c ringG 2 ∗ free c ringG 0)
    ⊢ (iprop((∃ f : Buf (Elt F) ((c : Thread nD τ).loc cc0_scoped6), ((c : Thread nD τ).loc cc0_scoped6) ↦{fullShare} f) ∗ (zero c 16 ∗ zero c 17 ∗ zero c 18) ∗ (((c : Thread nD τ).loc main_arg4) ↦{fullShare} V m c main_arg4)) : sProp 𝕄) := giveG c (V m c main_arg4)
theorem backZ (c : Dev nD) : iprop((bigSep Finset.univ fun b => owns (c : Thread nD τ) (ringZ.B b) fullShare (blocksOf m c b).Z) ∗ free c ringZ 1 ∗ free c ringZ 2 ∗ free c ringZ 0)
    ⊢ (iprop((∃ f : Buf (Elt F) ((c : Thread nD τ).loc cc0_scoped8), ((c : Thread nD τ).loc cc0_scoped8) ↦{fullShare} f) ∗ (zero c 19 ∗ zero c 20 ∗ zero c 21) ∗ (((c : Thread nD τ).loc main_arg5) ↦{fullShare} V m c main_arg5)) : sProp 𝕄) := giveZ c (V m c main_arg5)
theorem backM (c : Dev nD) : iprop((bigSep Finset.univ fun b => owns (c : Thread nD τ) (ringM.B b) fullShare (blocksOf m c b).M) ∗ free c ringM 1 ∗ free c ringM 2 ∗ free c ringM 0)
    ⊢ (iprop((∃ f : Buf (Elt F) ((c : Thread nD τ).loc cc0_scoped10), ((c : Thread nD τ).loc cc0_scoped10) ↦{fullShare} f) ∗ (zero c 22 ∗ zero c 23 ∗ zero c 24) ∗ (((c : Thread nD τ).loc main_arg6) ↦{fullShare} V m c main_arg6)) : sProp 𝕄) := giveM c (V m c main_arg6)
theorem backN (c : Dev nD) : iprop((bigSep Finset.univ fun b => owns (c : Thread nD τ) (ringN.B b) fullShare (blocksOf m c b).N) ∗ free c ringN 1 ∗ free c ringN 2 ∗ free c ringN 0)
    ⊢ (iprop((∃ f : Buf (Elt F) ((c : Thread nD τ).loc cc0_scoped12), ((c : Thread nD τ).loc cc0_scoped12) ↦{fullShare} f) ∗ (zero c 25 ∗ zero c 26 ∗ zero c 27) ∗ (((c : Thread nD τ).loc main_arg7) ↦{fullShare} V m c main_arg7)) : sProp 𝕄) := giveN c (V m c main_arg7)
set_option maxHeartbeats 4000000 in
/-- At the end the rings hand them back, the results written. -/
theorem collect (c : Dev nD) : (iprop(((((bigSep Finset.univ fun b => owns (c : Thread nD τ) (ringX.B b) fullShare (blocksOf m c b).X) ∗ free c ringX 1 ∗ free c ringX 2 ∗ free c ringX 0) ∗ ((bigSep Finset.univ fun b => owns (c : Thread nD τ) (ringY.B b) fullShare (blocksOf m c b).Y) ∗ free c ringY 1 ∗ free c ringY 2 ∗ free c ringY 0) ∗ ((bigSep Finset.univ fun b => owns (c : Thread nD τ) (ringP.B b) fullShare (blocksOf m c b).P) ∗ free c ringP 1 ∗ free c ringP 2 ∗ free c ringP 0) ∗ ((bigSep Finset.univ fun b => owns (c : Thread nD τ) (ringG.B b) fullShare (blocksOf m c b).G) ∗ free c ringG 1 ∗ free c ringG 2 ∗ free c ringG 0) ∗ ((bigSep Finset.univ fun b => owns (c : Thread nD τ) (ringZ.B b) fullShare (blocksOf m c b).Z) ∗ free c ringZ 1 ∗ free c ringZ 2 ∗ free c ringZ 0) ∗ ((bigSep Finset.univ fun b => owns (c : Thread nD τ) (ringM.B b) fullShare (blocksOf m c b).M) ∗ free c ringM 1 ∗ free c ringM 2 ∗ free c ringM 0) ∗ ((bigSep Finset.univ fun b => owns (c : Thread nD τ) (ringN.B b) fullShare (blocksOf m c b).N) ∗ free c ringN 1 ∗ free c ringN 2 ∗ free c ringN 0)) ∗ (((bigSep Finset.univ fun b => owns (c : Thread nD τ) (ringH.B b) fullShare (hBlk (resident m c) (blocksOf m c b))) ∗ free c ringH 1 ∗ free c ringH 0) ∗ ((bigSep Finset.univ fun b => owns (c : Thread nD τ) (ringU.B b) fullShare (uBlk (resident m c) (blocksOf m c b))) ∗ free c ringU 1 ∗ free c ringU 0))) ∗ (∃ f : Buf (Elt F) ((c : Thread nD τ).loc cc0_scratch0), ((c : Thread nD τ).loc cc0_scratch0) ↦{fullShare} f) ∗ (∃ r, prngReg c r)) : sProp 𝕄) ⊢ held m (afterRun m) c := by
  rw [held_eq, afterRun_first, afterRun_second]
  iintro ⟨⟨⟨HX, HY, HP, HG, HZ, HM, HN⟩, HH, HU⟩, HS, Hg⟩
  ihave HX := (backX m c) $$ HX
  icases HX with ⟨HsX, ⟨Hz7, Hz8, Hz9⟩, HbX⟩
  ihave HY := (backY m c) $$ HY
  icases HY with ⟨HsY, ⟨Hz10, Hz11, Hz12⟩, HbY⟩
  ihave HP := (backP m c) $$ HP
  icases HP with ⟨HsP, ⟨Hz13, Hz14, Hz15⟩, HbP⟩
  ihave HG := (backG m c) $$ HG
  icases HG with ⟨HsG, ⟨Hz16, Hz17, Hz18⟩, HbG⟩
  ihave HZ := (backZ m c) $$ HZ
  icases HZ with ⟨HsZ, ⟨Hz19, Hz20, Hz21⟩, HbZ⟩
  ihave HM := (backM m c) $$ HM
  icases HM with ⟨HsM, ⟨Hz22, Hz23, Hz24⟩, HbM⟩
  ihave HN := (backN m c) $$ HN
  icases HN with ⟨HsN, ⟨Hz25, Hz26, Hz27⟩, HbN⟩
  ihave HH := (giveH c (fun b => hBlk (resident m c) (blocksOf m c b))) $$ HH
  icases HH with ⟨HsH, ⟨Hz28, Hz29⟩, HbH⟩
  ihave HU := (giveU c (fun b => uBlk (resident m c) (blocksOf m c b))) $$ HU
  icases HU with ⟨HsU, ⟨Hz30, Hz31⟩, HbU⟩
  isplitl [HS HsX HsY HsP HsG HsZ HsM HsN HsH HsU]
  · isplitl [HS]; · iexact HS
    isplitl [HsX]; · iexact HsX
    isplitl [HsY]; · iexact HsY
    isplitl [HsP]; · iexact HsP
    isplitl [HsG]; · iexact HsG
    isplitl [HsZ]; · iexact HsZ
    isplitl [HsM]; · iexact HsM
    isplitl [HsN]; · iexact HsN
    isplitl [HsH]; · iexact HsH
    iexact HsU
  isplitl [Hg]; · iexact Hg
  isplitl [Hz7 Hz8 Hz9 Hz10 Hz11 Hz12 Hz13 Hz14 Hz15 Hz16 Hz17 Hz18 Hz19 Hz20 Hz21 Hz22 Hz23 Hz24 Hz25 Hz26 Hz27 Hz28 Hz29 Hz30 Hz31]
  · isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22]; · iexact Hz22
    isplitl [Hz23]; · iexact Hz23
    isplitl [Hz24]; · iexact Hz24
    isplitl [Hz25]; · iexact Hz25
    isplitl [Hz26]; · iexact Hz26
    isplitl [Hz27]; · iexact Hz27
    isplitl [Hz28]; · iexact Hz28
    isplitl [Hz29]; · iexact Hz29
    isplitl [Hz30]; · iexact Hz30
    iexact Hz31
  isplitl [HbX HbY HbP HbG HbZ HbM HbN]
  · isplitl [HbX]; · iexact HbX
    isplitl [HbY]; · iexact HbY
    isplitl [HbP]; · iexact HbP
    isplitl [HbG]; · iexact HbG
    isplitl [HbZ]; · iexact HbZ
    isplitl [HbM]; · iexact HbM
    iexact HbN
  isplitl [HbH]; · iexact HbH
  iexact HbU

/-! ## The proof data, the body's obligation -/

/-- The pipeline's data on core `c`: the arrays as the call finds them, every window's block left in place, and beside them
    what is held before the one point and after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ i := if i = 0 then held m (V m) c else held m (afterRun m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

theorem held_before (c : Dev nD) (t : Fin cfg0.N) : (dats m 0 c).Φ t.castSucc = held m (V m) c := by
  rw [show t = t0_0 from fin_N0 t]; rfl
theorem held_after (c : Dev nD) (t : Fin cfg0.N) : (dats m 0 c).Φ t.succ = held m (afterRun m) c := by
  rw [show t = t0_0 from fin_N0 t]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 4000000 in
/-- The body, run from what the launch holds to what it takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [held_before, held_after, after_0, after_1, after_2, after_3, after_4, after_5, after_6]
  unfold Dat.owesAt Pipeline.owesWithin
  rw [show (dats m 0 c).owed t.castSucc = 0 from rfl, show (dats m 0 c).owed t.succ = 0 from rfl]
  simp only [before_0, before_1, before_2, before_3, before_4, before_5, before_6]
  rw [show t = t0_0 from fin_N0 t]
  iintro ⟨Hh, ⟨%W, -, HW⟩, ⟨%d0, H0⟩, ⟨%d1, H1⟩, ⟨%d2, H2⟩, ⟨%d3, H3⟩, ⟨%d4, H4⟩, ⟨%d5, H5⟩, ⟨%d6, H6⟩⟩
  ihave Hh := (deal m c) $$ Hh
  icases Hh with ⟨⟨Hr, Hw⟩, HS, Hg⟩
  iapply (merge_spec (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0) (st0_6 t0_0) (hstage0_6 0) c (resident m c) (blocksOf m c))
  isplitl [Hr Hw HS HW H0 H1 H2 H3 H4 H5 H6]
  · isplitl [Hr]; · iexact Hr
    unfold others
    isplitl [Hw]; · iexact Hw
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [HS]
    · icases HS with ⟨%f, HS⟩
      iexists f
      rw [owns_whole]
      iexact HS
    iexists W; iexact HW
  iintro ⟨Hr, Hw, ⟨H0, H1, H2, H3, H4, H5, H6⟩, ⟨%z, HS⟩, ⟨%W', HW⟩⟩
  isplitl [Hr Hw HS Hg]
  · iapply (collect m c)
    isplitl [Hr Hw]
    · isplitl [Hr]; · iexact Hr
      iexact Hw
    isplitl [HS]
    · ihave HS := (Entails.of_eq (owns_whole (c : Thread nD τ) cc0_scratch0 fullShare z)) $$ HS
      iexists z
      iexact HS
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole program runs, every argument ends as launched, the results hold what `afterRun` says, every counter ends at zero. -/
theorem run_main : θ_run defs (onTc (τ := τ) (main (F := F))) (s₀ m ρ)
    (fun r => Pipeline.FramePostRG cfgs (dats m) 0 R0 (V m) (afterRun m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := main_prefix m Variants.none) (hA := A_eq m) (G := afterRun m)
    (hin := fun _ => .rfl) (hout := fun _ => .rfl)

/-- The run's post at a core: the two results, and the arguments as launched. -/
theorem run_values : θ_run defs (onTc (τ := τ) (main (F := F))) ⟨m, fun _ => 0, ρ⟩ (fun r =>
    (∀ c : Dev nD, r.2.mem ((c.tc : Thread nD τ).loc main_v34_0) = firstOut m c ∧ r.2.mem ((c.tc : Thread nD τ).loc main_v34_1) = secondOut m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13))
    ∧ r.2.sem = fun _ => 0) :=
  (θ_run defs _ _).mono (fun r h => ⟨fun c => ⟨(h.1.2 c main_v34_0 (by decide)).trans (afterRun_first m c), (h.1.2 c main_v34_1 (by decide)).trans (afterRun_second m c),
    ((h.1.1 c).2 main_arg0 (Finset.mem_sdiff.mpr ⟨Pipeline.mem_restRefs_of main_arg0 (by decide) (by decide), by decide⟩)).trans (V_main_arg0 m c), ((h.1.1 c).2 main_arg1 (Finset.mem_sdiff.mpr ⟨Pipeline.mem_restRefs_of main_arg1 (by decide) (by decide), by decide⟩)).trans (V_main_arg1 m c), ((h.1.1 c).2 main_arg2 (Finset.mem_sdiff.mpr ⟨Pipeline.mem_restRefs_of main_arg2 (by decide) (by decide), by decide⟩)).trans (V_main_arg2 m c), ((h.1.1 c).2 main_arg3 (Finset.mem_sdiff.mpr ⟨Pipeline.mem_restRefs_of main_arg3 (by decide) (by decide), by decide⟩)).trans (V_main_arg3 m c), ((h.1.1 c).2 main_arg4 (Finset.mem_sdiff.mpr ⟨Pipeline.mem_restRefs_of main_arg4 (by decide) (by decide), by decide⟩)).trans (V_main_arg4 m c), ((h.1.1 c).2 main_arg5 (Finset.mem_sdiff.mpr ⟨Pipeline.mem_restRefs_of main_arg5 (by decide) (by decide), by decide⟩)).trans (V_main_arg5 m c), ((h.1.1 c).2 main_arg6 (Finset.mem_sdiff.mpr ⟨Pipeline.mem_restRefs_of main_arg6 (by decide) (by decide), by decide⟩)).trans (V_main_arg6 m c), ((h.1.1 c).2 main_arg7 (Finset.mem_sdiff.mpr ⟨Pipeline.mem_restRefs_of main_arg7 (by decide) (by decide), by decide⟩)).trans (V_main_arg7 m c), ((h.1.1 c).2 main_arg8 (Finset.mem_sdiff.mpr ⟨Pipeline.mem_restRefs_of main_arg8 (by decide) (by decide), by decide⟩)).trans (V_main_arg8 m c), ((h.1.1 c).2 main_arg9 (Finset.mem_sdiff.mpr ⟨Pipeline.mem_restRefs_of main_arg9 (by decide) (by decide), by decide⟩)).trans (V_main_arg9 m c), ((h.1.1 c).2 main_arg10 (Finset.mem_sdiff.mpr ⟨Pipeline.mem_restRefs_of main_arg10 (by decide) (by decide), by decide⟩)).trans (V_main_arg10 m c), ((h.1.1 c).2 main_arg11 (Finset.mem_sdiff.mpr ⟨Pipeline.mem_restRefs_of main_arg11 (by decide) (by decide), by decide⟩)).trans (V_main_arg11 m c), ((h.1.1 c).2 main_arg12 (Finset.mem_sdiff.mpr ⟨Pipeline.mem_restRefs_of main_arg12 (by decide) (by decide), by decide⟩)).trans (V_main_arg12 m c), ((h.1.1 c).2 main_arg13 (Finset.mem_sdiff.mpr ⟨Pipeline.mem_restRefs_of main_arg13 (by decide) (by decide), by decide⟩)).trans (V_main_arg13 m c)⟩, h.2⟩) (run_main m ρ)

/-- The frame: the program runs, its arguments end as launched and its counters at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13))
    ∧ r.2.sem = fun _ => 0) :=
  (θ_run defs _ _).mono (fun r h => ⟨fun c => (h.1 c).2.2, h.2⟩) (run_values m ρ)

end Cert.KernelIdeal.Hand

end
-- ==== Proof.Rows.lean ====
module
public import Idealize.ShloMosaic.Lib.Pointwise

/-!
# The merge, as a formula

The merge of the two branches written as functions of a batch row, a time step
and a column, over the extended reals. Both programs are read as these functions.
-/

@[expose] public section

noncomputable section

namespace Cert.Merge

open Idealize.ShloMosaic

/-- The arguments: `x` is the residual, `md` the six modulation rows one after the other, `yn` the normalised
    recurrence output in time-major order, `bonus` and `gate` its two corrections, `yb` the other branch, `ga` and `gb`
    the logits of the two gates, `gw` and `gs` the gain and shift of the recurrence, `nw` the norm's gain, and `wa`,
    `wb` and `wo` the three weights. -/
structure Args where
  x : Fin 16 → Fin 2048 → Fin 1024 → EReal
  md : Fin 16 → Fin 6144 → EReal
  yn : Fin 2048 → Fin 16 → Fin 512 → EReal
  bonus : Fin 16 → Fin 2048 → Fin 512 → EReal
  gate : Fin 16 → Fin 2048 → Fin 512 → EReal
  yb : Fin 16 → Fin 2048 → Fin 512 → EReal
  ga : Fin 16 → Fin 2048 → Fin 1024 → EReal
  gb : Fin 16 → Fin 2048 → Fin 1024 → EReal
  gw : Fin 512 → EReal
  gs : Fin 512 → EReal
  nw : Fin 1024 → EReal
  wa : Fin 512 → Fin 1024 → EReal
  wb : Fin 512 → Fin 1024 → EReal
  wo : Fin 1024 → Fin 1024 → EReal

variable (A : Args) (b : Fin 16) (t : Fin 2048)

/-- The recurrence's branch before its product. -/
def Args.ya (k : Fin 512) : EReal := (A.yn t b k * A.gw k + A.gs k + A.bonus b t k) * A.gate b t k
/-- The two branches' products, gated and added. -/
def Args.merged (k : Fin 1024) : EReal :=
  Ideal.logistic (A.ga b t k) * (∑ j, A.ya b t j * A.wa j k) + Ideal.logistic (A.gb b t k) * ∑ j, A.yb b t j * A.wb j k
/-- The first result: the residual with the gated update added. -/
def Args.h (n : Fin 1024) : EReal := A.x b t n + A.md b ⟨2048 + n.val, by omega⟩ * ∑ k, A.merged b t k * A.wo k n
/-- The reciprocal root mean square of a row of the first result. -/
def Args.inv : EReal :=
  Ideal.rsqrt (Ideal.div (∑ k, A.h b t k * A.h b t k) (Ideal.ofBits .f32 0x44800000#32) + Ideal.ofBits .f32 0x358637BD#32)
/-- The second result: the first normalised, scaled and shifted. -/
def Args.u (n : Fin 1024) : EReal :=
  A.h b t n * A.inv b t * (A.nw n * (1 + A.md b ⟨4096 + n.val, by omega⟩)) + A.md b ⟨3072 + n.val, by omega⟩

end Cert.Merge

end
-- ==== Proof.Permute.lean ====
module
public import proofs.«01_k».proof.Proof.Compute
public import Idealize.ShloMosaic.Lib.Pointwise

/-!
# The permuted block of `yn`

The kernel brings `yn` from time-major to batch-major order by a product with a
permutation matrix, eight time steps at a time. So that the product loses
nothing of a 32-bit value, the value is split in three pieces of 16 bits and each
is multiplied. Over the extended reals the first piece is the value itself, so
the other two are differences of equal values. They add nothing, unless the value
is positive infinity.
-/

@[expose] public section

set_option maxRecDepth 16384

noncomputable section

namespace Cert.KernelIdeal.Hand

open Cert.KernelIdeal Cert.KernelIdeal.Gen
open Idealize.ShloMosaic Idealize.ShloMosaic.TcCoe

/-- The matrix whose row `8 b + t` picks the column `16 t + b`. -/
def Picks (p : S128x128.Idx → EReal) : Prop :=
  ∀ r s : Fin 128, p (ix2 r s) = if s.val = r.val % 8 * 16 + r.val / 8 then 1 else 0

/-- A product with it reads one row. -/
theorem pick_row {p : S128x128.Idx → EReal} (hp : Picks p) (r : Fin 128) (f : Fin 128 → EReal) :
    (∑ s : Fin 128, p (ix2 r s) * f s) = f ⟨r.val % 8 * 16 + r.val / 8, by omega⟩ := by
  rw [Finset.sum_eq_single (⟨r.val % 8 * 16 + r.val / 8, by omega⟩ : Fin 128)]
  · rw [hp, if_pos rfl, one_mul]
  · intro s _ hs
    rw [hp, if_neg (fun h => hs (Fin.ext h)), zero_mul]
  · intro h
    exact absurd (Finset.mem_univ _) h

/-- A value and the two differences of the split, summed, are the value. -/
theorem three_pieces {x : EReal} (hx : x ≠ ⊤) : x + (x - x) + ((x - x) - (x - x)) = x := by
  induction x with
  | bot => rfl
  | top => exact absurd rfl hx
  | coe r =>
    norm_cast
    simp

/-- One quarter: row `b`, time step `t` of the product is row `b` of time step `t` of the operand. -/
theorem quarter_apply {p : S128x128.Idx → EReal} (hp : Picks p) (Y : S8x16x512.Idx → EReal) (hY : ∀ i, Y i ≠ ⊤)
    (b : Fin 16) (t : Fin 8) (k : Fin 512) :
    (k0_pay2 (F := Ideal) p Y : S16x1x8x512.Idx → EReal) (ix4 b 0 t k) = Y (ix3 t b k) := by
  pointwise [k0_pay2]
  have hr (f : Fin 128 → EReal) := pick_row hp ⟨b.val * 8 + t.val, by omega⟩ f
  refine (congrArg₂ (· + ·) (congrArg₂ (· + ·) (hr _) (hr _)) (hr _)).trans ?_
  have hi : (ix3 (⟨((b.val * 8 + t.val) % 8 * 16 + (b.val * 8 + t.val) / 8) / 16, by omega⟩ : Fin 8)
      (⟨((b.val * 8 + t.val) % 8 * 16 + (b.val * 8 + t.val) / 8) % 16, by omega⟩ : Fin 16) k : S8x16x512.Idx) = ix3 t b k := by
    have h1 : (b.val * 8 + t.val) % 8 = t.val := by omega
    have h2 : (b.val * 8 + t.val) / 8 = b.val := by omega
    congr 1 <;> apply Fin.ext <;> dsimp only <;> rw [h1, h2] <;> omega
  have hx := three_pieces (hY (ix3 t b k))
  rw [← hi] at hx ⊢
  exact hx

/-- All four quarters are the same function of their eight time steps. -/
theorem permuted_eq {F : FTy → Type} [FloatOps F] (p : FVec F S128x128 .bf16) (Y : S32x16x512.Idx → Elt F .f32) :
    permuted p Y = quarters (k0_pay2 p (steps8 Y 0)) (k0_pay2 p (steps8 Y 1)) (k0_pay2 p (steps8 Y 2)) (k0_pay2 p (steps8 Y 3)) := rfl

/-- The scratch array in whole. -/
theorem permuted_apply {p : S128x128.Idx → EReal} (hp : Picks p) (Y : S32x16x512.Idx → EReal) (hY : ∀ i, Y i ≠ ⊤)
    (b : Fin 16) (q : Fin 4) (t : Fin 8) (k : Fin 512) :
    (permuted (F := Ideal) p Y : S16x4x8x512.Idx → EReal) (ix4 b q t k) = Y (ix3 ⟨8 * q.val + t.val, by omega⟩ b k) := by
  rw [permuted_eq]
  have hi : quarterIdx (ix4 b q t k) = ix4 b 0 t k := by
    funext a
    match a with
    | 0 => rfl
    | 1 => rfl
    | 2 => rfl
    | 3 => rfl
  have hq (q' : Fin 4) : (k0_pay2 (F := Ideal) p (steps8 (F := Ideal) Y q') : S16x1x8x512.Idx → EReal) (ix4 b 0 t k) = Y (ix3 ⟨8 * q'.val + t.val, by omega⟩ b k) := by
    rw [quarter_apply hp (steps8 (F := Ideal) Y q') (fun i => hY _)]
    show Y _ = Y _
    congr 1
    funext a
    apply Fin.ext
    match a with
    | 0 => show 8 * q'.val + 1 * t.val = 8 * q'.val + t.val; omega
    | 1 => show 0 + 1 * b.val = b.val; omega
    | 2 => show 0 + 1 * k.val = k.val; omega
  unfold quarters
  rw [hi]
  match q with
  | 0 => exact hq 0
  | 1 => exact hq 1
  | 2 => exact hq 2
  | 3 => exact hq 3

end Cert.KernelIdeal.Hand

end
-- ==== Proof.Block.lean ====
module
public import proofs.«01_k».proof.Proof.Permute

/-!
# What one trip computes, at an index

The operations of a trip, read at a batch row, a time step of the block and a
column, as sums and products of the elements they read.
-/

@[expose] public section

set_option maxRecDepth 16384

noncomputable section

namespace Cert.KernelIdeal.Hand

open Cert.KernelIdeal Cert.KernelIdeal.Gen
open Idealize.ShloMosaic Idealize.ShloMosaic.TcCoe

/-- The first branch's product at row `32 b + t`. -/
theorem pay14_at (y : S16x4x8x512.Idx → EReal) (g0 g1 : S1x512.Idx → EReal) (P G : S1x16x32x512.Idx → EReal) (W : S512x1024.Idx → EReal)
    (b : Fin 16) (t : Fin 32) (n : Fin 1024) :
    (k0_pay14 (F := Ideal) y g0 g1 P G W : S512x1024.Idx → EReal) (ix2 ⟨b.val * 32 + t.val, by omega⟩ n)
      = ∑ k : Fin 512, (y (ix4 b ⟨t.val / 8, by omega⟩ ⟨t.val % 8, by omega⟩ k) * g0 (ix2 0 k) + g1 (ix2 0 k) + P (ix4 0 b t k)) * G (ix4 0 b t k) * W (ix2 k n) := by
  have h1 : (b.val * 32 + t.val) / 32 = b.val := by omega
  have h2 : (b.val * 32 + t.val) / 8 % 4 = t.val / 8 := by omega
  have h3 : (b.val * 32 + t.val) % 8 = t.val % 8 := by omega
  have h4 : (b.val * 32 + t.val) % 32 = t.val := by omega
  pointwise [k0_pay14]
  simp only [h1, h2, h3, h4, Fin.eta]

/-- The new residual row, given the first branch's product. -/
theorem pay15_at (a : S512x1024.Idx → EReal) (Z : S1x16x32x512.Idx → EReal) (W : S512x1024.Idx → EReal) (M N X : S1x16x32x1024.Idx → EReal) (g : S1x16x8x1024.Idx → EReal) (W' : S1024x1024.Idx → EReal)
    (b : Fin 16) (t : Fin 32) (n : Fin 1024) :
    (k0_pay15 (F := Ideal) a Z W M N X g W' : S512x1024.Idx → EReal) (ix2 ⟨b.val * 32 + t.val, by omega⟩ n)
      = X (ix4 0 b t n) + g (ix4 0 b ⟨t.val % 8, by omega⟩ n) * ∑ k : Fin 1024,
          (Ideal.logistic (M (ix4 0 b t k)) * a (ix2 ⟨b.val * 32 + t.val, by omega⟩ k) + Ideal.logistic (N (ix4 0 b t k)) * ∑ j : Fin 512, Z (ix4 0 b t j) * W (ix2 j k)) * W' (ix2 k n) := by
  have h1 : (b.val * 32 + t.val) / 32 = b.val := by omega
  have h3 : (b.val * 32 + t.val) % 8 = t.val % 8 := by omega
  have h4 : (b.val * 32 + t.val) % 32 = t.val := by omega
  pointwise [k0_pay15]
  simp only [h1, h3, h4, Fin.eta]

/-- The normalised, scaled and shifted row. -/
theorem pay18_at (h : S512x1024.Idx → EReal) (w : S1x1024.Idx → EReal) (sc sh : S1x16x8x1024.Idx → EReal)
    (b : Fin 16) (t : Fin 32) (n : Fin 1024) :
    (k0_pay18 (F := Ideal) h w sc sh : S16x32x1024.Idx → EReal) (ix3 b t n)
      = h (ix2 ⟨b.val * 32 + t.val, by omega⟩ n) * Ideal.rsqrt (Ideal.div (∑ k : Fin 1024, h (ix2 ⟨b.val * 32 + t.val, by omega⟩ k) * h (ix2 ⟨b.val * 32 + t.val, by omega⟩ k)) (Ideal.ofBits .f32 0x44800000#32) + Ideal.ofBits .f32 0x358637BD#32)
          * (w (ix2 0 n) * (1 + sc (ix4 0 b ⟨t.val % 8, by omega⟩ n))) + sh (ix4 0 b ⟨t.val % 8, by omega⟩ n) := by
  have h3 : (b.val * 32 + t.val) % 8 = t.val % 8 := by omega
  pointwise [k0_pay18]
  simp only [h3]

/-! ## The reads -/

/-- A block read behind its leading unit axis. -/
theorem lead_at (X : S16x32x512.Idx → EReal) (b : Fin 16) (t : Fin 32) (k : Fin 512) :
    lead (s := S1x16x32x512) squeezes_S1x16x32x512_S16x32x512 X (ix4 0 b t k) = X (ix3 b t k) := by
  have h : lead (s := S1x16x32x512) squeezes_S1x16x32x512_S16x32x512 X = shapeCast S1x16x32x512 X (by decide) := rfl
  rw [h]
  pointwise
/-- A wide block read behind its leading unit axis. -/
theorem lead_at' (X : S16x32x1024.Idx → EReal) (b : Fin 16) (t : Fin 32) (k : Fin 1024) :
    lead (s := S1x16x32x1024) squeezes_S1x16x32x1024_S16x32x1024 X (ix4 0 b t k) = X (ix3 b t k) := by
  have h : lead (s := S1x16x32x1024) squeezes_S1x16x32x1024_S16x32x1024 X = shapeCast S1x16x32x1024 X (by decide) := rfl
  rw [h]
  pointwise
/-- A window read at a place whose coordinates are the offsets plus the window's own. -/
theorem window_at {s : Shape} (X : s.Idx → EReal) (off size : Fin s.rank → ℕ) (inb : ∀ a, off a + size a ≤ s.size a)
    (j : (Rect.unit off size inb).shape.Idx) (i : s.Idx) (h : ∀ a, off a + 1 * (j a).val = (i a).val) :
    VecWindow.window X off size inb j = X i := by
  unfold VecWindow.window
  congr 1
  funext a
  exact Fin.ext (h a)
/-- A whole window is the array. -/
theorem window_whole {s : Shape} (X : s.Idx → EReal) (off : Fin s.rank → ℕ) (inb : ∀ a, off a + s.size a ≤ s.size a) :
    VecWindow.window X off s.size inb = X := by
  funext j
  refine window_at X off s.size inb j j fun a => ?_
  have := inb a
  omega
/-- One row of the modulation. -/
theorem mod_at (X : S6x16x8x1024.Idx → EReal) (o : ℕ) (q : Fin 6) (ho : o = q.val) (inb : ∀ a, (![o, 0, 0, 0] : Fin 4 → ℕ) a + S1x16x8x1024.size a ≤ S6x16x8x1024.size a)
    (b : Fin 16) (t : Fin 8) (n : Fin 1024) :
    VecWindow.window (s := S6x16x8x1024) X ![o, 0, 0, 0] S1x16x8x1024.size inb (ix4 0 b t n) = X (ix4 q b t n) :=
  window_at X _ _ inb _ _ fun a => by
    match a with
    | 0 => show o + 1 * 0 = q.val; omega
    | 1 => show 0 + 1 * b.val = b.val; omega
    | 2 => show 0 + 1 * t.val = t.val; omega
    | 3 => show 0 + 1 * n.val = n.val; omega
/-- One row of the gain and shift. -/
theorem gain_at (X : S2x512.Idx → EReal) (o : ℕ) (q : Fin 2) (ho : o = q.val) (inb : ∀ a, (![o, 0] : Fin 2 → ℕ) a + S1x512.size a ≤ S2x512.size a)
    (k : Fin 512) : VecWindow.window (s := S2x512) X ![o, 0] S1x512.size inb (ix2 0 k) = X (ix2 q k) :=
  window_at X _ _ inb _ _ fun a => by
    match a with
    | 0 => show o + 1 * 0 = q.val; omega
    | 1 => show 0 + 1 * k.val = k.val; omega

/-! ## The two blocks of results -/

/-- The first branch's product. -/
theorem branchA_at (R : Resident Ideal) (B : Blocks Ideal) (hp : Picks (perm2 R.f13)) (hY : ∀ i, (B.Y : S32x16x512.Idx → EReal) i ≠ ⊤)
    (b : Fin 16) (t : Fin 32) (n : Fin 1024) :
    (branchA R B : S512x1024.Idx → EReal) (ix2 ⟨b.val * 32 + t.val, by omega⟩ n)
      = ∑ k : Fin 512, ((B.Y (ix3 t b k) : EReal) * R.f8 (ix2 0 k) + R.f8 (ix2 1 k) + B.P (ix3 b t k)) * B.G (ix3 b t k) * R.f10 (ix2 k n) := by
  unfold branchA
  rw [window_whole, window_whole, pay14_at]
  refine Finset.sum_congr rfl fun k _ => ?_
  rw [permuted_apply hp _ hY, lead_at, lead_at, gain_at _ 0 0 rfl, gain_at _ 1 1 rfl]
  congr 6
  exact congrArg (fun z => ix3 z b k) (Fin.ext (by show 8 * (t.val / 8) + t.val % 8 = t.val; omega))

/-- The new residual rows, as a matrix. -/
theorem rowsH_at (R : Resident Ideal) (B : Blocks Ideal) (a : S512x1024.Idx → EReal) (b : Fin 16) (t : Fin 32) (n : Fin 1024) :
    (rowsH R B a : S512x1024.Idx → EReal) (ix2 ⟨b.val * 32 + t.val, by omega⟩ n)
      = (B.X (ix3 b t n) : EReal) + R.f7 (ix4 2 b ⟨t.val % 8, by omega⟩ n) * ∑ k : Fin 1024,
          (Ideal.logistic (B.M (ix3 b t k)) * a (ix2 ⟨b.val * 32 + t.val, by omega⟩ k) + Ideal.logistic (B.N (ix3 b t k)) * ∑ j : Fin 512, (B.Z (ix3 b t j) : EReal) * R.f11 (ix2 j k)) * R.f12 (ix2 k n) := by
  unfold rowsH
  rw [window_whole, window_whole, pay15_at, mod_at _ 2 2 rfl]
  simp only [lead_at, lead_at']

/-- The first result's block is those rows. -/
theorem hBlk_at (R : Resident Ideal) (B : Blocks Ideal) (b : Fin 16) (t : Fin 32) (n : Fin 1024) :
    (hBlk R B : S16x32x1024.Idx → EReal) (ix3 b t n) = (rowsH R B (branchA R B) : S512x1024.Idx → EReal) (ix2 ⟨b.val * 32 + t.val, by omega⟩ n) := by
  have h : (hBlk R B : S16x32x1024.Idx → EReal) = shapeCast S16x32x1024 (k0_pay17 (F := Ideal) (rowsH' R B (branchA R B))) (by decide) := rfl
  have h' : rowsH' R B (branchA R B) = shapeCast S16x32x1024 (rowsH R B (branchA R B)) shapeCasts_S512x1024_S16x32x1024 := rfl
  rw [h, h']
  generalize rowsH R B (branchA R B) = r
  pointwise [k0_pay17]

/-- The second result's block is the same rows normalised. -/
theorem uBlk_at (R : Resident Ideal) (B : Blocks Ideal) (b : Fin 16) (t : Fin 32) (n : Fin 1024) :
    (uBlk R B : S16x32x1024.Idx → EReal) (ix3 b t n) = (hBlk R B (ix3 b t n) : EReal)
        * Ideal.rsqrt (Ideal.div (∑ k : Fin 1024, (hBlk R B (ix3 b t k) : EReal) * hBlk R B (ix3 b t k)) (Ideal.ofBits .f32 0x44800000#32) + Ideal.ofBits .f32 0x358637BD#32)
        * ((R.f9 (ix2 0 n) : EReal) * (1 + R.f7 (ix4 4 b ⟨t.val % 8, by omega⟩ n))) + R.f7 (ix4 3 b ⟨t.val % 8, by omega⟩ n) := by
  have h : (uBlk R B : S16x32x1024.Idx → EReal) = shapeCast S16x32x1024 (k0_pay19 (F := Ideal) (rowsU R (rowsH R B (branchA R B)))) (by decide) := rfl
  have h' (u : S16x32x1024.Idx → EReal) : (shapeCast S16x32x1024 (k0_pay19 (F := Ideal) u) (by decide) : S16x32x1024.Idx → EReal) (ix3 b t n) = u (ix3 b t n) := by
    pointwise [k0_pay19]
  rw [h, h']
  unfold rowsU
  rw [window_whole, pay18_at, mod_at _ 4 4 rfl, mod_at _ 3 3 rfl]
  simp only [hBlk_at]

end Cert.KernelIdeal.Hand

end
-- ==== Proof.Entry.lean ====
module
public import proofs.«01_k».proof.Proof.Run
public import Idealize.ShloMosaic.Lib.Pointwise
public import Idealize.ShloMosaic.Lib.Claim
public import Idealize.ShloMosaic.Lib.Pipeline.Value
public import Idealize.ShloMosaic.Lib.StableHlo.ReadAt

/-!
# The arrays that the host prepares

Seven arrays are computed from the arguments before the call and lie in fast
memory throughout it. Here each is read at an index, over the extended reals.
-/

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

theorem read_f7 (X : S6x16x8x1024.Idx → Elt Ideal .f32) : (((cfg0.win 0).blk t0_0).view.read (Elt Ideal) X : S6x16x8x1024.Idx → Elt Ideal .f32) = X :=
  Memref.read_access_unit_zero (Elt Ideal) main_v20 (funext fun a => by fin_cases a <;> decide) (fun a => by fin_cases a <;> decide) X
theorem resident_f7 : (resident m c).f7 = (V m c main_v20 : S6x16x8x1024.Idx → Elt Ideal .f32) := read_f7 (V m c main_v20)

theorem read_f8 (X : S2x512.Idx → Elt Ideal .f32) : (((cfg0.win 1).blk t0_0).view.read (Elt Ideal) X : S2x512.Idx → Elt Ideal .f32) = X :=
  Memref.read_access_unit_zero (Elt Ideal) main_v25 (funext fun a => by fin_cases a <;> decide) (fun a => by fin_cases a <;> decide) X
theorem resident_f8 : (resident m c).f8 = (V m c main_v25 : S2x512.Idx → Elt Ideal .f32) := read_f8 (V m c main_v25)

theorem read_f9 (X : S1x1024.Idx → Elt Ideal .f32) : (((cfg0.win 2).blk t0_0).view.read (Elt Ideal) X : S1x1024.Idx → Elt Ideal .f32) = X :=
  Memref.read_access_unit_zero (Elt Ideal) main_v33 (funext fun a => by fin_cases a <;> decide) (fun a => by fin_cases a <;> decide) X
theorem resident_f9 : (resident m c).f9 = (V m c main_v33 : S1x1024.Idx → Elt Ideal .f32) := read_f9 (V m c main_v33)

theorem read_f10 (X : S512x1024.Idx → Elt Ideal .bf16) : (((cfg0.win 3).blk t0_0).view.read (Elt Ideal) X : S512x1024.Idx → Elt Ideal .bf16) = X :=
  Memref.read_access_unit_zero (Elt Ideal) main_v28 (funext fun a => by fin_cases a <;> decide) (fun a => by fin_cases a <;> decide) X
theorem resident_f10 : (resident m c).f10 = (V m c main_v28 : S512x1024.Idx → Elt Ideal .bf16) := read_f10 (V m c main_v28)

theorem read_f11 (X : S512x1024.Idx → Elt Ideal .bf16) : (((cfg0.win 4).blk t0_0).view.read (Elt Ideal) X : S512x1024.Idx → Elt Ideal .bf16) = X :=
  Memref.read_access_unit_zero (Elt Ideal) main_v30 (funext fun a => by fin_cases a <;> decide) (fun a => by fin_cases a <;> decide) X
theorem resident_f11 : (resident m c).f11 = (V m c main_v30 : S512x1024.Idx → Elt Ideal .bf16) := read_f11 (V m c main_v30)

theorem read_f12 (X : S1024x1024.Idx → Elt Ideal .bf16) : (((cfg0.win 5).blk t0_0).view.read (Elt Ideal) X : S1024x1024.Idx → Elt Ideal .bf16) = X :=
  Memref.read_access_unit_zero (Elt Ideal) main_v32 (funext fun a => by fin_cases a <;> decide) (fun a => by fin_cases a <;> decide) X
theorem resident_f12 : (resident m c).f12 = (V m c main_v32 : S1024x1024.Idx → Elt Ideal .bf16) := read_f12 (V m c main_v32)

theorem read_f13 (X : S2x128x128.Idx → Elt Ideal .bf16) : (((cfg0.win 6).blk t0_0).view.read (Elt Ideal) X : S2x128x128.Idx → Elt Ideal .bf16) = X :=
  Memref.read_access_unit_zero (Elt Ideal) main_v16 (funext fun a => by fin_cases a <;> decide) (fun a => by fin_cases a <;> decide) X
theorem resident_f13 : (resident m c).f13 = (V m c main_v16 : S2x128x128.Idx → Elt Ideal .bf16) := read_f13 (V m c main_v16)

theorem entry_f7 (k : Fin 6) (b : Fin 16) (t : Fin 8) (n : Fin 1024) : (V m c main_v20 : S6x16x8x1024.Idx → _) (ix4 k b t n) = m ((c : Thread nD τ).loc main_arg1) (ix2 b ⟨1024 * k.val + n.val, by omega⟩) := by
  unfold V
  simp only [hostOps0, hostOps0_1, hostOps0_2, hostOps0_3, hostOps0_4, List.flatten_cons, List.flatten_nil, List.append_nil, List.cons_append, List.nil_append]
  after_reads_at
  congr 3; omega

theorem entry_gain (n : Fin 512) : (V m c main_v25 : S2x512.Idx → _) (ix2 0 n) = m ((c : Thread nD τ).loc main_arg8) (ix2 0 n) := by
  unfold V
  simp only [hostOps0, hostOps0_1, hostOps0_2, hostOps0_3, hostOps0_4, List.flatten_cons, List.flatten_nil, List.append_nil, List.cons_append, List.nil_append]
  after_reads_simp
  pointwise

theorem entry_shift (n : Fin 512) : (V m c main_v25 : S2x512.Idx → _) (ix2 1 n) = m ((c : Thread nD τ).loc main_arg9) (ix2 0 n) := by
  unfold V
  simp only [hostOps0, hostOps0_1, hostOps0_2, hostOps0_3, hostOps0_4, List.flatten_cons, List.flatten_nil, List.append_nil, List.cons_append, List.nil_append]
  after_reads_simp
  pointwise

theorem entry_f9 (n : Fin 1024) : (V m c main_v33 : S1x1024.Idx → _) (ix2 0 n) = m ((c : Thread nD τ).loc main_arg10) (ix2 0 n) := by
  unfold V
  simp only [hostOps0, hostOps0_1, hostOps0_2, hostOps0_3, hostOps0_4, List.flatten_cons, List.flatten_nil, List.append_nil, List.cons_append, List.nil_append]
  after_reads_at

theorem entry_f10 (k : Fin 512) (n : Fin 1024) : (V m c main_v28 : S512x1024.Idx → _) (ix2 k n) = m ((c : Thread nD τ).loc main_arg11) (ix3 0 k n) := by
  unfold V
  simp only [hostOps0, hostOps0_1, hostOps0_2, hostOps0_3, hostOps0_4, List.flatten_cons, List.flatten_nil, List.append_nil, List.cons_append, List.nil_append]
  after_reads_at

theorem entry_f11 (k : Fin 512) (n : Fin 1024) : (V m c main_v30 : S512x1024.Idx → _) (ix2 k n) = m ((c : Thread nD τ).loc main_arg12) (ix3 0 k n) := by
  unfold V
  simp only [hostOps0, hostOps0_1, hostOps0_2, hostOps0_3, hostOps0_4, List.flatten_cons, List.flatten_nil, List.append_nil, List.cons_append, List.nil_append]
  after_reads_at

theorem entry_f12 (k : Fin 1024) (n : Fin 1024) : (V m c main_v32 : S1024x1024.Idx → _) (ix2 k n) = m ((c : Thread nD τ).loc main_arg13) (ix3 0 k n) := by
  unfold V
  simp only [hostOps0, hostOps0_1, hostOps0_2, hostOps0_3, hostOps0_4, List.flatten_cons, List.flatten_nil, List.append_nil, List.cons_append, List.nil_append]
  after_reads_at

theorem entry_word (r s : Fin 128) : (V m c main_v8 : S1x128.Idx → _) (ix2 0 s) = BitVec.ofNat 32 ((s.val % 8) * 16 + s.val / 8) := by
  unfold V
  simp only [hostOps0, hostOps0_1, hostOps0_2, hostOps0_3, hostOps0_4, List.flatten_cons, List.flatten_nil, List.append_nil, List.cons_append, List.nil_append]
  after_reads_at
  revert s
  decide +kernel

theorem entry_perm (r s : Fin 128) : (V m c main_v16 : S2x128x128.Idx → _) (ix3 1 r s) = (if s.val = r.val % 8 * 16 + r.val / 8 then 1 else 0 : EReal) := by
  unfold V
  simp only [hostOps0, hostOps0_1, hostOps0_2, hostOps0_3, hostOps0_4, List.flatten_cons, List.flatten_nil, List.append_nil, List.cons_append, List.nil_append]
  after_reads_simp
  pointwise
  after_reads_at
  refine (congrArg (FloatOps.uitofp (F := Ideal) FTy.bf16) (a₂ := if s.val = r.val % 8 * 16 + r.val / 8 then 1#1 else 0#1) ?_).trans ?_
  · revert r s
    decide +kernel
  · split_ifs
    · show (((1#1 : BitVec 1).toNat : ℝ) : EReal) = 1
      norm_num
    · show (((0#1 : BitVec 1).toNat : ℝ) : EReal) = 0
      norm_num

end Cert.KernelIdeal.Hand

end
-- ==== Proof.Whole.lean ====
module
public import proofs.«01_k».proof.Proof.Rows
public import proofs.«01_k».proof.Proof.Block
public import proofs.«01_k».proof.Proof.Entry

/-!
# What the kernel leaves, as the formula

The two results of the kernel, read at an index, are the merge's formula of the
kernel's arguments.
-/

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The kernel's arguments, as functions of their coordinates. -/
def args : Merge.Args where
  x b t n := m ((c : Thread nD τ).loc main_arg0) (ix3 b t n)
  md b n := m ((c : Thread nD τ).loc main_arg1) (ix2 b n)
  yn t b k := m ((c : Thread nD τ).loc main_arg2) (ix3 t b k)
  bonus b t k := m ((c : Thread nD τ).loc main_arg3) (ix3 b t k)
  gate b t k := m ((c : Thread nD τ).loc main_arg4) (ix3 b t k)
  yb b t k := m ((c : Thread nD τ).loc main_arg5) (ix3 b t k)
  ga b t n := m ((c : Thread nD τ).loc main_arg6) (ix3 b t n)
  gb b t n := m ((c : Thread nD τ).loc main_arg7) (ix3 b t n)
  gw k := m ((c : Thread nD τ).loc main_arg8) (ix2 0 k)
  gs k := m ((c : Thread nD τ).loc main_arg9) (ix2 0 k)
  nw n := m ((c : Thread nD τ).loc main_arg10) (ix2 0 n)
  wa k n := m ((c : Thread nD τ).loc main_arg11) (ix3 0 k n)
  wb k n := m ((c : Thread nD τ).loc main_arg12) (ix3 0 k n)
  wo k n := m ((c : Thread nD τ).loc main_arg13) (ix3 0 k n)

/-! ## Blocks of the arguments -/

theorem blockX_at (q : Fin 64) (b : Fin 16) (t : Fin 32) (n : Fin 1024) :
    ((blocksOf m c q).X (ix3 b t n) : EReal) = m ((c : Thread nD τ).loc main_arg0) (ix3 b ⟨32 * q.val + t.val, by omega⟩ n) := by
  show (V m c main_arg0 ((rowsAt q).emb (ix3 b t n)) : EReal) = _
  rw [V_main_arg0]
  refine congrArg (fun i => (m ((c : Thread nD τ).loc main_arg0) : S16x2048x1024.Idx → EReal) i) (funext fun a => Fin.ext ?_)
  match a with
  | 0 => show 0 + 1 * b.val = b.val; omega
  | 1 => show 32 * q.val + 1 * t.val = 32 * q.val + t.val; omega
  | 2 => show 0 + 1 * n.val = n.val; omega
theorem blockP_at (q : Fin 64) (b : Fin 16) (t : Fin 32) (n : Fin 512) :
    ((blocksOf m c q).P (ix3 b t n) : EReal) = m ((c : Thread nD τ).loc main_arg3) (ix3 b ⟨32 * q.val + t.val, by omega⟩ n) := by
  show (V m c main_arg3 ((rowsAt' q).emb (ix3 b t n)) : EReal) = _
  rw [V_main_arg3]
  refine congrArg (fun i => (m ((c : Thread nD τ).loc main_arg3) : S16x2048x512.Idx → EReal) i) (funext fun a => Fin.ext ?_)
  match a with
  | 0 => show 0 + 1 * b.val = b.val; omega
  | 1 => show 32 * q.val + 1 * t.val = 32 * q.val + t.val; omega
  | 2 => show 0 + 1 * n.val = n.val; omega
theorem blockG_at (q : Fin 64) (b : Fin 16) (t : Fin 32) (n : Fin 512) :
    ((blocksOf m c q).G (ix3 b t n) : EReal) = m ((c : Thread nD τ).loc main_arg4) (ix3 b ⟨32 * q.val + t.val, by omega⟩ n) := by
  show (V m c main_arg4 ((rowsAt' q).emb (ix3 b t n)) : EReal) = _
  rw [V_main_arg4]
  refine congrArg (fun i => (m ((c : Thread nD τ).loc main_arg4) : S16x2048x512.Idx → EReal) i) (funext fun a => Fin.ext ?_)
  match a with
  | 0 => show 0 + 1 * b.val = b.val; omega
  | 1 => show 32 * q.val + 1 * t.val = 32 * q.val + t.val; omega
  | 2 => show 0 + 1 * n.val = n.val; omega
theorem blockZ_at (q : Fin 64) (b : Fin 16) (t : Fin 32) (n : Fin 512) :
    ((blocksOf m c q).Z (ix3 b t n) : EReal) = m ((c : Thread nD τ).loc main_arg5) (ix3 b ⟨32 * q.val + t.val, by omega⟩ n) := by
  show (V m c main_arg5 ((rowsAt' q).emb (ix3 b t n)) : EReal) = _
  rw [V_main_arg5]
  refine congrArg (fun i => (m ((c : Thread nD τ).loc main_arg5) : S16x2048x512.Idx → EReal) i) (funext fun a => Fin.ext ?_)
  match a with
  | 0 => show 0 + 1 * b.val = b.val; omega
  | 1 => show 32 * q.val + 1 * t.val = 32 * q.val + t.val; omega
  | 2 => show 0 + 1 * n.val = n.val; omega
theorem blockM_at (q : Fin 64) (b : Fin 16) (t : Fin 32) (n : Fin 1024) :
    ((blocksOf m c q).M (ix3 b t n) : EReal) = m ((c : Thread nD τ).loc main_arg6) (ix3 b ⟨32 * q.val + t.val, by omega⟩ n) := by
  show (V m c main_arg6 ((rowsAt q).emb (ix3 b t n)) : EReal) = _
  rw [V_main_arg6]
  refine congrArg (fun i => (m ((c : Thread nD τ).loc main_arg6) : S16x2048x1024.Idx → EReal) i) (funext fun a => Fin.ext ?_)
  match a with
  | 0 => show 0 + 1 * b.val = b.val; omega
  | 1 => show 32 * q.val + 1 * t.val = 32 * q.val + t.val; omega
  | 2 => show 0 + 1 * n.val = n.val; omega
theorem blockN_at (q : Fin 64) (b : Fin 16) (t : Fin 32) (n : Fin 1024) :
    ((blocksOf m c q).N (ix3 b t n) : EReal) = m ((c : Thread nD τ).loc main_arg7) (ix3 b ⟨32 * q.val + t.val, by omega⟩ n) := by
  show (V m c main_arg7 ((rowsAt q).emb (ix3 b t n)) : EReal) = _
  rw [V_main_arg7]
  refine congrArg (fun i => (m ((c : Thread nD τ).loc main_arg7) : S16x2048x1024.Idx → EReal) i) (funext fun a => Fin.ext ?_)
  match a with
  | 0 => show 0 + 1 * b.val = b.val; omega
  | 1 => show 32 * q.val + 1 * t.val = 32 * q.val + t.val; omega
  | 2 => show 0 + 1 * n.val = n.val; omega
theorem blockY_at (q : Fin 64) (t : Fin 32) (b : Fin 16) (n : Fin 512) :
    ((blocksOf m c q).Y (ix3 t b n) : EReal) = m ((c : Thread nD τ).loc main_arg2) (ix3 ⟨32 * q.val + t.val, by omega⟩ b n) := by
  show (V m c main_arg2 ((stepsAt q).emb (ix3 t b n)) : EReal) = _
  rw [V_main_arg2]
  refine congrArg (fun i => (m ((c : Thread nD τ).loc main_arg2) : S2048x16x512.Idx → EReal) i) (funext fun a => Fin.ext ?_)
  match a with
  | 0 => show 32 * q.val + 1 * t.val = 32 * q.val + t.val; omega
  | 1 => show 0 + 1 * b.val = b.val; omega
  | 2 => show 0 + 1 * n.val = n.val; omega

/-! ## The arrays that stay -/

theorem modulation_at (q : Fin 6) (b : Fin 16) (t : Fin 8) (n : Fin 1024) (j : Fin 6144) (hj : j.val = 1024 * q.val + n.val) :
    ((resident m c).f7 (ix4 q b t n) : EReal) = (args m c).md b j := by
  have e : (⟨1024 * q.val + n.val, by omega⟩ : Fin 6144) = j := Fin.ext hj.symm
  exact ((congrFun (resident_f7 m c) _).trans (entry_f7 m c q b t n)).trans (congrArg ((args m c).md b) e)
theorem gainRow_at (k : Fin 512) : ((resident m c).f8 (ix2 0 k) : EReal) = (args m c).gw k :=
  (congrFun (resident_f8 m c) _).trans (entry_gain m c k)
theorem shiftRow_at (k : Fin 512) : ((resident m c).f8 (ix2 1 k) : EReal) = (args m c).gs k :=
  (congrFun (resident_f8 m c) _).trans (entry_shift m c k)
theorem normGain_at (n : Fin 1024) : ((resident m c).f9 (ix2 0 n) : EReal) = (args m c).nw n :=
  (congrFun (resident_f9 m c) _).trans (entry_f9 m c n)
theorem weightA_at (k : Fin 512) (n : Fin 1024) : ((resident m c).f10 (ix2 k n) : EReal) = (args m c).wa k n :=
  (congrFun (resident_f10 m c) _).trans (entry_f10 m c k n)
theorem weightB_at (k : Fin 512) (n : Fin 1024) : ((resident m c).f11 (ix2 k n) : EReal) = (args m c).wb k n :=
  (congrFun (resident_f11 m c) _).trans (entry_f11 m c k n)
theorem weightO_at (k n : Fin 1024) : ((resident m c).f12 (ix2 k n) : EReal) = (args m c).wo k n :=
  (congrFun (resident_f12 m c) _).trans (entry_f12 m c k n)

theorem picks_of (f : S2x128x128.Idx → EReal) (hf : ∀ r s : Fin 128, f (ix3 1 r s) = if s.val = r.val % 8 * 16 + r.val / 8 then 1 else 0) :
    Picks (perm2 (F := Ideal) f) := by
  intro r s
  have h : (VecWindow.window (s := S2x128x128) f ![1, 0, 0] S1x128x128.size (by decide) (ix3 0 r s) : EReal) = f (ix3 1 r s) :=
    window_at f _ _ _ _ _ fun a => by
      match a with
      | 0 => rfl
      | 1 => show 0 + 1 * r.val = r.val; omega
      | 2 => show 0 + 1 * s.val = s.val; omega
  rw [← hf, ← h]
  unfold perm2
  generalize VecWindow.window (s := S2x128x128) f ![1, 0, 0] S1x128x128.size (by decide) = w
  pointwise [k0_pay1]
/-- The second permutation matrix picks. -/
theorem picks : Picks (perm2 (F := Ideal) (resident m c).f13) :=
  picks_of _ fun r s => (congrFun (resident_f13 m c) _).trans (entry_perm m c r s)

/-! ## The results -/

theorem gather_at {α : Type} (D : Fin 64 → S16x32x1024.Idx → α) (b : Fin 16) (t : Fin 2048) (n : Fin 1024) :
    gather D (ix3 b t n) = D ⟨t.val / 32, by omega⟩ (ix3 b ⟨t.val % 32, by omega⟩ n) := by
  unfold gather
  refine congrArg (D _) (funext fun a => ?_)
  match a with
  | 0 => rfl
  | 1 => rfl
  | 2 => rfl

variable (hy : ∀ t b k, (args m c).yn t b k ≠ ⊤)
include hy

/-- A block of the first result. -/
theorem hBlk_args (q : Fin 64) (b : Fin 16) (t : Fin 32) (n : Fin 1024) (T : Fin 2048) (hT : T.val = 32 * q.val + t.val) :
    (hBlk (resident m c) (blocksOf m c q) (ix3 b t n) : EReal) = (args m c).h b T n := by
  have hY : ∀ i, ((blocksOf m c q).Y : S32x16x512.Idx → EReal) i ≠ ⊤ := by
    intro i
    obtain ⟨t', b', k', rfl⟩ : ∃ (t' : Fin 32) (b' : Fin 16) (k' : Fin 512), i = ix3 t' b' k' := ⟨i 0, i 1, i 2, eq_ix3 i⟩
    exact fun h => hy _ _ _ ((blockY_at m c q t' b' k').symm.trans h)
  have e : (⟨32 * q.val + t.val, by omega⟩ : Fin 2048) = T := Fin.ext hT.symm
  rw [hBlk_at, rowsH_at, modulation_at m c 2 b _ n ⟨2048 + n.val, by omega⟩ rfl]
  simp only [branchA_at _ _ (picks m c) hY, blockX_at, blockY_at, blockP_at, blockG_at, blockZ_at, blockM_at, blockN_at,
    gainRow_at, shiftRow_at, weightA_at, weightB_at, weightO_at, e]
  rfl

/-- The first result. -/
theorem firstOut_at (b : Fin 16) (t : Fin 2048) (n : Fin 1024) :
    (firstOut m c (ix3 b t n) : EReal) = (args m c).h b t n := by
  unfold firstOut
  rw [gather_at]
  exact hBlk_args m c hy _ b _ n t (by show t.val = 32 * (t.val / 32) + t.val % 32; omega)

/-- The second result. -/
theorem secondOut_at (b : Fin 16) (t : Fin 2048) (n : Fin 1024) :
    (secondOut m c (ix3 b t n) : EReal) = (args m c).u b t n := by
  unfold secondOut
  rw [gather_at, uBlk_at, modulation_at m c 4 b _ n ⟨4096 + n.val, by omega⟩ rfl, modulation_at m c 3 b _ n ⟨3072 + n.val, by omega⟩ rfl, normGain_at]
  have h (k : Fin 1024) := hBlk_args m c hy ⟨t.val / 32, by omega⟩ b ⟨t.val % 32, by omega⟩ k t (by show t.val = 32 * (t.val / 32) + t.val % 32; omega)
  simp only [h]
  rfl

end Cert.KernelIdeal.Hand

end
-- ==== Proof.Reference.lean ====
module
public import proofs.«01_k».proof.Proof.Rows
public import proofs.«01_k».proof.Proof.Gen.ReferenceIdeal
public import proofs.«01_k».proof.Proof.Gen.ReferenceIdeal.Run
public import Idealize.ShloMosaic.Lib.Tactic.CleanTypes

/-!
# What the plain mathematics leaves, as the formula

The two results of the reference, read at an index, are the merge's formula of
the reference's arguments. Two things differ from the formula: the reference
spells the logistic function out, and it multiplies by the norm's gain and by
the modulation's scale one after the other.
-/

@[expose] public section

set_option maxRecDepth 16384

noncomputable section

namespace Cert.ReferenceIdeal.Hand

open Cert.ReferenceIdeal Cert.ReferenceIdeal.Gen Idealize.SL.Sem
open Idealize.ShloMosaic Idealize.ShloMosaic.TcCoe

variable (m : (ℓ : Loc nD τ sig) → Buf (Elt Ideal) ℓ) (c : Dev nD)

/-- The reference's arguments, as functions of their coordinates. -/
def args : Merge.Args where
  x b t n := m ((c : Thread nD τ).loc main_arg0) (ix3 b t n)
  md b n := m ((c : Thread nD τ).loc main_arg1) (ix2 b n)
  yn t b k := m ((c : Thread nD τ).loc main_arg2) (ix3 t b k)
  bonus b t k := m ((c : Thread nD τ).loc main_arg3) (ix3 b t k)
  gate b t k := m ((c : Thread nD τ).loc main_arg4) (ix3 b t k)
  yb b t k := m ((c : Thread nD τ).loc main_arg5) (ix3 b t k)
  ga b t n := m ((c : Thread nD τ).loc main_arg6) (ix3 b t n)
  gb b t n := m ((c : Thread nD τ).loc main_arg7) (ix3 b t n)
  gw k := m ((c : Thread nD τ).loc main_arg8) (ix2 0 k)
  gs k := m ((c : Thread nD τ).loc main_arg9) (ix2 0 k)
  nw n := m ((c : Thread nD τ).loc main_arg10) (ix2 0 n)
  wa k n := m ((c : Thread nD τ).loc main_arg11) (ix3 0 k n)
  wb k n := m ((c : Thread nD τ).loc main_arg12) (ix3 0 k n)
  wo k n := m ((c : Thread nD τ).loc main_arg13) (ix3 0 k n)

/-- The first result. -/
def first (c : Dev nD) : S16x2048x1024.Idx → EReal := fun i => (args m c).h (i 0) (i 1) (i 2)
/-- The second result. -/
def second (c : Dev nD) : S16x2048x1024.Idx → EReal := fun i => (args m c).u (i 0) (i 1) (i 2)

set_option maxHeartbeats 2000000 in
theorem second_eq : (Value.res_main_v67 (F := Ideal) m c : S16x2048x1024.Idx → EReal) = second m c := by
  funext i
  obtain ⟨b, t, n, rfl⟩ : ∃ (b : Fin 16) (t : Fin 2048) (n : Fin 1024), i = ix3 b t n := ⟨i 0, i 1, i 2, eq_ix3 i⟩
  have h : second m c (ix3 b t n) = (args m c).h b t n * (args m c).inv b t * (args m c).nw n * (1 + (args m c).md b ⟨4096 + n.val, by omega⟩)
      + (args m c).md b ⟨3072 + n.val, by omega⟩ := by
    rw [mul_assoc ((args m c).h b t n * (args m c).inv b t)]
    rfl
  rw [h]
  unfold Value.res_main_v67
  clean_types
  pointwise
  rfl

set_option maxHeartbeats 2000000 in
/-- The reference runs, and leaves the two results. -/
theorem run_values (ρ : Dev nD → PrngReg) :
    θ_run defs (onTc (τ := τ) (main (F := Ideal))) ⟨m, fun _ => 0, ρ⟩ (fun r => ∀ c : Dev nD,
      (r.2.mem ((c : Thread nD τ).loc main_v46) : S16x2048x1024.Idx → EReal) = first m c
      ∧ (r.2.mem ((c : Thread nD τ).loc main_v67) : S16x2048x1024.Idx → EReal) = second m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) ∧ r.2.mem ((c : Thread nD τ).loc main_arg12) = m ((c : Thread nD τ).loc main_arg12) ∧ r.2.mem ((c : Thread nD τ).loc main_arg13) = m ((c : Thread nD τ).loc main_arg13)) :=
  (θ_run defs _ _).mono (fun r h c => ⟨(h c).1.trans (by
      funext i
      obtain ⟨b, t, n, rfl⟩ : ∃ (b : Fin 16) (t : Fin 2048) (n : Fin 1024), i = ix3 b t n := ⟨i 0, i 1, i 2, eq_ix3 i⟩
      clean_types
      pointwise
      rfl), (h c).2.1.trans (second_eq m c), (h c).2.2⟩) (Value.run (F := Ideal) m ρ)

end Cert.ReferenceIdeal.Hand

end
-- ==== Proof.Equation.lean ====
module
public import proofs.«01_k».proof.Defs
public import proofs.«01_k».proof.Proof.Whole
public import proofs.«01_k».proof.Proof.Reference

/-!
# The two programs' results are one formula

On arguments that agree and that hold no `+∞` in the scan's output, the kernel's
two results and the reference's two results are the same arrays.
-/

@[expose] public section

noncomputable section

namespace Cert.Proof

open Idealize.ShloMosaic Idealize.SL.Sem

/-- The shape relation the precondition's text states. -/
theorem pre_facts : Cert.Pre_yn_below_infinity.Facts := ⟨by decide⟩

/-- A value the ordered comparison puts below the word of `+∞` is not `+∞`. -/
theorem ne_top_of_olt (x : EReal) (h : FloatOps.cmpf (F := Ideal) (φ := .f32) .olt x (FloatOps.ofBits (F := Ideal) .f32 0x7F800000#32) = 1#1) : x ≠ ⊤ := by
  have ht : (FloatOps.ofBits (F := Ideal) .f32 0x7F800000#32 : EReal) = ⊤ := by
    show Ideal.ofBits .f32 0x7F800000#32 = ⊤
    simp [Ideal.ofBits, Ideal.ieee]
  rintro rfl
  rw [ht] at h
  revert h
  show ¬ (Ideal.cmp .olt (⊤ : EReal) ⊤ = 1#1)
  simp [Ideal.cmp]

/-- The precondition, read at an index: no entry of the scan's output is `+∞`. -/
theorem yn_ne_top (m : (ℓ : Loc Cert.KernelIdeal.nD Cert.KernelIdeal.τ Cert.KernelIdeal.sig) → Buf (Elt Ideal) ℓ)
    (hp : Cert.Pre_KernelIdeal_yn_below_infinity (hPre_yn_below_infinity := pre_facts) m) (c : Dev Cert.KernelIdeal.nD) (t : Fin 2048) (b : Fin 16) (k : Fin 512) :
    (Cert.KernelIdeal.Hand.args m c).yn t b k ≠ ⊤ :=
  ne_top_of_olt _ (congrFun (hp c) (ix3 t b k))

/-- Arguments that agree are the same arguments of the formula. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Hand.args m' c = Cert.KernelIdeal.Hand.args m c := by
  obtain ⟨h0, h1, h2, h3, h4, h5, h6, h7, h8, h9, h10, h11, h12, h13⟩ := h
  have e0 : (Cert.ReferenceIdeal.Hand.args m' c).x = (Cert.KernelIdeal.Hand.args m c).x := by
    funext b t n; exact congrFun h0 (ix3 b t n)
  have e1 : (Cert.ReferenceIdeal.Hand.args m' c).md = (Cert.KernelIdeal.Hand.args m c).md := by
    funext b n; exact congrFun h1 (ix2 b n)
  have e2 : (Cert.ReferenceIdeal.Hand.args m' c).yn = (Cert.KernelIdeal.Hand.args m c).yn := by
    funext t b k; exact congrFun h2 (ix3 t b k)
  have e3 : (Cert.ReferenceIdeal.Hand.args m' c).bonus = (Cert.KernelIdeal.Hand.args m c).bonus := by
    funext b t k; exact congrFun h3 (ix3 b t k)
  have e4 : (Cert.ReferenceIdeal.Hand.args m' c).gate = (Cert.KernelIdeal.Hand.args m c).gate := by
    funext b t k; exact congrFun h4 (ix3 b t k)
  have e5 : (Cert.ReferenceIdeal.Hand.args m' c).yb = (Cert.KernelIdeal.Hand.args m c).yb := by
    funext b t k; exact congrFun h5 (ix3 b t k)
  have e6 : (Cert.ReferenceIdeal.Hand.args m' c).ga = (Cert.KernelIdeal.Hand.args m c).ga := by
    funext b t n; exact congrFun h6 (ix3 b t n)
  have e7 : (Cert.ReferenceIdeal.Hand.args m' c).gb = (Cert.KernelIdeal.Hand.args m c).gb := by
    funext b t n; exact congrFun h7 (ix3 b t n)
  have e8 : (Cert.ReferenceIdeal.Hand.args m' c).gw = (Cert.KernelIdeal.Hand.args m c).gw := by
    funext k; exact congrFun h8 (ix2 0 k)
  have e9 : (Cert.ReferenceIdeal.Hand.args m' c).gs = (Cert.KernelIdeal.Hand.args m c).gs := by
    funext k; exact congrFun h9 (ix2 0 k)
  have e10 : (Cert.ReferenceIdeal.Hand.args m' c).nw = (Cert.KernelIdeal.Hand.args m c).nw := by
    funext n; exact congrFun h10 (ix2 0 n)
  have e11 : (Cert.ReferenceIdeal.Hand.args m' c).wa = (Cert.KernelIdeal.Hand.args m c).wa := by
    funext k n; exact congrFun h11 (ix3 0 k n)
  have e12 : (Cert.ReferenceIdeal.Hand.args m' c).wb = (Cert.KernelIdeal.Hand.args m c).wb := by
    funext k n; exact congrFun h12 (ix3 0 k n)
  have e13 : (Cert.ReferenceIdeal.Hand.args m' c).wo = (Cert.KernelIdeal.Hand.args m c).wo := by
    funext k n; exact congrFun h13 (ix3 0 k n)
  cases hr : Cert.ReferenceIdeal.Hand.args m' c
  cases hk : Cert.KernelIdeal.Hand.args m c
  rw [hr, hk] at e0 e1 e2 e3 e4 e5 e6 e7 e8 e9 e10 e11 e12 e13
  congr

/-- The reference's first result is the kernel's. -/
theorem first_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hy : ∀ t b k, (Cert.KernelIdeal.Hand.args m c).yn t b k ≠ ⊤) (h : Cert.ReferenceIdeal.Hand.args m' c = Cert.KernelIdeal.Hand.args m c) :
    Cert.ReferenceIdeal.Hand.first m' c = Cert.KernelIdeal.Hand.firstOut m c := by
  funext i
  obtain ⟨b, t, n, rfl⟩ : ∃ (b : Fin 16) (t : Fin 2048) (n : Fin 1024), i = ix3 b t n := ⟨i 0, i 1, i 2, eq_ix3 i⟩
  refine Eq.trans ?_ (Cert.KernelIdeal.Hand.firstOut_at m c hy b t n).symm
  show (Cert.ReferenceIdeal.Hand.args m' c).h b t n = _
  rw [h]

/-- The reference's second result is the kernel's. -/
theorem second_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hy : ∀ t b k, (Cert.KernelIdeal.Hand.args m c).yn t b k ≠ ⊤) (h : Cert.ReferenceIdeal.Hand.args m' c = Cert.KernelIdeal.Hand.args m c) :
    Cert.ReferenceIdeal.Hand.second m' c = Cert.KernelIdeal.Hand.secondOut m c := by
  funext i
  obtain ⟨b, t, n, rfl⟩ : ∃ (b : Fin 16) (t : Fin 2048) (n : Fin 1024), i = ix3 b t n := ⟨i 0, i 1, i 2, eq_ix3 i⟩
  refine Eq.trans ?_ (Cert.KernelIdeal.Hand.secondOut_at m c hy b t n).symm
  show (Cert.ReferenceIdeal.Hand.args m' c).u b t n = _
  rw [h]

end Cert.Proof

end
-- ==== Proof.FfnRows.lean ====
module
public import Idealize.ShloMosaic.Lib.Pointwise

/-!
# The feed-forward part, as a formula

The convolution-gated feed-forward part and the final norm written as functions
of a batch row, a time step and a column, over the extended reals. Both programs
are read as these functions.
-/

@[expose] public section

noncomputable section

namespace Cert.Ffn

open Idealize.ShloMosaic

/-- The arguments: `h` is the residual, `u` the normalised input, `md` the six modulation rows one after the other, `wu`
    the up projection (gate columns, then value columns), `cw` and `cb` the convolution's taps and shift, `wd` the down
    projection and `fg` the final norm's gain. -/
structure Args where
  h : Fin 16 → Fin 2048 → Fin 1024 → EReal
  u : Fin 16 → Fin 2048 → Fin 1024 → EReal
  md : Fin 16 → Fin 6144 → EReal
  wu : Fin 1024 → Fin 5632 → EReal
  cw : Fin 3 → Fin 2816 → EReal
  cb : Fin 2816 → EReal
  wd : Fin 2816 → Fin 1024 → EReal
  fg : Fin 1024 → EReal

variable (A : Args) (b : Fin 16) (s : Fin 2048)

/-- The gate's projection. -/
def Args.gate (s : Fin 2048) (j : Fin 2816) : EReal := ∑ k, A.u b s k * A.wu k ⟨j.val, by omega⟩
/-- The value's projection. -/
def Args.val (j : Fin 2816) : EReal := ∑ k, A.u b s k * A.wu k ⟨2816 + j.val, by omega⟩
/-- The gate's projection `d` steps earlier, and zero before the sequence begins. -/
def Args.earlier (d : ℕ) (j : Fin 2816) : EReal := if d ≤ s.val then A.gate b ⟨s.val - d, by omega⟩ j else 0
/-- The convolution over the last three steps. -/
def Args.conv (j : Fin 2816) : EReal :=
  A.cw 0 j * A.earlier b s 2 j + A.cw 1 j * A.earlier b s 1 j + A.cw 2 j * A.gate b s j + A.cb j
/-- The gated value. -/
def Args.act (j : Fin 2816) : EReal := A.conv b s j * Ideal.logistic (A.conv b s j) * A.val b s j
/-- The residual with the gated update added. -/
def Args.y (n : Fin 1024) : EReal := A.h b s n + A.md b ⟨5120 + n.val, by omega⟩ * ∑ j, A.act b s j * A.wd j n
/-- The result: that sum normalised. -/
def Args.out (n : Fin 1024) : EReal :=
  A.y b s n * Ideal.rsqrt (Ideal.div (∑ k, A.y b s k * A.y b s k) (Ideal.ofBits .f32 0x44800000#32) + Ideal.ofBits .f32 0x358637BD#32)
    * A.fg n

end Cert.Ffn

end
-- ==== Proof.FfnTile.lean ====
module
public import proofs.«01_k».proof.Proof.Gen.Kernel2Ideal.Value
public import Idealize.ShloMosaic.Lib.Pointwise
public import Idealize.ShloMosaic.Lib.Claim
public import Idealize.ShloMosaic.Lib.Pipeline.ValueKit.Tiles
public import Idealize.ShloMosaic.Lib.Pipeline.ReadBack

/-!
# The feed-forward's payloads at an index

The body computes eleven chunks of 256 columns, each by the same operations. They
are read here at an index, once for every chunk, over the extended reals.
-/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.SL.Sem

/-- A number times its logistic. -/
def silu (z : EReal) : EReal := z * Ideal.logistic z

/-- A column of a tile one row back; before its first row lies `p7`. -/
def before1 (g : Fin 512 → EReal) (p7 : EReal) (r : Fin 512) : EReal :=
  if r.val = 0 then p7 else g ⟨(r.val + 512 - 1) % 512, Nat.mod_lt _ (by decide)⟩
/-- A column of a tile two rows back; before its first row lie `p6` and `p7`. -/
def before2 (g : Fin 512 → EReal) (p7 p6 : EReal) (r : Fin 512) : EReal :=
  if r.val = 0 then p6 else if r.val = 1 then p7 else g ⟨(r.val + 512 - 2) % 512, Nat.mod_lt _ (by decide)⟩

/-- A choice by whether a row's number is a given one. -/
theorem select_row (r : Fin 512) (k : ℕ) (hk : k < 512) (x y : EReal) :
    Scalar.select (IntOp.cmpi CmpIPredicate.eq (BitVec.ofNat 32 r.val) (BitVec.ofNat 32 k)) x y = if r.val = k then x else y := by
  have hr := r.isLt
  have e : (BitVec.ofNat 32 r.val == BitVec.ofNat 32 k) = decide (r.val = k) := by
    rw [Bool.eq_iff_iff]
    simp only [beq_iff_eq, decide_eq_true_eq]
    constructor
    · intro h
      have h2 := congrArg BitVec.toNat h
      simp only [BitVec.toNat_ofNat] at h2
      omega
    · intro h; rw [h]
  by_cases h : r.val = k
  · simp [h, Scalar.select, IntOp.cmpi]
  · simp [h, e, Scalar.select, IntOp.cmpi]

/-- A chunk's product. -/
theorem gate_at (x1 : Vec Ideal S512x1024 .bf16) (w : Vec Ideal S1024x256 .bf16) (r : Fin 512) (j : Fin 256) :
    (k0_pay4 x1 w : S512x256.Idx → EReal) (ix2 r j) = ∑ k : Fin 1024, (x1 (ix2 r k) : EReal) * w (ix2 k j) := by
  pointwise [k0_pay4, k0_pay3]

/-- A chunk's last eight rows. -/
theorem tail_at (g : FVec Ideal S512x256 .f32) (r : Fin 8) (j : Fin 256) :
    (k0_pay10 g : S8x256.Idx → EReal) (ix2 r j) = g (ix2 ⟨504 + r.val, by omega⟩ j) := by
  pointwise [k0_pay10]

/-- A chunk's activations. -/
theorem chunk_at (g v : FVec Ideal S512x256 .f32) (b7 b6 w0 w1 w2 cb : Vec Ideal S1x256 .f32) (r : Fin 512) (j : Fin 256) :
    (k0_pay12 v (k0_pay11 (iota Kind.tc S512x256 32 [0] iota_S512x256_d0_w32) g b7 b6 w0 w1 w2) cb : S512x256.Idx → EReal) (ix2 r j)
      = silu ((w0 (ix2 0 j) : EReal) * before2 (fun s => g (ix2 s j)) (b7 (ix2 0 j)) (b6 (ix2 0 j)) r
          + w1 (ix2 0 j) * before1 (fun s => g (ix2 s j)) (b7 (ix2 0 j)) r + w2 (ix2 0 j) * g (ix2 r j) + cb (ix2 0 j)) * v (ix2 r j) := by
  unfold k0_pay12 k0_pay11
  pointwise
  rw [select_row r 0 (by decide), select_row r 1 (by decide), select_row r 0 (by decide)]
  rfl

/-- The result of a tile from its activations. -/
theorem out_at (act : Vec Ideal S512x2816 .bf16) (x6 : Vec Ideal S2816x1024 .bf16) (x0 : Vec Ideal S512x1024 .f32) (md : Vec Ideal S1x1x1024 .f32)
    (x7 : Vec Ideal S1x1024 .f32) (r : Fin 512) (n : Fin 1024)
    (y : Fin 1024 → EReal) (hy : ∀ n, y n = x0 (ix2 r n) + md (ix3 0 0 n) * ∑ j : Fin 2816, (act (ix2 r j) : EReal) * x6 (ix2 j n)) :
    (k0_pay1 (k0_pay72 act x6) (k0_pay73 x0) (k0_pay74 md) x7 : S512x1024.Idx → EReal) (ix2 r n)
      = y n * Ideal.rsqrt (Ideal.div (∑ k, y k * y k) (Ideal.ofBits .f32 0x44800000#32) + Ideal.ofBits .f32 0x358637BD#32) * x7 (ix2 0 n) := by
  pointwise [k0_pay1, k0_pay72, k0_pay73, k0_pay74]
  simp only [← hy]

/-! ## A tile, from the contents of its windows -/

/-- The contents of a tile's windows and of the carried rows. -/
structure Tile where
  x0 : Vec Ideal S512x1024 .f32
  x1 : Vec Ideal S512x1024 .bf16
  x2 : Vec Ideal S1x6x1024 .f32
  x3 : Vec Ideal S1024x5632 .bf16
  x4 : Vec Ideal S3x2816 .f32
  x5 : Vec Ideal S1x2816 .f32
  x6 : Vec Ideal S2816x1024 .bf16
  x7 : Vec Ideal S1x1024 .f32
  xs : Vec Ideal S8x2816 .f32

variable (T : Tile)

/-- The up product's first half. -/
def Tile.gate (r : Fin 512) (j : Fin 2816) : EReal := ∑ k : Fin 1024, (T.x1 (ix2 r k) : EReal) * T.x3 (ix2 k ⟨j.val, by omega⟩)
/-- The up product's second half. -/
def Tile.val (r : Fin 512) (j : Fin 2816) : EReal := ∑ k : Fin 1024, (T.x1 (ix2 r k) : EReal) * T.x3 (ix2 k ⟨2816 + j.val, by omega⟩)
/-- The convolution. -/
def Tile.conv (r : Fin 512) (j : Fin 2816) : EReal :=
  (T.x4 (ix2 0 j) : EReal) * before2 (fun s => T.gate s j) (T.xs (ix2 7 j)) (T.xs (ix2 6 j)) r
    + T.x4 (ix2 1 j) * before1 (fun s => T.gate s j) (T.xs (ix2 7 j)) r + T.x4 (ix2 2 j) * T.gate r j + T.x5 (ix2 0 j)
/-- The activations. -/
def Tile.act : S512x2816.Idx → EReal := fun i => silu (T.conv (i 0) (i 1)) * T.val (i 0) (i 1)
/-- The rows carried to the next tile. -/
def Tile.tail : S8x2816.Idx → EReal := fun i => T.gate ⟨504 + (i 0).val, by have h : (i 0).val < 8 := (i 0).isLt; omega⟩ (i 1)
/-- The new residual rows. -/
def Tile.y (r : Fin 512) (n : Fin 1024) : EReal := T.x0 (ix2 r n) + T.x2 (ix3 0 5 n) * ∑ j : Fin 2816, T.act (ix2 r j) * T.x6 (ix2 j n)
/-- The result. -/
def Tile.out : S512x1024.Idx → EReal := fun i =>
  T.y (i 0) (i 1) * Ideal.rsqrt (Ideal.div (∑ k, T.y (i 0) k * T.y (i 0) k) (Ideal.ofBits .f32 0x44800000#32) + Ideal.ofBits .f32 0x358637BD#32)
    * T.x7 (ix2 0 (i 1))

/-- A load of a window, at an index. -/
theorem ld2 {α : EltTy → Type} {e : EltTy} {a b a' b' : ℕ} (X : (⟨2, ![a, b]⟩ : Shape).Idx → α e) (o p : ℕ) (inb) (r : Fin a') (j : Fin b')
    (hr : o + r.val < a) (hj : p + j.val < b) :
    View.ld (Val := α) X (Rect.unit (s := ⟨2, ![a, b]⟩) ![o, p] ![a', b'] inb) (ix2 r j) = X (ix2 ⟨o + r.val, hr⟩ ⟨p + j.val, hj⟩) :=
  View.ld_unit_apply_of X _ _ inb _ _ fun c => by
    match c with
    | 0 => rfl
    | 1 => rfl

/-- A chunk's product of loaded blocks: a window of the product's first half. -/
theorem gate_ld (o : ℕ) (i0 i1) (ho : o + 256 ≤ 2816) (r : Fin 512) (j : Fin 256) :
    (k0_pay4 (View.ld T.x1 (Rect.unit ![0, 0] ![512, 1024] i0)) (View.ld T.x3 (Rect.unit ![0, o] ![1024, 256] i1)) : S512x256.Idx → EReal) (ix2 r j)
      = T.gate r ⟨o + j.val, by omega⟩ := by
  rw [gate_at]
  refine Finset.sum_congr rfl fun k _ => ?_
  refine congrArg₂ (· * ·) ((ld2 T.x1 0 0 _ r k (by omega) (by omega)).trans ?_) ((ld2 T.x3 0 o _ k j (by omega) (by omega)).trans ?_)
  · simp only [Nat.zero_add]
  · simp only [Nat.zero_add]

/-- The same of its second half. -/
theorem val_ld (o o' : ℕ) (i0 i1) (ho : o + 256 ≤ 2816) (ho' : o' = 2816 + o) (r : Fin 512) (j : Fin 256) :
    (k0_pay4 (View.ld T.x1 (Rect.unit ![0, 0] ![512, 1024] i0)) (View.ld T.x3 (Rect.unit ![0, o'] ![1024, 256] i1)) : S512x256.Idx → EReal) (ix2 r j)
      = T.val r ⟨o + j.val, by omega⟩ := by
  subst ho'
  rw [gate_at]
  refine Finset.sum_congr rfl fun k _ => ?_
  refine congrArg₂ (· * ·) ((ld2 T.x1 0 0 _ r k (by omega) (by omega)).trans ?_) ((ld2 T.x3 0 (2816 + o) _ k j (by omega) (by omega)).trans ?_)
  · simp only [Nat.zero_add]
  · simp only [Nat.zero_add, Nat.add_assoc]

/-- Where a chunk's index lies. -/
theorem emb2 {a b a' b' : ℕ} (o p : ℕ) (inb) (r : Fin a') (j : Fin b') (hr : o + r.val < a) (hj : p + j.val < b) :
    (Rect.unit (s := ⟨2, ![a, b]⟩) ![o, p] ![a', b'] inb).emb (ix2 r j) = ix2 ⟨o + r.val, hr⟩ ⟨p + j.val, hj⟩ := by
  funext c
  refine Fin.ext ((Rect.idx_unit_val _ _ inb _ c).trans ?_)
  match c with
  | 0 => rfl
  | 1 => rfl

/-- A stored chunk of activations is a window of the tile's activations. -/
theorem act_piece (o o' : ℕ) (i0 i1 i2 i3 i4 i5 i6 i7 i8 i9) (ho : o + 256 ≤ 2816) (ho' : o' = 2816 + o) (x : S512x256.Idx) :
    (k0_pay12 (k0_pay4 (View.ld T.x1 (Rect.unit ![0, 0] ![512, 1024] i0)) (View.ld T.x3 (Rect.unit ![0, o'] ![1024, 256] i1)))
        (k0_pay11 (iota Kind.tc S512x256 32 [0] iota_S512x256_d0_w32)
          (k0_pay4 (View.ld T.x1 (Rect.unit ![0, 0] ![512, 1024] i0)) (View.ld T.x3 (Rect.unit ![0, o] ![1024, 256] i2)))
          (View.ld T.xs (Rect.unit ![7, o] ![1, 256] i3)) (View.ld T.xs (Rect.unit ![6, o] ![1, 256] i4))
          (View.ld T.x4 (Rect.unit ![0, o] ![1, 256] i5)) (View.ld T.x4 (Rect.unit ![1, o] ![1, 256] i6)) (View.ld T.x4 (Rect.unit ![2, o] ![1, 256] i7)))
        (View.ld T.x5 (Rect.unit ![0, o] ![1, 256] i8)) : S512x256.Idx → EReal) x
      = T.act ((Rect.unit (s := S512x2816) ![0, o] ![512, 256] i9).emb x) := by
  obtain ⟨r, j, rfl⟩ : ∃ (r : Fin 512) (j : Fin 256), x = ix2 r j := ⟨x 0, x 1, eq_ix2 x⟩
  rw [chunk_at, emb2 0 o i9 r j (by omega) (by omega), val_ld T o o' i0 i1 ho ho', gate_ld T o i0 i2 ho]
  simp only [gate_ld T o i0 i2 ho]
  rw [show View.ld T.xs (Rect.unit ![7, o] ![1, 256] i3) (ix2 0 j) = T.xs (ix2 7 ⟨o + j.val, by omega⟩) from ld2 T.xs 7 o i3 0 j (by decide) (by omega),
    show View.ld T.xs (Rect.unit ![6, o] ![1, 256] i4) (ix2 0 j) = T.xs (ix2 6 ⟨o + j.val, by omega⟩) from ld2 T.xs 6 o i4 0 j (by decide) (by omega),
    show View.ld T.x4 (Rect.unit ![0, o] ![1, 256] i5) (ix2 0 j) = T.x4 (ix2 0 ⟨o + j.val, by omega⟩) from ld2 T.x4 0 o i5 0 j (by decide) (by omega),
    show View.ld T.x4 (Rect.unit ![1, o] ![1, 256] i6) (ix2 0 j) = T.x4 (ix2 1 ⟨o + j.val, by omega⟩) from ld2 T.x4 1 o i6 0 j (by decide) (by omega),
    show View.ld T.x4 (Rect.unit ![2, o] ![1, 256] i7) (ix2 0 j) = T.x4 (ix2 2 ⟨o + j.val, by omega⟩) from ld2 T.x4 2 o i7 0 j (by decide) (by omega),
    show View.ld T.x5 (Rect.unit ![0, o] ![1, 256] i8) (ix2 0 j) = T.x5 (ix2 0 ⟨o + j.val, by omega⟩) from ld2 T.x5 0 o i8 0 j (by decide) (by omega)]
  have hr : (⟨0 + r.val, by omega⟩ : Fin 512) = r := Fin.ext (Nat.zero_add _)
  rw [hr]
  rfl

/-- A stored chunk of carried rows is a window of the tile's carried rows. -/
theorem tail_piece (o : ℕ) (i0 i1 i2) (ho : o + 256 ≤ 2816) (x : S8x256.Idx) :
    (k0_pay10 (k0_pay4 (View.ld T.x1 (Rect.unit ![0, 0] ![512, 1024] i0)) (View.ld T.x3 (Rect.unit ![0, o] ![1024, 256] i1))) : S8x256.Idx → EReal) x
      = T.tail ((Rect.unit (s := S8x2816) ![0, o] ![8, 256] i2).emb x) := by
  obtain ⟨r, j, rfl⟩ : ∃ (r : Fin 8) (j : Fin 256), x = ix2 r j := ⟨x 0, x 1, eq_ix2 x⟩
  rw [tail_at, gate_ld T o i0 i1 ho, emb2 0 o i2 r j (by omega) (by omega)]
  show _ = T.gate ⟨504 + (0 + r.val), _⟩ _
  simp only [Nat.zero_add]
  rfl

end Cert.Kernel2Ideal.Hand

end
-- ==== Proof.FfnBlock.lean ====
module
public import proofs.«01_k».proof.Proof.FfnTile

/-!
# What a grid point stores

At the first tile of a sequence the carried rows are zeros; at the others they are
what the tile before left. In both cases the point's block of results and the rows
it leaves are the tile's.
-/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.SL.Sem

/-- The pieces' payloads are windows of the tile's activations, so their union is the activations. -/
theorem act_canon (T : Tile) (L : List (View.Piece (Elt Ideal) S512x2816 .bf16)) (h : View.PiecesOf (Val := Elt Ideal) (e := .bf16) T.act L)
    (hc : ∀ y, ∃ p ∈ L, y ∈ p.1.set) : View.canon L = T.act :=
  funext fun y => View.canon_apply_of_pieces (Val := Elt Ideal) (e := .bf16) T.act L h.mem y (hc y)

/-- The eleven chunks of activations read back whole. -/
theorem act_read (T : Tile) (v : View sig .tc .vmem S512x2816 .bf16) (L : List (View.Piece (Elt Ideal) S512x2816 .bf16)) (inb)
    (h : View.PiecesOf (Val := Elt Ideal) (e := .bf16) T.act L) (hc : ∀ y, ∃ p ∈ L, y ∈ p.1.set) :
    (v.readCov L (Rect.unit (s := S512x2816) ![0, 0] ![512, 2816] inb).toLoadRect : S512x2816.Idx → EReal) = T.act :=
  (View.readCov_eq_canon_ld v L (Rect.unit (s := S512x2816) ![0, 0] ![512, 2816] inb) hc).trans
    ((View.ld_unit_zero (S := S512x2816) (funext fun a => by fin_cases a <;> rfl) inb _).trans (act_canon T L h hc))

/-- The eleven chunks of carried rows, over any earlier stores. -/
theorem tail_canon (T : Tile) (L' L : List (View.Piece (Elt Ideal) S8x2816 .f32)) (h : View.PiecesOf (Val := Elt Ideal) (e := .f32) T.tail L)
    (hc : ∀ y, ∃ p ∈ L, y ∈ p.1.set) : View.canon (L ++ L') = T.tail :=
  funext fun y => View.canon_append_of_piecesOf (Val := Elt Ideal) (e := .f32) T.tail L' L h y (hc y)

/-- The result of a tile from loads of its windows. -/
theorem out_ld (T : Tile) (a : Vec Ideal S512x2816 .bf16) (ha : a = T.act) (i6 i0 i2 i7) :
    (k0_pay1 (k0_pay72 a (View.ld T.x6 (Rect.unit ![0, 0] ![2816, 1024] i6))) (k0_pay73 (View.ld T.x0 (Rect.unit ![0, 0] ![512, 1024] i0)))
      (k0_pay74 (View.ld T.x2 (Rect.unit ![0, 5, 0] ![1, 1, 1024] i2))) (View.ld T.x7 (Rect.unit ![0, 0] ![1, 1024] i7)) : S512x1024.Idx → EReal) = T.out := by
  subst ha
  funext i
  obtain ⟨r, n, rfl⟩ : ∃ (r : Fin 512) (n : Fin 1024), i = ix2 r n := ⟨i 0, i 1, eq_ix2 i⟩
  rw [out_at _ _ _ _ _ r n (T.y r)]
  · rw [show View.ld T.x7 (Rect.unit ![0, 0] ![1, 1024] i7) (ix2 0 n) = T.x7 (ix2 0 n) from
      (ld2 T.x7 0 0 i7 0 n (by decide) (by omega)).trans (by simp only [Nat.zero_add])]
    rfl
  · intro k
    rw [show View.ld T.x0 (Rect.unit ![0, 0] ![512, 1024] i0) (ix2 r k) = T.x0 (ix2 r k) from
      (ld2 T.x0 0 0 i0 r k (by omega) (by omega)).trans (by simp only [Nat.zero_add]),
      show View.ld T.x2 (Rect.unit ![0, 5, 0] ![1, 1, 1024] i2) (ix3 0 0 k) = T.x2 (ix3 0 5 k) from
        View.ld_unit_apply_of T.x2 _ _ i2 _ _ (fun c => by
          match c with
          | 0 => rfl
          | 1 => rfl
          | 2 => exact (Nat.zero_add _).symm)]
    refine congrArg (fun z => T.x0 (ix2 r k) + T.x2 (ix3 0 5 k) * z) (Finset.sum_congr rfl fun j _ => congrArg (fun z => T.act (ix2 r j) * z) ?_)
    exact ((ld2 T.x6 0 0 i6 j k (by omega) (by omega)).trans (by simp only [Nat.zero_add])).symm

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x2816 .f32) (harg10 : arg10.IsWhole) (arg11 : Memref sig .tc .vmem S512x2816 .bf16) (harg11 : arg11.IsWhole)

set_option maxHeartbeats 4000000 in
theorem out0_A_8_eq (hc0 : cond0_0 i) (T : Tile) (hxs : T.xs = k0_pay2 (F := Ideal)) :
    (out0_A_8 (F := Ideal) c i arg1 harg1 arg2 harg2 arg3 harg3 arg4 harg4 arg5 harg5 arg6 harg6 arg7 harg7 arg8 harg8 arg9 harg9 arg10 harg10 arg11 harg11 hc0 T.x0 T.x1 T.x2 T.x3 T.x4 T.x5 T.x6 T.x7 : S512x1024.Idx → EReal) = T.out := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 T.x0 T.x1 T.x2 T.x3 T.x4 T.x5 T.x6 T.x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread]
  simp (disch := first | rfl | decide) only [↓View.readCov_skip, ↓View.readCov_fill, ← hxs]
  rw [View.canon_unit_zero (funext fun a => by fin_cases a <;> rfl)]
  refine out_ld T _ ?_ _ _ _ _
  refine act_read T _ _ _ ?_ ?_
  · exact ⟨act_piece T 2560 5376 _ _ _ _ _ _ _ _ _ inb_S512x2816_S512x256_0_2560 (by decide) rfl, act_piece T 2304 5120 _ _ _ _ _ _ _ _ _ inb_S512x2816_S512x256_0_2304 (by decide) rfl, act_piece T 2048 4864 _ _ _ _ _ _ _ _ _ inb_S512x2816_S512x256_0_2048 (by decide) rfl, act_piece T 1792 4608 _ _ _ _ _ _ _ _ _ inb_S512x2816_S512x256_0_1792 (by decide) rfl, act_piece T 1536 4352 _ _ _ _ _ _ _ _ _ inb_S512x2816_S512x256_0_1536 (by decide) rfl, act_piece T 1280 4096 _ _ _ _ _ _ _ _ _ inb_S512x2816_S512x256_0_1280 (by decide) rfl, act_piece T 1024 3840 _ _ _ _ _ _ _ _ _ inb_S512x2816_S512x256_0_1024 (by decide) rfl, act_piece T 768 3584 _ _ _ _ _ _ _ _ _ inb_S512x2816_S512x256_0_768 (by decide) rfl, act_piece T 512 3328 _ _ _ _ _ _ _ _ _ inb_S512x2816_S512x256_0_512 (by decide) rfl, act_piece T 256 3072 _ _ _ _ _ _ _ _ _ inb_S512x2816_S512x256_0_256 (by decide) rfl, act_piece T 0 2816 _ _ _ _ _ _ _ _ _ inb_S512x2816_S512x256_0_0 (by decide) rfl, trivial⟩
  · exact (fun y => View.cover_of_tiledL (s := S512x2816) _ S512x256.size (by sl_kernel_rfl) y)

set_option maxHeartbeats 4000000 in
theorem sout0_A_0_eq (hc0 : cond0_0 i) (T : Tile) (hxs : T.xs = k0_pay2 (F := Ideal)) :
    (sout0_A_0 (F := Ideal) c i arg1 harg1 arg2 harg2 arg3 harg3 arg4 harg4 arg5 harg5 arg6 harg6 arg7 harg7 arg8 harg8 arg9 harg9 arg10 harg10 arg11 harg11 hc0 T.x0 T.x1 T.x2 T.x3 T.x4 T.x5 T.x6 T.x7 : S8x2816.Idx → EReal) = T.tail := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 T.x0 T.x1 T.x2 T.x3 T.x4 T.x5 T.x6 T.x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread]
  refine tail_canon T [_] [_, _, _, _, _, _, _, _, _, _, _] ?_ ?_
  · exact ⟨tail_piece T 2560 _ _ inb_S8x2816_S8x256_0_2560 (by decide), tail_piece T 2304 _ _ inb_S8x2816_S8x256_0_2304 (by decide), tail_piece T 2048 _ _ inb_S8x2816_S8x256_0_2048 (by decide), tail_piece T 1792 _ _ inb_S8x2816_S8x256_0_1792 (by decide), tail_piece T 1536 _ _ inb_S8x2816_S8x256_0_1536 (by decide), tail_piece T 1280 _ _ inb_S8x2816_S8x256_0_1280 (by decide), tail_piece T 1024 _ _ inb_S8x2816_S8x256_0_1024 (by decide), tail_piece T 768 _ _ inb_S8x2816_S8x256_0_768 (by decide), tail_piece T 512 _ _ inb_S8x2816_S8x256_0_512 (by decide), tail_piece T 256 _ _ inb_S8x2816_S8x256_0_256 (by decide), tail_piece T 0 _ _ inb_S8x2816_S8x256_0_0 (by decide), trivial⟩
  · exact (fun y => View.cover_of_tiledL (s := S8x2816) _ S8x256.size (by sl_kernel_rfl) y)

set_option maxHeartbeats 4000000 in
theorem out0_B_8_eq (hc0 : ¬cond0_0 i) (T : Tile)  :
    (out0_B_8 (F := Ideal) c i arg1 harg1 arg2 harg2 arg3 harg3 arg4 harg4 arg5 harg5 arg6 harg6 arg7 harg7 arg8 harg8 arg9 harg9 arg10 harg10 arg11 harg11 hc0 T.x0 T.x1 T.x2 T.x3 T.x4 T.x5 T.x6 T.x7 T.xs : S512x1024.Idx → EReal) = T.out := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 T.x0 T.x1 T.x2 T.x3 T.x4 T.x5 T.x6 T.x7 T.xs)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread]
  rw [View.canon_unit_zero (funext fun a => by fin_cases a <;> rfl)]
  refine out_ld T _ ?_ _ _ _ _
  refine act_read T _ _ _ ?_ ?_
  · exact ⟨act_piece T 2560 5376 _ _ _ _ _ _ _ _ _ inb_S512x2816_S512x256_0_2560 (by decide) rfl, act_piece T 2304 5120 _ _ _ _ _ _ _ _ _ inb_S512x2816_S512x256_0_2304 (by decide) rfl, act_piece T 2048 4864 _ _ _ _ _ _ _ _ _ inb_S512x2816_S512x256_0_2048 (by decide) rfl, act_piece T 1792 4608 _ _ _ _ _ _ _ _ _ inb_S512x2816_S512x256_0_1792 (by decide) rfl, act_piece T 1536 4352 _ _ _ _ _ _ _ _ _ inb_S512x2816_S512x256_0_1536 (by decide) rfl, act_piece T 1280 4096 _ _ _ _ _ _ _ _ _ inb_S512x2816_S512x256_0_1280 (by decide) rfl, act_piece T 1024 3840 _ _ _ _ _ _ _ _ _ inb_S512x2816_S512x256_0_1024 (by decide) rfl, act_piece T 768 3584 _ _ _ _ _ _ _ _ _ inb_S512x2816_S512x256_0_768 (by decide) rfl, act_piece T 512 3328 _ _ _ _ _ _ _ _ _ inb_S512x2816_S512x256_0_512 (by decide) rfl, act_piece T 256 3072 _ _ _ _ _ _ _ _ _ inb_S512x2816_S512x256_0_256 (by decide) rfl, act_piece T 0 2816 _ _ _ _ _ _ _ _ _ inb_S512x2816_S512x256_0_0 (by decide) rfl, trivial⟩
  · exact (fun y => View.cover_of_tiledL (s := S512x2816) _ S512x256.size (by sl_kernel_rfl) y)

set_option maxHeartbeats 4000000 in
theorem sout0_B_0_eq (hc0 : ¬cond0_0 i) (T : Tile)  :
    (sout0_B_0 (F := Ideal) c i arg1 harg1 arg2 harg2 arg3 harg3 arg4 harg4 arg5 harg5 arg6 harg6 arg7 harg7 arg8 harg8 arg9 harg9 arg10 harg10 arg11 harg11 hc0 T.x0 T.x1 T.x2 T.x3 T.x4 T.x5 T.x6 T.x7 T.xs : S8x2816.Idx → EReal) = T.tail := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 T.x0 T.x1 T.x2 T.x3 T.x4 T.x5 T.x6 T.x7 T.xs)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread]
  refine tail_canon T [] [_, _, _, _, _, _, _, _, _, _, _] ?_ ?_
  · exact ⟨tail_piece T 2560 _ _ inb_S8x2816_S8x256_0_2560 (by decide), tail_piece T 2304 _ _ inb_S8x2816_S8x256_0_2304 (by decide), tail_piece T 2048 _ _ inb_S8x2816_S8x256_0_2048 (by decide), tail_piece T 1792 _ _ inb_S8x2816_S8x256_0_1792 (by decide), tail_piece T 1536 _ _ inb_S8x2816_S8x256_0_1536 (by decide), tail_piece T 1280 _ _ inb_S8x2816_S8x256_0_1280 (by decide), tail_piece T 1024 _ _ inb_S8x2816_S8x256_0_1024 (by decide), tail_piece T 768 _ _ inb_S8x2816_S8x256_0_768 (by decide), tail_piece T 512 _ _ inb_S8x2816_S8x256_0_512 (by decide), tail_piece T 256 _ _ inb_S8x2816_S8x256_0_256 (by decide), tail_piece T 0 _ _ inb_S8x2816_S8x256_0_0 (by decide), trivial⟩
  · exact (fun y => View.cover_of_tiledL (s := S8x2816) _ S8x256.size (by sl_kernel_rfl) y)

end Cert.Kernel2Ideal.Hand

end
-- ==== Proof.FfnEntry.lean ====
module
public import proofs.«01_k».proof.Proof.FfnRows
public import proofs.«01_k».proof.Proof.FfnBlock
public import proofs.«01_k».proof.Proof.Gen.Kernel2Ideal.Value
public import Idealize.ShloMosaic.Lib.Pointwise
public import Idealize.ShloMosaic.Lib.StableHlo.ReadAt

/-!
# What a grid point reads

Each of the call's eight operands is an argument laid out anew by the host. A
grid point's block of it, read at an index, is the argument read at the batch row,
the time step and the column that the index stands for.
-/

@[expose] public section

set_option maxRecDepth 16384

noncomputable section

namespace Cert.Kernel2Ideal.Hand

open Cert.Kernel2Ideal Cert.Kernel2Ideal.Gen
open Idealize.ShloMosaic Idealize.ShloMosaic.TcCoe

variable (m : (ℓ : Loc nD τ sig) → Buf (Elt Ideal) ℓ) (c : Dev nD)

/-- The kernel's arguments, as functions of their coordinates. -/
def args : Ffn.Args where
  h b s n := m ((c : Thread nD τ).loc main_arg0) (ix3 b s n)
  u b s k := m ((c : Thread nD τ).loc main_arg1) (ix3 b s k)
  md b n := m ((c : Thread nD τ).loc main_arg2) (ix2 b n)
  wu k j := m ((c : Thread nD τ).loc main_arg3) (ix3 0 k j)
  cw i j := m ((c : Thread nD τ).loc main_arg4) (ix3 0 i j)
  cb j := m ((c : Thread nD τ).loc main_arg5) (ix2 0 j)
  wd j n := m ((c : Thread nD τ).loc main_arg6) (ix3 0 j n)
  fg n := m ((c : Thread nD τ).loc main_arg7) (ix1 n)

theorem entry_h (R : Fin 32768) (n : Fin 1024) : (V m c main_v3 : S32768x1024.Idx → EReal) (ix2 R n) = (args m c).h ⟨R.val / 2048, by omega⟩ ⟨R.val % 2048, by omega⟩ n := by
  unfold V
  simp only [hostOps0, List.flatten_cons, List.flatten_nil, List.append_nil, List.cons_append, List.nil_append]
  after_reads_at
  rfl

theorem entry_u (R : Fin 32768) (n : Fin 1024) : (V m c main_v4 : S32768x1024.Idx → EReal) (ix2 R n) = (args m c).u ⟨R.val / 2048, by omega⟩ ⟨R.val % 2048, by omega⟩ n := by
  unfold V
  simp only [hostOps0, List.flatten_cons, List.flatten_nil, List.append_nil, List.cons_append, List.nil_append]
  after_reads_at
  rfl

theorem entry_md (b : Fin 16) (n : Fin 1024) : (V m c main_v0 : S16x6x1024.Idx → EReal) (ix3 b 5 n) = (args m c).md b ⟨5120 + n.val, by omega⟩ := by
  unfold V
  simp only [hostOps0, List.flatten_cons, List.flatten_nil, List.append_nil, List.cons_append, List.nil_append]
  after_reads_at
  rfl

theorem entry_wu (k : Fin 1024) (j : Fin 5632) : (V m c main_v2 : S1024x5632.Idx → EReal) (ix2 k j) = (args m c).wu k j := by
  unfold V
  simp only [hostOps0, List.flatten_cons, List.flatten_nil, List.append_nil, List.cons_append, List.nil_append]
  after_reads_at
  rfl

theorem entry_cw (k : Fin 3) (j : Fin 2816) : (V m c main_v5 : S3x2816.Idx → EReal) (ix2 k j) = (args m c).cw k j := by
  unfold V
  simp only [hostOps0, List.flatten_cons, List.flatten_nil, List.append_nil, List.cons_append, List.nil_append]
  after_reads_at
  rfl

theorem entry_cb (j : Fin 2816) : (V m c main_v9 : S1x2816.Idx → EReal) (ix2 0 j) = (args m c).cb j := by
  unfold V
  simp only [hostOps0, List.flatten_cons, List.flatten_nil, List.append_nil, List.cons_append, List.nil_append]
  after_reads_at
  rfl

theorem entry_wd (j : Fin 2816) (n : Fin 1024) : (V m c main_v8 : S2816x1024.Idx → EReal) (ix2 j n) = (args m c).wd j n := by
  unfold V
  simp only [hostOps0, List.flatten_cons, List.flatten_nil, List.append_nil, List.cons_append, List.nil_append]
  after_reads_at
  rfl

theorem entry_fg (n : Fin 1024) : (V m c main_v10 : S1x1024.Idx → EReal) (ix2 0 n) = (args m c).fg n := by
  unfold V
  simp only [hostOps0, List.flatten_cons, List.flatten_nil, List.append_nil, List.cons_append, List.nil_append]
  after_reads_at
  rfl

theorem index_rows : ∀ t : Fin cfg0.N, win0_0.index t (0 : Fin 2) = t.val ∧ win0_0.index t (1 : Fin 2) = 0 ∧ win0_1.index t (0 : Fin 2) = t.val ∧ win0_1.index t (1 : Fin 2) = 0
    ∧ win0_2.index t (0 : Fin 3) = t.val / 4 ∧ win0_2.index t (1 : Fin 3) = 0 ∧ win0_2.index t (2 : Fin 3) = 0 :=
  (by decide +kernel : ∀ t : Fin grid0.N, _)

theorem points (t : Fin cfg0.N) : t.val < 64 := lt_of_lt_of_eq t.isLt N_0

theorem blk_0 (t : Fin cfg0.N) (X : S32768x1024.Idx → Elt Ideal .f32) (r : Fin 512) (n : Fin 1024) :
    (((cfg0.win 0).blk t).view.read (Elt Ideal) X : S512x1024.Idx → Elt Ideal .f32) (ix2 r n) = X (ix2 ⟨512 * t.val + r.val, by have := points t; omega⟩ n) := by
  obtain ⟨e0, e1, -⟩ := index_rows t
  refine congrArg X (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * n.val = n.val; omega

theorem blk_1 (t : Fin cfg0.N) (X : S32768x1024.Idx → Elt Ideal .bf16) (r : Fin 512) (n : Fin 1024) :
    (((cfg0.win 1).blk t).view.read (Elt Ideal) X : S512x1024.Idx → Elt Ideal .bf16) (ix2 r n) = X (ix2 ⟨512 * t.val + r.val, by have := points t; omega⟩ n) := by
  obtain ⟨-, -, e0, e1, -⟩ := index_rows t
  refine congrArg X (funext fun a => Fin.ext ?_)
  match a with
  | ⟨0, _⟩ => show win0_1.index t (0 : Fin 2) * 512 + 1 * r.val = 512 * t.val + r.val; omega
  | ⟨1, _⟩ => show win0_1.index t (1 : Fin 2) * 1024 + 1 * n.val = n.val; omega

theorem blk_2 (t : Fin cfg0.N) (X : S16x6x1024.Idx → Elt Ideal .f32) (k : Fin 6) (n : Fin 1024) :
    (((cfg0.win 2).blk t).view.read (Elt Ideal) X : S1x6x1024.Idx → Elt Ideal .f32) (ix3 0 k n) = X (ix3 ⟨t.val / 4, by have := points t; omega⟩ k n) := by
  obtain ⟨-, -, -, -, e0, e1, e2⟩ := index_rows t
  refine congrArg X (funext fun a => Fin.ext ?_)
  match a with
  | ⟨0, _⟩ => show win0_2.index t (0 : Fin 3) * 1 + 1 * 0 = t.val / 4; omega
  | ⟨1, _⟩ => show win0_2.index t (1 : Fin 3) * 6 + 1 * k.val = k.val; omega
  | ⟨2, _⟩ => show win0_2.index t (2 : Fin 3) * 1024 + 1 * n.val = n.val; omega

theorem blk_3 (t : Fin cfg0.N) (X : S1024x5632.Idx → Elt Ideal .bf16) : (((cfg0.win 3).blk t).view.read (Elt Ideal) X : S1024x5632.Idx → Elt Ideal .bf16) = X :=
  Memref.read_access_unit_zero (Elt Ideal) main_v2 (funext fun a => by fin_cases a <;> rfl) (fun a => by fin_cases a <;> exact Nat.le_of_eq rfl) X

theorem blk_4 (t : Fin cfg0.N) (X : S3x2816.Idx → Elt Ideal .f32) : (((cfg0.win 4).blk t).view.read (Elt Ideal) X : S3x2816.Idx → Elt Ideal .f32) = X :=
  Memref.read_access_unit_zero (Elt Ideal) main_v5 (funext fun a => by fin_cases a <;> rfl) (fun a => by fin_cases a <;> exact Nat.le_of_eq rfl) X

theorem blk_5 (t : Fin cfg0.N) (X : S1x2816.Idx → Elt Ideal .f32) : (((cfg0.win 5).blk t).view.read (Elt Ideal) X : S1x2816.Idx → Elt Ideal .f32) = X :=
  Memref.read_access_unit_zero (Elt Ideal) main_v9 (funext fun a => by fin_cases a <;> rfl) (fun a => by fin_cases a <;> exact Nat.le_of_eq rfl) X

theorem blk_6 (t : Fin cfg0.N) (X : S2816x1024.Idx → Elt Ideal .bf16) : (((cfg0.win 6).blk t).view.read (Elt Ideal) X : S2816x1024.Idx → Elt Ideal .bf16) = X :=
  Memref.read_access_unit_zero (Elt Ideal) main_v8 (funext fun a => by fin_cases a <;> rfl) (fun a => by fin_cases a <;> exact Nat.le_of_eq rfl) X

theorem blk_7 (t : Fin cfg0.N) (X : S1x1024.Idx → Elt Ideal .f32) : (((cfg0.win 7).blk t).view.read (Elt Ideal) X : S1x1024.Idx → Elt Ideal .f32) = X :=
  Memref.read_access_unit_zero (Elt Ideal) main_v10 (funext fun a => by fin_cases a <;> rfl) (fun a => by fin_cases a <;> exact Nat.le_of_eq rfl) X

end Cert.Kernel2Ideal.Hand

end
-- ==== Proof.FfnWhole.lean ====
module
public import proofs.«01_k».proof.Proof.FfnEntry

/-!
# The call's result is the formula

A tile's result depends on the two last rows of the gate's projection that the
tile before left, and those rows do not depend on anything carried. So the result
at a row is the formula at the row's place in its sequence.
-/

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- What a grid point computes with, over given carried rows. -/
def tileOf (t : Fin cfg0.N) (xs : Vec Ideal S8x2816 .f32) : Tile where
  x0 := iblk m c 0 t
  x1 := iblk m c 1 t
  x2 := iblk m c 2 t
  x3 := iblk m c 3 t
  x4 := iblk m c 4 t
  x5 := iblk m c 5 t
  x6 := iblk m c 6 t
  x7 := iblk m c 7 t
  xs := xs

/-- The carried rows that a grid point finds: zeros at a sequence's first tile. -/
def found (t : Fin cfg0.N) : Vec Ideal S8x2816 .f32 :=
  if t.val % 4 = 0 then k0_pay2 (F := Ideal) else (outsAt0 m c (t.val - 1) (Nat.lt_of_le_of_lt (Nat.sub_le _ _) t.isLt)).2

/-- What a grid point leaves at a sequence's first tile. -/
theorem point_first (t : Fin cfg0.N) (acc : (S512x1024.Idx → EReal) × (S8x2816.Idx → EReal)) (h0 : t.val % 4 = 0) :
    Value.stAt0 m c t.val t.isLt acc = ((tileOf m c t (k0_pay2 (F := Ideal))).out, (tileOf m c t (k0_pay2 (F := Ideal))).tail) :=
  (Value.stAt0_A m c t acc h0).trans (congrArg₂ Prod.mk (out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ⟨iblk m c 0 t, iblk m c 1 t, iblk m c 2 t, iblk m c 3 t, iblk m c 4 t, iblk m c 5 t, iblk m c 6 t, iblk m c 7 t, k0_pay2 (F := Ideal)⟩ rfl)
      (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ⟨iblk m c 0 t, iblk m c 1 t, iblk m c 2 t, iblk m c 3 t, iblk m c 4 t, iblk m c 5 t, iblk m c 6 t, iblk m c 7 t, k0_pay2 (F := Ideal)⟩ rfl))

set_option maxHeartbeats 2000000 in
/-- What a grid point leaves at another tile, over what the point before left. -/
theorem point_later (t : Fin cfg0.N) (acc : (S512x1024.Idx → EReal) × (S8x2816.Idx → EReal)) (h0 : ¬ t.val % 4 = 0) :
    Value.stAt0 m c t.val t.isLt acc = ((tileOf m c t acc.2).out, (tileOf m c t acc.2).tail) :=
  (Value.stAt0_B m c t acc h0).trans (congrArg₂ Prod.mk (out0_B_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ⟨iblk m c 0 t, iblk m c 1 t, iblk m c 2 t, iblk m c 3 t, iblk m c 4 t, iblk m c 5 t, iblk m c 6 t, iblk m c 7 t, acc.2⟩)
      (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ⟨iblk m c 0 t, iblk m c 1 t, iblk m c 2 t, iblk m c 3 t, iblk m c 4 t, iblk m c 5 t, iblk m c 6 t, iblk m c 7 t, acc.2⟩))

/-- A grid point leaves its step's values, over some earlier ones: those that the point before left, if there is one. -/
theorem point_step (t : Fin cfg0.N) : ∃ acc : (S512x1024.Idx → EReal) × (S8x2816.Idx → EReal),
    (outsAt0 m c t.val t.isLt = Value.stAt0 m c t.val t.isLt acc)
      ∧ (∀ k (hk : k + 1 = t.val), acc = outsAt0 m c k (lt_trans (Nat.lt_of_succ_le hk.le) t.isLt)) := by
  obtain ⟨n, hn⟩ := t
  cases n with
  | zero => exact ⟨Value.junk0 (F := Ideal), Value.outsAt0_zero m c hn, fun k hk => absurd hk (Nat.succ_ne_zero k)⟩
  | succ n =>
    refine ⟨outsAt0 m c n (Nat.lt_of_succ_lt hn), Value.outsAt0_succ m c n hn, fun k hk => ?_⟩
    obtain rfl : k = n := Nat.succ.inj hk
    exact rfl

/-- What a grid point leaves. -/
theorem outsAt0_eq (t : Fin cfg0.N) :
    (outsAt0 m c t.val t.isLt : (S512x1024.Idx → EReal) × (S8x2816.Idx → EReal)) = ((tileOf m c t (found m c t)).out, (tileOf m c t (found m c t)).tail) := by
  obtain ⟨acc, e, ea⟩ := point_step m c t
  by_cases h0 : t.val % 4 = 0
  · have ef : found m c t = k0_pay2 (F := Ideal) := if_pos h0
    exact (e.trans (point_first m c t acc h0)).trans (congrArg (fun X => ((tileOf m c t X).out, (tileOf m c t X).tail)) ef.symm)
  · have ef : found m c t = acc.2 := (if_neg h0).trans (congrArg Prod.snd (ea (t.val - 1) (by omega)).symm)
    exact (e.trans (point_later m c t acc h0)).trans (congrArg (fun X => ((tileOf m c t X).out, (tileOf m c t X).tail)) ef.symm)

variable (t : Fin cfg0.N) (xs : Vec Ideal S8x2816 .f32)

/-- The batch row of a tile, and the time step of a row of it. -/
def bat : Fin 16 := ⟨t.val / 4, by have := points t; omega⟩
@[inherit_doc bat] def step (r : Fin 512) : Fin 2048 := ⟨512 * (t.val % 4) + r.val, by omega⟩

theorem tile_x0 (r : Fin 512) (n : Fin 1024) : ((tileOf m c t xs).x0 (ix2 r n) : EReal) = (args m c).h (bat t) (step t r) n := by
  refine (blk_0 t (V m c main_v3) r n).trans ((entry_h m c _ n).trans ?_)
  exact congrArg₂ (fun b s => (args m c).h b s n) (Fin.ext (by show (512 * t.val + r.val) / 2048 = t.val / 4; omega))
    (Fin.ext (by show (512 * t.val + r.val) % 2048 = 512 * (t.val % 4) + r.val; omega))

theorem tile_x1 (r : Fin 512) (k : Fin 1024) : ((tileOf m c t xs).x1 (ix2 r k) : EReal) = (args m c).u (bat t) (step t r) k := by
  refine (blk_1 t (V m c main_v4) r k).trans ((entry_u m c _ k).trans ?_)
  exact congrArg₂ (fun b s => (args m c).u b s k) (Fin.ext (by show (512 * t.val + r.val) / 2048 = t.val / 4; omega))
    (Fin.ext (by show (512 * t.val + r.val) % 2048 = 512 * (t.val % 4) + r.val; omega))

theorem tile_x2 (n : Fin 1024) : ((tileOf m c t xs).x2 (ix3 0 5 n) : EReal) = (args m c).md (bat t) ⟨5120 + n.val, by omega⟩ :=
  (blk_2 t (V m c main_v0) 5 n).trans (entry_md m c (bat t) n)

theorem tile_x3 (k : Fin 1024) (j : Fin 5632) : ((tileOf m c t xs).x3 (ix2 k j) : EReal) = (args m c).wu k j :=
  (congrFun (blk_3 t (V m c main_v2)) (ix2 k j)).trans (entry_wu m c k j)

theorem tile_x4 (k : Fin 3) (j : Fin 2816) : ((tileOf m c t xs).x4 (ix2 k j) : EReal) = (args m c).cw k j :=
  (congrFun (blk_4 t (V m c main_v5)) (ix2 k j)).trans (entry_cw m c k j)

theorem tile_x5 (j : Fin 2816) : ((tileOf m c t xs).x5 (ix2 0 j) : EReal) = (args m c).cb j :=
  (congrFun (blk_5 t (V m c main_v9)) (ix2 0 j)).trans (entry_cb m c j)

theorem tile_x6 (j : Fin 2816) (n : Fin 1024) : ((tileOf m c t xs).x6 (ix2 j n) : EReal) = (args m c).wd j n :=
  (congrFun (blk_6 t (V m c main_v8)) (ix2 j n)).trans (entry_wd m c j n)

theorem tile_x7 (n : Fin 1024) : ((tileOf m c t xs).x7 (ix2 0 n) : EReal) = (args m c).fg n :=
  (congrFun (blk_7 t (V m c main_v10)) (ix2 0 n)).trans (entry_fg m c n)

/-- A tile's projections are the formula's at the tile's rows. -/
theorem tile_gate (r : Fin 512) (j : Fin 2816) : (tileOf m c t xs).gate r j = (args m c).gate (bat t) (step t r) j :=
  Finset.sum_congr rfl fun k _ => congrArg₂ (· * ·) (tile_x1 m c t xs r k) (tile_x3 m c t xs k _)
@[inherit_doc tile_gate] theorem tile_val (r : Fin 512) (j : Fin 2816) : (tileOf m c t xs).val r j = (args m c).val (bat t) (step t r) j :=
  Finset.sum_congr rfl fun k _ => congrArg₂ (· * ·) (tile_x1 m c t xs r k) (tile_x3 m c t xs k _)

/-- The carried rows are zeros. -/
theorem zeros (i : S8x2816.Idx) : (k0_pay2 (F := Ideal) i : EReal) = 0 := by
  show Ideal.ofBits .f32 0x00000000#32 = 0
  simp [Ideal.ofBits, Ideal.ieee]

/-- A carried row that a tile finds is the projection `d` steps before the tile's first row. -/
theorem found_at (d : ℕ) (hd : 0 < d) (hd' : d ≤ 8) (j : Fin 2816) :
    (found m c t (ix2 ⟨8 - d, by omega⟩ j) : EReal) = (if d ≤ 512 * (t.val % 4) then (args m c).gate (bat t) ⟨512 * (t.val % 4) - d, by omega⟩ j else 0) := by
  unfold found
  by_cases h0 : t.val % 4 = 0
  · rw [if_pos h0, if_neg (by omega)]
    exact zeros _
  · rw [if_neg h0, if_pos (by omega)]
    have hlt : t.val - 1 < cfg0.N := Nat.lt_of_le_of_lt (Nat.sub_le _ _) t.isLt
    refine (congrFun (congrArg Prod.snd (outsAt0_eq m c ⟨t.val - 1, hlt⟩)) _).trans ?_
    refine (tile_gate m c ⟨t.val - 1, hlt⟩ _ _ j).trans ?_
    exact congrArg₂ (fun b s => (args m c).gate b s j) (Fin.ext (by show (t.val - 1) / 4 = t.val / 4; omega))
      (Fin.ext (by show 512 * ((t.val - 1) % 4) + (504 + (8 - d)) = 512 * (t.val % 4) - d; omega))

/-- The tile's rows one step and two steps earlier are the formula's. -/
theorem tile_before1 (r : Fin 512) (j : Fin 2816) :
    before1 (fun s => (tileOf m c t xs).gate s j) (found m c t (ix2 7 j)) r = (args m c).earlier (bat t) (step t r) 1 j := by
  unfold before1 Ffn.Args.earlier
  by_cases h : r.val = 0
  · rw [if_pos h]
    refine (found_at m c t 1 (by omega) (by omega) j).trans ?_
    have e : (step t r).val = 512 * (t.val % 4) := by show 512 * (t.val % 4) + r.val = _; omega
    simp only [e]
  · rw [if_neg h, if_pos (by show 1 ≤ 512 * (t.val % 4) + r.val; omega)]
    refine (tile_gate m c t xs _ j).trans ?_
    exact congrArg (fun s => (args m c).gate (bat t) s j)
      (Fin.ext (by show 512 * (t.val % 4) + (r.val + 512 - 1) % 512 = 512 * (t.val % 4) + r.val - 1; omega))
@[inherit_doc tile_before1] theorem tile_before2 (r : Fin 512) (j : Fin 2816) :
    before2 (fun s => (tileOf m c t xs).gate s j) (found m c t (ix2 7 j)) (found m c t (ix2 6 j)) r = (args m c).earlier (bat t) (step t r) 2 j := by
  unfold before2 Ffn.Args.earlier
  by_cases h : r.val = 0
  · rw [if_pos h]
    refine (found_at m c t 2 (by omega) (by omega) j).trans ?_
    have e : (step t r).val = 512 * (t.val % 4) := by show 512 * (t.val % 4) + r.val = _; omega
    simp only [e]
  by_cases h1 : r.val = 1
  · rw [if_neg h, if_pos h1]
    refine (found_at m c t 1 (by omega) (by omega) j).trans ?_
    have e : (step t r).val = 512 * (t.val % 4) + 1 := by show 512 * (t.val % 4) + r.val = _; omega
    simp only [e]
    by_cases h2 : t.val % 4 = 0
    · rw [if_neg (by omega), if_neg (by omega)]
    · rw [if_pos (by omega), if_pos (by omega)]
      exact congrArg (fun s => (args m c).gate (bat t) s j) (Fin.ext (by show 512 * (t.val % 4) - 1 = 512 * (t.val % 4) + 1 - 2; omega))
  · rw [if_neg h, if_neg h1, if_pos (by show 2 ≤ 512 * (t.val % 4) + r.val; omega)]
    refine (tile_gate m c t xs _ j).trans ?_
    exact congrArg (fun s => (args m c).gate (bat t) s j)
      (Fin.ext (by show 512 * (t.val % 4) + (r.val + 512 - 2) % 512 = 512 * (t.val % 4) + r.val - 2; omega))

theorem tile_conv (r : Fin 512) (j : Fin 2816) : (tileOf m c t (found m c t)).conv r j = (args m c).conv (bat t) (step t r) j :=
  congrArg₂ (· + ·) (congrArg₂ (· + ·) (congrArg₂ (· + ·)
    (congrArg₂ (· * ·) (tile_x4 m c t _ 0 j) (tile_before2 m c t _ r j))
    (congrArg₂ (· * ·) (tile_x4 m c t _ 1 j) (tile_before1 m c t _ r j)))
    (congrArg₂ (· * ·) (tile_x4 m c t _ 2 j) (tile_gate m c t _ r j))) (tile_x5 m c t _ j)

theorem tile_act (r : Fin 512) (j : Fin 2816) : (tileOf m c t (found m c t)).act (ix2 r j) = (args m c).act (bat t) (step t r) j :=
  congrArg₂ (· * ·) (congrArg silu (tile_conv m c t r j)) (tile_val m c t _ r j)

theorem tile_y (r : Fin 512) (n : Fin 1024) : (tileOf m c t (found m c t)).y r n = (args m c).y (bat t) (step t r) n :=
  congrArg₂ (· + ·) (tile_x0 m c t _ r n) (congrArg₂ (· * ·) (tile_x2 m c t _ n)
    (Finset.sum_congr rfl fun j _ => congrArg₂ (· * ·) (tile_act m c t r j) (tile_x6 m c t _ j n)))

/-- A tile's result is the formula's at the tile's rows. -/
theorem tile_out (r : Fin 512) (n : Fin 1024) : (tileOf m c t (found m c t)).out (ix2 r n) = (args m c).out (bat t) (step t r) n := by
  have e : (fun k => (tileOf m c t (found m c t)).y r k) = fun k => (args m c).y (bat t) (step t r) k := funext fun k => tile_y m c t r k
  have e7 := tile_x7 m c t (found m c t) n
  show (fun k => (tileOf m c t (found m c t)).y r k) n * Ideal.rsqrt (Ideal.div (∑ k, (fun k => (tileOf m c t (found m c t)).y r k) k
      * (fun k => (tileOf m c t (found m c t)).y r k) k) (Ideal.ofBits .f32 0x44800000#32) + Ideal.ofBits .f32 0x358637BD#32)
    * (tileOf m c t (found m c t)).x7 (ix2 0 n) = _
  rw [e, e7]
  rfl

/-- The result. -/
def result (c : Dev nD) : S32768x1024.Idx → EReal := fun i =>
  (args m c).out ⟨(i 0).val / 2048, by have h : (i 0).val < 32768 := (i 0).isLt; omega⟩ ⟨(i 0).val % 2048, by omega⟩ (i 1)

/-- What the call leaves in its result. -/
theorem result_eq : (Value.G8 m c : S32768x1024.Idx → EReal) = result m c := by
  funext i
  obtain ⟨R, n, rfl⟩ : ∃ (R : Fin 32768) (n : Fin 1024), i = ix2 R n := ⟨i 0, i 1, eq_ix2 i⟩
  have hp : Value.pt8Of (ix2 R n) = R.val / 512 := by
    show 1 * (R.val / 512 - 0) + 1 * (n.val / 1024 - 0) = _
    omega
  have hN : R.val / 512 < cfg0.N := by rw [show cfg0.N = 64 from N_0]; omega
  refine (dif_pos (show Value.pt8Of (ix2 R n) < cfg0.N by rw [hp]; exact hN)).trans ?_
  rw [← Value.outsAt0_sweep m c _ (show Value.pt8Of (ix2 R n) < cfg0.N by rw [hp]; exact hN)]
  refine (congrFun (congrArg Prod.fst (outsAt0_eq m c ⟨Value.pt8Of (ix2 R n), by rw [hp]; exact hN⟩)) _).trans ?_
  have hl : Value.loc8Of (ix2 R n) = ix2 (⟨R.val % 512, by omega⟩ : Fin 512) n := by
    funext a
    match a with
    | ⟨0, _⟩ => rfl
    | ⟨1, _⟩ => exact Fin.ext (show n.val % 1024 = n.val by omega)
  rw [hl]
  refine (tile_out m c _ _ n).trans ?_
  exact congrArg₂ (fun b s => (args m c).out b s n) (Fin.ext (by show Value.pt8Of (ix2 R n) / 4 = R.val / 2048; omega))
    (Fin.ext (by show 512 * (Value.pt8Of (ix2 R n) % 4) + R.val % 512 = R.val % 2048; omega))

/-- The call runs, leaves the result and keeps its arguments. -/
theorem run_values (ρ : Dev nD → PrngReg) :
    θ_run defs (onTc (τ := τ) (main (F := Ideal))) ⟨m, fun _ => 0, ρ⟩ (fun r => ∀ c : Dev nD,
      (r.2.mem ((c : Thread nD τ).loc main_v11) : S32768x1024.Idx → EReal) = result m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) :=
  (θ_run defs _ _).mono (fun r h c => ⟨(h c).1.trans (result_eq m c), (h c).2⟩) (Value.run (F := Ideal) m ρ)

end Cert.Kernel2Ideal.Hand

end
-- ==== Proof.FfnReference.lean ====
module
public import proofs.«01_k».proof.Proof.FfnRows
public import proofs.«01_k».proof.Proof.Gen.Reference2Ideal
public import proofs.«01_k».proof.Proof.Gen.Reference2Ideal.Run
public import Idealize.ShloMosaic.Lib.KernelVsHost
public import Idealize.ShloMosaic.Lib.Tactic.CleanTypes

/-!
# What the plain mathematics leaves, as the formula

The reference's result, read at an index, is the formula of the reference's
arguments. Two things differ from the formula: the reference pads the gate's
projection with two rows of zeros and reads windows of it, and it spells the
logistic function out.
-/

@[expose] public section

set_option maxRecDepth 16384

noncomputable section

namespace Cert.Reference2Ideal.Hand

open Cert.Reference2Ideal Cert.Reference2Ideal.Gen Idealize.SL.Sem
open Idealize.ShloMosaic Idealize.ShloMosaic.TcCoe

variable (m : (ℓ : Loc nD τ sig) → Buf (Elt Ideal) ℓ) (c : Dev nD)

/-- The reference's arguments, as functions of their coordinates. -/
def args : Ffn.Args where
  h b s n := m ((c : Thread nD τ).loc main_arg0) (ix3 b s n)
  u b s k := m ((c : Thread nD τ).loc main_arg1) (ix3 b s k)
  md b n := m ((c : Thread nD τ).loc main_arg2) (ix2 b n)
  wu k j := m ((c : Thread nD τ).loc main_arg3) (ix3 0 k j)
  cw i j := m ((c : Thread nD τ).loc main_arg4) (ix3 0 i j)
  cb j := m ((c : Thread nD τ).loc main_arg5) (ix2 0 j)
  wd j n := m ((c : Thread nD τ).loc main_arg6) (ix3 0 j n)
  fg n := m ((c : Thread nD τ).loc main_arg7) (ix1 n)

/-- The result. -/
def result (c : Dev nD) : S32768x1024.Idx → EReal := fun i =>
  (args m c).out ⟨(i 0).val / 2048, by have h : (i 0).val < 32768 := (i 0).isLt; omega⟩ ⟨(i 0).val % 2048, by omega⟩ (i 1)

/-- The padding's value. -/
theorem padding : (FloatOps.sitofp (F := Ideal) .f32 (0#32 : BitVec 32) : EReal) = 0 := by
  show (((0#32 : BitVec 32).toInt : ℝ) : EReal) = 0
  simp

variable (A : Ffn.Args) (b : Fin 16) (s : Fin 2048)

/-- The padded projection two rows, one row and no row earlier, as the reference reads it. -/
def two (j : Fin 2816) : EReal :=
  if h : b.val < 16 ∧ 2 ≤ s.val ∧ s.val - 2 < 2048 then A.gate ⟨b.val, h.1⟩ ⟨s.val - 2, h.2.2⟩ j else FloatOps.sitofp (F := Ideal) .f32 (0#32 : BitVec 32)
@[inherit_doc two] def one (j : Fin 2816) : EReal :=
  if h : b.val < 16 ∧ 2 ≤ 1 + s.val ∧ 1 + s.val - 2 < 2048 then A.gate ⟨b.val, h.1⟩ ⟨1 + s.val - 2, h.2.2⟩ j else FloatOps.sitofp (F := Ideal) .f32 (0#32 : BitVec 32)
@[inherit_doc two] def none (j : Fin 2816) : EReal :=
  if h : b.val < 16 ∧ s.val < 2048 then A.gate ⟨b.val, h.1⟩ ⟨s.val, h.2⟩ j else FloatOps.sitofp (F := Ideal) .f32 (0#32 : BitVec 32)

/-- The convolution, as the reference computes it. -/
def conv (j : Fin 2816) : EReal := two A b s j * A.cw 0 j + one A b s j * A.cw 1 j + none A b s j * A.cw 2 j + A.cb j
/-- The rest of the formula, of the convolution. -/
def yOf (v : Fin 2816 → EReal) (n : Fin 1024) : EReal :=
  A.h b s n + A.md b ⟨5120 + n.val, by omega⟩ * ∑ j, v j * Ideal.logistic (v j) * A.val b s j * A.wd j n
@[inherit_doc yOf] def outOf (v : Fin 2816 → EReal) (n : Fin 1024) : EReal :=
  yOf A b s v n * Ideal.rsqrt (Ideal.div (∑ k, yOf A b s v k * yOf A b s v k) (Ideal.ofBits .f32 0x44800000#32) + Ideal.ofBits .f32 0x358637BD#32)
    * A.fg n

/-- The reference's convolution is the formula's. -/
theorem conv_eq : conv A b s = A.conv b s := by
  funext j
  have e2 : two A b s j = A.earlier b s 2 j := by
    unfold two Ffn.Args.earlier
    by_cases h : 2 ≤ s.val
    · rw [dif_pos ⟨b.isLt, h, by omega⟩, if_pos h]
    · rw [dif_neg (fun h' => h h'.2.1), if_neg h]
      exact padding
  have e1 : one A b s j = A.earlier b s 1 j := by
    unfold one Ffn.Args.earlier
    by_cases h : 1 ≤ s.val
    · rw [dif_pos ⟨b.isLt, by omega, by omega⟩, if_pos h]
      exact congrArg (fun q => A.gate b q j) (Fin.ext (by show 1 + s.val - 2 = s.val - 1; omega))
    · rw [dif_neg (fun h' => h (by omega)), if_neg h]
      exact padding
  have e0 : none A b s j = A.gate b s j := dif_pos ⟨b.isLt, s.isLt⟩
  unfold conv Ffn.Args.conv
  rw [e2, e1, e0, mul_comm (A.cw 0 j), mul_comm (A.cw 1 j), mul_comm (A.cw 2 j)]

set_option maxHeartbeats 2000000 in
theorem result_eq : (Value.res_main_v58 (F := Ideal) m c : S32768x1024.Idx → EReal) = result m c := by
  funext i
  obtain ⟨R, n, rfl⟩ : ∃ (R : Fin 32768) (n : Fin 1024), i = ix2 R n := ⟨i 0, i 1, eq_ix2 i⟩
  have h : result m c (ix2 R n) = outOf (args m c) ⟨R.val / 2048, by omega⟩ ⟨R.val % 2048, by omega⟩
      (conv (args m c) ⟨R.val / 2048, by omega⟩ ⟨R.val % 2048, by omega⟩) n := by
    rw [conv_eq]
    rfl
  rw [h]
  unfold Value.res_main_v58
  clean_types
  pointwise
  rfl

/-- The reference runs, and leaves the result. -/
theorem run_values (ρ : Dev nD → PrngReg) :
    θ_run defs (onTc (τ := τ) (main (F := Ideal))) ⟨m, fun _ => 0, ρ⟩ (fun r => ∀ c : Dev nD,
      (r.2.mem ((c : Thread nD τ).loc main_v58) : S32768x1024.Idx → EReal) = result m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) :=
  (θ_run defs _ _).mono (fun r h c => ⟨(h c).1.trans (result_eq m c), (h c).2⟩) (Value.run (F := Ideal) m ρ)

end Cert.Reference2Ideal.Hand

end
-- ==== Proof.FfnEquation.lean ====
module
public import proofs.«01_k».proof.Defs
public import proofs.«01_k».proof.Proof.FfnWhole
public import proofs.«01_k».proof.Proof.FfnReference

/-!
# The feed-forward call's result is the reference's

On arguments that agree, the kernel's result and the reference's are the same
array, with no condition on the arguments.
-/

@[expose] public section

noncomputable section

namespace Cert.Proof.Ffn

open Idealize.ShloMosaic Idealize.SL.Sem

/-- Arguments that agree are the same arguments of the formula. -/
theorem args_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4) ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5) ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6) ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    Cert.Reference2Ideal.Hand.args m' c = Cert.Kernel2Ideal.Hand.args m c := by
  obtain ⟨h0, h1, h2, h3, h4, h5, h6, h7⟩ := h
  have e0 : (Cert.Reference2Ideal.Hand.args m' c).h = (Cert.Kernel2Ideal.Hand.args m c).h := by
    funext b s n; exact congrFun h0 (ix3 b s n)
  have e1 : (Cert.Reference2Ideal.Hand.args m' c).u = (Cert.Kernel2Ideal.Hand.args m c).u := by
    funext b s k; exact congrFun h1 (ix3 b s k)
  have e2 : (Cert.Reference2Ideal.Hand.args m' c).md = (Cert.Kernel2Ideal.Hand.args m c).md := by
    funext b n; exact congrFun h2 (ix2 b n)
  have e3 : (Cert.Reference2Ideal.Hand.args m' c).wu = (Cert.Kernel2Ideal.Hand.args m c).wu := by
    funext k j; exact congrFun h3 (ix3 0 k j)
  have e4 : (Cert.Reference2Ideal.Hand.args m' c).cw = (Cert.Kernel2Ideal.Hand.args m c).cw := by
    funext i j; exact congrFun h4 (ix3 0 i j)
  have e5 : (Cert.Reference2Ideal.Hand.args m' c).cb = (Cert.Kernel2Ideal.Hand.args m c).cb := by
    funext j; exact congrFun h5 (ix2 0 j)
  have e6 : (Cert.Reference2Ideal.Hand.args m' c).wd = (Cert.Kernel2Ideal.Hand.args m c).wd := by
    funext j n; exact congrFun h6 (ix3 0 j n)
  have e7 : (Cert.Reference2Ideal.Hand.args m' c).fg = (Cert.Kernel2Ideal.Hand.args m c).fg := by
    funext n; exact congrFun h7 (ix1 n)
  cases hr : Cert.Reference2Ideal.Hand.args m' c
  cases hk : Cert.Kernel2Ideal.Hand.args m c
  rw [hr, hk] at e0 e1 e2 e3 e4 e5 e6 e7
  congr

/-- The reference's result is the kernel's. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : Cert.Reference2Ideal.Hand.args m' c = Cert.Kernel2Ideal.Hand.args m c) :
    Cert.Reference2Ideal.Hand.result m' c = Cert.Kernel2Ideal.Hand.result m c := by
  funext i
  exact congrArg (fun A : Cert.Ffn.Args => A.out ⟨(i 0).val / 2048, by have h : (i 0).val < 32768 := (i 0).isLt; omega⟩ ⟨(i 0).val % 2048, by omega⟩ (i 1)) h

end Cert.Proof.Ffn

end
-- ==== Proof.InRows.lean ====
module
public import Idealize.ShloMosaic.Lib.Pointwise

/-!
# The input projection, as a formula

The first norm with its modulation and the projection of its rows, written as
functions of a batch row, a time step and a column, over the extended reals. Both
programs are read as these functions.
-/

@[expose] public section

noncomputable section

namespace Cert.In

open Idealize.ShloMosaic

/-- The arguments: `x` is the residual, `md` the six modulation rows one after the other, `g` the norm's gain and `w` the
    projection. -/
structure Args where
  x : Fin 16 → Fin 2048 → Fin 1024 → EReal
  md : Fin 16 → Fin 6144 → EReal
  g : Fin 1024 → EReal
  w : Fin 1024 → Fin 4608 → EReal

variable (A : Args) (b : Fin 16) (s : Fin 2048)

/-- The inverse of the root mean square of a row. -/
def Args.inv : EReal :=
  Ideal.rsqrt (Ideal.div (∑ n, A.x b s n * A.x b s n) (Ideal.ofBits .f32 0x44800000#32) + Ideal.ofBits .f32 0x358637BD#32)

/-- The modulated norm of a row, at a column. -/
def Args.u (k : Fin 1024) : EReal :=
  A.x b s k * A.inv b s * (A.g k * (Ideal.ofBits .f32 0x3F800000#32 + A.md b ⟨1024 + k.val, by omega⟩)) + A.md b ⟨k.val, by omega⟩

/-- The projection of a row, at a column. -/
def Args.proj (j : Fin 4608) : EReal := ∑ k, A.u b s k * A.w k j

/-! Where the columns of the five results are taken in the projection. -/

/-- The recurrence's columns. -/
def fCol (j : Fin 1792) : Fin 4608 := ⟨j.val, by omega⟩
/-- The queries' columns. -/
def qCol (j : Fin 512) : Fin 4608 := ⟨1792 + j.val, by omega⟩
/-- The keys' and values' columns: each of the two key heads and of the two value heads, 64 columns wide, is written twice. -/
def kvCol (j : Fin 512) : Fin 4608 := ⟨2304 + j.val / 128 * 64 + j.val % 64, by omega⟩
/-- The first gate's columns. -/
def gaCol (j : Fin 1024) : Fin 4608 := ⟨2560 + j.val, by omega⟩
/-- The second gate's columns. -/
def gbCol (j : Fin 1024) : Fin 4608 := ⟨3584 + j.val, by omega⟩

/-- A group of columns of the projection, the batch rows one after the other. -/
def Args.rows (A : Args) {n : ℕ} (col : Fin n → Fin 4608) (R : Fin 32768) (j : Fin n) : EReal :=
  A.proj ⟨R.val / 2048, by omega⟩ ⟨R.val % 2048, by omega⟩ (col j)

end Cert.In

end
-- ==== Proof.InEntry.lean ====
module
public import proofs.«01_k».proof.Proof.InRows
public import proofs.«01_k».proof.Proof.Gen.Kernel3Ideal.Value
public import Idealize.ShloMosaic.Lib.Pointwise
public import Idealize.ShloMosaic.Lib.StableHlo.ReadAt

/-!
# What a grid point of the input projection reads

Each of the call's five operands is an argument laid out anew by the host. The
fifth is a choice of the weights' columns, by numbers that the host computes.
-/

@[expose] public section

set_option maxRecDepth 16384

noncomputable section

namespace Cert.Kernel3Ideal.Hand

open Cert.Kernel3Ideal Cert.Kernel3Ideal.Gen
open Idealize.ShloMosaic Idealize.ShloMosaic.TcCoe

variable (m : (ℓ : Loc nD τ sig) → Buf (Elt Ideal) ℓ) (c : Dev nD)

/-- The kernel's arguments, as functions of their coordinates. -/
def args : In.Args where
  x b s n := m ((c : Thread nD τ).loc main_arg0) (ix3 b s n)
  md b n := m ((c : Thread nD τ).loc main_arg1) (ix2 b n)
  g n := m ((c : Thread nD τ).loc main_arg2) (ix2 0 n)
  w k j := m ((c : Thread nD τ).loc main_arg3) (ix3 0 k j)

theorem entry_x (R : Fin 32768) (n : Fin 1024) :
    (V m c main_v10 : S32768x1024.Idx → EReal) (ix2 R n) = (args m c).x ⟨R.val / 2048, by omega⟩ ⟨R.val % 2048, by omega⟩ n := by
  unfold V
  simp only [hostOps0, hostOps0_1, hostOps0_2, hostOps0_3, hostOps0_4, List.flatten_cons, List.flatten_nil, List.append_nil, List.cons_append, List.nil_append]
  after_reads_at
  rfl

theorem entry_scale (b : Fin 16) (n : Fin 1024) : (V m c main_v0 : S16x6x1024.Idx → EReal) (ix3 b 1 n) = (args m c).md b ⟨1024 + n.val, by omega⟩ := by
  unfold V
  simp only [hostOps0, hostOps0_1, hostOps0_2, hostOps0_3, hostOps0_4, List.flatten_cons, List.flatten_nil, List.append_nil, List.cons_append, List.nil_append]
  after_reads_at
  rfl

theorem entry_shift (b : Fin 16) (n : Fin 1024) : (V m c main_v0 : S16x6x1024.Idx → EReal) (ix3 b 0 n) = (args m c).md b ⟨n.val, by omega⟩ := by
  unfold V
  simp only [hostOps0, hostOps0_1, hostOps0_2, hostOps0_3, hostOps0_4, List.flatten_cons, List.flatten_nil, List.append_nil, List.cons_append, List.nil_append]
  after_reads_at
  rfl

theorem entry_g (n : Fin 1024) : (V m c main_v23 : S1x1024.Idx → EReal) (ix2 0 n) = (args m c).g n := by
  unfold V
  simp only [hostOps0, hostOps0_1, hostOps0_2, hostOps0_3, hostOps0_4, List.flatten_cons, List.flatten_nil, List.append_nil, List.cons_append, List.nil_append]
  after_reads_at
  rfl

theorem entry_w (k : Fin 1024) (j : Fin 4608) : (V m c main_v13 : S1024x4608.Idx → EReal) (ix2 k j) = (args m c).w k j := by
  unfold V
  simp only [hostOps0, hostOps0_1, hostOps0_2, hostOps0_3, hostOps0_4, List.flatten_cons, List.flatten_nil, List.append_nil, List.cons_append, List.nil_append]
  after_reads_at
  rfl

/-- A choice of columns, at an index. -/
theorem gather_at {α : Type} (x : S1024x4608.Idx → α) (idx : IVec S512x1 32) (k : Fin 1024) (j : Fin 512) (n : Fin 4608)
    (h : (idx (ix2 j 0)).toInt.toNat = n.val) :
    Host.gather gather_S1024x4608_S512x1_S1024x512_0_1_n_n_1_1_10241 x idx (ix2 k j) = x (ix2 k n) := by
  unfold Host.gather
  refine congrArg x (funext fun a => Fin.ext ?_)
  show GatherDims.start _ (ix2 k j) idx a + GatherDims.batchCoord _ (ix2 k j) a + GatherDims.offCoord _ (ix2 k j) a = _
  rw [GatherDims.batchCoord_eq_zero _ _ _ (fun h => List.not_mem_nil h)]
  have ha : a = 0 ∨ a = 1 := by
    match a with
    | ⟨0, _⟩ => exact Or.inl rfl
    | ⟨1, _⟩ => exact Or.inr rfl
  rcases ha with rfl | rfl
  · have e : GatherDims.start gather_S1024x4608_S512x1_S1024x512_0_1_n_n_1_1_10241 (ix2 k j) idx (0 : Fin 2) = 0 := by
      unfold GatherDims.start
      exact dif_neg (show (0 : Fin 2) ∉ [(1 : Fin 2)] by decide)
    rw [e, Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x4608_S512x1_S1024x512_0_1_n_n_1_1_10241.startIndexMap from List.mem_singleton.mpr rfl)]
    have hsi : gather_S1024x4608_S512x1_S1024x512_0_1_n_n_1_1_10241.siIdx (ix2 k j) ⟨List.idxOf (1 : Fin 2) [(1 : Fin 2)],
        List.idxOf_lt_length_iff.2 (List.mem_singleton.mpr rfl)⟩ = ix2 j 0 := by
      funext b; refine Fin.ext ?_
      match b with
      | ⟨0, _⟩ => rfl
      | ⟨1, _⟩ => rfl
    show min (idx (gather_S1024x4608_S512x1_S1024x512_0_1_n_n_1_1_10241.siIdx (ix2 k j) ⟨List.idxOf (1 : Fin 2) [(1 : Fin 2)], _⟩)).toInt.toNat (4608 - 1) = n.val
    rw [hsi, h]
    omega

theorem entry_kv (k : Fin 1024) (j : Fin 512) : (V m c main_v22 : S1024x512.Idx → EReal) (ix2 k j) = (args m c).w k (In.kvCol j) := by
  unfold V
  simp only [hostOps0, hostOps0_1, hostOps0_2, hostOps0_3, hostOps0_4, List.flatten_cons, List.flatten_nil, List.append_nil, List.cons_append, List.nil_append]
  after_reads_at
  refine (gather_at _ _ k j (In.kvCol j) ?_).trans rfl
  revert j
  decide +kernel

end Cert.Kernel3Ideal.Hand

end
-- ==== Proof.InWhole.lean ====
module
public import proofs.«01_k».proof.Proof.InEntry
public import Idealize.ShloMosaic.Lib.Pipeline.ValueKit

/-!
# The input projection's results, as the formula

A grid point normalises 512 rows and multiplies them with five groups of columns.
Each result, read at an index, is the formula of the arguments.
-/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ) (c : Dev nD)

/-! ## The body at an index -/

/-- The modulated norm of a tile's row. -/
theorem u_at (x : Vec Ideal S512x1024 .f32) (g : Vec Ideal S1x1024 .f32) (sc sh : Vec Ideal S1x1x1024 .f32) (r : Fin 512) (k : Fin 1024) :
    (k0_pay4 x g sc sh : S512x1024.Idx → EReal) (ix2 r k)
      = x (ix2 r k) * Ideal.rsqrt (Ideal.div (∑ n : Fin 1024, (x (ix2 r n) : EReal) * x (ix2 r n)) (Ideal.ofBits .f32 0x44800000#32) + Ideal.ofBits .f32 0x358637BD#32)
        * (g (ix2 0 k) * (Ideal.ofBits .f32 0x3F800000#32 + sc (ix3 0 0 k))) + sh (ix3 0 0 k) := by
  pointwise [k0_pay4]

/-- The five products. -/
theorem f_at (x : Vec Ideal S512x1024 .f32) (g : Vec Ideal S1x1024 .f32) (sc sh : Vec Ideal S1x1x1024 .f32) (w : Vec Ideal S1024x1792 .bf16) (r : Fin 512) (j : Fin 1792) :
    (k0_pay5 x g sc sh w : S512x1792.Idx → EReal) (ix2 r j) = ∑ k : Fin 1024, (k0_pay4 x g sc sh : S512x1024.Idx → EReal) (ix2 r k) * w (ix2 k j) := by
  unfold k0_pay5
  generalize k0_pay4 x g sc sh = u
  pointwise
@[inherit_doc f_at] theorem q_at (x : Vec Ideal S512x1024 .f32) (g : Vec Ideal S1x1024 .f32) (sc sh : Vec Ideal S1x1x1024 .f32) (w : Vec Ideal S1024x512 .bf16) (r : Fin 512) (j : Fin 512) :
    (k0_pay6 x g sc sh w : S512x512.Idx → EReal) (ix2 r j) = ∑ k : Fin 1024, (k0_pay4 x g sc sh : S512x1024.Idx → EReal) (ix2 r k) * w (ix2 k j) := by
  unfold k0_pay6
  generalize k0_pay4 x g sc sh = u
  pointwise
@[inherit_doc f_at] theorem kv_at (u : FVec Ideal S512x1024 .bf16) (w : Vec Ideal S1024x512 .bf16) (r : Fin 512) (j : Fin 512) :
    (k0_pay1 u w : S512x512.Idx → EReal) (ix2 r j) = ∑ k : Fin 1024, (u (ix2 r k) : EReal) * w (ix2 k j) := by
  pointwise [k0_pay1]
@[inherit_doc f_at] theorem ga_at (u : FVec Ideal S512x1024 .bf16) (w : Vec Ideal S1024x1024 .bf16) (r : Fin 512) (j : Fin 1024) :
    (k0_pay2 u w : S512x1024.Idx → EReal) (ix2 r j) = ∑ k : Fin 1024, (u (ix2 r k) : EReal) * w (ix2 k j) := by
  pointwise [k0_pay2]
@[inherit_doc f_at] theorem gb_at (u : FVec Ideal S512x1024 .bf16) (w : Vec Ideal S1024x1024 .bf16) (r : Fin 512) (j : Fin 1024) :
    (k0_pay3 u w : S512x1024.Idx → EReal) (ix2 r j) = ∑ k : Fin 1024, (u (ix2 r k) : EReal) * w (ix2 k j) := by
  pointwise [k0_pay3]

/-! ## A grid point's blocks -/

theorem index_rows : ∀ t : Fin cfg0.N, win0_0.index t = ![t.val, 0] ∧ win0_1.index t = ![t.val / 4, 0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0]
    ∧ win0_9.index t = ![t.val, 0] :=
  (by decide +kernel : ∀ t : Fin grid0.N, _)

theorem points (t : Fin cfg0.N) : t.val < 64 := lt_of_lt_of_eq t.isLt N_0

/-- A grid point's batch row. -/
def bat (t : Fin cfg0.N) : Fin 16 := ⟨t.val / 4, by have := points t; omega⟩
/-- The time step of a row of a grid point. -/
def step (t : Fin cfg0.N) (r : Fin 512) : Fin 2048 := ⟨512 * (t.val % 4) + r.val, by omega⟩

theorem blk_x (t : Fin cfg0.N) (r : Fin 512) (n : Fin 1024) :
    (iblk m c 0 t : S512x1024.Idx → EReal) (ix2 r n) = (args m c).x (bat t) (step t r) n := by
  have hN := points t
  have e : (iblk m c 0 t : S512x1024.Idx → EReal) (ix2 r n) = (V m c main_v10 : S32768x1024.Idx → EReal) (ix2 ⟨512 * t.val + r.val, by omega⟩ n) := by
    refine congrArg (V m c main_v10 : S32768x1024.Idx → EReal) (funext fun a => Fin.ext ?_)
    match a with
    | ⟨0, _⟩ => show win0_0.index t (0 : Fin 2) * 512 + 1 * r.val = 512 * t.val + r.val; rw [(index_rows t).1]; show t.val * 512 + 1 * r.val = _; omega
    | ⟨1, _⟩ => show win0_0.index t (1 : Fin 2) * 1024 + 1 * n.val = n.val; rw [(index_rows t).1]; show 0 * 1024 + 1 * n.val = _; omega
  rw [e, entry_x]
  exact congrArg₂ (fun b s => (args m c).x b s n) (Fin.ext (by show (512 * t.val + r.val) / 2048 = t.val / 4; omega))
    (Fin.ext (by show (512 * t.val + r.val) % 2048 = 512 * (t.val % 4) + r.val; omega))

theorem blk_md (t : Fin cfg0.N) (k : Fin 6) (n : Fin 1024) :
    (iblk m c 1 t : S1x6x1024.Idx → EReal) (ix3 0 k n) = (V m c main_v0 : S16x6x1024.Idx → EReal) (ix3 (bat t) k n) := by
  refine congrArg (V m c main_v0 : S16x6x1024.Idx → EReal) (funext fun a => Fin.ext ?_)
  match a with
  | ⟨0, _⟩ => show win0_1.index t (0 : Fin 3) * 1 + 1 * 0 = t.val / 4; rw [(index_rows t).2.1]; show t.val / 4 * 1 + 1 * 0 = _; omega
  | ⟨1, _⟩ => show win0_1.index t (1 : Fin 3) * 6 + 1 * k.val = k.val; rw [(index_rows t).2.1]; show 0 * 6 + 1 * k.val = _; omega
  | ⟨2, _⟩ => show win0_1.index t (2 : Fin 3) * 1024 + 1 * n.val = n.val; rw [(index_rows t).2.1]; show 0 * 1024 + 1 * n.val = _; omega

theorem blk_g (t : Fin cfg0.N) (n : Fin 1024) : (iblk m c 2 t : S1x1024.Idx → EReal) (ix2 0 n) = (args m c).g n := by
  rw [← entry_g]
  refine congrArg (V m c main_v23 : S1x1024.Idx → EReal) (funext fun a => Fin.ext ?_)
  match a with
  | ⟨0, _⟩ => show win0_2.index t (0 : Fin 2) * 1 + 1 * 0 = 0; rw [(index_rows t).2.2.1]; rfl
  | ⟨1, _⟩ => show win0_2.index t (1 : Fin 2) * 1024 + 1 * n.val = n.val; rw [(index_rows t).2.2.1]; show 0 * 1024 + 1 * n.val = _; omega

theorem blk_w (t : Fin cfg0.N) (k : Fin 1024) (j : Fin 4608) : (iblk m c 3 t : S1024x4608.Idx → EReal) (ix2 k j) = (args m c).w k j := by
  rw [← entry_w]
  refine congrArg (V m c main_v13 : S1024x4608.Idx → EReal) (funext fun a => Fin.ext ?_)
  match a with
  | ⟨0, _⟩ => show win0_3.index t (0 : Fin 2) * 1024 + 1 * k.val = k.val; rw [(index_rows t).2.2.2.1]; show 0 * 1024 + 1 * k.val = _; omega
  | ⟨1, _⟩ => show win0_3.index t (1 : Fin 2) * 4608 + 1 * j.val = j.val; rw [(index_rows t).2.2.2.1]; show 0 * 4608 + 1 * j.val = _; omega

theorem blk_kv (t : Fin cfg0.N) (k : Fin 1024) (j : Fin 512) : (iblk m c 4 t : S1024x512.Idx → EReal) (ix2 k j) = (args m c).w k (In.kvCol j) := by
  rw [← entry_kv]
  refine congrArg (V m c main_v22 : S1024x512.Idx → EReal) (funext fun a => Fin.ext ?_)
  match a with
  | ⟨0, _⟩ => show win0_4.index t (0 : Fin 2) * 1024 + 1 * k.val = k.val; rw [(index_rows t).2.2.2.2.1]; show 0 * 1024 + 1 * k.val = _; omega
  | ⟨1, _⟩ => show win0_4.index t (1 : Fin 2) * 512 + 1 * j.val = j.val; rw [(index_rows t).2.2.2.2.1]; show 0 * 512 + 1 * j.val = _; omega

/-- A row of the modulation's block, at an index. -/
theorem ld_md (x : Vec Ideal S1x6x1024 .f32) (o : ℕ) (h : ∀ a, (![0, o, 0] : Fin 3 → ℕ) a + S1x1x1024.size a ≤ S1x6x1024.size a) (k : Fin 6) (hk : k.val = o) (n : Fin 1024) :
    (View.ld x (Rect.unit (s := S1x6x1024) ![0, o, 0] S1x1x1024.size h) : S1x1x1024.Idx → EReal) (ix3 0 0 n) = x (ix3 0 k n) :=
  View.ld_unit_apply_of x _ _ h _ _ fun a => by
    match a with
    | ⟨0, _⟩ => rfl
    | ⟨1, _⟩ => exact hk
    | ⟨2, _⟩ => show n.val = 0 + n.val; omega

/-- A group of the weights' columns, at an index. -/
theorem ld_w {w : ℕ} (x : Vec Ideal S1024x4608 .bf16) (o : ℕ) (h : ∀ a, (![0, o] : Fin 2 → ℕ) a + (![1024, w] : Fin 2 → ℕ) a ≤ S1024x4608.size a) (k : Fin 1024) (j : Fin w)
    (n : Fin 4608) (hn : n.val = o + j.val) :
    (View.ld x (Rect.unit (s := S1024x4608) ![0, o] ![1024, w] h) : (⟨2, ![1024, w]⟩ : Shape).Idx → EReal) (ix2 k j) = x (ix2 k n) :=
  View.ld_unit_apply_of x _ _ h _ _ fun a => by
    match a with
    | ⟨0, _⟩ => show k.val = 0 + k.val; omega
    | ⟨1, _⟩ => exact hn

/-- A tile's modulated norm is the formula's at the tile's rows. -/
theorem u_tile (t : Fin cfg0.N) (r : Fin 512) (k : Fin 1024) :
    (k0_pay4 (iblk m c 0 t) (iblk m c 2 t) (View.ld (iblk m c 1 t) r0_2) (View.ld (iblk m c 1 t) r0_3) : S512x1024.Idx → EReal) (ix2 r k)
      = (args m c).u (bat t) (step t r) k := by
  refine (u_at (iblk m c 0 t) (iblk m c 2 t) (View.ld (iblk m c 1 t) r0_2) (View.ld (iblk m c 1 t) r0_3) r k).trans ?_
  have e1 : (View.ld (iblk m c 1 t) r0_2 : S1x1x1024.Idx → EReal) (ix3 0 0 k) = (args m c).md (bat t) ⟨1024 + k.val, by omega⟩ :=
    (ld_md (iblk m c 1 t) 1 _ 1 rfl k).trans ((blk_md m c t 1 k).trans (entry_scale m c (bat t) k))
  have e0 : (View.ld (iblk m c 1 t) r0_3 : S1x1x1024.Idx → EReal) (ix3 0 0 k) = (args m c).md (bat t) ⟨k.val, by omega⟩ :=
    (ld_md (iblk m c 1 t) 0 _ 0 rfl k).trans ((blk_md m c t 0 k).trans (entry_shift m c (bat t) k))
  rw [e1, e0]
  simp only [blk_x, blk_g]
  rfl

/-- The norm, as the later products read it. -/
theorem u_read (x0 : Vec Ideal S512x1024 .f32) (x1 : Vec Ideal S1x6x1024 .f32) (x2 : Vec Ideal S1x1024 .f32) (x3 : Vec Ideal S1024x4608 .bf16) (x4 : Vec Ideal S1024x512 .bf16) :
    k0_pay7 x0 x1 x2 x3 x4 = k0_pay4 x0 x2 (View.ld x1 r0_2) (View.ld x1 r0_3) := by
  unfold k0_pay7
  rw [View.ld_unit_zero (off := ![0, 0]) (funext fun a => by fin_cases a <;> rfl) _ x0, View.ld_unit_zero (off := ![0, 0]) (funext fun a => by fin_cases a <;> rfl) _ x2]

/-- A tile's row of a result, in the result. -/
theorem rows_at {n : ℕ} (col : Fin n → Fin 4608) (t : Fin cfg0.N) (r : Fin 512) (j : Fin n) (R : Fin 32768) (hR : R.val = 512 * t.val + r.val) (j' : Fin n) (hj : j'.val = j.val) :
    (args m c).rows col R j' = (args m c).proj (bat t) (step t r) (col j) := by
  have hN := points t
  obtain rfl : j' = j := Fin.ext hj
  exact congrArg₂ (fun b s => (args m c).proj b s (col j')) (Fin.ext (by show R.val / 2048 = t.val / 4; omega))
    (Fin.ext (by show R.val % 2048 = 512 * (t.val % 4) + r.val; omega))

/-! ## The five results -/

/-- The recurrence's columns. -/
def fOut (c : Dev nD) : S32768x1792.Idx → EReal := fun i => (args m c).rows In.fCol (i 0) (i 1)

theorem f_eq : (dats (F := Ideal) m 0 c).arrAt 5 cfg0.N = fOut m c := by
  refine (dats m 0 c).arrAt_eq_of_covers 5 _ (by decide +kernel) fun t hf y => ?_
  blk_simp
  rw [after0_5]
  frame_out
  obtain ⟨r, j, rfl⟩ : ∃ (r : Fin 512) (j : Fin 1792), y = ix2 r j := ⟨y 0, y 1, eq_ix2 y⟩
  refine (f_at (iblk m c 0 t) (iblk m c 2 t) (View.ld (iblk m c 1 t) r0_2) (View.ld (iblk m c 1 t) r0_3) (View.ld (iblk m c 3 t) r0_4) r j).trans ?_
  refine (Finset.sum_congr rfl fun k _ => congrArg₂ (· * ·) (u_tile m c t r k) ((ld_w (w := 1792) (iblk m c 3 t) 0 _ k j (In.fCol j) (by show j.val = 0 + j.val; omega)).trans (blk_w m c t k _))).trans ?_
  exact (rows_at m c In.fCol t r j _
    (by show win0_5.index t (0 : Fin 2) * 512 + 1 * r.val = _; rw [(index_rows t).2.2.2.2.2.1]; show t.val * 512 + 1 * r.val = _; omega) _
    (by show win0_5.index t (1 : Fin 2) * 1792 + 1 * j.val = j.val; rw [(index_rows t).2.2.2.2.2.1]; show 0 * 1792 + 1 * j.val = _; omega)).symm

/-- The queries. -/
def qOut (c : Dev nD) : S32768x512.Idx → EReal := fun i => (args m c).rows In.qCol (i 0) (i 1)

theorem q_eq : (dats (F := Ideal) m 0 c).arrAt 6 cfg0.N = qOut m c := by
  refine (dats m 0 c).arrAt_eq_of_covers 6 _ (by decide +kernel) fun t hf y => ?_
  blk_simp
  rw [after0_6]
  frame_out
  obtain ⟨r, j, rfl⟩ : ∃ (r : Fin 512) (j : Fin 512), y = ix2 r j := ⟨y 0, y 1, eq_ix2 y⟩
  refine (q_at (iblk m c 0 t) (iblk m c 2 t) (View.ld (iblk m c 1 t) r0_2) (View.ld (iblk m c 1 t) r0_3) (View.ld (iblk m c 3 t) r0_6) r j).trans ?_
  refine (Finset.sum_congr rfl fun k _ => congrArg₂ (· * ·) (u_tile m c t r k) ((ld_w (w := 512) (iblk m c 3 t) 1792 _ k j (In.qCol j) (by rfl)).trans (blk_w m c t k _))).trans ?_
  exact (rows_at m c In.qCol t r j _
    (by show win0_6.index t (0 : Fin 2) * 512 + 1 * r.val = _; rw [(index_rows t).2.2.2.2.2.2.1]; show t.val * 512 + 1 * r.val = _; omega) _
    (by show win0_6.index t (1 : Fin 2) * 512 + 1 * j.val = j.val; rw [(index_rows t).2.2.2.2.2.2.1]; show 0 * 512 + 1 * j.val = _; omega)).symm

/-- The keys and values. -/
def kvOut (c : Dev nD) : S32768x512.Idx → EReal := fun i => (args m c).rows In.kvCol (i 0) (i 1)

theorem kv_eq : (dats (F := Ideal) m 0 c).arrAt 7 cfg0.N = kvOut m c := by
  refine (dats m 0 c).arrAt_eq_of_covers 7 _ (by decide +kernel) fun t hf y => ?_
  blk_simp
  rw [after0_7]
  frame_out
  obtain ⟨r, j, rfl⟩ : ∃ (r : Fin 512) (j : Fin 512), y = ix2 r j := ⟨y 0, y 1, eq_ix2 y⟩
  rw [u_read]
  refine (kv_at (k0_pay4 (iblk m c 0 t) (iblk m c 2 t) (View.ld (iblk m c 1 t) r0_2) (View.ld (iblk m c 1 t) r0_3)) (iblk m c 4 t) r j).trans ?_
  refine (Finset.sum_congr rfl fun k _ => congrArg₂ (· * ·) (u_tile m c t r k) (blk_kv m c t k j)).trans ?_
  exact (rows_at m c In.kvCol t r j _
    (by show win0_7.index t (0 : Fin 2) * 512 + 1 * r.val = _; rw [(index_rows t).2.2.2.2.2.2.2.1]; show t.val * 512 + 1 * r.val = _; omega) _
    (by show win0_7.index t (1 : Fin 2) * 512 + 1 * j.val = j.val; rw [(index_rows t).2.2.2.2.2.2.2.1]; show 0 * 512 + 1 * j.val = _; omega)).symm

/-- The first gate. -/
def gaOut (c : Dev nD) : S32768x1024.Idx → EReal := fun i => (args m c).rows In.gaCol (i 0) (i 1)

theorem ga_eq : (dats (F := Ideal) m 0 c).arrAt 8 cfg0.N = gaOut m c := by
  refine (dats m 0 c).arrAt_eq_of_covers 8 _ (by decide +kernel) fun t hf y => ?_
  blk_simp
  rw [after0_8]
  frame_out
  obtain ⟨r, j, rfl⟩ : ∃ (r : Fin 512) (j : Fin 1024), y = ix2 r j := ⟨y 0, y 1, eq_ix2 y⟩
  rw [u_read]
  refine (ga_at (k0_pay4 (iblk m c 0 t) (iblk m c 2 t) (View.ld (iblk m c 1 t) r0_2) (View.ld (iblk m c 1 t) r0_3)) (View.ld (iblk m c 3 t) r0_9) r j).trans ?_
  refine (Finset.sum_congr rfl fun k _ => congrArg₂ (· * ·) (u_tile m c t r k) ((ld_w (w := 1024) (iblk m c 3 t) 2560 _ k j (In.gaCol j) (by rfl)).trans (blk_w m c t k _))).trans ?_
  exact (rows_at m c In.gaCol t r j _
    (by show win0_8.index t (0 : Fin 2) * 512 + 1 * r.val = _; rw [(index_rows t).2.2.2.2.2.2.2.2.1]; show t.val * 512 + 1 * r.val = _; omega) _
    (by show win0_8.index t (1 : Fin 2) * 1024 + 1 * j.val = j.val; rw [(index_rows t).2.2.2.2.2.2.2.2.1]; show 0 * 1024 + 1 * j.val = _; omega)).symm

/-- The second gate. -/
def gbOut (c : Dev nD) : S32768x1024.Idx → EReal := fun i => (args m c).rows In.gbCol (i 0) (i 1)

theorem gb_eq : (dats (F := Ideal) m 0 c).arrAt 9 cfg0.N = gbOut m c := by
  refine (dats m 0 c).arrAt_eq_of_covers 9 _ (by decide +kernel) fun t hf y => ?_
  blk_simp
  rw [after0_9]
  frame_out
  obtain ⟨r, j, rfl⟩ : ∃ (r : Fin 512) (j : Fin 1024), y = ix2 r j := ⟨y 0, y 1, eq_ix2 y⟩
  rw [u_read]
  refine (gb_at (k0_pay4 (iblk m c 0 t) (iblk m c 2 t) (View.ld (iblk m c 1 t) r0_2) (View.ld (iblk m c 1 t) r0_3)) (View.ld (iblk m c 3 t) r0_10) r j).trans ?_
  refine (Finset.sum_congr rfl fun k _ => congrArg₂ (· * ·) (u_tile m c t r k) ((ld_w (w := 1024) (iblk m c 3 t) 3584 _ k j (In.gbCol j) (by rfl)).trans (blk_w m c t k _))).trans ?_
  exact (rows_at m c In.gbCol t r j _
    (by show win0_9.index t (0 : Fin 2) * 512 + 1 * r.val = _; rw [(index_rows t).2.2.2.2.2.2.2.2.2]; show t.val * 512 + 1 * r.val = _; omega) _
    (by show win0_9.index t (1 : Fin 2) * 1024 + 1 * j.val = j.val; rw [(index_rows t).2.2.2.2.2.2.2.2.2]; show 0 * 1024 + 1 * j.val = _; omega)).symm

/-- The call runs, and leaves the five results. -/
theorem run_values (ρ : Dev nD → PrngReg) :
    θ_run defs (onTc (τ := τ) (main (F := Ideal))) ⟨m, fun _ => 0, ρ⟩ (fun r => ∀ c : Dev nD,
      (r.2.mem ((c : Thread nD τ).loc main_v24_0) : S32768x1792.Idx → EReal) = fOut m c
      ∧ (r.2.mem ((c : Thread nD τ).loc main_v24_1) : S32768x512.Idx → EReal) = qOut m c
      ∧ (r.2.mem ((c : Thread nD τ).loc main_v24_2) : S32768x512.Idx → EReal) = kvOut m c
      ∧ (r.2.mem ((c : Thread nD τ).loc main_v24_3) : S32768x1024.Idx → EReal) = gaOut m c
      ∧ (r.2.mem ((c : Thread nD τ).loc main_v24_4) : S32768x1024.Idx → EReal) = gbOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h c).1.trans (f_eq m c), (h c).2.1.trans (q_eq m c), (h c).2.2.1.trans (kv_eq m c),
    (h c).2.2.2.1.trans (ga_eq m c), (h c).2.2.2.2.1.trans (gb_eq m c), (h c).2.2.2.2.2⟩) (Value.run_blocks (F := Ideal) m ρ)

end Cert.Kernel3Ideal.Hand

end
-- ==== Proof.InReference.lean ====
module
public import proofs.«01_k».proof.Proof.InRows
public import proofs.«01_k».proof.Proof.Gen.Reference3Ideal
public import proofs.«01_k».proof.Proof.Gen.Reference3Ideal.Run
public import Idealize.ShloMosaic.Lib.KernelVsHost
public import Idealize.ShloMosaic.Lib.IdealHost
public import Idealize.ShloMosaic.Lib.Tactic.CleanTypes

/-!
# What the plain projection leaves, as the formula

The reference's five results, read at an index, are the formula of the
reference's arguments. The reference multiplies the norm with the gain and then
with the scale, where the formula multiplies the two first.
-/

@[expose] public section

set_option maxRecDepth 16384

noncomputable section

namespace Cert.Reference3Ideal.Hand

open Cert.Reference3Ideal Cert.Reference3Ideal.Gen Idealize.SL.Sem
open Idealize.ShloMosaic Idealize.ShloMosaic.TcCoe

variable (m : (ℓ : Loc nD τ sig) → Buf (Elt Ideal) ℓ) (c : Dev nD)

/-- The reference's arguments, as functions of their coordinates. -/
def args : In.Args where
  x b s n := m ((c : Thread nD τ).loc main_arg0) (ix3 b s n)
  md b n := m ((c : Thread nD τ).loc main_arg1) (ix2 b n)
  g n := m ((c : Thread nD τ).loc main_arg2) (ix2 0 n)
  w k j := m ((c : Thread nD τ).loc main_arg3) (ix3 0 k j)

/-- A group of columns of the projection, as the reference computes it. -/
def rows {n : ℕ} (A : In.Args) (col : Fin n → Fin 4608) (R : Fin 32768) (j : Fin n) : EReal :=
  ∑ k, (A.x ⟨R.val / 2048, by omega⟩ ⟨R.val % 2048, by omega⟩ k * A.inv ⟨R.val / 2048, by omega⟩ ⟨R.val % 2048, by omega⟩ * A.g k
    * (1 + A.md ⟨R.val / 2048, by omega⟩ ⟨1024 + k.val, by omega⟩) + A.md ⟨R.val / 2048, by omega⟩ ⟨k.val, by omega⟩) * A.w k (col j)

theorem rows_eq {n : ℕ} (A : In.Args) (col : Fin n → Fin 4608) (R : Fin 32768) (j : Fin n) : rows A col R j = A.rows col R j := by
  unfold rows In.Args.rows In.Args.proj
  refine Finset.sum_congr rfl fun k _ => ?_
  unfold In.Args.u
  rw [Ideal.ofBits_one_f32, mul_assoc (A.x _ _ k * A.inv _ _)]

/-- The recurrence's columns. -/
def fOut (c : Dev nD) : S32768x1792.Idx → EReal := fun i => (args m c).rows In.fCol (i 0) (i 1)
/-- The queries. -/
def qOut (c : Dev nD) : S32768x512.Idx → EReal := fun i => (args m c).rows In.qCol (i 0) (i 1)
/-- The keys and values. -/
def kvOut (c : Dev nD) : S32768x512.Idx → EReal := fun i => (args m c).rows In.kvCol (i 0) (i 1)
/-- The first gate. -/
def gaOut (c : Dev nD) : S32768x1024.Idx → EReal := fun i => (args m c).rows In.gaCol (i 0) (i 1)
/-- The second gate. -/
def gbOut (c : Dev nD) : S32768x1024.Idx → EReal := fun i => (args m c).rows In.gbCol (i 0) (i 1)

set_option maxHeartbeats 4000000 in
/-- The reference runs, and leaves the five results. -/
theorem run_values (ρ : Dev nD → PrngReg) :
    θ_run defs (onTc (τ := τ) (main (F := Ideal))) ⟨m, fun _ => 0, ρ⟩ (fun r => ∀ c : Dev nD,
      (r.2.mem ((c : Thread nD τ).loc main_v30) : S32768x1792.Idx → EReal) = fOut m c
      ∧ (r.2.mem ((c : Thread nD τ).loc main_v39) : S32768x512.Idx → EReal) = qOut m c
      ∧ (r.2.mem ((c : Thread nD τ).loc main_v40) : S32768x512.Idx → EReal) = kvOut m c
      ∧ (r.2.mem ((c : Thread nD τ).loc main_v41) : S32768x1024.Idx → EReal) = gaOut m c
      ∧ (r.2.mem ((c : Thread nD τ).loc main_v42) : S32768x1024.Idx → EReal) = gbOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun r h c => ⟨(h c).1.trans ?_, (h c).2.1.trans ?_, (h c).2.2.1.trans ?_, (h c).2.2.2.1.trans ?_,
    (h c).2.2.2.2.1.trans ?_, (h c).2.2.2.2.2⟩) (Value.run (F := Ideal) m ρ)
  · funext i
    obtain ⟨R, j, rfl⟩ : ∃ (R : Fin 32768) (j : Fin 1792), i = ix2 R j := ⟨i 0, i 1, eq_ix2 i⟩
    refine Eq.trans ?_ (rows_eq (args m c) In.fCol R j)
    clean_types
    pointwise
    rfl
  · funext i
    obtain ⟨R, j, rfl⟩ : ∃ (R : Fin 32768) (j : Fin 512), i = ix2 R j := ⟨i 0, i 1, eq_ix2 i⟩
    refine Eq.trans ?_ (rows_eq (args m c) In.qCol R j)
    clean_types
    pointwise
    rfl
  · funext i
    obtain ⟨R, j, rfl⟩ : ∃ (R : Fin 32768) (j : Fin 512), i = ix2 R j := ⟨i 0, i 1, eq_ix2 i⟩
    refine Eq.trans ?_ (rows_eq (args m c) In.kvCol R j)
    clean_types
    pointwise
    simp only [← Nat.add_assoc]
    rfl
  · funext i
    obtain ⟨R, j, rfl⟩ : ∃ (R : Fin 32768) (j : Fin 1024), i = ix2 R j := ⟨i 0, i 1, eq_ix2 i⟩
    refine Eq.trans ?_ (rows_eq (args m c) In.gaCol R j)
    clean_types
    pointwise
    rfl
  · funext i
    obtain ⟨R, j, rfl⟩ : ∃ (R : Fin 32768) (j : Fin 1024), i = ix2 R j := ⟨i 0, i 1, eq_ix2 i⟩
    refine Eq.trans ?_ (rows_eq (args m c) In.gbCol R j)
    clean_types
    pointwise
    rfl

end Cert.Reference3Ideal.Hand

end
-- ==== Proof.InEquation.lean ====
module
public import proofs.«01_k».proof.Defs
public import proofs.«01_k».proof.Proof.InWhole
public import proofs.«01_k».proof.Proof.InReference

/-!
# The input projection's five results are the reference's

On arguments that agree the five results are the same arrays, with no condition
on the arguments.
-/

@[expose] public section

set_option maxRecDepth 16384

noncomputable section

namespace Cert.Proof.In

open Idealize.ShloMosaic Idealize.SL.Sem

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The two programs read the same arguments. -/
theorem args_eq
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Hand.args m' c = Cert.Kernel3Ideal.Hand.args m c := by
  obtain ⟨h0, h1, h2, h3⟩ := h
  have e0 : (Cert.Reference3Ideal.Hand.args m' c).x = (Cert.Kernel3Ideal.Hand.args m c).x := by
    funext b s n; exact congrFun h0 (ix3 b s n)
  have e1 : (Cert.Reference3Ideal.Hand.args m' c).md = (Cert.Kernel3Ideal.Hand.args m c).md := by
    funext b n; exact congrFun h1 (ix2 b n)
  have e2 : (Cert.Reference3Ideal.Hand.args m' c).g = (Cert.Kernel3Ideal.Hand.args m c).g := by
    funext n; exact congrFun h2 (ix2 0 n)
  have e3 : (Cert.Reference3Ideal.Hand.args m' c).w = (Cert.Kernel3Ideal.Hand.args m c).w := by
    funext k j; exact congrFun h3 (ix3 0 k j)
  cases hr : Cert.Reference3Ideal.Hand.args m' c
  cases hk : Cert.Kernel3Ideal.Hand.args m c
  rw [hr, hk] at e0 e1 e2 e3
  congr

variable {m m' c} (e : Cert.Reference3Ideal.Hand.args m' c = Cert.Kernel3Ideal.Hand.args m c)

include e

/-- The recurrence's columns are the same. -/
theorem f_eq : Cert.Reference3Ideal.Hand.fOut m' c = Cert.Kernel3Ideal.Hand.fOut m c :=
  funext fun i => congrArg (fun A : Cert.In.Args => A.rows Cert.In.fCol (i 0) (i 1)) e

/-- The queries are the same. -/
theorem q_eq : Cert.Reference3Ideal.Hand.qOut m' c = Cert.Kernel3Ideal.Hand.qOut m c :=
  funext fun i => congrArg (fun A : Cert.In.Args => A.rows Cert.In.qCol (i 0) (i 1)) e

/-- The keys and values are the same. -/
theorem kv_eq : Cert.Reference3Ideal.Hand.kvOut m' c = Cert.Kernel3Ideal.Hand.kvOut m c :=
  funext fun i => congrArg (fun A : Cert.In.Args => A.rows Cert.In.kvCol (i 0) (i 1)) e

/-- The first gates are the same. -/
theorem ga_eq : Cert.Reference3Ideal.Hand.gaOut m' c = Cert.Kernel3Ideal.Hand.gaOut m c :=
  funext fun i => congrArg (fun A : Cert.In.Args => A.rows Cert.In.gaCol (i 0) (i 1)) e

/-- The second gates are the same. -/
theorem gb_eq : Cert.Reference3Ideal.Hand.gbOut m' c = Cert.Kernel3Ideal.Hand.gbOut m c :=
  funext fun i => congrArg (fun A : Cert.In.Args => A.rows Cert.In.gbCol (i 0) (i 1)) e

end Cert.Proof.In

end
-- ==== Proof.ModKernel.lean ====
module
public import proofs.«01_k».proof.Proof.Gen.Kernel4Ideal.Value
public import Idealize.ShloMosaic.Lib.Pointwise
public import Idealize.ShloMosaic.Lib.StableHlo.ReadAt
public import Idealize.ShloMosaic.Lib.Pipeline.ValueKit

/-!
# The modulation call's result, as a formula

The call multiplies the activated condition with the modulation's weights, 1536
columns at a time, and adds the bias. Its result, read at an index, is the
formula of the arguments.
-/

@[expose] public section

set_option maxRecDepth 16384

noncomputable section

namespace Cert.Mod

open Idealize.ShloMosaic

/-- The arguments: the condition, the weights and the bias. -/
structure Args where
  c : Fin 16 → Fin 1024 → EReal
  w : Fin 1024 → Fin 6144 → EReal
  b : Fin 6144 → EReal

/-- The modulation of a batch row, at a column. -/
def Args.out (A : Args) (i : Fin 16) (j : Fin 6144) : EReal :=
  (∑ k, A.c i k * Ideal.logistic (A.c i k) * A.w k j) + A.b j

end Cert.Mod

namespace Cert.Kernel4Ideal.Hand

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ) (c : Dev nD)

/-- The kernel's arguments, as functions of their coordinates. -/
def args : Mod.Args where
  c i k := m ((c : Thread nD τ).loc main_arg0) (ix2 i k)
  w k j := m ((c : Thread nD τ).loc main_arg1) (ix3 0 k j)
  b j := m ((c : Thread nD τ).loc main_arg2) (ix2 0 j)

theorem entry_c (i : Fin 16) (k : Fin 1024) : (V m c main_arg0 : S16x1024.Idx → EReal) (ix2 i k) = (args m c).c i k := by
  rw [V_main_arg0]; rfl

theorem entry_w (k : Fin 1024) (j : Fin 6144) : (V m c main_v0 : S1024x6144.Idx → EReal) (ix2 k j) = (args m c).w k j := by
  unfold V
  simp only [hostOps0, List.flatten_cons, List.flatten_nil, List.append_nil, List.cons_append, List.nil_append]
  after_reads_at
  rfl

theorem entry_b (j : Fin 6144) : (V m c main_v2 : S1x6144.Idx → EReal) (ix2 0 j) = (args m c).b j := by
  unfold V
  simp only [hostOps0, List.flatten_cons, List.flatten_nil, List.append_nil, List.cons_append, List.nil_append]
  after_reads_at
  rfl

/-- A tile of the result, at an index. -/
theorem tile_at (x : Vec Ideal S16x1024 .f32) (w : Vec Ideal S1024x1536 .f32) (b : Vec Ideal S1x1536 .f32) (i : Fin 16) (j : Fin 1536) :
    (k0_pay1 x w b : S16x1536.Idx → EReal) (ix2 i j)
      = (∑ k : Fin 1024, (x (ix2 i k) : EReal) * Ideal.logistic (x (ix2 i k)) * w (ix2 k j)) + b (ix2 0 j) := by
  pointwise [k0_pay1]

/-- The result. -/
def result (c : Dev nD) : S16x6144.Idx → EReal := fun i => (args m c).out (i 0) (i 1)

/-- The blocks of a grid point: the condition whole, and 1536 columns of the weights, of the bias and of the result. -/
theorem index_cols : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem points (t : Fin cfg0.N) : t.val < 4 := lt_of_lt_of_eq t.isLt N_0

theorem blk_c (t : Fin cfg0.N) (i : Fin 16) (k : Fin 1024) :
    (iblk m c 0 t : S16x1024.Idx → EReal) (ix2 i k) = (args m c).c i k := by
  rw [← entry_c]
  refine congrArg (V m c main_arg0 : S16x1024.Idx → EReal) (funext fun a => Fin.ext ?_)
  match a with
  | ⟨0, _⟩ => show win0_0.index t (0 : Fin 2) * 16 + 1 * i.val = i.val; rw [(index_cols t).1]; show 0 * 16 + 1 * i.val = i.val; omega
  | ⟨1, _⟩ => show win0_0.index t (1 : Fin 2) * 1024 + 1 * k.val = k.val; rw [(index_cols t).1]; show 0 * 1024 + 1 * k.val = k.val; omega

theorem blk_w (t : Fin cfg0.N) (k : Fin 1024) (j : Fin 1536) :
    (iblk m c 1 t : S1024x1536.Idx → EReal) (ix2 k j) = (args m c).w k ⟨1536 * t.val + j.val, by have := points t; omega⟩ := by
  rw [← entry_w]
  refine congrArg (V m c main_v0 : S1024x6144.Idx → EReal) (funext fun a => Fin.ext ?_)
  match a with
  | ⟨0, _⟩ => show win0_1.index t (0 : Fin 2) * 1024 + 1 * k.val = k.val; rw [(index_cols t).2.1]; show 0 * 1024 + 1 * k.val = k.val; omega
  | ⟨1, _⟩ => show win0_1.index t (1 : Fin 2) * 1536 + 1 * j.val = 1536 * t.val + j.val; rw [(index_cols t).2.1]; show t.val * 1536 + 1 * j.val = _; omega

theorem blk_b (t : Fin cfg0.N) (j : Fin 1536) :
    (iblk m c 2 t : S1x1536.Idx → EReal) (ix2 0 j) = (args m c).b ⟨1536 * t.val + j.val, by have := points t; omega⟩ := by
  rw [← entry_b]
  refine congrArg (V m c main_v2 : S1x6144.Idx → EReal) (funext fun a => Fin.ext ?_)
  match a with
  | ⟨0, _⟩ => show win0_2.index t (0 : Fin 2) * 1 + 1 * 0 = 0; rw [(index_cols t).2.2.1]; rfl
  | ⟨1, _⟩ => show win0_2.index t (1 : Fin 2) * 1536 + 1 * j.val = 1536 * t.val + j.val; rw [(index_cols t).2.2.1]; show t.val * 1536 + 1 * j.val = _; omega

/-- Every block of the final array is the formula's, and the blocks fill it. -/
theorem result_eq : (dats (F := Ideal) m 0 c).arrAt 3 cfg0.N = result m c := by
  refine (dats m 0 c).arrAt_eq_of_covers 3 _ (by decide +kernel) fun t hf y => ?_
  blk_simp
  rw [after0_3]
  frame_out
  obtain ⟨i, j, rfl⟩ : ∃ (i : Fin 16) (j : Fin 1536), y = ix2 i j := ⟨y 0, y 1, eq_ix2 y⟩
  rw [tile_at (iblk m c 0 t) (iblk m c 1 t) (iblk m c 2 t) i j]
  simp only [blk_c, blk_w, blk_b]
  have ei : (((View.whole main_v3).slice (win0_3.rect t)).emb (ix2 i j) (0 : Fin 2)) = i := Fin.ext (by
    show win0_3.index t (0 : Fin 2) * 16 + 1 * i.val = i.val; rw [(index_cols t).2.2.2]; show 0 * 16 + 1 * i.val = i.val; omega)
  have ej : (((View.whole main_v3).slice (win0_3.rect t)).emb (ix2 i j) (1 : Fin 2)) = (⟨1536 * t.val + j.val, by have := points t; omega⟩ : Fin 6144) := Fin.ext (by
    show win0_3.index t (1 : Fin 2) * 1536 + 1 * j.val = 1536 * t.val + j.val; rw [(index_cols t).2.2.2]; show t.val * 1536 + 1 * j.val = _; omega)
  exact (congrArg₂ (args m c).out ei ej).symm

/-- The call runs, and leaves the result. -/
theorem run_values (ρ : Dev nD → PrngReg) :
    θ_run defs (onTc (τ := τ) (main (F := Ideal))) ⟨m, fun _ => 0, ρ⟩ (fun r => ∀ c : Dev nD,
      (r.2.mem ((c : Thread nD τ).loc main_v3) : S16x6144.Idx → EReal) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans (result_eq m c), (h c).2⟩) (Value.run_blocks (F := Ideal) m ρ)

end Cert.Kernel4Ideal.Hand

end
-- ==== Proof.ModEquation.lean ====
module
public import proofs.«01_k».proof.Defs
public import proofs.«01_k».proof.Proof.ModKernel
public import proofs.«01_k».proof.Proof.Gen.Reference4Ideal
public import proofs.«01_k».proof.Proof.Gen.Reference4Ideal.Run
public import Idealize.ShloMosaic.Lib.KernelVsHost
public import Idealize.ShloMosaic.Lib.Tactic.CleanTypes

/-!
# The modulation call's result is the reference's

The reference's result is the same formula of the reference's arguments; it
spells the logistic function out. On arguments that agree the two results are the
same array, with no condition on the arguments.
-/

@[expose] public section

set_option maxRecDepth 16384

noncomputable section

namespace Cert.Reference4Ideal.Hand

open Cert.Reference4Ideal Cert.Reference4Ideal.Gen Idealize.SL.Sem
open Idealize.ShloMosaic Idealize.ShloMosaic.TcCoe

variable (m : (ℓ : Loc nD τ sig) → Buf (Elt Ideal) ℓ) (c : Dev nD)

/-- The reference's arguments, as functions of their coordinates. -/
def args : Mod.Args where
  c i k := m ((c : Thread nD τ).loc main_arg0) (ix2 i k)
  w k j := m ((c : Thread nD τ).loc main_arg1) (ix3 0 k j)
  b j := m ((c : Thread nD τ).loc main_arg2) (ix2 0 j)

/-- The result. -/
def result (c : Dev nD) : S16x6144.Idx → EReal := fun i => (args m c).out (i 0) (i 1)

set_option maxHeartbeats 2000000 in
/-- The reference runs, and leaves the result. -/
theorem run_values (ρ : Dev nD → PrngReg) :
    θ_run defs (onTc (τ := τ) (main (F := Ideal))) ⟨m, fun _ => 0, ρ⟩ (fun r => ∀ c : Dev nD,
      (r.2.mem ((c : Thread nD τ).loc main_v6) : S16x6144.Idx → EReal) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun r h c => ⟨(h c).1.trans ?_, (h c).2⟩) (Value.run (F := Ideal) m ρ)
  funext i
  obtain ⟨i, j, rfl⟩ : ∃ (a : Fin 16) (b : Fin 6144), i = ix2 a b := ⟨i 0, i 1, eq_ix2 i⟩
  clean_types
  pointwise
  rfl

end Cert.Reference4Ideal.Hand

namespace Cert.Proof.Mod

open Idealize.ShloMosaic Idealize.SL.Sem

/-- The reference's result is the kernel's. -/
theorem result_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Hand.result m' c = Cert.Kernel4Ideal.Hand.result m c := by
  obtain ⟨h0, h1, h2⟩ := h
  have e0 : (Cert.Reference4Ideal.Hand.args m' c).c = (Cert.Kernel4Ideal.Hand.args m c).c := by
    funext i k; exact congrFun h0 (ix2 i k)
  have e1 : (Cert.Reference4Ideal.Hand.args m' c).w = (Cert.Kernel4Ideal.Hand.args m c).w := by
    funext k j; exact congrFun h1 (ix3 0 k j)
  have e2 : (Cert.Reference4Ideal.Hand.args m' c).b = (Cert.Kernel4Ideal.Hand.args m c).b := by
    funext j; exact congrFun h2 (ix2 0 j)
  have e : Cert.Reference4Ideal.Hand.args m' c = Cert.Kernel4Ideal.Hand.args m c := by
    cases hr : Cert.Reference4Ideal.Hand.args m' c
    cases hk : Cert.Kernel4Ideal.Hand.args m c
    rw [hr, hk] at e0 e1 e2
    congr
  funext i
  exact congrArg (fun A : Cert.Mod.Args => A.out (i 0) (i 1)) e

end Cert.Proof.Mod

end
-- ==== Proof.AttnRow.lean ====
module
public import Idealize.ShloMosaic.Lib.IdealHost
public import Idealize.ShloMosaic.Lib.Pointwise

/-!
# The attention's formula

A query's result is a quotient: the values, weighted by the exponentials of the
scores less their greatest, over the weights' sum and the sink's own weight. The
kernel multiplies by the reciprocal after the weighted sum, and the reference
divides each weight before it: the two agree where the greatest score is real.
-/

@[expose] public section

noncomputable section

namespace Cert.Attn

open Idealize.ShloMosaic

/-- The greatest of the scores and the sink. -/
def top (s : Fin 256 → EReal) (sink : EReal) : EReal := max (Finset.fold max (Ideal.ofBits .f32 0xFF800000#32) s Finset.univ) sink

/-- A key's weight, before the division. -/
def weight (s : Fin 256 → EReal) (sink : EReal) (k : Fin 256) : EReal := Ideal.exp (s k - top s sink)

/-- What the weights are divided by. -/
def mass (s : Fin 256 → EReal) (sink : EReal) : EReal := ∑ k, weight s sink k + Ideal.exp (sink - top s sink)

/-- The weighted sum, multiplied by the reciprocal. -/
def attend (s v : Fin 256 → EReal) (sink : EReal) : EReal := (∑ k, weight s sink k * v k) * Ideal.div 1 (mass s sink)

theorem word_bot : Ideal.ofBits .f32 0xFF800000#32 = ⊥ := by simp [Ideal.ofBits, Ideal.ieee]

theorem exp_nonneg (x : EReal) : 0 ≤ Ideal.exp x := by
  induction x with
  | bot => simp
  | top => simp
  | coe r => simpa using (Real.exp_pos r).le

theorem exp_pos (x : EReal) (h : x ≠ ⊥) : 0 < Ideal.exp x := by
  induction x with
  | bot => exact absurd rfl h
  | top => simp
  | coe r => simpa using Real.exp_pos r

theorem weight_nonneg (s : Fin 256 → EReal) (sink : EReal) (k : Fin 256) : 0 ≤ weight s sink k := exp_nonneg _

/-- A key with score `-∞` has no weight. -/
theorem weight_bot (s : Fin 256 → EReal) (sink : EReal) (k : Fin 256) (h : s k = ⊥) : weight s sink k = 0 := by
  rw [weight, h, EReal.bot_sub, Ideal.exp_bot]

/-- Only the values of the keys that have a weight matter. -/
theorem attend_congr (s s' v v' : Fin 256 → EReal) (sink : EReal) (hs : s = s') (hv : ∀ k, s' k ≠ ⊥ → v k = v' k) : attend s v sink = attend s' v' sink := by
  subst hs
  refine congrArg (· * Ideal.div 1 (mass s sink)) (Finset.sum_congr rfl fun k _ => ?_)
  by_cases h : s k = ⊥
  · rw [weight_bot s sink k h, zero_mul, zero_mul]
  · rw [hv k h]

/-- A sum times a real number that is not negative. -/
theorem sum_mul_real {ι : Type} (t : Finset ι) (f : ι → EReal) (x : EReal) (h0 : 0 ≤ x) (h1 : x ≠ ⊤) : (∑ i ∈ t, f i) * x = ∑ i ∈ t, f i * x := by
  classical
  induction t using Finset.induction_on with
  | empty => simp
  | insert a t ha ih => rw [Finset.sum_insert ha, Finset.sum_insert ha, EReal.right_distrib_of_nonneg_of_ne_top h0 h1, ih]

theorem le_top (s : Fin 256 → EReal) (sink : EReal) (k : Fin 256) : s k ≤ top s sink :=
  le_max_of_le_left ((Finset.le_fold_max _).mpr (Or.inr ⟨k, Finset.mem_univ k, le_rfl⟩))

theorem top_ne_top (s : Fin 256 → EReal) (sink : EReal) (h : ∀ k, s k ≠ ⊤) (hs : sink ≠ ⊤) : top s sink ≠ ⊤ := by
  refine (max_lt ((Finset.fold_max_lt _).mpr ⟨?_, fun k _ => lt_top_iff_ne_top.mpr (h k)⟩) (lt_top_iff_ne_top.mpr hs)).ne
  rw [word_bot]; exact bot_lt_top

/-- With no score `+∞` and one of them real, what the weights are divided by is positive. -/
theorem mass_ne_zero (s : Fin 256 → EReal) (sink : EReal) (h : ∀ k, s k ≠ ⊤) (hs : sink ≠ ⊤) (k0 : Fin 256) (h0 : s k0 ≠ ⊥) : mass s sink ≠ 0 := by
  have ht := top_ne_top s sink h hs
  have hw : 0 < weight s sink k0 := exp_pos _ (by
    rw [sub_eq_add_neg, Ne, EReal.add_eq_bot_iff, EReal.neg_eq_bot_iff]
    exact not_or.mpr ⟨h0, ht⟩)
  have hsum : weight s sink k0 ≤ ∑ k, weight s sink k := Finset.single_le_sum (fun k _ => weight_nonneg s sink k) (Finset.mem_univ k0)
  exact (lt_of_lt_of_le hw (hsum.trans (le_add_of_nonneg_right (exp_nonneg _)))).ne'

theorem inv_ne_top (x : EReal) : x⁻¹ ≠ ⊤ := by
  induction x with
  | bot => simp
  | top => simp
  | coe r => rw [← EReal.coe_inv]; exact EReal.coe_ne_top _

/-- The division of each weight, and the product with the reciprocal. -/
theorem attend_eq (s v : Fin 256 → EReal) (sink : EReal) (h : mass s sink ≠ 0) :
    ∑ k, v k * Ideal.div (weight s sink k) (mass s sink) = attend s v sink := by
  have hm : 0 ≤ mass s sink := add_nonneg (Finset.sum_nonneg fun k _ => weight_nonneg s sink k) (exp_nonneg _)
  unfold attend
  rw [Ideal.div, if_neg h, one_mul, sum_mul_real _ _ _ (EReal.inv_nonneg_of_nonneg hm) (inv_ne_top _)]
  refine Finset.sum_congr rfl fun k _ => ?_
  rw [Ideal.div, if_neg h, ← mul_assoc, mul_comm (v k)]

/-! ## The scores -/

/-- The arguments, as functions of their coordinates. -/
structure Args where
  q : Fin 32768 → Fin 512 → EReal
  kv : Fin 32768 → Fin 256 → EReal
  sink : Fin 8 → EReal

/-- The linear bias of a head, at a distance. -/
def slope (h : Fin 8) (i : Fin 128) (k : Fin 256) : EReal :=
  -Ideal.pow (Ideal.ofBits .f32 0x40000000#32)
      (Ideal.div (Ideal.ofBits .f32 0xC1000000#32 * (1 + FloatOps.sitofp (F := Ideal) .f32 (BitVec.ofNat 32 h.val))) (Ideal.ofBits .f32 0x41000000#32)) *
    FloatOps.sitofp (F := Ideal) .f32 (IntOp.subi (IntOp.addi (BitVec.ofNat 32 i.val) 128#32) (BitVec.ofNat 32 k.val))

/-- The keys that a query sees: the last 128 up to itself, in its sequence. -/
def Sees (R : Fin 32768) (k : Fin 256) : Prop := (k.val ≤ R.val % 128 + 128 ∧ R.val % 128 < k.val) ∧ (128 ≤ k.val ∨ 128 ≤ R.val % 2048)

instance (R : Fin 32768) (k : Fin 256) : Decidable (Sees R k) := inferInstanceAs (Decidable (_ ∧ _))

/-- The row of the k-th key of a query's band. -/
def row (R : Fin 32768) (k : Fin 256) : Fin 32768 := ⟨R.val / 128 * 128 + k.val - 128, by omega⟩

variable (A : Args)

def score (R : Fin 32768) (h : Fin 8) (k : Fin 256) : EReal :=
  if Sees R k then
    (∑ d : Fin 64, A.q R ⟨64 * h.val + d.val, by omega⟩ * A.kv (row R k) ⟨64 * (h.val / 4) + d.val, by omega⟩) * Ideal.ofBits .f32 0x3E000000#32
      + slope h ⟨R.val % 128, by omega⟩ k
  else ⊥

def value (R : Fin 32768) (j : Fin 512) (k : Fin 256) : EReal := A.kv (row R k) ⟨128 + 64 * (j.val / 256) + j.val % 64, by omega⟩

/-- The result of the attention. -/
def out (R : Fin 32768) (j : Fin 512) : EReal :=
  attend (score A R ⟨j.val / 64, by omega⟩) (value A R j) (A.sink ⟨j.val / 64, by omega⟩)

/-- What is asked of the arguments: the queries and the keys are real, and no sink is `+∞`. -/
structure Real : Prop where
  q : ∀ R j, A.q R j ≠ ⊤ ∧ A.q R j ≠ ⊥
  k : ∀ R (j : Fin 128), A.kv R ⟨j.val, by omega⟩ ≠ ⊤ ∧ A.kv R ⟨j.val, by omega⟩ ≠ ⊥
  sink : ∀ h, A.sink h ≠ ⊤

theorem mul_real (x y : EReal) (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

theorem add_real (x y : EReal) (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

theorem sum_real {ι : Type} (t : Finset ι) (f : ι → EReal) (h : ∀ i, f i ≠ ⊤ ∧ f i ≠ ⊥) : (∑ i ∈ t, f i) ≠ ⊤ ∧ (∑ i ∈ t, f i) ≠ ⊥ := by
  classical
  induction t using Finset.induction_on with
  | empty => simp
  | insert a t ha ih => rw [Finset.sum_insert ha]; exact add_real _ _ (h a) ih

theorem word_eighth : Ideal.ofBits .f32 0x3E000000#32 = (((1 : ℝ) / 8 : ℝ) : EReal) := by
  simp [Ideal.ofBits, Ideal.ieee, ← EReal.coe_mul]; norm_num
theorem word_eighth_half : Ideal.ofBits .bf16 0x3E00#16 = (((1 : ℝ) / 8 : ℝ) : EReal) := by
  simp [Ideal.ofBits, Ideal.ieee, ← EReal.coe_mul]; norm_num
theorem word_two : Ideal.ofBits .f32 0x40000000#32 = ((2 : ℝ) : EReal) := by
  simp [Ideal.ofBits, Ideal.ieee, ← EReal.coe_mul]; norm_num
theorem word_eight : Ideal.ofBits .f32 0x41000000#32 = ((8 : ℝ) : EReal) := by
  simp [Ideal.ofBits, Ideal.ieee, ← EReal.coe_mul]; norm_num
theorem word_minus_eight : Ideal.ofBits .f32 0xC1000000#32 = ((-8 : ℝ) : EReal) := by
  simp [Ideal.ofBits, Ideal.ieee, ← EReal.coe_mul]; norm_num

theorem slope_real (h : Fin 8) (i : Fin 128) (k : Fin 256) : slope h i k ≠ ⊤ ∧ slope h i k ≠ ⊥ := by
  have hi (w : BitVec 32) : ∃ r : ℝ, (FloatOps.sitofp (F := Ideal) .f32 w : EReal) = r := ⟨_, rfl⟩
  obtain ⟨a, ha⟩ := hi (BitVec.ofNat 32 h.val)
  obtain ⟨b, hb⟩ := hi (IntOp.subi (IntOp.addi (BitVec.ofNat 32 i.val) 128#32) (BitVec.ofNat 32 k.val))
  have h8 : ((8 : ℝ) : EReal) ≠ 0 := by norm_num
  unfold slope
  rw [ha, hb, word_two, word_eight, word_minus_eight, Ideal.div, if_neg h8, ← EReal.coe_one, ← EReal.coe_add, ← EReal.coe_mul, ← EReal.coe_inv, ← EReal.coe_mul]
  refine mul_real _ _ ?_ ⟨EReal.coe_ne_top _, EReal.coe_ne_bot _⟩
  show -((_ : ℝ) : EReal) ≠ ⊤ ∧ -((_ : ℝ) : EReal) ≠ ⊥
  rw [← EReal.coe_neg]
  exact ⟨EReal.coe_ne_top _, EReal.coe_ne_bot _⟩

theorem score_seen (hA : Real A) (R : Fin 32768) (h : Fin 8) (k : Fin 256) (hk : Sees R k) : score A R h k ≠ ⊤ ∧ score A R h k ≠ ⊥ := by
  rw [score, if_pos hk]
  refine add_real _ _ (mul_real _ _ (sum_real _ _ fun d => mul_real _ _ (hA.q _ _) (hA.k (row R k) ⟨64 * (h.val / 4) + d.val, by omega⟩)) ?_) (slope_real _ _ _)
  rw [word_eighth]
  exact ⟨EReal.coe_ne_top _, EReal.coe_ne_bot _⟩

/-- With real queries and keys the sum of the weights is positive: a query sees itself. -/
theorem mass_real (hA : Real A) (R : Fin 32768) (h : Fin 8) : mass (score A R h) (A.sink h) ≠ 0 := by
  refine mass_ne_zero _ _ (fun k => ?_) (hA.sink h) ⟨R.val % 128 + 128, by omega⟩ (score_seen A hA R h _ ⟨⟨le_rfl, by show R.val % 128 < R.val % 128 + 128; omega⟩, Or.inl (by show 128 ≤ R.val % 128 + 128; omega)⟩).2
  by_cases hk : Sees R k
  · exact (score_seen A hA R h k hk).1
  · rw [score, if_neg hk]; exact bot_ne_top

/-- The scale, applied to the queries. -/
theorem scaled (f g : Fin 64 → EReal) :
    ∑ d, f d * Ideal.ofBits .bf16 0x3E00#16 * g d = (∑ d, f d * g d) * Ideal.ofBits .f32 0x3E000000#32 := by
  rw [word_eighth, word_eighth_half, sum_mul_real _ _ _ (by exact_mod_cast (by norm_num : (0 : ℝ) ≤ 1 / 8)) (EReal.coe_ne_top _)]
  exact Finset.sum_congr rfl fun d _ => mul_right_comm _ _ _

end Cert.Attn

end
-- ==== Proof.AttnPair.lean ====
module
public import proofs.«01_k».proof.Proof.Gen.Kernel5Ideal
public import proofs.«01_k».proof.Proof.Gen.Kernel5Ideal.Skeleton
public import proofs.«01_k».proof.Proof.AttnRow
public import Idealize.ShloMosaic.Lib.IdealHost

/-!
# What a pair of heads stores

Two heads share a product: their keys stand side by side, made block diagonal, so
that each head's scores are the products of its own 64 lanes.
-/

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic Idealize.SL.Sem

/-- Two heads' keys (or values) side by side, made block diagonal. -/
def diag (t : FVec Ideal S256x128 .bf16) : FVec Ideal S512x128 .bf16 :=
  concatenate S512x128 0 [⟨S256x128, select k0_pay5 t (k0_pay7 (F := Ideal))⟩, ⟨S256x128, select k0_pay5 (k0_pay7 (F := Ideal)) t⟩] concatenates_S256x128_S256x128_S512x128_d0

/-- What a pair of heads stores, of its scores. -/
def stored (s : FVec Ideal S128x512 .f32) (vp : FVec Ideal S512x128 .bf16) (s0 s1 : Elt Ideal .f32) : Vec Ideal S128x128 .bf16 :=
  k0_pay2 vp (k0_pay33 s (k0_pay27 s s0) s1) (k0_pay34 k0_pay6 s (k0_pay28 s s0) (k0_pay29 (F := Ideal)) s1)

/-- A choice by the lane's head. -/
theorem lane (l : Fin 128) (a b : EReal) : Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide
  rw [h l]
  by_cases hl : l.val < 64
  · rw [if_pos hl, if_pos hl]; rfl
  · rw [if_neg hl, if_neg hl]; rfl

theorem diag_at (t : FVec Ideal S256x128 .bf16) (k : Fin 512) (l : Fin 128) :
    (diag t (ix2 k l) : EReal) = if h : k.val < 256 then (if l.val < 64 then t (ix2 ⟨k.val, h⟩ l) else 0)
      else (if l.val < 64 then 0 else t (ix2 ⟨k.val - 256, by omega⟩ l)) := by
  pointwise [diag, k0_pay5, k0_pay7]
  simp only [lane]

/-- In the lanes of the first head, the first 256 rows are the operand's and the others zeros. -/
theorem diag_low (t : FVec Ideal S256x128 .bf16) (k : Fin 256) (l : Fin 128) (hl : l.val < 64) :
    (diag t (ix2 ⟨k.val, by omega⟩ l) : EReal) = t (ix2 k l) ∧ (diag t (ix2 ⟨256 + k.val, by omega⟩ l) : EReal) = 0 := by
  rw [diag_at, diag_at, dif_pos (show k.val < 256 from k.isLt), dif_neg (show ¬ 256 + k.val < 256 by omega), if_pos hl, if_pos hl]
  exact ⟨rfl, rfl⟩

/-- In the lanes of the second head, the last 256 rows are the operand's and the others zeros. -/
theorem diag_high (t : FVec Ideal S256x128 .bf16) (k : Fin 256) (l : Fin 128) (hl : ¬ l.val < 64) :
    (diag t (ix2 ⟨k.val, by omega⟩ l) : EReal) = 0 ∧ (diag t (ix2 ⟨256 + k.val, by omega⟩ l) : EReal) = t (ix2 k l) := by
  rw [diag_at, diag_at, dif_pos (show k.val < 256 from k.isLt), dif_neg (show ¬ 256 + k.val < 256 by omega), if_neg hl, if_neg hl]
  exact ⟨rfl, congrArg t (congrArg (fun z => ix2 z l) (Fin.ext (by show 256 + k.val - 256 = k.val; omega)))⟩

set_option maxHeartbeats 4000000 in
theorem stored_at (s : FVec Ideal S128x512 .f32) (vt : FVec Ideal S256x128 .bf16) (s0 s1 : Elt Ideal .f32) (r l : Fin 128) :
    (stored s (diag vt) s0 s1 (ix2 r l) : EReal)
      = Attn.attend (fun k => s (ix2 r ⟨256 * (l.val / 64) + k.val, by omega⟩)) (fun k => vt (ix2 k l)) (if l.val < 64 then s0 else s1) := by
  unfold stored
  generalize hvp : diag vt = vp
  pointwise [k0_pay2, k0_pay33, k0_pay27, k0_pay34, k0_pay6, k0_pay28, k0_pay29, k0_pay26, k0_pay25, k0_pay32, k0_pay31, k0_pay30]
  subst hvp
  rw [lane]
  by_cases hl : l.val < 64
  · have e : (fun k : Fin 256 => s (ix2 r ⟨256 * (l.val / 64) + k.val, by omega⟩)) = fun k : Fin 256 => s (ix2 r ⟨k.val, by omega⟩) :=
      funext fun k => congrArg s (congrArg (ix2 r) (Fin.ext (by show 256 * (l.val / 64) + k.val = k.val; omega)))
    rw [e, if_pos hl, if_pos hl]
    simp only [(diag_low vt _ l hl).1, (diag_low vt _ l hl).2, mul_zero, Finset.sum_const_zero, add_zero]
    rfl
  · have e : (fun k : Fin 256 => s (ix2 r ⟨256 * (l.val / 64) + k.val, by omega⟩)) = fun k : Fin 256 => s (ix2 r ⟨256 + k.val, by omega⟩) :=
      funext fun k => congrArg s (congrArg (ix2 r) (Fin.ext (by show 256 * (l.val / 64) + k.val = 256 + k.val; omega)))
    rw [e, if_neg hl, if_neg hl]
    simp only [(diag_high vt _ l hl).1, (diag_high vt _ l hl).2, mul_zero, Finset.sum_const_zero, zero_add]
    rfl

/-- A sum over the lanes of which one head's are zeros is a sum over the other head's. -/
theorem sum_lanes (f : Fin 128 → EReal) (g : Fin 2) (h : ∀ l : Fin 128, ¬ l.val / 64 = g.val → f l = 0) :
    ∑ l, f l = ∑ d : Fin 64, f ⟨64 * g.val + d.val, by omega⟩ := by
  rw [show ∑ l, f l = ∑ l : Fin (64 + 64), f l from rfl, Fin.sum_univ_add]
  match g with
  | 0 =>
    rw [Finset.sum_eq_zero (s := Finset.univ) (f := fun d : Fin 64 => f (Fin.natAdd 64 d)) (fun d _ => h _ (by show ¬ (64 + d.val) / 64 = 0; omega)), add_zero]
    exact Finset.sum_congr rfl fun d _ => congrArg f (Fin.ext (by show d.val = 64 * 0 + d.val; omega))
  | 1 =>
    rw [Finset.sum_eq_zero (s := Finset.univ) (f := fun d : Fin 64 => f (Fin.castAdd 64 d)) (fun d _ => h _ (by show ¬ d.val / 64 = 1; omega)), zero_add]
    exact Finset.sum_congr rfl fun d _ => congrArg f (Fin.ext (by show 64 + d.val = 64 * 1 + d.val; omega))

/-- A pair's scores: each head's are the products of its own lanes. -/
theorem scores_at (q : Vec Ideal S128x128 .bf16) (kt : FVec Ideal S256x128 .bf16) (b : Vec Ideal S1x1x128x512 .f32) (r : Fin 128) (g : Fin 2) (k : Fin 256) :
    (k0_pay13 (diag kt) q b (ix2 r ⟨256 * g.val + k.val, by omega⟩) : EReal)
      = (∑ d : Fin 64, q (ix2 r ⟨64 * g.val + d.val, by omega⟩) * Ideal.ofBits .bf16 0x3E00#16 * kt (ix2 k ⟨64 * g.val + d.val, by omega⟩))
        + b (ix4 0 0 r ⟨256 * g.val + k.val, by omega⟩) := by
  generalize hkp : diag kt = kp
  pointwise [k0_pay13]
  subst hkp
  refine congrArg (· + _) ?_
  match g with
  | 0 =>
    have e : (⟨256 * (0 : Fin 2).val + k.val, by omega⟩ : Fin 512) = ⟨k.val, by omega⟩ := Fin.ext (by show 256 * 0 + k.val = k.val; omega)
    rw [e]
    rw [sum_lanes _ 0 (fun l hl => by rw [(diag_high kt k l (fun h => hl (by show l.val / 64 = 0; omega))).1, mul_zero])]
    exact Finset.sum_congr rfl fun d _ => congrArg (fun z => _ * z) (diag_low kt k _ (by show 64 * 0 + d.val < 64; omega)).1
  | 1 =>
    have e : (⟨256 * (1 : Fin 2).val + k.val, by omega⟩ : Fin 512) = ⟨256 + k.val, by omega⟩ := Fin.ext (by show 256 * 1 + k.val = 256 + k.val; omega)
    rw [e]
    rw [sum_lanes _ 1 (fun l hl => by rw [(diag_low kt k l (by have : ¬ l.val / 64 = 1 := hl; omega)).2, mul_zero])]
    exact Finset.sum_congr rfl fun d _ => congrArg (fun z => _ * z) (diag_high kt k _ (by show ¬ 64 * 1 + d.val < 64; omega)).2

end Cert.Kernel5Ideal.Hand

end
-- ==== Proof.AttnTile.lean ====
module
public import proofs.«01_k».proof.Proof.AttnPair
public import proofs.«01_k».proof.Proof.Gen.Kernel5Ideal.Frame
public import proofs.«01_k».proof.Proof.Gen.Kernel5Ideal.Value
public import Idealize.ShloMosaic.Lib.Pipeline.ReadBack
public import Idealize.ShloMosaic.Lib.Pipeline.ValueKit.Tiles

/-!
# What a grid point stores

A grid point answers four blocks of 128 queries, each by four pairs of heads: 16
stores, each a window of one formula.
-/

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic Idealize.SL.Sem

/-- What a grid point computes with. -/
structure Tile where
  x0 : Vec Ideal S512x512 .bf16
  x1 : Vec Ideal S512x512 .bf16
  x2 : Vec Ideal S128x512 .bf16
  x3 : Vec Ideal S1x4x128x512 .f32
  x4 : Vec Ideal S1x4x128x512 .f32
  x5 : Vec Ideal S8 .f32

namespace Tile

variable (T : Tile)

/-- The rows of keys and values at hand: the block before, and the point's four blocks. -/
def band (k : Fin 640) (j : Fin 512) : EReal := if h : k.val < 128 then T.x2 (ix2 ⟨k.val, h⟩ j) else T.x1 (ix2 ⟨k.val - 128, by omega⟩ j)

/-- The bias of a block: the first block of a grid point has its own. -/
def bias (n : Fin 4) : Vec Ideal S1x4x128x512 .f32 := if n.val = 0 then T.x3 else T.x4

/-- The result in block n and pair p, at row r and lane l. -/
def outAt (n p : Fin 4) (r l : Fin 128) : EReal :=
  Attn.attend
    (fun k => (∑ d : Fin 64, T.x0 (ix2 ⟨128 * n.val + r.val, by omega⟩ ⟨128 * p.val + (64 * (l.val / 64) + d.val), by omega⟩) * Ideal.ofBits .bf16 0x3E00#16
        * T.band ⟨128 * n.val + k.val, by omega⟩ ⟨128 * (p.val / 2) + (64 * (l.val / 64) + d.val), by omega⟩)
      + T.bias n (ix4 0 p r ⟨256 * (l.val / 64) + k.val, by omega⟩))
    (fun k => T.band ⟨128 * n.val + k.val, by omega⟩ ⟨256 + 128 * (p.val / 2) + l.val, by omega⟩)
    (T.x5 (ix1 ⟨2 * p.val + l.val / 64, by omega⟩))

def out : S512x512.Idx → EReal := fun i =>
  T.outAt ⟨(i 0).val / 128, by have := (i 0).isLt; change (i 0).val < 512 at this; omega⟩ ⟨(i 1).val / 128, by have := (i 1).isLt; change (i 1).val < 512 at this; omega⟩
    ⟨(i 0).val % 128, by omega⟩ ⟨(i 1).val % 128, by omega⟩

end Tile

/-- The rows at hand, as the kernel joins them. -/
theorem joined (T : Tile) (i2 i1) (k : Fin 640) (j : Fin 512) :
    (k0_pay3 (View.ld T.x2 (Rect.unit ![0, 0] ![128, 512] i2)) (View.ld T.x1 (Rect.unit ![0, 0] ![512, 512] i1)) (ix2 k j) : EReal) = T.band k j := by
  have e2 : View.ld T.x2 (Rect.unit ![0, 0] ![128, 512] i2) = T.x2 := View.ld_unit_zero (off := ![0, 0]) (funext fun a => by fin_cases a <;> rfl) _ T.x2
  have e1 : View.ld T.x1 (Rect.unit ![0, 0] ![512, 512] i1) = T.x1 := View.ld_unit_zero (off := ![0, 0]) (funext fun a => by fin_cases a <;> rfl) _ T.x1
  rw [e2, e1]
  pointwise [k0_pay3]
  rfl

/-- A load from a block of the queries. -/
theorem query (arg2 : Memref sig .tc .vmem S512x512 .bf16) (harg2 : arg2.IsWhole) (x0 : Vec Ideal S512x512 .bf16) (o o' : ℕ) (i1 i2 h) (r l : Fin 128)
    (ho : o + r.val < 512) (ho' : o' + l.val < 512) :
    (View.readAt (Elt Ideal) arg2.view ((Rect.unit (s := S512x512) ![o, 0] ![128, 512] i1).withinL (Rect.unit (s := S128x512) ![0, o'] ![128, 128] i2).toLoadRect h)
      (harg2.unread x0) : S128x128.Idx → EReal) (ix2 r l) = x0 (ix2 ⟨o + r.val, ho⟩ ⟨o' + l.val, ho'⟩) := by
  show arg2.view.read (Elt Ideal) (harg2.unread x0) (LoadRect.idx _ _) = _
  rw [harg2.read_unread, Rect.idx_withinL]
  refine congrArg x0 (funext fun a => Fin.ext ?_)
  match a with
  | ⟨0, _⟩ => show o + 1 * (0 + 1 * r.val) = o + r.val; omega
  | ⟨1, _⟩ => show 0 + 1 * (o' + 1 * l.val) = o' + l.val; omega

variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S128x512 .bf16) (harg4 : arg4.IsWhole) (arg5 : Memref sig .tc .vmem S1x4x128x512 .f32) (harg5 : arg5.IsWhole) (arg6 : Memref sig .tc .vmem S1x4x128x512 .f32) (harg6 : arg6.IsWhole) (arg7 : Memref sig .tc .smem S8 .f32) (harg7 : arg7.IsWhole) (arg8 : Memref sig .tc .vmem S512x512 .bf16) (harg8 : arg8.IsWhole)

/-- A store is a window of the formula. -/
theorem piece (T : Tile) (n p : Fin 4) (o o' kc vc z0 z1 : ℕ) (B : Vec Ideal S1x4x128x512 .f32) (iq1 iq2 hq i2 i1 ss sk sv ib i50 i51 h50 h51 io)
    (ho : o = 128 * n.val) (ho' : o' = 128 * p.val) (hkc : kc = 128 * (p.val / 2)) (hvc : vc = 256 + 128 * (p.val / 2)) (hz0 : z0 = 2 * p.val) (hz1 : z1 = 2 * p.val + 1)
    (hB : B = T.bias n) (x : S128x128.Idx) :
    (stored
      (k0_pay13 (diag (extractStridedSlice S256x128 ![0, kc] (extractStridedSlice S256x512 ![o, 0] (k0_pay3 (View.ld T.x2 (Rect.unit ![0, 0] ![128, 512] i2)) (View.ld T.x1 (Rect.unit ![0, 0] ![512, 512] i1))) ss) sk))
        (View.readAt (Elt Ideal) arg2.view ((Rect.unit (s := S512x512) ![o, 0] ![128, 512] iq1).withinL (Rect.unit (s := S128x512) ![0, o'] ![128, 128] iq2).toLoadRect hq) (harg2.unread T.x0))
        (View.ld B (Rect.unit ![0, p.val, 0, 0] ![1, 1, 128, 512] ib)))
      (diag (extractStridedSlice S256x128 ![0, vc] (extractStridedSlice S256x512 ![o, 0] (k0_pay3 (View.ld T.x2 (Rect.unit ![0, 0] ![128, 512] i2)) (View.ld T.x1 (Rect.unit ![0, 0] ![512, 512] i1))) ss) sv))
      (View.ld T.x5 (Rect.unit (s := S8) ![z0] ![1] i50) (Shape.Idx.first h50)) (View.ld T.x5 (Rect.unit (s := S8) ![z1] ![1] i51) (Shape.Idx.first h51)) : S128x128.Idx → EReal) x
      = T.out ((Rect.unit (s := S512x512) ![o, o'] ![128, 128] io).emb x) := by
  subst ho ho' hkc hvc hz0 hz1 hB
  obtain ⟨r, l, rfl⟩ : ∃ (r l : Fin 128), x = ix2 r l := ⟨x 0, x 1, eq_ix2 x⟩
  have eemb : (Rect.unit (s := S512x512) ![128 * n.val, 128 * p.val] ![128, 128] io).emb (ix2 r l) = ix2 ⟨128 * n.val + r.val, by omega⟩ ⟨128 * p.val + l.val, by omega⟩ := by
    funext a
    refine Fin.ext ((Rect.idx_unit_val _ _ io _ a).trans ?_)
    match a with
    | 0 => rfl
    | 1 => rfl
  have eout : T.out (ix2 ⟨128 * n.val + r.val, by omega⟩ ⟨128 * p.val + l.val, by omega⟩) = T.outAt n p r l := by
    have e1 : (⟨(128 * n.val + r.val) / 128, by omega⟩ : Fin 4) = n := Fin.ext (by show (128 * n.val + r.val) / 128 = n.val; omega)
    have e2 : (⟨(128 * p.val + l.val) / 128, by omega⟩ : Fin 4) = p := Fin.ext (by show (128 * p.val + l.val) / 128 = p.val; omega)
    have e3 : (⟨(128 * n.val + r.val) % 128, by omega⟩ : Fin 128) = r := Fin.ext (by show (128 * n.val + r.val) % 128 = r.val; omega)
    have e4 : (⟨(128 * p.val + l.val) % 128, by omega⟩ : Fin 128) = l := Fin.ext (by show (128 * p.val + l.val) % 128 = l.val; omega)
    show T.outAt ⟨(128 * n.val + r.val) / 128, _⟩ ⟨(128 * p.val + l.val) / 128, _⟩ ⟨(128 * n.val + r.val) % 128, _⟩ ⟨(128 * p.val + l.val) % 128, _⟩ = _
    rw [e1, e2, e3, e4]
  have hrow (kv : FVec Ideal S640x512 .bf16) (cc : ℕ) (sc) (k : Fin 256) (l' : Fin 128) (hc : cc + l'.val < 512) :
      (extractStridedSlice S256x128 ![0, cc] (extractStridedSlice S256x512 ![128 * n.val, 0] kv ss) sc (ix2 k l') : EReal)
        = kv (ix2 ⟨128 * n.val + k.val, by omega⟩ ⟨cc + l'.val, hc⟩) := by
    refine congrArg kv (funext fun a => Fin.ext ?_)
    match a with
    | ⟨0, _⟩ => show 128 * n.val + (0 + k.val) = 128 * n.val + k.val; omega
    | ⟨1, _⟩ => show 0 + (cc + l'.val) = cc + l'.val; omega
  have hsink (z : ℕ) (hz : z < 8) (iz hz') : View.ld T.x5 (Rect.unit (s := S8) ![z] ![1] iz) (Shape.Idx.first hz') = T.x5 (ix1 ⟨z, hz⟩) :=
    View.ld_unit_apply_of T.x5 _ _ iz _ _ fun a => by
      match a with
      | 0 => rfl
  have hbias (κ : Fin 512) : View.ld (T.bias n) (Rect.unit (s := S1x4x128x512) ![0, p.val, 0, 0] ![1, 1, 128, 512] ib) (ix4 0 0 r κ) = T.bias n (ix4 0 p r κ) :=
    View.ld_unit_apply_of (T.bias n) _ _ ib _ _ fun a => by
      match a with
      | 0 => rfl
      | 1 => rfl
      | 2 => exact (Nat.zero_add _).symm
      | 3 => exact (Nat.zero_add _).symm
  rw [eemb, eout, stored_at]
  unfold Tile.outAt
  have esink : (if l.val < 64 then View.ld T.x5 (Rect.unit (s := S8) ![2 * p.val] ![1] i50) (Shape.Idx.first h50) else View.ld T.x5 (Rect.unit (s := S8) ![2 * p.val + 1] ![1] i51) (Shape.Idx.first h51))
      = T.x5 (ix1 ⟨2 * p.val + l.val / 64, by omega⟩) := by
    by_cases hl : l.val < 64
    · rw [if_pos hl, hsink _ (by omega)]
      exact congrArg T.x5 (congrArg ix1 (Fin.ext (by show 2 * p.val = 2 * p.val + l.val / 64; omega)))
    · rw [if_neg hl, hsink _ (by omega)]
      exact congrArg T.x5 (congrArg ix1 (Fin.ext (by show 2 * p.val + 1 = 2 * p.val + l.val / 64; omega)))
  rw [esink]
  refine congrArg₂ (fun s v => Attn.attend s v _) (funext fun k => ?_) (funext fun k => ?_)
  · refine (scores_at _ _ _ r ⟨l.val / 64, by omega⟩ k).trans (congrArg₂ (· + ·) (Finset.sum_congr rfl fun d _ => ?_) (hbias _))
    rw [hrow _ _ _ _ _ (by show 128 * (p.val / 2) + (64 * (l.val / 64) + d.val) < 512; omega), joined,
      query arg2 harg2 T.x0 _ _ _ _ _ _ _ (by omega) (by show 128 * p.val + (64 * (l.val / 64) + d.val) < 512; omega)]
  · rw [hrow _ _ _ _ _ (by omega), joined]

set_option maxHeartbeats 8000000 in
theorem out0_A_6_eq (T : Tile) :
    (out0_A_6 (F := Ideal) c i arg2 harg2 arg3 harg3 arg4 harg4 arg5 harg5 arg6 harg6 arg7 harg7 arg8 harg8 T.x0 T.x1 T.x2 T.x3 T.x4 T.x5 : S512x512.Idx → EReal) = T.out := by
  unfold out0_A_6
  rw [View.read_writes_eq_canon _ _ _ (cover0_A_6 c i arg2 harg2 arg3 harg3 arg4 harg4 arg5 harg5 arg6 harg6 arg7 harg7 arg8 harg8 T.x0 T.x1 T.x2 T.x3 T.x4 T.x5)]
  have hc := cover0_A_6 c i arg2 harg2 arg3 harg3 arg4 harg4 arg5 harg5 arg6 harg6 arg7 harg7 arg8 harg8 T.x0 T.x1 T.x2 T.x3 T.x4 T.x5
  refine funext fun y => View.canon_apply_of_pieces (Val := Elt Ideal) (e := .bf16) T.out _ (View.PiecesOf.mem ?_) y (hc y)
  clear hc
  unfold kernelRun0_A
  dsimp only
  sl_unfold_words
  simp only [View.readAt_eq_ld, harg3.read_unread, harg4.read_unread, harg5.read_unread, harg6.read_unread, harg7.read_unread]
  exact ⟨piece arg2 harg2 T 3 3 384 384 128 384 6 7 T.x4 _ _ _ _ _ (slices_S640x512_o384_0_S256x512) slices_S256x512_o0_128_S256x128 slices_S256x512_o0_384_S256x128 _ _ _ _ _ inb_S512x512_S128x128_384_384 rfl rfl rfl rfl rfl rfl rfl,
      piece arg2 harg2 T 3 2 384 256 128 384 4 5 T.x4 _ _ _ _ _ (slices_S640x512_o384_0_S256x512) slices_S256x512_o0_128_S256x128 slices_S256x512_o0_384_S256x128 _ _ _ _ _ inb_S512x512_S128x128_384_256 rfl rfl rfl rfl rfl rfl rfl,
      piece arg2 harg2 T 3 1 384 128 0 256 2 3 T.x4 _ _ _ _ _ (slices_S640x512_o384_0_S256x512) slices_S256x512_o0_0_S256x128 slices_S256x512_o0_256_S256x128 _ _ _ _ _ inb_S512x512_S128x128_384_128 rfl rfl rfl rfl rfl rfl rfl,
      piece arg2 harg2 T 3 0 384 0 0 256 0 1 T.x4 _ _ _ _ _ (slices_S640x512_o384_0_S256x512) slices_S256x512_o0_0_S256x128 slices_S256x512_o0_256_S256x128 _ _ _ _ _ inb_S512x512_S128x128_384_0 rfl rfl rfl rfl rfl rfl rfl,
      piece arg2 harg2 T 2 3 256 384 128 384 6 7 T.x4 _ _ _ _ _ (slices_S640x512_o256_0_S256x512) slices_S256x512_o0_128_S256x128 slices_S256x512_o0_384_S256x128 _ _ _ _ _ inb_S512x512_S128x128_256_384 rfl rfl rfl rfl rfl rfl rfl,
      piece arg2 harg2 T 2 2 256 256 128 384 4 5 T.x4 _ _ _ _ _ (slices_S640x512_o256_0_S256x512) slices_S256x512_o0_128_S256x128 slices_S256x512_o0_384_S256x128 _ _ _ _ _ inb_S512x512_S128x128_256_256 rfl rfl rfl rfl rfl rfl rfl,
      piece arg2 harg2 T 2 1 256 128 0 256 2 3 T.x4 _ _ _ _ _ (slices_S640x512_o256_0_S256x512) slices_S256x512_o0_0_S256x128 slices_S256x512_o0_256_S256x128 _ _ _ _ _ inb_S512x512_S128x128_256_128 rfl rfl rfl rfl rfl rfl rfl,
      piece arg2 harg2 T 2 0 256 0 0 256 0 1 T.x4 _ _ _ _ _ (slices_S640x512_o256_0_S256x512) slices_S256x512_o0_0_S256x128 slices_S256x512_o0_256_S256x128 _ _ _ _ _ inb_S512x512_S128x128_256_0 rfl rfl rfl rfl rfl rfl rfl,
      piece arg2 harg2 T 1 3 128 384 128 384 6 7 T.x4 _ _ _ _ _ (slices_S640x512_o128_0_S256x512) slices_S256x512_o0_128_S256x128 slices_S256x512_o0_384_S256x128 _ _ _ _ _ inb_S512x512_S128x128_128_384 rfl rfl rfl rfl rfl rfl rfl,
      piece arg2 harg2 T 1 2 128 256 128 384 4 5 T.x4 _ _ _ _ _ (slices_S640x512_o128_0_S256x512) slices_S256x512_o0_128_S256x128 slices_S256x512_o0_384_S256x128 _ _ _ _ _ inb_S512x512_S128x128_128_256 rfl rfl rfl rfl rfl rfl rfl,
      piece arg2 harg2 T 1 1 128 128 0 256 2 3 T.x4 _ _ _ _ _ (slices_S640x512_o128_0_S256x512) slices_S256x512_o0_0_S256x128 slices_S256x512_o0_256_S256x128 _ _ _ _ _ inb_S512x512_S128x128_128_128 rfl rfl rfl rfl rfl rfl rfl,
      piece arg2 harg2 T 1 0 128 0 0 256 0 1 T.x4 _ _ _ _ _ (slices_S640x512_o128_0_S256x512) slices_S256x512_o0_0_S256x128 slices_S256x512_o0_256_S256x128 _ _ _ _ _ inb_S512x512_S128x128_128_0 rfl rfl rfl rfl rfl rfl rfl,
      piece arg2 harg2 T 0 3 0 384 128 384 6 7 T.x3 _ _ _ _ _ (slices_S640x512_o0_0_S256x512) slices_S256x512_o0_128_S256x128 slices_S256x512_o0_384_S256x128 _ _ _ _ _ inb_S512x512_S128x128_0_384 rfl rfl rfl rfl rfl rfl rfl,
      piece arg2 harg2 T 0 2 0 256 128 384 4 5 T.x3 _ _ _ _ _ (slices_S640x512_o0_0_S256x512) slices_S256x512_o0_128_S256x128 slices_S256x512_o0_384_S256x128 _ _ _ _ _ inb_S512x512_S128x128_0_256 rfl rfl rfl rfl rfl rfl rfl,
      piece arg2 harg2 T 0 1 0 128 0 256 2 3 T.x3 _ _ _ _ _ (slices_S640x512_o0_0_S256x512) slices_S256x512_o0_0_S256x128 slices_S256x512_o0_256_S256x128 _ _ _ _ _ inb_S512x512_S128x128_0_128 rfl rfl rfl rfl rfl rfl rfl,
      piece arg2 harg2 T 0 0 0 0 0 256 0 1 T.x3 _ _ _ _ _ (slices_S640x512_o0_0_S256x512) slices_S256x512_o0_0_S256x128 slices_S256x512_o0_256_S256x128 _ _ _ _ _ inb_S512x512_S128x128_0_0 rfl rfl rfl rfl rfl rfl rfl, trivial⟩

end Cert.Kernel5Ideal.Hand

end
-- ==== Proof.AttnMask.lean ====
module
public import proofs.«01_k».proof.Proof.AttnRow

/-!
# The attention's mask, as the programs compute it

A query sees a key by comparisons of 32-bit words. They are read as inequalities.
-/

@[expose] public section

noncomputable section

namespace Cert.Attn

open Idealize.ShloMosaic

theorem select_of (b : BitVec 1) (P : Prop) [Decidable P] (h : b = 1#1 ↔ P) (x y : EReal) : Scalar.select b x y = if P then x else y := by
  show (if b = 1#1 then x else y) = _
  by_cases hP : P
  · rw [if_pos hP, if_pos (h.2 hP)]
  · rw [if_neg hP, if_neg (fun e => hP (h.1 e))]

theorem and_iff (a b : BitVec 1) (P Q : Prop) (ha : a = 1#1 ↔ P) (hb : b = 1#1 ↔ Q) : IntOp.andi a b = 1#1 ↔ P ∧ Q := by
  rw [← ha, ← hb]
  revert a b
  have : ∀ a b : BitVec 1, IntOp.andi a b = 1#1 ↔ a = 1#1 ∧ b = 1#1 := by decide
  exact fun a b _ _ => this a b

/-- The window of 128 keys. -/
theorem window_iff : ∀ (i : Fin 128) (k : Fin 256),
    IntOp.andi (IntOp.cmpi .sge (IntOp.subi (IntOp.addi (BitVec.ofNat 32 i.val) 128#32) (BitVec.ofNat 32 k.val)) 0#32)
      (IntOp.cmpi .slt (IntOp.subi (IntOp.addi (BitVec.ofNat 32 i.val) 128#32) (BitVec.ofNat 32 k.val)) 128#32) = 1#1
      ↔ k.val ≤ i.val + 128 ∧ i.val < k.val := by
  decide +kernel

theorem later_iff : ∀ k : Fin 256, IntOp.cmpi .sge (BitVec.ofNat 32 k.val) 128#32 = 1#1 ↔ 128 ≤ k.val := by
  decide +kernel

/-- A key of the block before lies in the sequence. -/
theorem inside_iff : ∀ (n : Fin 16) (k : Fin 256),
    IntOp.cmpi .sge (IntOp.subi (IntOp.addi (IntOp.muli (BitVec.ofNat 32 n.val) 128#32) (BitVec.ofNat 32 k.val)) 128#32) 0#32 = 1#1
      ↔ 128 ≤ k.val ∨ 0 < n.val := by
  decide +kernel

end Cert.Attn

end
-- ==== Proof.AttnEntry.lean ====
module
public import proofs.«01_k».proof.Proof.AttnTile
public import proofs.«01_k».proof.Proof.AttnMask
public import Idealize.ShloMosaic.Lib.StableHlo.ReadAt

/-!
# What a grid point of the attention reads

The host doubles the columns of keys and values, by numbers that it computes, and
makes the table of biases.
-/

@[expose] public section

set_option maxRecDepth 16384

noncomputable section

namespace Cert.Kernel5Ideal.Hand

open Cert.Kernel5Ideal Cert.Kernel5Ideal.Gen
open Idealize.ShloMosaic Idealize.ShloMosaic.TcCoe

variable (m : (ℓ : Loc nD τ sig) → Buf (Elt Ideal) ℓ) (c : Dev nD)

/-- The kernel's arguments, as functions of their coordinates. -/
def args : Attn.Args where
  q R j := m ((c : Thread nD τ).loc main_arg0) (ix2 R j)
  kv R j := m ((c : Thread nD τ).loc main_arg1) (ix2 R j)
  sink h := m ((c : Thread nD τ).loc main_arg2) (ix2 0 h)

theorem entry_q (R : Fin 32768) (j : Fin 512) : (V m c main_arg0 : S32768x512.Idx → EReal) (ix2 R j) = (args m c).q R j :=
  congrFun (V_main_arg0 m c) (ix2 R j)

theorem entry_sink (h : Fin 8) : (V m c main_v14 : S8.Idx → EReal) (ix1 h) = (args m c).sink h := by
  unfold V
  simp only [hostOps0, hostOps0_1, hostOps0_2, hostOps0_3, hostOps0_4, hostOps0_5, hostOps0_6, List.flatten_cons, List.flatten_nil, List.append_nil, List.cons_append, List.nil_append]
  after_reads_at
  rfl

/-- A choice of columns, at an index. -/
theorem gather_at {α : Type} (x : S32768x256.Idx → α) (idx : IVec S512x1 32) (k : Fin 32768) (j : Fin 512) (n : Fin 256)
    (h : (idx (ix2 j 0)).toInt.toNat = n.val) :
    Host.gather gather_S32768x256_S512x1_S32768x512_0_1_n_n_1_1_327681 x idx (ix2 k j) = x (ix2 k n) := by
  unfold Host.gather
  refine congrArg x (funext fun a => Fin.ext ?_)
  show GatherDims.start _ (ix2 k j) idx a + GatherDims.batchCoord _ (ix2 k j) a + GatherDims.offCoord _ (ix2 k j) a = _
  rw [GatherDims.batchCoord_eq_zero _ _ _ (fun h => List.not_mem_nil h)]
  have ha : a = 0 ∨ a = 1 := by
    match a with
    | ⟨0, _⟩ => exact Or.inl rfl
    | ⟨1, _⟩ => exact Or.inr rfl
  rcases ha with rfl | rfl
  · have e : GatherDims.start gather_S32768x256_S512x1_S32768x512_0_1_n_n_1_1_327681 (ix2 k j) idx (0 : Fin 2) = 0 := by
      unfold GatherDims.start
      exact dif_neg (show (0 : Fin 2) ∉ [(1 : Fin 2)] by decide)
    rw [e, Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32768x256_S512x1_S32768x512_0_1_n_n_1_1_327681.startIndexMap from List.mem_singleton.mpr rfl)]
    have hsi : gather_S32768x256_S512x1_S32768x512_0_1_n_n_1_1_327681.siIdx (ix2 k j) ⟨List.idxOf (1 : Fin 2) [(1 : Fin 2)],
        List.idxOf_lt_length_iff.2 (List.mem_singleton.mpr rfl)⟩ = ix2 j 0 := by
      funext b; refine Fin.ext ?_
      match b with
      | ⟨0, _⟩ => rfl
      | ⟨1, _⟩ => rfl
    show min (idx (gather_S32768x256_S512x1_S32768x512_0_1_n_n_1_1_327681.siIdx (ix2 k j) ⟨List.idxOf (1 : Fin 2) [(1 : Fin 2)], _⟩)).toInt.toNat (256 - 1) = n.val
    rw [hsi, h]
    omega

/-- The column of a doubled column. -/
def col (j : Fin 512) : Fin 256 := ⟨64 * (j.val / 128) + j.val % 64, by omega⟩

theorem entry_kv (R : Fin 32768) (j : Fin 512) : (V m c main_v13 : S32768x512.Idx → EReal) (ix2 R j) = (args m c).kv R (col j) := by
  unfold V
  simp only [hostOps0, hostOps0_1, hostOps0_2, hostOps0_3, hostOps0_4, hostOps0_5, hostOps0_6, List.flatten_cons, List.flatten_nil, List.append_nil, List.cons_append, List.nil_append]
  after_reads_at
  refine (gather_at _ _ R j (col j) ?_).trans rfl
  revert j
  decide +kernel

/-- A bias: the slope where the query sees the key, and −∞ elsewhere. The first table is for a sequence's first block. -/
theorem entry_bias (z : Fin 2) (p : Fin 4) (i : Fin 128) (j : Fin 512) (h : Fin 8) (k : Fin 256) (hh : p.val * 2 + j.val / 256 = h.val) (hk : j.val % 256 = k.val) :
    (V m c main_v57 : S2x4x128x512.Idx → EReal) (ix4 z p i j)
      = if (k.val ≤ i.val + 128 ∧ i.val < k.val) ∧ (128 ≤ k.val ∨ 0 < z.val) then Attn.slope h i k else ⊥ := by
  unfold V
  simp only [hostOps0, hostOps0_1, hostOps0_2, hostOps0_3, hostOps0_4, hostOps0_5, hostOps0_6, List.flatten_cons, List.flatten_nil, List.append_nil, List.cons_append, List.nil_append]
  after_reads_at
  after_reads_at
  rw [hh, hk]
  by_cases hz : z.val < 1
  · rw [dif_pos hz]
    refine (Attn.select_of _ ((k.val ≤ i.val + 128 ∧ i.val < k.val) ∧ (128 ≤ k.val ∨ 0 < z.val)) ((Attn.and_iff _ _ _ _ (Attn.window_iff i k) (Attn.later_iff k)).trans ?_) _ _).trans ?_
    · exact and_congr_right fun _ => ⟨Or.inl, fun h => h.elim id fun h => absurd h (by omega)⟩
    · exact if_congr Iff.rfl rfl Attn.word_bot
  · rw [dif_neg hz]
    refine (Attn.select_of _ ((k.val ≤ i.val + 128 ∧ i.val < k.val) ∧ (128 ≤ k.val ∨ 0 < z.val)) ((Attn.window_iff i k).trans ?_) _ _).trans ?_
    · exact ⟨fun h => ⟨h, Or.inr (by omega)⟩, fun h => h.1⟩
    · exact if_congr Iff.rfl rfl Attn.word_bot

end Cert.Kernel5Ideal.Hand

end
-- ==== Proof.AttnWhole.lean ====
module
public import proofs.«01_k».proof.Proof.AttnEntry
public import Idealize.ShloMosaic.Lib.Pipeline.ValueKit

/-!
# The attention's result, as the formula

A grid point attends four blocks of 128 queries. The block of keys before the first
one is masked where a sequence begins, whatever it holds.
-/

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic Idealize.SL.Sem

variable (m : (ℓ : Loc nD τ sig) → Buf (Elt Ideal) ℓ) (c : Dev nD)

theorem index_rows : ∀ t : Fin cfg0.N, win0_0.index t = ![t.val, 0] ∧ win0_1.index t = ![t.val, 0]
    ∧ win0_2.index t = ![16 * (t.val / 4) + (4 * (t.val % 4) - 1), 0] ∧ win0_3.index t = ![min (t.val % 4) 1, 0, 0, 0]
    ∧ win0_4.index t = ![1, 0, 0, 0] ∧ win0_5.index t = ![0] ∧ win0_6.index t = ![t.val, 0] :=
  (by decide +kernel : ∀ t : Fin grid0.N, _)

theorem points (t : Fin cfg0.N) : t.val < 64 := lt_of_lt_of_eq t.isLt N_0

/-- What a grid point reads. -/
def tile (t : Fin cfg0.N) : Tile where
  x0 := iblk m c 0 t
  x1 := iblk m c 1 t
  x2 := iblk m c 2 t
  x3 := iblk m c 3 t
  x4 := iblk m c 4 t
  x5 := iblk m c 5 t

theorem blk_q (t : Fin cfg0.N) (r j : Fin 512) (R : Fin 32768) (hR : R.val = 512 * t.val + r.val) : (tile m c t).x0 (ix2 r j) = (args m c).q R j := by
  rw [← entry_q]
  refine congrArg (V m c main_arg0 : S32768x512.Idx → EReal) (funext fun a => Fin.ext ?_)
  match a with
  | ⟨0, _⟩ => show win0_0.index t (0 : Fin 2) * 512 + 1 * r.val = R.val; rw [(index_rows t).1]; show t.val * 512 + 1 * r.val = _; omega
  | ⟨1, _⟩ => show win0_0.index t (1 : Fin 2) * 512 + 1 * j.val = j.val; rw [(index_rows t).1]; show 0 * 512 + 1 * j.val = _; omega

theorem blk_own (t : Fin cfg0.N) (r j : Fin 512) (R : Fin 32768) (hR : R.val = 512 * t.val + r.val) : (tile m c t).x1 (ix2 r j) = (args m c).kv R (col j) := by
  rw [← entry_kv]
  refine congrArg (V m c main_v13 : S32768x512.Idx → EReal) (funext fun a => Fin.ext ?_)
  match a with
  | ⟨0, _⟩ => show win0_1.index t (0 : Fin 2) * 512 + 1 * r.val = R.val; rw [(index_rows t).2.1]; show t.val * 512 + 1 * r.val = _; omega
  | ⟨1, _⟩ => show win0_1.index t (1 : Fin 2) * 512 + 1 * j.val = j.val; rw [(index_rows t).2.1]; show 0 * 512 + 1 * j.val = _; omega

theorem blk_before (t : Fin cfg0.N) (ht : 0 < t.val % 4) (r : Fin 128) (j : Fin 512) (R : Fin 32768) (hR : R.val = 512 * t.val + r.val - 128) :
    (tile m c t).x2 (ix2 r j) = (args m c).kv R (col j) := by
  have hN := points t
  rw [← entry_kv]
  refine congrArg (V m c main_v13 : S32768x512.Idx → EReal) (funext fun a => Fin.ext ?_)
  match a with
  | ⟨0, _⟩ =>
    show win0_2.index t (0 : Fin 2) * 128 + 1 * r.val = R.val
    rw [(index_rows t).2.2.1]
    show (16 * (t.val / 4) + (4 * (t.val % 4) - 1)) * 128 + 1 * r.val = _
    omega
  | ⟨1, _⟩ => show win0_2.index t (1 : Fin 2) * 512 + 1 * j.val = j.val; rw [(index_rows t).2.2.1]; show 0 * 512 + 1 * j.val = _; omega

theorem tile_first (t : Fin cfg0.N) : (tile m c t).x3 = iblk m c 3 t := rfl
theorem tile_rest (t : Fin cfg0.N) : (tile m c t).x4 = iblk m c 4 t := rfl

theorem blk_first (t : Fin cfg0.N) (p : Fin 4) (r : Fin 128) (j : Fin 512) :
    (iblk m c 3 t : S1x4x128x512.Idx → EReal) (ix4 0 p r j) = (V m c main_v57 : S2x4x128x512.Idx → EReal) (ix4 ⟨min (t.val % 4) 1, by omega⟩ p r j) := by
  refine congrArg (V m c main_v57 : S2x4x128x512.Idx → EReal) (funext fun a => Fin.ext ?_)
  match a with
  | ⟨0, _⟩ => show win0_3.index t (0 : Fin 4) * 1 + 1 * 0 = min (t.val % 4) 1; rw [(index_rows t).2.2.2.1]; show min (t.val % 4) 1 * 1 + 1 * 0 = _; omega
  | ⟨1, _⟩ => show win0_3.index t (1 : Fin 4) * 4 + 1 * p.val = p.val; rw [(index_rows t).2.2.2.1]; show 0 * 4 + 1 * p.val = _; omega
  | ⟨2, _⟩ => show win0_3.index t (2 : Fin 4) * 128 + 1 * r.val = r.val; rw [(index_rows t).2.2.2.1]; show 0 * 128 + 1 * r.val = _; omega
  | ⟨3, _⟩ => show win0_3.index t (3 : Fin 4) * 512 + 1 * j.val = j.val; rw [(index_rows t).2.2.2.1]; show 0 * 512 + 1 * j.val = _; omega

theorem blk_rest (t : Fin cfg0.N) (p : Fin 4) (r : Fin 128) (j : Fin 512) :
    (iblk m c 4 t : S1x4x128x512.Idx → EReal) (ix4 0 p r j) = (V m c main_v57 : S2x4x128x512.Idx → EReal) (ix4 1 p r j) := by
  refine congrArg (V m c main_v57 : S2x4x128x512.Idx → EReal) (funext fun a => Fin.ext ?_)
  match a with
  | ⟨0, _⟩ => show win0_4.index t (0 : Fin 4) * 1 + 1 * 0 = 1; rw [(index_rows t).2.2.2.2.1]; rfl
  | ⟨1, _⟩ => show win0_4.index t (1 : Fin 4) * 4 + 1 * p.val = p.val; rw [(index_rows t).2.2.2.2.1]; show 0 * 4 + 1 * p.val = _; omega
  | ⟨2, _⟩ => show win0_4.index t (2 : Fin 4) * 128 + 1 * r.val = r.val; rw [(index_rows t).2.2.2.2.1]; show 0 * 128 + 1 * r.val = _; omega
  | ⟨3, _⟩ => show win0_4.index t (3 : Fin 4) * 512 + 1 * j.val = j.val; rw [(index_rows t).2.2.2.2.1]; show 0 * 512 + 1 * j.val = _; omega

theorem blk_sink (t : Fin cfg0.N) (h : Fin 8) : (tile m c t).x5 (ix1 h) = (args m c).sink h := by
  rw [← entry_sink]
  refine congrArg (V m c main_v14 : S8.Idx → EReal) (funext fun a => Fin.ext ?_)
  match a with
  | ⟨0, _⟩ => show win0_5.index t (0 : Fin 1) * 8 + 1 * h.val = h.val; rw [(index_rows t).2.2.2.2.2.1]; show 0 * 8 + 1 * h.val = _; omega

/-- A row of keys and values at hand, where the query may see it. -/
theorem band_at (t : Fin cfg0.N) (n : Fin 4) (r : Fin 128) (R : Fin 32768) (hR : R.val = 512 * t.val + (128 * n.val + r.val)) (k : Fin 256) (hk : Attn.Sees R k) (j : Fin 512)
    (j' : Fin 256) (hj : j'.val = 64 * (j.val / 128) + j.val % 64) :
    (tile m c t).band ⟨128 * n.val + k.val, by omega⟩ j = (args m c).kv (Attn.row R k) j' := by
  have hN := points t
  have hs : 128 ≤ k.val ∨ 128 ≤ R.val % 2048 := hk.2
  obtain rfl : j' = col j := Fin.ext hj
  unfold Tile.band
  split
  · next h =>
    change 128 * n.val + k.val < 128 at h
    refine blk_before m c t (by omega) _ j _ ?_
    show R.val / 128 * 128 + k.val - 128 = 512 * t.val + (128 * n.val + k.val) - 128
    omega
  · next h =>
    change ¬ 128 * n.val + k.val < 128 at h
    refine blk_own m c t _ j _ ?_
    show R.val / 128 * 128 + k.val - 128 = 512 * t.val + (128 * n.val + k.val - 128)
    omega

theorem bias_at (t : Fin cfg0.N) (n p : Fin 4) (r : Fin 128) (R : Fin 32768) (hR : R.val = 512 * t.val + (128 * n.val + r.val)) (j : Fin 512) (h : Fin 8) (k : Fin 256)
    (hh : p.val * 2 + j.val / 256 = h.val) (hk : j.val % 256 = k.val) :
    (tile m c t).bias n (ix4 0 p r j) = if Attn.Sees R k then Attn.slope h r k else ⊥ := by
  have hN := points t
  have hr : R.val % 128 = r.val := by omega
  unfold Tile.bias
  split
  · next hn =>
    rw [tile_first, blk_first, entry_bias m c _ p r j h k hh hk]
    refine if_congr ?_ rfl rfl
    unfold Attn.Sees
    rw [hr]
    refine and_congr_right fun _ => or_congr_right ?_
    show 0 < min (t.val % 4) 1 ↔ _
    omega
  · next hn =>
    rw [tile_rest, blk_rest, entry_bias m c _ p r j h k hh hk]
    refine if_congr ?_ rfl rfl
    unfold Attn.Sees
    rw [hr]
    refine and_congr_right fun _ => or_congr_right ?_
    show 0 < 1 ↔ _
    omega

/-- A grid point's result is the formula's at its rows. -/
theorem tile_out (t : Fin cfg0.N) (n p : Fin 4) (r l : Fin 128) (R : Fin 32768) (hR : R.val = 512 * t.val + (128 * n.val + r.val)) (j : Fin 512) (hj : j.val = 128 * p.val + l.val) :
    (tile m c t).outAt n p r l = Attn.out (args m c) R j := by
  have hN := points t
  have hr : R.val % 128 = r.val := by omega
  unfold Tile.outAt Attn.out
  have e5 : (tile m c t).x5 (ix1 ⟨2 * p.val + l.val / 64, by omega⟩) = (args m c).sink ⟨j.val / 64, by omega⟩ :=
    (blk_sink m c t _).trans (congrArg (args m c).sink (Fin.ext (by show 2 * p.val + l.val / 64 = j.val / 64; omega)))
  rw [e5]
  refine Attn.attend_congr _ _ _ _ _ (funext fun k => ?_) fun k hk => ?_
  · rw [bias_at m c t n p r R hR _ ⟨j.val / 64, by omega⟩ k (by show p.val * 2 + (256 * (l.val / 64) + k.val) / 256 = j.val / 64; omega)
      (by show (256 * (l.val / 64) + k.val) % 256 = k.val; omega)]
    unfold Attn.score
    by_cases hs : Attn.Sees R k
    · rw [if_pos hs, if_pos hs, ← Attn.scaled]
      refine congrArg₂ (· + ·) (Finset.sum_congr rfl fun d _ => congrArg₂ (· * ·) (congrArg (· * _) ?_) ?_) ?_
      · refine (blk_q m c t _ _ R hR).trans (congrArg ((args m c).q R) (Fin.ext ?_))
        show 128 * p.val + (64 * (l.val / 64) + d.val) = 64 * (j.val / 64) + d.val
        omega
      · refine band_at m c t n r R hR k hs _ _ ?_
        show 64 * (j.val / 64 / 4) + d.val = 64 * ((128 * (p.val / 2) + (64 * (l.val / 64) + d.val)) / 128) + (128 * (p.val / 2) + (64 * (l.val / 64) + d.val)) % 64
        omega
      · exact congrArg (fun i => Attn.slope _ i k) (Fin.ext hr.symm)
    · rw [if_neg hs, if_neg hs, EReal.add_bot]
  · have hs : Attn.Sees R k := by
      by_contra hs
      exact hk (by unfold Attn.score; rw [if_neg hs])
    refine band_at m c t n r R hR k hs _ _ ?_
    show 128 + 64 * (j.val / 256) + j.val % 64 = 64 * ((256 + 128 * (p.val / 2) + l.val) / 128) + (256 + 128 * (p.val / 2) + l.val) % 64
    omega

/-- The call's result. -/
def attnOut (c : Dev nD) : S32768x512.Idx → EReal := fun i => Attn.out (args m c) (i 0) (i 1)

set_option maxHeartbeats 2000000 in
theorem attn_eq : (dats (F := Ideal) m 0 c).arrAt 6 cfg0.N = attnOut m c := by
  refine (dats m 0 c).arrAt_eq_of_covers 6 _ (by decide +kernel) fun t hf y => ?_
  blk_simp
  rw [after0_6]
  refine (congrFun (out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (tile m c t)) y).trans ?_
  obtain ⟨r, j, rfl⟩ : ∃ (r : Fin 512) (j : Fin 512), y = ix2 r j := ⟨y 0, y 1, eq_ix2 y⟩
  refine tile_out m c t ⟨r.val / 128, by omega⟩ ⟨j.val / 128, by omega⟩ ⟨r.val % 128, by omega⟩ ⟨j.val % 128, by omega⟩ _ ?_ _ ?_
  · show win0_6.index t (0 : Fin 2) * 512 + 1 * r.val = 512 * t.val + (128 * (r.val / 128) + r.val % 128)
    rw [(index_rows t).2.2.2.2.2.2]
    show t.val * 512 + 1 * r.val = _
    omega
  · show win0_6.index t (1 : Fin 2) * 512 + 1 * j.val = 128 * (j.val / 128) + j.val % 128
    rw [(index_rows t).2.2.2.2.2.2]
    show 0 * 512 + 1 * j.val = _
    omega

/-- The call runs, and leaves the formula. -/
theorem run_values (ρ : Dev nD → PrngReg) :
    θ_run defs (onTc (τ := τ) (main (F := Ideal))) ⟨m, fun _ => 0, ρ⟩ (fun r => ∀ c : Dev nD,
      (r.2.mem ((c : Thread nD τ).loc main_v58) : S32768x512.Idx → EReal) = attnOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans (attn_eq m c), (h c).2⟩) (Value.run_blocks (F := Ideal) m ρ)

end Cert.Kernel5Ideal.Hand

end
-- ==== Proof.AttnGreatest.lean ====
module
public import proofs.«01_k».proof.Proof.AttnRow
public import proofs.«01_k».proof.Proof.Gen.Reference5Ideal
public import Idealize.ShloMosaic.Lib.KernelVsHost
public import Idealize.ShloMosaic.Lib.IdealHost
public import Idealize.ShloMosaic.Lib.Tactic.CleanTypes

/-!
# The greatest score of a row

The reference takes the maximum of a row's scores, and then of it and the sink.
-/

@[expose] public section

noncomputable section

namespace Cert.Reference5Ideal.Hand

open Cert.Reference5Ideal Cert.Reference5Ideal.Gen
open Idealize.ShloMosaic

/-- A maximum over the last of five axes. -/
theorem max_last {n0 n1 n2 n3 n4 : ℕ} {u : Shape} (x : FVec Ideal ⟨5, ![n0, n1, n2, n3, n4]⟩ .f32) (init : u.Idx → EReal)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce (FloatOps.maximumf : Ideal .f32 → Ideal .f32 → Ideal .f32) x init h hu (ix4 a b c d)
      = Finset.univ.fold max (init (Shape.Idx.first hu)) fun k : Fin n4 => (x (ix5 a b c d k) : EReal) := by
  simp only [pointwise]

/-- The maximum of a row's number and its head's sink. -/
def withSink (r : FVec Ideal S16x16x8x128 .f32) (z : FVec Ideal S8x1x1 .f32) : FVec Ideal S16x16x8x128x1 .f32 :=
  maximumf (broadcastInDim S16x16x8x128x1 ![0, 1, 2, 3] bcast_S16x16x8x128_S16x16x8x128x1_0_1_2_3 r) (broadcastInDim S16x16x8x128x1 ![0, 1, 2, 3, 4] bcast_S1x1x8x1x1_S16x16x8x128x1_0_1_2_3_4 (broadcastInDim S1x1x8x1x1 ![2, 3, 4] bcast_S8x1x1_S1x1x8x1x1_2_3_4 z))

theorem withSink_at (r : FVec Ideal S16x16x8x128 .f32) (z : FVec Ideal S8x1x1 .f32) (b n : Fin 16) (h : Fin 8) (i : Fin 128) :
    (withSink r z : S16x16x8x128x1.Idx → EReal) (ix5 b n h i 0) = max (r (ix4 b n h i) : EReal) (z (ix3 h 0 0)) := by
  unfold withSink
  clean_types
  pointwise

/-- The greatest scores of the rows. -/
def rowMax (s : FVec Ideal S16x16x8x128x256 .f32) : FVec Ideal S16x16x8x128 .f32 :=
  Host.reduce FloatOps.maximumf s (constant S_ .f32 0xFF800000#32) reducesTo_S16x16x8x128x256_S16x16x8x128_d4 h_S_

theorem rowMax_at (s : FVec Ideal S16x16x8x128x256 .f32) (b n : Fin 16) (h : Fin 8) (i : Fin 128) :
    (rowMax s : S16x16x8x128.Idx → EReal) (ix4 b n h i) = Finset.univ.fold max ((constant (F := Ideal) S_ .f32 0xFF800000#32 : FVec Ideal S_ .f32) (Shape.Idx.first h_S_) : EReal) fun k : Fin 256 => (s (ix5 b n h i k) : EReal) :=
  max_last (n0 := 16) (n1 := 16) (n2 := 8) (n3 := 128) (n4 := 256) s (constant (F := Ideal) S_ .f32 0xFF800000#32 : FVec Ideal S_ .f32) reducesTo_S16x16x8x128x256_S16x16x8x128_d4 h_S_ b n h i

/-- The greatest of the scores and the sink. -/
def greatest (s : FVec Ideal S16x16x8x128x256 .f32) (z : FVec Ideal S8x1x1 .f32) : FVec Ideal S16x16x8x128x1 .f32 := withSink (rowMax s) z

theorem first_word : ((constant (F := Ideal) S_ .f32 0xFF800000#32 : FVec Ideal S_ .f32) (Shape.Idx.first h_S_) : EReal) = Ideal.ofBits .f32 0xFF800000#32 := rfl

theorem greatest_at (s : FVec Ideal S16x16x8x128x256 .f32) (z : FVec Ideal S8x1x1 .f32) (b n : Fin 16) (h : Fin 8) (i : Fin 128) :
    (greatest s z : S16x16x8x128x1.Idx → EReal) (ix5 b n h i 0) = Attn.top (fun k => s (ix5 b n h i k)) (z (ix3 h 0 0)) := by
  unfold greatest Attn.top
  rw [withSink_at, rowMax_at, first_word]

end Cert.Reference5Ideal.Hand

end
-- ==== Proof.AttnReference.lean ====
module
public import proofs.«01_k».proof.Proof.AttnMask
public import proofs.«01_k».proof.Proof.AttnGreatest
public import proofs.«01_k».proof.Proof.Gen.Reference5Ideal.Run
public import Idealize.ShloMosaic.Lib.KernelVsHost
public import Idealize.ShloMosaic.Lib.IdealHost
public import Idealize.ShloMosaic.Lib.Tactic.CleanTypes

/-!
# What the plain attention leaves, as the formula

The reference is read in parts: the band of rows that a block of queries reads,
the masked scores, the weights, and their product with the values.
-/

@[expose] public section

set_option maxRecDepth 16384

noncomputable section

namespace Cert.Reference5Ideal.Hand

open Cert.Reference5Ideal Cert.Reference5Ideal.Gen Idealize.SL.Sem
open Idealize.ShloMosaic Idealize.ShloMosaic.TcCoe

/-! ## The parts -/

/-- The block before and the block itself, of every block of rows. -/
def band (t : FVec Ideal S16x2048x8x64 .f32) : FVec Ideal S16x16x256x8x64 .f32 :=
  concatenate S16x16x256x8x64 2 [⟨S16x16x128x8x64, (extractStridedSlice S16x16x128x8x64 ![0, 0, 0, 0, 0] (shapeCast _ (pad S16x2176x8x64 ![0, 128, 0, 0] ![0, 0, 0, 0] ![0, 0, 0, 0] t (sitofp .f32 (constantI S_ 32 0#32)) pads_S16x2048x8x64_S16x2176x8x64_000_12800_000_000 h_S_) shapeCasts_S16x2176x8x64_S16x17x128x8x64) slices_S16x17x128x8x64_S16x16x128x8x64_0_0_0_0_0)⟩, ⟨S16x16x128x8x64, (extractStridedSlice S16x16x128x8x64 ![0, 1, 0, 0, 0] (shapeCast _ (pad S16x2176x8x64 ![0, 128, 0, 0] ![0, 0, 0, 0] ![0, 0, 0, 0] t (sitofp .f32 (constantI S_ 32 0#32)) pads_S16x2048x8x64_S16x2176x8x64_000_12800_000_000 h_S_) shapeCasts_S16x2176x8x64_S16x17x128x8x64) slices_S16x17x128x8x64_S16x16x128x8x64_0_1_0_0_0)⟩] concatenates_S16x16x128x8x64_S16x16x128x8x64_S16x16x256x8x64_d2

/-- The scores, masked. -/
def scores (q : FVec Ideal S16x16x128x8x64 .f32) (b : FVec Ideal S16x16x256x8x64 .f32) : FVec Ideal S16x16x8x128x256 .f32 :=
  select (broadcastInDim S16x16x8x128x256 ![1, 2, 3, 4] bcast_S16x1x128x256_S16x16x8x128x256_1_2_3_4 (broadcastInDim S16x1x128x256 ![0, 2, 3] bcast_S16x128x256_S16x1x128x256_0_2_3 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (cmpi .sge (subi (addi (broadcastInDim S16x1x256 ![0, 1, 2] bcast_S16x1x1_S16x1x256_0_1_2 (muli (broadcastInDim S16x1x1 ![0] bcast_S16_S16x1x1_0 (iotaInDim S16 32 0)) (broadcastInDim S16x1x1 ![] bcast_S_S16x1x1 (constantI S_ 32 128#32)))) (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0))))) (broadcastInDim S16x1x256 ![] bcast_S_S16x1x256 (constantI S_ 32 128#32))) (broadcastInDim S16x1x256 ![] bcast_S_S16x1x256 (constantI S_ 32 0#32))))))) (addf (mulf (Host.dotGeneral dot_S16x16x128x8x64_S16x16x256x8x64_S16x16x8x128x256_4_4_2_2_013_013 none q b) (broadcastInDim S16x16x8x128x256 ![] bcast_S_S16x16x8x128x256 (constant S_ .f32 0x3E000000#32))) (broadcastInDim S16x16x8x128x256 ![0, 1, 2, 3, 4] bcast_S1x1x8x128x256_S16x16x8x128x256_0_1_2_3_4 (broadcastInDim S1x1x8x128x256 ![2, 3, 4] bcast_S8x128x256_S1x1x8x128x256_2_3_4 (mulf (broadcastInDim S8x128x256 ![0, 1, 2] bcast_S8x1x1_S8x128x256_0_1_2 (Host.negf (broadcastInDim S8x1x1 ![0] bcast_S8_S8x1x1_0 (Host.powf (broadcastInDim S8 ![] bcast_S_S8 (constant S_ .f32 0x40000000#32)) (Host.divf (mulf (broadcastInDim S8 ![] bcast_S_S8 (constant S_ .f32 0xC1000000#32)) (addf (broadcastInDim S8 ![] bcast_S_S8 (constant S_ .f32 0x3F800000#32)) (sitofp .f32 (iotaInDim S8 32 0)))) (broadcastInDim S8 ![] bcast_S_S8 (constant S_ .f32 0x41000000#32))))))) (broadcastInDim S8x128x256 ![0, 1, 2] bcast_S1x128x256_S8x128x256_0_1_2 (broadcastInDim S1x128x256 ![1, 2] bcast_S128x256_S1x128x256_1_2 (sitofp .f32 (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0))))))))))) (broadcastInDim S16x16x8x128x256 ![] bcast_S_S16x16x8x128x256 (id (constant S_ .f32 0xFF800000#32)))

/-- The exponentials. -/
def exps (s : FVec Ideal S16x16x8x128x256 .f32) (g : FVec Ideal S16x16x8x128x1 .f32) : FVec Ideal S16x16x8x128x256 .f32 :=
  Host.exp (subf s (broadcastInDim S16x16x8x128x256 ![0, 1, 2, 3, 4] bcast_S16x16x8x128x1_S16x16x8x128x256_0_1_2_3_4 g))

/-- The weights. -/
def weights (e : FVec Ideal S16x16x8x128x256 .f32) (g : FVec Ideal S16x16x8x128x1 .f32) (z : FVec Ideal S8x1x1 .f32) : FVec Ideal S16x16x8x128x256 .f32 :=
  Host.divf e (broadcastInDim S16x16x8x128x256 ![0, 1, 2, 3, 4] bcast_S16x16x8x128x1_S16x16x8x128x256_0_1_2_3_4 (addf (broadcastInDim S16x16x8x128x1 ![0, 1, 2, 3] bcast_S16x16x8x128_S16x16x8x128x1_0_1_2_3 (Host.reduceAdd e (constant S_ .f32 0x00000000#32) reducesTo_S16x16x8x128x256_S16x16x8x128_d4 h_S_)) (Host.exp (subf (broadcastInDim S16x16x8x128x1 ![0, 1, 2, 3, 4] bcast_S1x1x8x1x1_S16x16x8x128x1_0_1_2_3_4 (broadcastInDim S1x1x8x1x1 ![2, 3, 4] bcast_S8x1x1_S1x1x8x1x1_2_3_4 z)) g))))

/-- The result. -/
def result (b : FVec Ideal S16x16x256x8x64 .f32) (p : FVec Ideal S16x16x8x128x256 .f32) : FVec Ideal S32768x512 .bf16 :=
  truncf .bf16 (shapeCast _ (transpose S16x16x128x8x64 [0, 1, 4, 2, 3] (Host.dotGeneral dot_S16x16x256x8x64_S16x16x8x128x256_S16x16x8x64x128_2_4_4_3_013_012 none b p) transposes_S16x16x8x64x128_S16x16x128x8x64_0_1_4_2_3) shapeCasts_S16x16x128x8x64_S32768x512) bitsLt_bf16_f32

variable (m : (ℓ : Loc nD τ sig) → Buf (Elt Ideal) ℓ) (c : Dev nD)

def queries : FVec Ideal S16x16x128x8x64 .f32 := shapeCast _ (extf .f32 (m ((c.tc : Thread nD τ).loc main_arg0) : FVec Ideal S32768x512 .bf16) bitsLt_bf16_f32) shapeCasts_S32768x512_S16x16x128x8x64
def keys : FVec Ideal S16x2048x8x64 .f32 := shapeCast _ (broadcastInDim S16x2048x2x4x64 ![0, 1, 2, 4] bcast_S16x2048x2x64_S16x2048x2x4x64_0_1_2_4 (extractStridedSlice S16x2048x2x64 ![0, 0, 0, 0] (shapeCast _ (extf .f32 (m ((c.tc : Thread nD τ).loc main_arg1) : FVec Ideal S32768x256 .bf16) bitsLt_bf16_f32) shapeCasts_S32768x256_S16x2048x4x64) slices_S16x2048x4x64_S16x2048x2x64_0_0_0_0)) shapeCasts_S16x2048x2x4x64_S16x2048x8x64
def values : FVec Ideal S16x2048x8x64 .f32 := shapeCast _ (broadcastInDim S16x2048x2x4x64 ![0, 1, 2, 4] bcast_S16x2048x2x64_S16x2048x2x4x64_0_1_2_4 (extractStridedSlice S16x2048x2x64 ![0, 0, 2, 0] (shapeCast _ (extf .f32 (m ((c.tc : Thread nD τ).loc main_arg1) : FVec Ideal S32768x256 .bf16) bitsLt_bf16_f32) shapeCasts_S32768x256_S16x2048x4x64) slices_S16x2048x4x64_S16x2048x2x64_0_0_2_0)) shapeCasts_S16x2048x2x4x64_S16x2048x8x64
def sinks : FVec Ideal S8x1x1 .f32 := broadcastInDim S8x1x1 ![0] bcast_S8_S8x1x1_0 (shapeCast _ (m ((c.tc : Thread nD τ).loc main_arg2)) shapeCasts_S1x8_S8)

theorem res_eq : (Value.res_out0 m c : S32768x512.Idx → EReal)
    = result (band (values m c)) (weights (exps (scores (queries m c) (band (keys m c))) (greatest (scores (queries m c) (band (keys m c))) (sinks m c)))
        (greatest (scores (queries m c) (band (keys m c))) (sinks m c)) (sinks m c)) := by
  unfold Value.res_out0 Value.res_main_v96 result weights exps greatest withSink rowMax scores band queries keys values sinks
  rfl

/-- The reference's arguments, as functions of their coordinates. -/
def args : Attn.Args where
  q R j := m ((c : Thread nD τ).loc main_arg0) (ix2 R j)
  kv R j := m ((c : Thread nD τ).loc main_arg1) (ix2 R j)
  sink h := m ((c : Thread nD τ).loc main_arg2) (ix2 0 h)

/-! ## The parts at an index -/

/-- A block's rows, where they lie in the sequence. -/
theorem band_at (t : FVec Ideal S16x2048x8x64 .f32) (b n : Fin 16) (k : Fin 256) (h : Fin 8) (d : Fin 64) (hk : 128 ≤ k.val ∨ 0 < n.val) :
    (band t : S16x16x256x8x64.Idx → EReal) (ix5 b n k h d) = t (ix4 b ⟨n.val * 128 + k.val - 128, by omega⟩ h d) := by
  unfold band
  clean_types
  pointwise
  by_cases h1 : k.val < 128
  · rw [dif_pos h1, dif_pos (by omega)]
  · rw [dif_neg h1, dif_pos (by omega)]
    exact congrArg (fun s => t (ix4 b s h d)) (Fin.ext (by show (1 + n.val) * 128 + (k.val - 128) - 128 = n.val * 128 + k.val - 128; omega))

theorem scores_at (q : FVec Ideal S16x16x128x8x64 .f32) (w : FVec Ideal S16x16x256x8x64 .f32) (b n : Fin 16) (h : Fin 8) (i : Fin 128) (k : Fin 256) :
    (scores q w : S16x16x8x128x256.Idx → EReal) (ix5 b n h i k)
      = if (k.val ≤ i.val + 128 ∧ i.val < k.val) ∧ (128 ≤ k.val ∨ 0 < n.val) then
          (∑ d : Fin 64, (q (ix5 b n i h d) : EReal) * w (ix5 b n k h d)) * Ideal.ofBits .f32 0x3E000000#32 + Attn.slope h i k
        else ⊥ := by
  unfold scores
  clean_types
  pointwise
  refine (Attn.select_of _ ((k.val ≤ i.val + 128 ∧ i.val < k.val) ∧ (128 ≤ k.val ∨ 0 < n.val)) (Attn.and_iff _ _ _ _ (Attn.window_iff i k) (Attn.inside_iff n k)) _ _).trans ?_
  exact if_congr Iff.rfl rfl Attn.word_bot

theorem exps_at (s : FVec Ideal S16x16x8x128x256 .f32) (g : FVec Ideal S16x16x8x128x1 .f32) (b n : Fin 16) (h : Fin 8) (i : Fin 128) (k : Fin 256) :
    (exps s g : S16x16x8x128x256.Idx → EReal) (ix5 b n h i k) = Ideal.exp (s (ix5 b n h i k) - g (ix5 b n h i 0)) := by
  unfold exps
  clean_types
  pointwise

theorem weights_at (e : FVec Ideal S16x16x8x128x256 .f32) (g : FVec Ideal S16x16x8x128x1 .f32) (z : FVec Ideal S8x1x1 .f32) (b n : Fin 16) (h : Fin 8) (i : Fin 128) (k : Fin 256) :
    (weights e g z : S16x16x8x128x256.Idx → EReal) (ix5 b n h i k)
      = Ideal.div (e (ix5 b n h i k)) ((∑ x : Fin 256, (e (ix5 b n h i x) : EReal)) + Ideal.exp (z (ix3 h 0 0) - g (ix5 b n h i 0))) := by
  unfold weights
  clean_types
  pointwise

theorem result_at (w : FVec Ideal S16x16x256x8x64 .f32) (p : FVec Ideal S16x16x8x128x256 .f32) (R : Fin 32768) (j : Fin 512) :
    (result w p : S32768x512.Idx → EReal) (ix2 R j)
      = ∑ k : Fin 256, (w (ix5 ⟨R.val / 2048, by omega⟩ ⟨R.val / 128 % 16, by omega⟩ k ⟨j.val / 64, by omega⟩ ⟨j.val % 64, by omega⟩) : EReal)
          * p (ix5 ⟨R.val / 2048, by omega⟩ ⟨R.val / 128 % 16, by omega⟩ ⟨j.val / 64, by omega⟩ ⟨R.val % 128, by omega⟩ k) := by
  unfold result
  clean_types
  pointwise

theorem queries_at (b n : Fin 16) (i : Fin 128) (h : Fin 8) (d : Fin 64) :
    (queries m c : S16x16x128x8x64.Idx → EReal) (ix5 b n i h d) = (args m c).q ⟨b.val * 2048 + n.val * 128 + i.val, by omega⟩ ⟨h.val * 64 + d.val, by omega⟩ := by
  unfold queries
  clean_types
  pointwise
  rfl
theorem keys_at (b : Fin 16) (s : Fin 2048) (h : Fin 8) (d : Fin 64) :
    (keys m c : S16x2048x8x64.Idx → EReal) (ix4 b s h d) = (args m c).kv ⟨b.val * 2048 + s.val, by omega⟩ ⟨h.val / 4 * 64 + d.val, by omega⟩ := by
  unfold keys
  clean_types
  pointwise
  rfl
theorem values_at (b : Fin 16) (s : Fin 2048) (h : Fin 8) (d : Fin 64) :
    (values m c : S16x2048x8x64.Idx → EReal) (ix4 b s h d) = (args m c).kv ⟨b.val * 2048 + s.val, by omega⟩ ⟨(2 + h.val / 4) * 64 + d.val, by omega⟩ := by
  unfold values
  clean_types
  pointwise
  rfl
theorem sinks_at (h : Fin 8) : (sinks m c : S8x1x1.Idx → EReal) (ix3 h 0 0) = (args m c).sink h := by
  unfold sinks
  clean_types
  pointwise
  rfl

end Cert.Reference5Ideal.Hand

end
-- ==== Proof.AttnSoftmax.lean ====
module
public import proofs.«01_k».proof.Proof.AttnReference

/-!
# The plain attention, as the formula

The reference's softmax divides every weight; the formula divides their sum. They
are equal where the sum of the weights is not zero.
-/

@[expose] public section

noncomputable section

namespace Cert.Reference5Ideal.Hand

open Cert.Reference5Ideal Cert.Reference5Ideal.Gen Idealize.SL.Sem
open Idealize.ShloMosaic Idealize.ShloMosaic.TcCoe

/-- The weights of a row are those of the formula. -/
theorem softmax_at (s : FVec Ideal S16x16x8x128x256 .f32) (z : FVec Ideal S8x1x1 .f32) (b n : Fin 16) (h : Fin 8) (i : Fin 128) (k : Fin 256) :
    (weights (exps s (greatest s z)) (greatest s z) z : S16x16x8x128x256.Idx → EReal) (ix5 b n h i k)
      = Ideal.div (Attn.weight (fun k => s (ix5 b n h i k)) (z (ix3 h 0 0)) k) (Attn.mass (fun k => s (ix5 b n h i k)) (z (ix3 h 0 0))) := by
  rw [weights_at]
  simp only [exps_at, greatest_at]
  rfl

variable (m : (ℓ : Loc nD τ sig) → Buf (Elt Ideal) ℓ) (c : Dev nD)

/-- A row's masked scores are those of the formula. -/
theorem score_at (R : Fin 32768) (h : Fin 8) (k : Fin 256) :
    (scores (queries m c) (band (keys m c)) : S16x16x8x128x256.Idx → EReal) (ix5 ⟨R.val / 2048, by omega⟩ ⟨R.val / 128 % 16, by omega⟩ h ⟨R.val % 128, by omega⟩ k)
      = Attn.score (args m c) R h k := by
  rw [scores_at]
  unfold Attn.score
  by_cases hs : Attn.Sees R k
  · have hb : 128 ≤ k.val ∨ 0 < R.val / 128 % 16 := hs.2.imp_right fun _ => by omega
    rw [if_pos hs, if_pos ⟨hs.1, hb⟩]
    refine congrArg (fun y => y * Ideal.ofBits .f32 0x3E000000#32 + _) (Finset.sum_congr rfl fun d _ => congrArg₂ (· * ·) ?_ ?_)
    · rw [queries_at]
      exact congrArg₂ (args m c).q (Fin.ext (by show R.val / 2048 * 2048 + R.val / 128 % 16 * 128 + R.val % 128 = R.val; omega))
        (Fin.ext (by show h.val * 64 + d.val = 64 * h.val + d.val; omega))
    · rw [band_at _ _ _ _ _ _ hb, keys_at]
      refine congrArg₂ (args m c).kv (Fin.ext ?_) (Fin.ext (by show h.val / 4 * 64 + d.val = 64 * (h.val / 4) + d.val; omega))
      show R.val / 2048 * 2048 + (R.val / 128 % 16 * 128 + k.val - 128) = R.val / 128 * 128 + k.val - 128
      omega
  · rw [if_neg hs, if_neg]
    exact fun h => hs ⟨h.1, h.2.imp_right fun hn => by have : 0 < R.val / 128 % 16 := hn; omega⟩

/-- The reference's result, read at an index. -/
theorem out_at (hA : Attn.Real (args m c)) (R : Fin 32768) (j : Fin 512) : (Value.res_out0 m c : S32768x512.Idx → EReal) (ix2 R j) = Attn.out (args m c) R j := by
  rw [res_eq, result_at]
  simp only [softmax_at, score_at, sinks_at]
  refine (Attn.attend_eq _ _ _ (Attn.mass_real _ hA R ⟨j.val / 64, by omega⟩)).trans ?_
  refine Attn.attend_congr _ _ _ _ _ rfl fun k hk => ?_
  have hs : Attn.Sees R k := by
    by_contra hs
    exact hk (by unfold Attn.score; rw [if_neg hs])
  have hb : 128 ≤ k.val ∨ 0 < R.val / 128 % 16 := hs.2.imp_right fun _ => by omega
  rw [band_at _ _ _ _ _ _ hb, values_at]
  refine congrArg₂ (args m c).kv (Fin.ext ?_) (Fin.ext (by show (2 + j.val / 64 / 4) * 64 + j.val % 64 = 128 + 64 * (j.val / 256) + j.val % 64; omega))
  show R.val / 2048 * 2048 + (R.val / 128 % 16 * 128 + k.val - 128) = R.val / 128 * 128 + k.val - 128
  omega

end Cert.Reference5Ideal.Hand

end
-- ==== Proof.AttnEquation.lean ====
module
public import proofs.«01_k».proof.Proof.Equation
public import proofs.«01_k».proof.Proof.AttnWhole
public import proofs.«01_k».proof.Proof.AttnSoftmax

/-!
# The attention and its plain mathematics are one formula

Where the queries and the keys are real and no sink is `+∞`, the call's result and
the reference's are the same array.
-/

@[expose] public section

noncomputable section

namespace Cert.Proof.Attn

open Idealize.ShloMosaic Idealize.SL.Sem

/-- The shape relations the precondition's text states. -/
theorem inputs_facts : Cert.Pre_attention_inputs_real.Facts := ⟨by decide, by decide, by decide, by decide, by decide⟩

/-- A value whose magnitude is put below the word of `+∞` is real. -/
theorem real_of_abs (x : EReal) (h : FloatOps.cmpf (F := Ideal) (φ := .f32) .olt (FloatOps.absf (F := Ideal) (φ := .f32) x) (FloatOps.ofBits (F := Ideal) .f32 0x7F800000#32) = 1#1) :
    x ≠ ⊤ ∧ x ≠ ⊥ := by
  have ha := ne_top_of_olt _ h
  refine ⟨?_, ?_⟩
  · rintro rfl
    exact ha (by show max (⊤ : EReal) (-⊤) = ⊤; simp)
  · rintro rfl
    exact ha (by show max (⊥ : EReal) (-⊥) = ⊤; simp)

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The precondition, read at the indices. -/
theorem real (hp : Cert.Pre_Kernel5Ideal_attention_inputs_real (hPre_attention_inputs_real := inputs_facts) m) : Cert.Attn.Real (Cert.Kernel5Ideal.Hand.args m c) where
  q R j := real_of_abs _ (congrFun (hp c).1 (ix2 R j))
  k R j := by
    have h := congrFun (hp c).2.1 (ix2 R j)
    have e := real_of_abs _ h
    have hi : (m ((c.tc : Thread Cert.Kernel5Ideal.nD Cert.Kernel5Ideal.τ).loc Cert.Kernel5Ideal.main_arg1) : Cert.Kernel5Ideal.S32768x256.Idx → EReal) (ix2 R ⟨j.val, by omega⟩)
        = (extractStridedSlice Cert.Pre_attention_inputs_real.S32768x128 ![0, 0] (m ((c.tc : Thread Cert.Kernel5Ideal.nD Cert.Kernel5Ideal.τ).loc Cert.Kernel5Ideal.main_arg1) : FVec Ideal Cert.Pre_attention_inputs_real.S32768x256 .bf16) inputs_facts.slices_S32768x256_S32768x128_0_0 : Cert.Pre_attention_inputs_real.S32768x128.Idx → EReal) (ix2 R j) := by
      pointwise
    show (m ((c.tc : Thread Cert.Kernel5Ideal.nD Cert.Kernel5Ideal.τ).loc Cert.Kernel5Ideal.main_arg1) : Cert.Kernel5Ideal.S32768x256.Idx → EReal) (ix2 R ⟨j.val, by omega⟩) ≠ (⊤ : EReal)
      ∧ (m ((c.tc : Thread Cert.Kernel5Ideal.nD Cert.Kernel5Ideal.τ).loc Cert.Kernel5Ideal.main_arg1) : Cert.Kernel5Ideal.S32768x256.Idx → EReal) (ix2 R ⟨j.val, by omega⟩) ≠ (⊥ : EReal)
    rw [hi]
    exact e
  sink h := ne_top_of_olt _ (congrFun (hp c).2.2 (ix2 0 h))

/-- The two programs read the same arguments. -/
theorem args_eq
    (h : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    Cert.Reference5Ideal.Hand.args m' c = Cert.Kernel5Ideal.Hand.args m c := by
  obtain ⟨h0, h1, h2⟩ := h
  have e0 : (Cert.Reference5Ideal.Hand.args m' c).q = (Cert.Kernel5Ideal.Hand.args m c).q := by
    funext R j; exact congrFun h0 (ix2 R j)
  have e1 : (Cert.Reference5Ideal.Hand.args m' c).kv = (Cert.Kernel5Ideal.Hand.args m c).kv := by
    funext R j; exact congrFun h1 (ix2 R j)
  have e2 : (Cert.Reference5Ideal.Hand.args m' c).sink = (Cert.Kernel5Ideal.Hand.args m c).sink := by
    funext h; exact congrFun h2 (ix2 0 h)
  cases hr : Cert.Reference5Ideal.Hand.args m' c
  cases hk : Cert.Kernel5Ideal.Hand.args m c
  rw [hr, hk] at e0 e1 e2
  congr

/-- The two results are the same. -/
theorem out_eq (hp : Cert.Pre_Kernel5Ideal_attention_inputs_real (hPre_attention_inputs_real := inputs_facts) m) (e : Cert.Reference5Ideal.Hand.args m' c = Cert.Kernel5Ideal.Hand.args m c) :
    (Cert.Reference5Ideal.Value.res_out0 m' c : Cert.Reference5Ideal.S32768x512.Idx → EReal) = Cert.Kernel5Ideal.Hand.attnOut m c := by
  funext i
  obtain ⟨R, j, rfl⟩ : ∃ (R : Fin 32768) (j : Fin 512), i = ix2 R j := ⟨i 0, i 1, eq_ix2 i⟩
  have hA : Cert.Attn.Real (Cert.Reference5Ideal.Hand.args m' c) := by rw [e]; exact real m c hp
  exact (Cert.Reference5Ideal.Hand.out_at m' c hA R j).trans (congrArg (fun A => Cert.Attn.out A R j) e)

end Cert.Proof.Attn

end
-- ==== Proof.lean ====
/-
  The certificate of five calls of the layer. The kernels and the plain mathematics run, leave their arguments as they
  were and every counter at zero. Over the ideal values, the call that merges the layer's two branches leaves the same
  two results as its plain mathematics wherever the scan's output, one of the arguments, holds no `+∞`. The feed-forward
  call, the input projection and the modulation call leave the same results as their plain mathematics on all arguments.
  The attention leaves the same result as its plain mathematics wherever queries and keys are real and no sink is `+∞`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Value
public import proofs.«01_k».proof.Proof.Gen.Kernel5Ideal.Frame
public import proofs.«01_k».proof.Proof.Gen.Reference5Ideal.Run
public import proofs.«01_k».proof.Proof.Equation
public import proofs.«01_k».proof.Proof.FfnEquation
public import proofs.«01_k».proof.Proof.InEquation
public import proofs.«01_k».proof.Proof.ModEquation
public import proofs.«01_k».proof.Proof.AttnEquation
public import Idealize.ShloMosaic.Adequacy
public import Idealize.ShloMosaic.Init

@[expose] public section

noncomputable section

namespace Cert.Proof

open Idealize.ShloMosaic Idealize.SL.Sem

/-- The frame of the second program read over words. -/
def frameOnWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11) ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12) ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) ∧ r.2.sem = fun _ => 0)

/-- The two programs have the same text, so the two frames over words are the same statement. -/
theorem frameOnWords_eq : Cert.quiescent_Kernel = frameOnWords := by sl_kernel_rfl

/-- The call runs on words: arguments as launched, counters at zero. -/
theorem frame_kernel : Cert.quiescent_Kernel := frameOnWords_eq.mpr fun m ρ _ => Cert.KernelIdeal.Hand.frame (F := Bits) m ρ

/-- The same over the ideal values. -/
theorem frame_kernelIdeal : Cert.quiescent_KernelIdeal := fun m ρ _ =>
  (θ_run Cert.KernelIdeal.defs _ _).mono (fun _ h => h) (Cert.KernelIdeal.Hand.frame (F := Ideal) m ρ)

/-- The plain mathematics runs: arguments as given, counters at zero. -/
theorem frame_referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩) (Cert.ReferenceIdeal.Value.run (F := Ideal) m ρ)

/-- The same frame where the precondition holds. -/
theorem frame_kernelIdeal_pre : Cert.quiescent_KernelIdeal_pre_yn_below_infinity (hPre_yn_below_infinity := pre_facts) :=
  fun m ρ _ => frame_kernelIdeal m ρ trivial

/-- The same frame where the precondition holds. -/
theorem frame_referenceIdeal_pre : Cert.quiescent_ReferenceIdeal_pre_yn_below_infinity (hPre_yn_below_infinity := pre_facts) :=
  fun m ρ _ => frame_referenceIdeal m ρ trivial

/-- From arguments that agree, both programs leave the same two results. -/
theorem algebraic : Cert.algebraic_KernelIdeal_ReferenceIdeal_pre_yn_below_infinity (hPre_yn_below_infinity := pre_facts) := by
  intro m g m' g' hp hag
  refine ⟨fun c => Cert.KernelIdeal.Hand.firstOut m c, fun c => Cert.KernelIdeal.Hand.secondOut m c, ?_, ?_⟩
  · exact (θ_run Cert.KernelIdeal.defs _ _).mono (fun r h => h.1) (Cert.KernelIdeal.Hand.run_values (F := Ideal) m g)
  · refine (θ_run Cert.ReferenceIdeal.defs _ _).mono (fun r h c => ?_) (Cert.ReferenceIdeal.Hand.run_values m' g')
    have e := args_eq m m' c (hag c)
    have hy := yn_ne_top m hp c
    exact ⟨(h c).1.trans (first_eq m m' c hy e), (h c).2.1.trans (second_eq m m' c hy e), (h c).2.2⟩

/-- The frame of the feed-forward call's second program, read over words. -/
def frameOnWords2 : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r =>
      (∀ c : Dev Cert.Kernel2Ideal.nD, r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0) ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1) ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2) ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3) ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4) ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5) ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6) ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)) ∧ r.2.sem = fun _ => 0)

/-- The two programs have the same text, so the two frames over words are the same statement. -/
theorem frameOnWords2_eq : Cert.quiescent_Kernel2 = frameOnWords2 := by sl_kernel_rfl

/-- The feed-forward call runs on words: arguments as launched, counters at zero. -/
theorem frame_kernel2 : Cert.quiescent_Kernel2 := frameOnWords2_eq.mpr fun m ρ _ => Cert.Kernel2Ideal.Gen.frame (F := Bits) m ρ

/-- The same over the ideal values. -/
theorem frame_kernel2Ideal : Cert.quiescent_Kernel2Ideal := fun m ρ _ => Cert.Kernel2Ideal.Gen.frame (F := Ideal) m ρ

/-- Its plain mathematics runs: arguments as given, counters at zero. -/
theorem frame_reference2Ideal : Cert.quiescent_Reference2Ideal := fun m ρ _ =>
  (θ_run Cert.Reference2Ideal.defs _ _).mono (fun r h => ⟨fun c => (h c).2,
      Idealize.ShloMosaic.sem_eq_zero_of_no_sems (by decide) r.2⟩) (Cert.Reference2Ideal.Value.run (F := Ideal) m ρ)

/-- From arguments that agree, the feed-forward call and its plain mathematics leave the same result. -/
theorem algebraic2 : Cert.algebraic_Kernel2Ideal_Reference2Ideal := by
  intro m g m' g' _ hag
  refine ⟨fun c => Cert.Kernel2Ideal.Hand.result m c, Cert.Kernel2Ideal.Hand.run_values m g, ?_⟩
  refine (θ_run Cert.Reference2Ideal.defs _ _).mono (fun r h c => ?_) (Cert.Reference2Ideal.Hand.run_values m' g')
  exact ⟨(h c).1.trans (Ffn.result_eq m m' c (Ffn.args_eq m m' c (hag c))), (h c).2⟩

/-- The frame of the input projection's second program, read over words. -/
def frameOnWords3 : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r =>
      (∀ c : Dev Cert.Kernel3Ideal.nD, r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0) ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1) ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2) ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)) ∧ r.2.sem = fun _ => 0)

/-- The two programs have the same text, so the two frames over words are the same statement. -/
theorem frameOnWords3_eq : Cert.quiescent_Kernel3 = frameOnWords3 := by sl_kernel_rfl

/-- The input projection runs on words: arguments as launched, counters at zero. -/
theorem frame_kernel3 : Cert.quiescent_Kernel3 := frameOnWords3_eq.mpr fun m ρ _ => Cert.Kernel3Ideal.Gen.frame (F := Bits) m ρ

/-- The same over the ideal values. -/
theorem frame_kernel3Ideal : Cert.quiescent_Kernel3Ideal := fun m ρ _ => Cert.Kernel3Ideal.Gen.frame (F := Ideal) m ρ

/-- Its plain mathematics runs: arguments as given, counters at zero. -/
theorem frame_reference3Ideal : Cert.quiescent_Reference3Ideal := fun m ρ _ =>
  (θ_run Cert.Reference3Ideal.defs _ _).mono (fun r h => ⟨fun c => (h c).2.2.2.2.2,
      Idealize.ShloMosaic.sem_eq_zero_of_no_sems (by decide) r.2⟩) (Cert.Reference3Ideal.Value.run (F := Ideal) m ρ)

/-- From arguments that agree, the input projection and its plain mathematics leave the same five results. -/
theorem algebraic3 : Cert.algebraic_Kernel3Ideal_Reference3Ideal := by
  intro m g m' g' _ hag
  refine ⟨fun c => Cert.Kernel3Ideal.Hand.fOut m c, fun c => Cert.Kernel3Ideal.Hand.qOut m c, fun c => Cert.Kernel3Ideal.Hand.kvOut m c, fun c => Cert.Kernel3Ideal.Hand.gaOut m c, fun c => Cert.Kernel3Ideal.Hand.gbOut m c,
    Cert.Kernel3Ideal.Hand.run_values m g, ?_⟩
  refine (θ_run Cert.Reference3Ideal.defs _ _).mono (fun r h c => ?_) (Cert.Reference3Ideal.Hand.run_values m' g')
  have e := In.args_eq m m' c (hag c)
  exact ⟨(h c).1.trans (In.f_eq e), (h c).2.1.trans (In.q_eq e), (h c).2.2.1.trans (In.kv_eq e), (h c).2.2.2.1.trans (In.ga_eq e),
    (h c).2.2.2.2.1.trans (In.gb_eq e), (h c).2.2.2.2.2⟩

/-- The frame of the modulation call's second program, read over words. -/
def frameOnWords4 : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r =>
      (∀ c : Dev Cert.Kernel4Ideal.nD, r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0) ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1) ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)) ∧ r.2.sem = fun _ => 0)

/-- The two programs have the same text, so the two frames over words are the same statement. -/
theorem frameOnWords4_eq : Cert.quiescent_Kernel4 = frameOnWords4 := by sl_kernel_rfl

/-- The modulation call runs on words: arguments as launched, counters at zero. -/
theorem frame_kernel4 : Cert.quiescent_Kernel4 := frameOnWords4_eq.mpr fun m ρ _ => Cert.Kernel4Ideal.Gen.frame (F := Bits) m ρ

/-- The same over the ideal values. -/
theorem frame_kernel4Ideal : Cert.quiescent_Kernel4Ideal := fun m ρ _ => Cert.Kernel4Ideal.Gen.frame (F := Ideal) m ρ

/-- Its plain mathematics runs: arguments as given, counters at zero. -/
theorem frame_reference4Ideal : Cert.quiescent_Reference4Ideal := fun m ρ _ =>
  (θ_run Cert.Reference4Ideal.defs _ _).mono (fun r h => ⟨fun c => (h c).2,
      Idealize.ShloMosaic.sem_eq_zero_of_no_sems (by decide) r.2⟩) (Cert.Reference4Ideal.Value.run (F := Ideal) m ρ)

/-- From arguments that agree, the modulation call and its plain mathematics leave the same result. -/
theorem algebraic4 : Cert.algebraic_Kernel4Ideal_Reference4Ideal := by
  intro m g m' g' _ hag
  refine ⟨fun c => Cert.Kernel4Ideal.Hand.result m c, Cert.Kernel4Ideal.Hand.run_values m g, ?_⟩
  refine (θ_run Cert.Reference4Ideal.defs _ _).mono (fun r h c => ?_) (Cert.Reference4Ideal.Hand.run_values m' g')
  exact ⟨(h c).1.trans (Mod.result_eq m m' c (hag c)), (h c).2⟩

/-- The frame of the attention's second program, read over words. -/
def frameOnWords5 : Prop :=
  ∀ (m : (ℓ : Loc Cert.Kernel5Ideal.nD Cert.Kernel5Ideal.τ Cert.Kernel5Ideal.sig) → Buf (Elt Bits) ℓ) (g : Dev Cert.Kernel5Ideal.nD → PrngReg), True →
    θ_run (Cert.Kernel5Ideal.defs (F := Bits)) (onTc (τ := Cert.Kernel5Ideal.τ) (Cert.Kernel5Ideal.main (F := Bits))) ⟨m, fun _ => 0, g⟩ (fun r =>
      (∀ c : Dev Cert.Kernel5Ideal.nD, r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0) ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1) ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)) ∧ r.2.sem = fun _ => 0)

/-- The two programs have the same text, so the two frames over words are the same statement. -/
theorem frameOnWords5_eq : Cert.quiescent_Kernel5 = frameOnWords5 := by sl_kernel_rfl

/-- The attention runs on words: arguments as launched, counters at zero. -/
theorem frame_kernel5 : Cert.quiescent_Kernel5 := frameOnWords5_eq.mpr fun m ρ _ => Cert.Kernel5Ideal.Gen.frame (F := Bits) m ρ

/-- The same over the ideal values. -/
theorem frame_kernel5Ideal : Cert.quiescent_Kernel5Ideal := fun m ρ _ => Cert.Kernel5Ideal.Gen.frame (F := Ideal) m ρ

/-- Its plain mathematics runs: arguments as given, counters at zero. -/
theorem frame_reference5Ideal : Cert.quiescent_Reference5Ideal := fun m ρ _ =>
  (θ_run Cert.Reference5Ideal.defs _ _).mono (fun r h => ⟨fun c => (h c).2,
      Idealize.ShloMosaic.sem_eq_zero_of_no_sems (by decide) r.2⟩) (Cert.Reference5Ideal.Value.run (F := Ideal) m ρ)

/-- The same frame where the precondition holds. -/
theorem frame_kernel5Ideal_pre : Cert.quiescent_Kernel5Ideal_pre_attention_inputs_real (hPre_attention_inputs_real := Attn.inputs_facts) :=
  fun m ρ _ => frame_kernel5Ideal m ρ trivial

/-- The same frame where the precondition holds. -/
theorem frame_reference5Ideal_pre : Cert.quiescent_Reference5Ideal_pre_attention_inputs_real (hPre_attention_inputs_real := Attn.inputs_facts) :=
  fun m ρ _ => frame_reference5Ideal m ρ trivial

/-- From arguments that agree, the attention and its plain mathematics leave the same result. -/
theorem algebraic5 : Cert.algebraic_Kernel5Ideal_Reference5Ideal_pre_attention_inputs_real (hPre_attention_inputs_real := Attn.inputs_facts) := by
  intro m g m' g' hp hag
  refine ⟨fun c => Cert.Kernel5Ideal.Hand.attnOut m c, Cert.Kernel5Ideal.Hand.run_values m g, ?_⟩
  refine (θ_run Cert.Reference5Ideal.defs _ _).mono (fun r h c => ?_) (Cert.Reference5Ideal.Value.run (F := Ideal) m' g')
  exact ⟨(h c).1.trans (Attn.out_eq m m' c hp (Attn.args_eq m m' c (hag c))), (h c).2⟩

/-- The certificate. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts, pre_facts,
  Attn.inputs_facts, frame_kernel, frame_kernelIdeal, frame_kernelIdeal_pre, frame_referenceIdeal,
  frame_referenceIdeal_pre, frame_kernel2, frame_kernel2Ideal, frame_reference2Ideal, frame_kernel3, frame_kernel3Ideal, frame_reference3Ideal, frame_kernel4,
  frame_kernel4Ideal, frame_reference4Ideal, frame_kernel5, frame_kernel5Ideal, frame_kernel5Ideal_pre,
  frame_reference5Ideal, frame_reference5Ideal_pre,
  trivial, algebraic, trivial, algebraic2, trivial, algebraic3, trivial, algebraic4, trivial, algebraic5⟩

end Cert.Proof

end
